-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  IdealRules.named_const.Statement Cert.KernelIdeal.κ "gelu_cubic" .f32 0x3D372713#32 ((8943 / 200000 : ℝ) : EReal)
  ∧ IdealRules.named_const.Statement Cert.KernelIdeal.κ "gelu_cubic_3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v35_3)) (v4 : (c : Dev Cert.KernelIdeal.nD) → Buf (Elt Ideal) ((c.tc : Thread Cert.KernelIdeal.nD Cert.KernelIdeal.τ).loc Cert.KernelIdeal.main_v35_4)) (v5 : (c : Dev Cert.KernelIdeal.nD) → Buf (Elt Ideal) ((c.tc : Thread Cert.KernelIdeal.nD Cert.KernelIdeal.τ).loc Cert.KernelIdeal.main_v35_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_v35_3) = v3 c
          ∧ r.2.mem ((c.tc : Thread Cert.KernelIdeal.nD Cert.KernelIdeal.τ).loc Cert.KernelIdeal.main_v35_4) = v4 c
          ∧ r.2.mem ((c.tc : Thread Cert.KernelIdeal.nD Cert.KernelIdeal.τ).loc Cert.KernelIdeal.main_v35_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v168) = v3 c
          ∧ r.2.mem ((c.tc : Thread Cert.ReferenceIdeal.nD Cert.ReferenceIdeal.τ).loc Cert.ReferenceIdeal.main_v169) = v4 c
          ∧ r.2.mem ((c.tc : Thread Cert.ReferenceIdeal.nD Cert.ReferenceIdeal.τ).loc Cert.ReferenceIdeal.main_v170) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)) (v2 : (c : Dev Cert.Kernel5Ideal.nD) → Buf (Elt Ideal) ((c.tc : Thread Cert.Kernel5Ideal.nD Cert.Kernel5Ideal.τ).loc Cert.Kernel5Ideal.main_v16_2)) (v3 : (c : Dev Cert.Kernel5Ideal.nD) → Buf (Elt Ideal) ((c.tc : Thread Cert.Kernel5Ideal.nD Cert.Kernel5Ideal.τ).loc Cert.Kernel5Ideal.main_v16_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c
          ∧ r.2.mem ((c.tc : Thread Cert.Kernel5Ideal.nD Cert.Kernel5Ideal.τ).loc Cert.Kernel5Ideal.main_v16_2) = v2 c
          ∧ r.2.mem ((c.tc : Thread Cert.Kernel5Ideal.nD Cert.Kernel5Ideal.τ).loc Cert.Kernel5Ideal.main_v16_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_v79) = v1 c
          ∧ r.2.mem ((c.tc : Thread Cert.Reference5Ideal.nD Cert.Reference5Ideal.τ).loc Cert.Reference5Ideal.main_v80) = v2 c
          ∧ r.2.mem ((c.tc : Thread Cert.Reference5Ideal.nD Cert.Reference5Ideal.τ).loc Cert.Reference5Ideal.main_v81) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)) (v4 : (c : Dev Cert.Kernel8Ideal.nD) → Buf (Elt Ideal) ((c.tc : Thread Cert.Kernel8Ideal.nD Cert.Kernel8Ideal.τ).loc Cert.Kernel8Ideal.main_v1_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_v1_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v59) = v0 c
          ∧ r.2.mem ((c.tc : Thread Cert.Reference8Ideal.nD Cert.Reference8Ideal.τ).loc Cert.Reference8Ideal.main_v60) = v1 c
          ∧ r.2.mem ((c.tc : Thread Cert.Reference8Ideal.nD Cert.Reference8Ideal.τ).loc Cert.Reference8Ideal.main_v38) = v2 c
          ∧ r.2.mem ((c.tc : Thread Cert.Reference8Ideal.nD Cert.Reference8Ideal.τ).loc Cert.Reference8Ideal.main_v61) = v3 c
          ∧ r.2.mem ((c.tc : Thread Cert.Reference8Ideal.nD Cert.Reference8Ideal.τ).loc Cert.Reference8Ideal.main_v62) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)) (v3 : (c : Dev Cert.Kernel9Ideal.nD) → Buf (Elt Ideal) ((c.tc : Thread Cert.Kernel9Ideal.nD Cert.Kernel9Ideal.τ).loc Cert.Kernel9Ideal.main_v2_3)) (v4 : (c : Dev Cert.Kernel9Ideal.nD) → Buf (Elt Ideal) ((c.tc : Thread Cert.Kernel9Ideal.nD Cert.Kernel9Ideal.τ).loc Cert.Kernel9Ideal.main_v2_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_v2_3) = v3 c
          ∧ r.2.mem ((c.tc : Thread Cert.Kernel9Ideal.nD Cert.Kernel9Ideal.τ).loc Cert.Kernel9Ideal.main_v2_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_v9) = v1 c
          ∧ r.2.mem ((c.tc : Thread Cert.Reference9Ideal.nD Cert.Reference9Ideal.τ).loc Cert.Reference9Ideal.main_v10) = v2 c
          ∧ r.2.mem ((c.tc : Thread Cert.Reference9Ideal.nD Cert.Reference9Ideal.τ).loc Cert.Reference9Ideal.main_v6) = v3 c
          ∧ r.2.mem ((c.tc : Thread Cert.Reference9Ideal.nD Cert.Reference9Ideal.τ).loc Cert.Reference9Ideal.main_v11) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_v32) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v4_0)) (v1 : (c : Dev Cert.Kernel12Ideal.nD) → Buf (Elt Ideal) ((c.tc : Thread Cert.Kernel12Ideal.nD Cert.Kernel12Ideal.τ).loc Cert.Kernel12Ideal.main_v4_1)) (v2 : (c : Dev Cert.Kernel12Ideal.nD) → Buf (Elt Ideal) ((c.tc : Thread Cert.Kernel12Ideal.nD Cert.Kernel12Ideal.τ).loc Cert.Kernel12Ideal.main_v4_2)) (v3 : (c : Dev Cert.Kernel12Ideal.nD) → Buf (Elt Ideal) ((c.tc : Thread Cert.Kernel12Ideal.nD Cert.Kernel12Ideal.τ).loc Cert.Kernel12Ideal.main_v4_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4_0) = v0 c
          ∧ r.2.mem ((c.tc : Thread Cert.Kernel12Ideal.nD Cert.Kernel12Ideal.τ).loc Cert.Kernel12Ideal.main_v4_1) = v1 c
          ∧ r.2.mem ((c.tc : Thread Cert.Kernel12Ideal.nD Cert.Kernel12Ideal.τ).loc Cert.Kernel12Ideal.main_v4_2) = v2 c
          ∧ r.2.mem ((c.tc : Thread Cert.Kernel12Ideal.nD Cert.Kernel12Ideal.τ).loc Cert.Kernel12Ideal.main_v4_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v32) = v1 c
          ∧ r.2.mem ((c.tc : Thread Cert.Reference12Ideal.nD Cert.Reference12Ideal.τ).loc Cert.Reference12Ideal.main_v13) = v2 c
          ∧ r.2.mem ((c.tc : Thread Cert.Reference12Ideal.nD Cert.Reference12Ideal.τ).loc Cert.Reference12Ideal.main_v19) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S4096x1024 : Shape := ⟨2, ![4096, 1024]⟩
abbrev S4096x512 : Shape := ⟨2, ![4096, 512]⟩
abbrev S8x64 : Shape := ⟨2, ![8, 64]⟩
abbrev S8x128x128 : Shape := ⟨3, ![8, 128, 128]⟩
abbrev S8x128 : Shape := ⟨2, ![8, 128]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S8x64 : S_.BroadcastsInDim S8x64 (![] : Fin 0 → Fin S8x64.rank)
  reducesTo_S8x64_S_d0_1 : S8x64.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part2 {F : FTy → Type} [FloatOps F] (main_v31 : IVec S_ 1) (main_v34 : IVec S8x128 1) : IVec S_ 1 :=
  let main_c_11 : IVec S_ 1 := constantI S_ 1 1#1
  let main_v35 : IVec S_ 1 := (fun x v => Host.reduce IntOp.andi x v reducesTo_S8x128_S_d0_1 h_S_) main_v34 main_c_11
  let main_v36 : IVec S_ 1 := andi main_v31 main_v35
  main_v36

def fn_part1 {F : FTy → Type} [FloatOps F] (main_arg4 : FVec F S8x64 .f32) (main_arg5 : FVec F S8x128x128 .f32) (main_arg6 : FVec F S8x128 .f32) (main_v16 : IVec S_ 1) (main_v17 : FVec F S8x64 .f32) : IVec S_ 1 :=
  let main_cst_4 : FVec F S_ .f32 := constant S_ .f32 0x7F800000#32
  let main_v18 : FVec F S8x64 .f32 := broadcastInDim S8x64 ![] bcast_S_S8x64 main_cst_4
  let main_v19 : IVec S8x64 1 := cmpf .olt main_v17 main_v18
  let main_c_5 : IVec S_ 1 := constantI S_ 1 1#1
  let main_v20 : IVec S_ 1 := (fun x v => Host.reduce IntOp.andi x v reducesTo_S8x64_S_d0_1 h_S_) main_v19 main_c_5
  let main_v21 : IVec S_ 1 := andi main_v16 main_v20
  let main_v22 : FVec F S8x64 .f32 := Host.absf main_arg4
  let main_cst_6 : FVec F S_ .f32 := constant S_ .f32 0x7F800000#32
  let main_v23 : FVec F S8x64 .f32 := broadcastInDim S8x64 ![] bcast_S_S8x64 main_cst_6
  let main_v24 : IVec S8x64 1 := cmpf .olt main_v22 main_v23
  let main_c_7 : IVec S_ 1 := constantI S_ 1 1#1
  let main_v25 : IVec S_ 1 := (fun x v => Host.reduce IntOp.andi x v reducesTo_S8x64_S_d0_1 h_S_) main_v24 main_c_7
  let main_v26 : IVec S_ 1 := andi main_v21 main_v25
  let main_v27 : FVec F S8x128x128 .f32 := Host.absf main_arg5
  let main_cst_8 : FVec F S_ .f32 := constant S_ .f32 0x7F800000#32
  let main_v28 : FVec F S8x128x128 .f32 := broadcastInDim S8x128x128 ![] bcast_S_S8x128x128 main_cst_8
  let main_v29 : IVec S8x128x128 1 := cmpf .olt main_v27 main_v28
  let main_c_9 : IVec S_ 1 := constantI S_ 1 1#1
  let main_v30 : IVec S_ 1 := (fun x v => Host.reduce IntOp.andi x v reducesTo_S8x128x128_S_d0_1_2 h_S_) main_v29 main_c_9
  let main_v31 : IVec S_ 1 := andi main_v26 main_v30
  let main_v32 : FVec F S8x128 .f32 := Host.absf main_arg6
  let main_cst_10 : FVec F S_ .f32 := constant S_ .f32 0x7F800000#32
  let main_v33 : FVec F S8x128 .f32 := broadcastInDim S8x128 ![] bcast_S_S8x128 main_cst_10
  let main_v34 : IVec S8x128 1 := cmpf .olt main_v32 main_v33
  fn_part2 (F := F) main_v31 main_v34

def fn {F : FTy → Type} [FloatOps F] (main_arg0 : FVec F S4096x1024 .bf16) (main_arg1 : FVec F S4096x512 .bf16) (main_arg2 : FVec F S4096x512 .bf16) (main_arg3 : FVec F S8x64 .f32) (main_arg4 : FVec F S8x64 .f32) (main_arg5 : FVec F S8x128x128 .f32) (main_arg6 : FVec F S8x128 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x512 .f32 := (extf .f32 · bitsLt_bf16_f32) main_arg1
  let main_v6 : FVec F S4096x512 .f32 := Host.absf main_v5
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_c_1 : IVec S_ 1 := constantI S_ 1 1#1
  let main_v9 : IVec S_ 1 := (fun x v => Host.reduce IntOp.andi x v reducesTo_S4096x512_S_d0_1 h_S_) main_v8 main_c_1
  let main_v10 : IVec S_ 1 := andi main_v4 main_v9
  let main_v11 : FVec F S4096x512 .f32 := (extf .f32 · bitsLt_bf16_f32) main_arg2
  let main_v12 : FVec F S4096x512 .f32 := Host.absf main_v11
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  let main_c_3 : IVec S_ 1 := constantI S_ 1 1#1
  let main_v15 : IVec S_ 1 := (fun x v => Host.reduce IntOp.andi x v reducesTo_S4096x512_S_d0_1 h_S_) main_v14 main_c_3
  let main_v16 : IVec S_ 1 := andi main_v10 main_v15
  let main_v17 : FVec F S8x64 .f32 := Host.absf main_arg3
  fn_part1 (F := F) main_arg4 main_arg5 main_arg6 main_v16 main_v17
-- ==== Kernel.lean ====
abbrev S4096x1024 : Shape := ⟨2, ![4096, 1024]⟩
abbrev S4096x512 : Shape := ⟨2, ![4096, 512]⟩
abbrev S8x64 : Shape := ⟨2, ![8, 64]⟩
abbrev S8x128x128 : Shape := ⟨3, ![8, 128, 128]⟩
abbrev S8x128 : Shape := ⟨2, ![8, 128]⟩
abbrev S256x256 : Shape := ⟨2, ![256, 256]⟩
abbrev S_ : Shape := ⟨0, ![]⟩
abbrev S512x128 : Shape := ⟨2, ![512, 128]⟩
abbrev S1x512 : Shape := ⟨2, ![1, 512]⟩
abbrev S128x128 : Shape := ⟨2, ![128, 128]⟩
abbrev S1x128x128 : Shape := ⟨3, ![1, 128, 128]⟩
abbrev S4x2x128x128 : Shape := ⟨4, ![4, 2, 128, 128]⟩
abbrev S4x128x2x128 : Shape := ⟨4, ![4, 128, 2, 128]⟩
abbrev S4x128x256 : Shape := ⟨3, ![4, 128, 256]⟩
abbrev S128x8 : Shape := ⟨2, ![128, 8]⟩
abbrev S128x8x64 : Shape := ⟨3, ![128, 8, 64]⟩
abbrev S128x512 : Shape := ⟨2, ![128, 512]⟩
abbrev S512x512 : Shape := ⟨2, ![512, 512]⟩
abbrev S1x128 : Shape := ⟨2, ![1, 128]⟩
abbrev S512x256 : Shape := ⟨2, ![512, 256]⟩
abbrev S1x128x256 : Shape := ⟨3, ![1, 128, 256]⟩
abbrev S128x256 : Shape := ⟨2, ![128, 256]⟩
abbrev S256x128 : Shape := ⟨2, ![256, 128]⟩
abbrev S512 : Shape := ⟨1, ![512]⟩

abbrev nBuf : Space → Nat
  | .hbm => 68
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S8x64, .f32⟩
  | .hbm, ⟨4, _⟩ => ⟨S8x64, .f32⟩
  | .hbm, ⟨5, _⟩ => ⟨S8x128x128, .f32⟩
  | .hbm, ⟨6, _⟩ => ⟨S8x128, .f32⟩
  | .hbm, ⟨7, _⟩ => ⟨S256x256, .i32⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S256x256, .i32⟩
  | .hbm, ⟨12, _⟩ => ⟨S_, .i32⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S_, .f32⟩
  | .hbm, ⟨17, _⟩ => ⟨S_, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .bf16⟩
  | .hbm, ⟨22, _⟩ => ⟨S512x128, .i32⟩
  | .hbm, ⟨23, _⟩ => ⟨S_, .i32⟩
  | .hbm, ⟨24, _⟩ => ⟨S512x128, .i32⟩
  | .hbm, ⟨25, _⟩ => ⟨S512x128, .i32⟩
  | .hbm, ⟨26, _⟩ => ⟨S512x128, .i32⟩
  | .hbm, ⟨27, _⟩ => ⟨S512x128, .i1⟩
  | .hbm, ⟨28, _⟩ => ⟨S_, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S512x128, .bf16⟩
  | .hbm, ⟨34, _⟩ => ⟨S1x512, .f32⟩
  | .hbm, ⟨35, _⟩ => ⟨S1x512, .f32⟩
  | .hbm, ⟨36, _⟩ => ⟨S_, .f32⟩
  | .hbm, ⟨37, _⟩ => ⟨S128x128, .f32⟩
  | .hbm, ⟨38, _⟩ => ⟨S128x128, .i32⟩
  | .hbm, ⟨39, _⟩ => ⟨S_, .i32⟩
  | .hbm, ⟨40, _⟩ => ⟨S128x128, .i32⟩
  | .hbm, ⟨41, _⟩ => ⟨S128x128, .i32⟩
  | .hbm, ⟨42, _⟩ => ⟨S128x128, .i32⟩
  | .hbm, ⟨43, _⟩ => ⟨S128x128, .i1⟩
  | .hbm, ⟨44, _⟩ => ⟨S_, .f32⟩
  | .hbm, ⟨45, _⟩ => ⟨S128x128, .f32⟩
  | .hbm, ⟨46, _⟩ => ⟨S128x128, .f32⟩
  | .hbm, ⟨47, _⟩ => ⟨S1x128x128, .f32⟩
  | .hbm, ⟨48, _⟩ => ⟨S8x128x128, .f32⟩
  | .hbm, ⟨49, _⟩ => ⟨S8x128x128, .f32⟩
  | .hbm, ⟨50, _⟩ => ⟨S4x2x128x128, .f32⟩
  | .hbm, ⟨51, _⟩ => ⟨S4x128x2x128, .f32⟩
  | .hbm, ⟨52, _⟩ => ⟨S4x128x256, .f32⟩
  | .hbm, ⟨53, _⟩ => ⟨S4x128x256, .bf16⟩
  | .hbm, ⟨54, _⟩ => ⟨S8x128x128, .f32⟩
  | .hbm, ⟨55, _⟩ => ⟨S4x2x128x128, .f32⟩
  | .hbm, ⟨56, _⟩ => ⟨S4x128x2x128, .f32⟩
  | .hbm, ⟨57, _⟩ => ⟨S4x128x256, .f32⟩
  | .hbm, ⟨58, _⟩ => ⟨S4x128x256, .bf16⟩
  | .hbm, ⟨59, _⟩ => ⟨S128x8, .f32⟩
  | .hbm, ⟨60, _⟩ => ⟨S128x8x64, .f32⟩
  | .hbm, ⟨61, _⟩ => ⟨S128x512, .f32⟩
  | .hbm, ⟨62, _⟩ => ⟨S4096x512, .bf16⟩
  | .hbm, ⟨63, _⟩ => ⟨S4096x512, .bf16⟩
  | .hbm, ⟨64, _⟩ => ⟨S8x128x128, .f32⟩
  | .hbm, ⟨65, _⟩ => ⟨S128x128, .f32⟩
  | .hbm, ⟨66, _⟩ => ⟨S1x512, .f32⟩
  | .hbm, ⟨67, _⟩ => ⟨S1x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x512, .f32⟩
  | .local _ .vmem, ⟨7, _⟩ => ⟨S1x512, .f32⟩
  | .local _ .vmem, ⟨8, _⟩ => ⟨S4x128x256, .bf16⟩
  | .local _ .vmem, ⟨9, _⟩ => ⟨S4x128x256, .bf16⟩
  | .local _ .vmem, ⟨10, _⟩ => ⟨S128x512, .f32⟩
  | .local _ .vmem, ⟨11, _⟩ => ⟨S256x256, .bf16⟩
  | .local _ .vmem, ⟨12, _⟩ => ⟨S512x128, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S8x128x128, .f32⟩
  | .local _ .vmem, ⟨18, _⟩ => ⟨S128x128, .f32⟩
  | .local _ .vmem, ⟨19, _⟩ => ⟨S1x512, .f32⟩
  | .local _ .vmem, ⟨20, _⟩ => ⟨S1x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_5 : Ref sig .tc := ⟨.hbm, 36, rfl⟩
abbrev main_v18 : Ref sig .tc := ⟨.hbm, 37, rfl⟩
abbrev main_call2_v0 : Ref sig .tc := ⟨.hbm, 38, rfl⟩
abbrev main_call2_c : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_cst : Ref sig .tc := ⟨.hbm, 44, rfl⟩
abbrev main_call2_v5 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35_0 : Ref sig .tc := ⟨.hbm, 62, rfl⟩
abbrev main_v35_1 : Ref sig .tc := ⟨.hbm, 63, rfl⟩
abbrev main_v35_2 : Ref sig .tc := ⟨.hbm, 64, rfl⟩
abbrev main_v35_3 : Ref sig .tc := ⟨.hbm, 65, rfl⟩
abbrev main_v35_4 : Ref sig .tc := ⟨.hbm, 66, rfl⟩
abbrev main_v35_5 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem13_0 : DmaSem sig := 18
abbrev cc0_sem14_0 : DmaSem sig := 19
abbrev cc0_sem15_0 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v739 : BitVec 1 := Scalar.cmpi .eq arg0 c0_i32
  let v740 : BitVec 32 := Scalar.extui v739
  let c0_i32_229 : BitVec 32 := 0#32
  let v741 : BitVec 1 := Scalar.cmpi .ne v740 c0_i32_229
  v741

def k0_cond2 (i : grid0.Coords) : BitVec 1 :=
  let arg0 : BitVec 32 := BitVec.ofNat 32 (i 0).val
  let c0_i32 : BitVec 32 := 0#32
  let v739 : BitVec 1 := Scalar.cmpi .eq arg0 c0_i32
  let v_true : BitVec 1 := 1#1
  let v742 : BitVec 1 := Scalar.xori v739 v_true
  let v743 : BitVec 32 := Scalar.extui v742
  let c0_i32_230 : BitVec 32 := 0#32
  let v744 : BitVec 1 := Scalar.cmpi .ne v743 c0_i32_230
  v744

def k0_cond3 (i : grid0.Coords) : BitVec 1 :=
  let arg0 : BitVec 32 := BitVec.ofNat 32 (i 0).val
  let c0_i32 : BitVec 32 := 0#32
  let v739 : BitVec 1 := Scalar.cmpi .eq arg0 c0_i32
  let v748 : BitVec 32 := Scalar.extui v739
  let c0_i32_232 : BitVec 32 := 0#32
  let v749 : BitVec 1 := Scalar.cmpi .ne v748 c0_i32_232
  v749

def k0_cond4 (i : grid0.Coords) : BitVec 1 :=
  let arg0 : BitVec 32 := BitVec.ofNat 32 (i 0).val
  let c0_i32 : BitVec 32 := 0#32
  let v739 : BitVec 1 := Scalar.cmpi .eq arg0 c0_i32
  let true_233 : BitVec 1 := 1#1
  let v750 : BitVec 1 := Scalar.xori v739 true_233
  let v751 : BitVec 32 := Scalar.extui v750
  let c0_i32_234 : BitVec 32 := 0#32
  let v752 : BitVec 1 := Scalar.cmpi .ne v751 c0_i32_234
  v752

def k0_cond5 (i : grid0.Coords) : BitVec 1 :=
  let arg0 : BitVec 32 := BitVec.ofNat 32 (i 0).val
  let c0_i32 : BitVec 32 := 0#32
  let v739 : BitVec 1 := Scalar.cmpi .eq arg0 c0_i32
  let v755 : BitVec 32 := Scalar.extui v739
  let c0_i32_236 : BitVec 32 := 0#32
  let v756 : BitVec 1 := Scalar.cmpi .ne v755 c0_i32_236
  v756

def k0_cond6 (i : grid0.Coords) : BitVec 1 :=
  let arg0 : BitVec 32 := BitVec.ofNat 32 (i 0).val
  let c0_i32 : BitVec 32 := 0#32
  let v739 : BitVec 1 := Scalar.cmpi .eq arg0 c0_i32
  let true_237 : BitVec 1 := 1#1
  let v757 : BitVec 1 := Scalar.xori v739 true_237
  let v758 : BitVec 32 := Scalar.extui v757
  let c0_i32_238 : BitVec 32 := 0#32
  let v759 : BitVec 1 := Scalar.cmpi .ne v758 c0_i32_238
  v759

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "gelu_cubic" => some ((8943 / 200000 : ℝ) : EReal)
  | "gelu_cubic_3" => some ((26829 / 200000 : ℝ) : EReal)
  | _ => none
-- ==== ReferenceIdeal.lean ====
abbrev S4096x1024 : Shape := ⟨2, ![4096, 1024]⟩
abbrev S4096x512 : Shape := ⟨2, ![4096, 512]⟩
abbrev S8x64 : Shape := ⟨2, ![8, 64]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S2x2048x512 : Shape := ⟨3, ![2, 2048, 512]⟩
abbrev S2x2048x8x64 : Shape := ⟨4, ![2, 2048, 8, 64]⟩
abbrev S2x2048x8 : Shape := ⟨3, ![2, 2048, 8]⟩
abbrev S2x2048x8x1 : Shape := ⟨4, ![2, 2048, 8, 1]⟩
abbrev S1x1x8x64 : Shape := ⟨4, ![1, 1, 8, 64]⟩
abbrev S2x16x128x8x64 : Shape := ⟨5, ![2, 16, 128, 8, 64]⟩
abbrev S8x2x16x64x128 : Shape := ⟨5, ![8, 2, 16, 64, 128]⟩
abbrev S128x8 : Shape := ⟨2, ![128, 8]⟩
abbrev S1x1x128x8x1 : Shape := ⟨5, ![1, 1, 128, 8, 1]⟩
abbrev S1x512 : Shape := ⟨2, ![1, 512]⟩

abbrev nBuf : Space → Nat
  | .hbm => 230
  | .vmem => 0
  | .smem => 0
  | _ => 0

abbrev hbmTy0_0 (i : Nat) : BufTy := match i % 128 with
  | 0 => ⟨S4096x1024, .bf16⟩
  | 1 => ⟨S4096x512, .bf16⟩
  | 2 => ⟨S4096x512, .bf16⟩
  | 3 => ⟨S8x64, .f32⟩
  | 4 => ⟨S8x64, .f32⟩
  | 5 => ⟨S8x128x128, .f32⟩
  | 6 => ⟨S8x128, .f32⟩
  | 7 => ⟨S_, .f32⟩
  | 8 => ⟨S_, .f32⟩
  | 9 => ⟨S_, .f32⟩
  | 10 => ⟨S_, .i1⟩
  | 11 => ⟨S128x128, .i1⟩
  | 12 => ⟨S128x128, .i32⟩
  | 13 => ⟨S_, .i32⟩
  | 14 => ⟨S128x128, .i32⟩
  | 15 => ⟨S128x128, .i32⟩
  | 16 => ⟨S128x128, .i32⟩
  | 17 => ⟨S128x128, .i1⟩
  | 18 => ⟨S_, .i1⟩
  | 19 => ⟨S128x128, .i1⟩
  | 20 => ⟨S128x128, .i1⟩
  | 21 => ⟨S1x128x128, .i1⟩
  | 22 => ⟨S_, .f32⟩
  | 23 => ⟨S8x128x128, .i1⟩
  | 24 => ⟨S8x128x128, .f32⟩
  | 25 => ⟨S8x128x128, .f32⟩
  | 26 => ⟨S4096x512, .f32⟩
  | 27 => ⟨S2x2048x512, .f32⟩
  | 28 => ⟨S4096x512, .f32⟩
  | 29 => ⟨S2x2048x512, .f32⟩
  | 30 => ⟨S2x2048x512, .f32⟩
  | 31 => ⟨S2x2048x512, .f32⟩
  | 32 => ⟨S2x2048x512, .f32⟩
  | 33 => ⟨S_, .f32⟩
  | 34 => ⟨S2x2048x512, .f32⟩
  | 35 => ⟨S2x2048x512, .f32⟩
  | 36 => ⟨S2x2048x512, .f32⟩
  | 37 => ⟨S2x2048x512, .f32⟩
  | 38 => ⟨S2x2048x512, .f32⟩
  | 39 => ⟨S_, .f32⟩
  | 40 => ⟨S2x2048x512, .f32⟩
  | 41 => ⟨S2x2048x512, .f32⟩
  | 42 => ⟨S2x2048x512, .f32⟩
  | 43 => ⟨S_, .f32⟩
  | 44 => ⟨S2x2048x512, .f32⟩
  | 45 => ⟨S2x2048x512, .f32⟩
  | 46 => ⟨S_, .f32⟩
  | 47 => ⟨S2x2048x512, .f32⟩
  | 48 => ⟨S2x2048x512, .f32⟩
  | 49 => ⟨S2x2048x512, .f32⟩
  | 50 => ⟨S_, .f32⟩
  | 51 => ⟨S2x2048x512, .f32⟩
  | 52 => ⟨S2x2048x512, .f32⟩
  | 53 => ⟨S_, .f32⟩
  | 54 => ⟨S2x2048x512, .f32⟩
  | 55 => ⟨S2x2048x512, .f32⟩
  | 56 => ⟨S2x2048x512, .f32⟩
  | 57 => ⟨S2x2048x512, .f32⟩
  | 58 => ⟨S2x2048x512, .f32⟩
  | 59 => ⟨S2x2048x512, .f32⟩
  | 60 => ⟨S_, .f32⟩
  | 61 => ⟨S2x2048x512, .f32⟩
  | 62 => ⟨S2x2048x512, .f32⟩
  | 63 => ⟨S2x2048x512, .f32⟩
  | 64 => ⟨S2x2048x512, .f32⟩
  | 65 => ⟨S2x2048x512, .f32⟩
  | 66 => ⟨S_, .f32⟩
  | 67 => ⟨S2x2048x512, .f32⟩
  | 68 => ⟨S2x2048x512, .f32⟩
  | 69 => ⟨S2x2048x512, .f32⟩
  | 70 => ⟨S_, .f32⟩
  | 71 => ⟨S2x2048x512, .f32⟩
  | 72 => ⟨S2x2048x512, .f32⟩
  | 73 => ⟨S_, .f32⟩
  | 74 => ⟨S2x2048x512, .f32⟩
  | 75 => ⟨S2x2048x512, .f32⟩
  | 76 => ⟨S2x2048x512, .f32⟩
  | 77 => ⟨S_, .f32⟩
  | 78 => ⟨S2x2048x512, .f32⟩
  | 79 => ⟨S2x2048x512, .f32⟩
  | 80 => ⟨S_, .f32⟩
  | 81 => ⟨S2x2048x512, .f32⟩
  | 82 => ⟨S2x2048x512, .f32⟩
  | 83 => ⟨S2x2048x512, .f32⟩
  | 84 => ⟨S2x2048x8x64, .f32⟩
  | 85 => ⟨S_, .f32⟩
  | 86 => ⟨S2x2048x8, .f32⟩
  | 87 => ⟨S2x2048x8x1, .f32⟩
  | 88 => ⟨S_, .f32⟩
  | 89 => ⟨S2x2048x8x1, .f32⟩
  | 90 => ⟨S2x2048x8x1, .f32⟩
  | 91 => ⟨S2x2048x8x64, .f32⟩
  | 92 => ⟨S2x2048x8x64, .f32⟩
  | 93 => ⟨S2x2048x8x64, .f32⟩
  | 94 => ⟨S_, .f32⟩
  | 95 => ⟨S2x2048x8x64, .f32⟩
  | 96 => ⟨S2x2048x8x64, .f32⟩
  | 97 => ⟨S_, .f32⟩
  | 98 => ⟨S2x2048x8, .f32⟩
  | 99 => ⟨S2x2048x8x1, .f32⟩
  | 100 => ⟨S_, .f32⟩
  | 101 => ⟨S2x2048x8x1, .f32⟩
  | 102 => ⟨S2x2048x8x1, .f32⟩
  | 103 => ⟨S2x2048x8x64, .f32⟩
  | 104 => ⟨S2x2048x8x64, .f32⟩
  | 105 => ⟨S_, .f32⟩
  | 106 => ⟨S2x2048x8x1, .f32⟩
  | 107 => ⟨S2x2048x8x1, .f32⟩
  | 108 => ⟨S2x2048x8x1, .f32⟩
  | 109 => ⟨S2x2048x8x1, .f32⟩
  | 110 => ⟨S_, .f32⟩
  | 111 => ⟨S2x2048x8x1, .f32⟩
  | 112 => ⟨S2x2048x8x1, .f32⟩
  | 113 => ⟨S2x2048x8x64, .f32⟩
  | 114 => ⟨S2x2048x8x64, .f32⟩
  | 115 => ⟨S1x1x8x64, .f32⟩
  | 116 => ⟨S2x2048x8x64, .f32⟩
  | 117 => ⟨S2x2048x8x64, .f32⟩
  | 118 => ⟨S1x1x8x64, .f32⟩
  | 119 => ⟨S2x2048x8x64, .f32⟩
  | 120 => ⟨S2x2048x8x64, .f32⟩
  | 121 => ⟨S2x16x128x8x64, .f32⟩
  | 122 => ⟨S8x2x16x64x128, .f32⟩
  | 123 => ⟨S2x16x128x8x64, .f32⟩
  | 124 => ⟨S128x8, .f32⟩
  | 125 => ⟨S1x1x128x8x1, .f32⟩
  | 126 => ⟨S2x16x128x8x64, .f32⟩
  | 127 => ⟨S2x16x128x8x64, .f32⟩
  | _ => ⟨S4096x1024, .bf16⟩

abbrev hbmTy0_1 (i : Nat) : BufTy := match i % 128 with
  | 0 => ⟨S2x2048x512, .f32⟩
  | 1 => ⟨S2x2048x512, .f32⟩
  | 2 => ⟨S4096x512, .bf16⟩
  | 3 => ⟨S4096x512, .f32⟩
  | 4 => ⟨S2x2048x512, .f32⟩
  | 5 => ⟨S2x2048x512, .f32⟩
  | 6 => ⟨S2x2048x512, .f32⟩
  | 7 => ⟨S2x16x128x8x64, .f32⟩
  | 8 => ⟨S_, .f32⟩
  | 9 => ⟨S128x8, .f32⟩
  | 10 => ⟨S1x1x128x8x1, .f32⟩
  | 11 => ⟨S_, .f32⟩
  | 12 => ⟨S128x8, .f32⟩
  | 13 => ⟨S8x128, .f32⟩
  | 14 => ⟨S8x2x16x64x128, .f32⟩
  | 15 => ⟨S8x128x128, .f32⟩
  | 16 => ⟨S8x2x16x64x128, .f32⟩
  | 17 => ⟨S2x16x128x8x64, .f32⟩
  | 18 => ⟨S2x2048x8x64, .f32⟩
  | 19 => ⟨S_, .f32⟩
  | 20 => ⟨S8x64, .f32⟩
  | 21 => ⟨S1x1x8x64, .f32⟩
  | 22 => ⟨S_, .f32⟩
  | 23 => ⟨S8x64, .f32⟩
  | 24 => ⟨S2x2048x8x64, .f32⟩
  | 25 => ⟨S_, .f32⟩
  | 26 => ⟨S8x64, .f32⟩
  | 27 => ⟨S1x1x8x64, .f32⟩
  | 28 => ⟨S2x2048x8x64, .f32⟩
  | 29 => ⟨S2x2048x8x64, .f32⟩
  | 30 => ⟨S_, .f32⟩
  | 31 => ⟨S8x64, .f32⟩
  | 32 => ⟨S2x2048x8x64, .f32⟩
  | 33 => ⟨S_, .f32⟩
  | 34 => ⟨S2x2048x8, .f32⟩
  | 35 => ⟨S2x2048x8x1, .f32⟩
  | 36 => ⟨S2x2048x8x64, .f32⟩
  | 37 => ⟨S2x2048x8x64, .f32⟩
  | 38 => ⟨S2x2048x8x1, .f32⟩
  | 39 => ⟨S2x2048x8x64, .f32⟩
  | 40 => ⟨S_, .f32⟩
  | 41 => ⟨S2x2048x8, .f32⟩
  | 42 => ⟨S2x2048x8x1, .f32⟩
  | 43 => ⟨S_, .f32⟩
  | 44 => ⟨S2x2048x8x1, .f32⟩
  | 45 => ⟨S2x2048x8x1, .f32⟩
  | 46 => ⟨S_, .f32⟩
  | 47 => ⟨S2x2048x8, .f32⟩
  | 48 => ⟨S2x2048x8x64, .f32⟩
  | 49 => ⟨S2x2048x8x64, .f32⟩
  | 50 => ⟨S2x2048x8x64, .f32⟩
  | 51 => ⟨S_, .f32⟩
  | 52 => ⟨S2x2048x8, .f32⟩
  | 53 => ⟨S2x2048x8x1, .f32⟩
  | 54 => ⟨S2x2048x8x64, .f32⟩
  | 55 => ⟨S2x2048x8x1, .f32⟩
  | 56 => ⟨S_, .f32⟩
  | 57 => ⟨S2x2048x8x1, .f32⟩
  | 58 => ⟨S2x2048x8x1, .f32⟩
  | 59 => ⟨S_, .f32⟩
  | 60 => ⟨S2x2048x8, .f32⟩
  | 61 => ⟨S2x2048x8x64, .f32⟩
  | 62 => ⟨S2x2048x8x64, .f32⟩
  | 63 => ⟨S2x2048x512, .f32⟩
  | 64 => ⟨S2x2048x512, .f32⟩
  | 65 => ⟨S2x2048x512, .f32⟩
  | 66 => ⟨S_, .f32⟩
  | 67 => ⟨S2x2048x512, .f32⟩
  | 68 => ⟨S2x2048x512, .f32⟩
  | 69 => ⟨S2x2048x512, .f32⟩
  | 70 => ⟨S_, .f32⟩
  | 71 => ⟨S2x2048x512, .f32⟩
  | 72 => ⟨S2x2048x512, .f32⟩
  | 73 => ⟨S2x2048x512, .f32⟩
  | 74 => ⟨S2x2048x512, .f32⟩
  | 75 => ⟨S2x2048x512, .f32⟩
  | 76 => ⟨S2x2048x512, .f32⟩
  | 77 => ⟨S2x2048x512, .f32⟩
  | 78 => ⟨S2x2048x512, .f32⟩
  | 79 => ⟨S2x2048x512, .f32⟩
  | 80 => ⟨S_, .f32⟩
  | 81 => ⟨S2x2048x512, .f32⟩
  | 82 => ⟨S2x2048x512, .f32⟩
  | 83 => ⟨S2x2048x512, .f32⟩
  | 84 => ⟨S_, .f32⟩
  | 85 => ⟨S2x2048x512, .f32⟩
  | 86 => ⟨S2x2048x512, .f32⟩
  | 87 => ⟨S2x2048x512, .f32⟩
  | 88 => ⟨S2x2048x512, .f32⟩
  | 89 => ⟨S2x2048x512, .f32⟩
  | 90 => ⟨S2x2048x512, .f32⟩
  | 91 => ⟨S2x2048x512, .f32⟩
  | 92 => ⟨S4096x512, .f32⟩
  | 93 => ⟨S4096x512, .bf16⟩
  | 94 => ⟨S4096x512, .f32⟩
  | 95 => ⟨S4096x512, .bf16⟩
  | 96 => ⟨S128x8, .f32⟩
  | 97 => ⟨S_, .i32⟩
  | 98 => ⟨S_, .f32⟩
  | 99 => ⟨S128x128, .f32⟩
  | 100 => ⟨S1x512, .f32⟩
  | 101 => ⟨S1x512, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_0 : Ref sig .tc := ⟨.hbm, 18, rfl⟩
abbrev main_call0_v5 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_6 : Ref sig .tc := ⟨.hbm, 50, rfl⟩
abbrev main_v25 : Ref sig .tc := ⟨.hbm, 51, rfl⟩
abbrev main_v26 : Ref sig .tc := ⟨.hbm, 52, rfl⟩
abbrev main_cst_7 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_8 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_9 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_10 : Ref sig .tc := ⟨.hbm, 70, rfl⟩
abbrev main_v41 : Ref sig .tc := ⟨.hbm, 71, rfl⟩
abbrev main_v42 : Ref sig .tc := ⟨.hbm, 72, rfl⟩
abbrev main_cst_11 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_12 : Ref sig .tc := ⟨.hbm, 77, rfl⟩
abbrev main_v46 : Ref sig .tc := ⟨.hbm, 78, rfl⟩
abbrev main_v47 : Ref sig .tc := ⟨.hbm, 79, rfl⟩
abbrev main_cst_13 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_14 : Ref sig .tc := ⟨.hbm, 85, rfl⟩
abbrev main_v52 : Ref sig .tc := ⟨.hbm, 86, rfl⟩
abbrev main_v53 : Ref sig .tc := ⟨.hbm, 87, rfl⟩
abbrev main_cst_15 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_16 : Ref sig .tc := ⟨.hbm, 94, rfl⟩
abbrev main_v59 : Ref sig .tc := ⟨.hbm, 95, rfl⟩
abbrev main_v60 : Ref sig .tc := ⟨.hbm, 96, rfl⟩
abbrev main_cst_17 : Ref sig .tc := ⟨.hbm, 97, rfl⟩
abbrev main_v61 : Ref sig .tc := ⟨.hbm, 98, rfl⟩
abbrev main_v62 : Ref sig .tc := ⟨.hbm, 99, rfl⟩
abbrev main_cst_18 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_19 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_20 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_21 : Ref sig .tc := ⟨.hbm, 136, rfl⟩
abbrev main_v96 : Ref sig .tc := ⟨.hbm, 137, rfl⟩
abbrev main_v97 : Ref sig .tc := ⟨.hbm, 138, rfl⟩
abbrev main_cst_22 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_23 : Ref sig .tc := ⟨.hbm, 147, rfl⟩
abbrev main_v105 : Ref sig .tc := ⟨.hbm, 148, rfl⟩
abbrev main_v106 : Ref sig .tc := ⟨.hbm, 149, rfl⟩
abbrev main_cst_24 : Ref sig .tc := ⟨.hbm, 150, rfl⟩
abbrev main_v107 : Ref sig .tc := ⟨.hbm, 151, rfl⟩
abbrev main_v108 : Ref sig .tc := ⟨.hbm, 152, rfl⟩
abbrev main_cst_25 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_26 : Ref sig .tc := ⟨.hbm, 158, rfl⟩
abbrev main_v113 : Ref sig .tc := ⟨.hbm, 159, rfl⟩
abbrev main_v114 : Ref sig .tc := ⟨.hbm, 160, rfl⟩
abbrev main_cst_27 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_28 : Ref sig .tc := ⟨.hbm, 168, rfl⟩
abbrev main_v121 : Ref sig .tc := ⟨.hbm, 169, rfl⟩
abbrev main_v122 : Ref sig .tc := ⟨.hbm, 170, rfl⟩
abbrev main_cst_29 : Ref sig .tc := ⟨.hbm, 171, rfl⟩
abbrev main_v123 : Ref sig .tc := ⟨.hbm, 172, rfl⟩
abbrev main_v124 : Ref sig .tc := ⟨.hbm, 173, rfl⟩
abbrev main_cst_30 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_31 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_32 : Ref sig .tc := ⟨.hbm, 184, rfl⟩
abbrev main_v133 : Ref sig .tc := ⟨.hbm, 185, rfl⟩
abbrev main_v134 : Ref sig .tc := ⟨.hbm, 186, rfl⟩
abbrev main_cst_33 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_cst_34 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_cst_35 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_cst_36 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_cst_37 : Ref sig .tc := ⟨.hbm, 212, rfl⟩
abbrev main_v156 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_c_38 : Ref sig .tc := ⟨.hbm, 225, rfl⟩
abbrev main_call2_v0 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩

abbrev nD : Nat := 1
abbrev τ : Topo := Topo.v7x

variable {F : FTy → Type} [FloatOps F]
-- ==== Kernel2.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 10
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4096x1024, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x1024, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel3.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S4096x512 : Shape := ⟨2, ![4096, 512]⟩
abbrev S512x1024 : Shape := ⟨2, ![512, 1024]⟩
abbrev S8x128 : Shape := ⟨2, ![8, 128]⟩

abbrev nBuf : Space → Nat
  | .hbm => 9
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .bf16⟩
  | .hbm, ⟨8, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S1024x4096 : Shape := ⟨2, ![1024, 4096]⟩
abbrev S_ : Shape := ⟨0, ![]⟩
abbrev S4096x4096 : Shape := ⟨2, ![4096, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .f32⟩
  | .hbm, ⟨4, _⟩ => ⟨S1024x4096, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x1024, .f32⟩
  | .hbm, ⟨14, _⟩ => ⟨S1024x4096, .f32⟩
  | .hbm, ⟨15, _⟩ => ⟨S4096x1024, .f32⟩
  | .hbm, ⟨16, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S8x1024x512 : Shape := ⟨3, ![8, 1024, 512]⟩
abbrev S4096x512 : Shape := ⟨2, ![4096, 512]⟩
abbrev S1x1024x512 : Shape := ⟨3, ![1, 1024, 512]⟩
abbrev S8x128 : Shape := ⟨2, ![8, 128]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 30
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x4096, .bf16⟩
  | .hbm, ⟨5, _⟩ => ⟨S4096x1024, .f32⟩
  | .hbm, ⟨6, _⟩ => ⟨S4096x4096, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .bf16⟩
  | .hbm, ⟨28, _⟩ => ⟨S1x1024, .f32⟩
  | .hbm, ⟨29, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v65 : BitVec 1 := Scalar.cmpi .eq arg0 c0_i32
  let v66 : BitVec 32 := Scalar.extui v65
  let c0_i32_29 : BitVec 32 := 0#32
  let v67 : BitVec 1 := Scalar.cmpi .ne v66 c0_i32_29
  v67

def k0_cond2 (i : grid0.Coords) : BitVec 1 :=
  let arg0 : BitVec 32 := BitVec.ofNat 32 (i 0).val
  let c0_i32 : BitVec 32 := 0#32
  let v65 : BitVec 1 := Scalar.cmpi .eq arg0 c0_i32
  let v_true : BitVec 1 := 1#1
  let v68 : BitVec 1 := Scalar.xori v65 v_true
  let v69 : BitVec 32 := Scalar.extui v68
  let c0_i32_30 : BitVec 32 := 0#32
  let v70 : BitVec 1 := Scalar.cmpi .ne v69 c0_i32_30
  v70

def k0_cond3 (i : grid0.Coords) : BitVec 1 :=
  let arg0 : BitVec 32 := BitVec.ofNat 32 (i 0).val
  let c0_i32_31 : BitVec 32 := 0#32
  let v71 : BitVec 1 := Scalar.cmpi .eq arg0 c0_i32_31
  let v72 : BitVec 32 := Scalar.extui v71
  let c0_i32_32 : BitVec 32 := 0#32
  let v73 : BitVec 1 := Scalar.cmpi .ne v72 c0_i32_32
  v73

def k0_cond4 (i : grid0.Coords) : BitVec 1 :=
  let arg0 : BitVec 32 := BitVec.ofNat 32 (i 0).val
  let c0_i32_31 : BitVec 32 := 0#32
  let v71 : BitVec 1 := Scalar.cmpi .eq arg0 c0_i32_31
  let true_33 : BitVec 1 := 1#1
  let v74 : BitVec 1 := Scalar.xori v71 true_33
  let v75 : BitVec 32 := Scalar.extui v74
  let c0_i32_34 : BitVec 32 := 0#32
  let v76 : BitVec 1 := Scalar.cmpi .ne v75 c0_i32_34
  v76

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S4096x1024 : Shape := ⟨2, ![4096, 1024]⟩
abbrev S1024 : Shape := ⟨1, ![1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1024x4096, .bf16⟩
  | .hbm, ⟨5, _⟩ => ⟨S4096x1024, .f32⟩
  | .hbm, ⟨6, _⟩ => ⟨S4096x4096, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S1024x4096, .f32⟩
  | .hbm, ⟨49, _⟩ => ⟨S4096x4096, .f32⟩
  | .hbm, ⟨50, _⟩ => ⟨S4096x4096, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .bf16⟩
  | .hbm, ⟨105, _⟩ => ⟨S1x1024, .f32⟩
  | .hbm, ⟨106, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_13 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_15 : Ref sig .tc := ⟨.hbm, 94, rfl⟩
abbrev main_v71 : Ref sig .tc := ⟨.hbm, 95, rfl⟩
abbrev main_v72 : Ref sig .tc := ⟨.hbm, 96, rfl⟩
abbrev main_cst_16 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩
abbrev S512x1024 : Shape := ⟨2, ![512, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .bf16⟩
  | .hbm, ⟨3, _⟩ => ⟨S4096x512, .bf16⟩
  | .hbm, ⟨4, _⟩ => ⟨S4096x1024, .bf16⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond5 (i : grid0.Coords) : BitVec 1 :=
  let arg0 : BitVec 32 := BitVec.ofNat 32 (i 0).val
  let c3_i32 : BitVec 32 := 3#32
  let v21 : BitVec 1 := Scalar.cmpi .eq arg0 c3_i32
  let v22 : BitVec 32 := Scalar.extui v21
  let c0_i32_18 : BitVec 32 := 0#32
  let v23 : BitVec 1 := Scalar.cmpi .ne v22 c0_i32_18
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference6Ideal.lean ====
abbrev S4096x1024 : Shape := ⟨2, ![4096, 1024]⟩
abbrev S1024x1024 : Shape := ⟨2, ![1024, 1024]⟩
abbrev S4096x512 : Shape := ⟨2, ![4096, 512]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .bf16⟩
  | .hbm, ⟨3, _⟩ => ⟨S4096x512, .bf16⟩
  | .hbm, ⟨4, _⟩ => ⟨S4096x1024, .f32⟩
  | .hbm, ⟨5, _⟩ => ⟨S1024x1024, .f32⟩
  | .hbm, ⟨6, _⟩ => ⟨S4096x512, .f32⟩
  | .hbm, ⟨7, _⟩ => ⟨S4096x512, .f32⟩
  | .hbm, ⟨8, _⟩ => ⟨S4096x1024, .f32⟩
  | .hbm, ⟨9, _⟩ => ⟨S4096x1024, .f32⟩
  | .hbm, ⟨10, _⟩ => ⟨S1024x1024, .f32⟩
  | .hbm, ⟨11, _⟩ => ⟨S1024x1024, .f32⟩
  | .hbm, ⟨12, _⟩ => ⟨S4096x1024, .f32⟩
  | .hbm, ⟨13, _⟩ => ⟨S4096x1024, .bf16⟩
  | .hbm, ⟨14, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel7.lean ====
abbrev S4096x1024 : Shape := ⟨2, ![4096, 1024]⟩
abbrev S4096x512 : Shape := ⟨2, ![4096, 512]⟩
abbrev S4096x128 : Shape := ⟨2, ![4096, 128]⟩
abbrev S8x321x1024 : Shape := ⟨3, ![8, 321, 1024]⟩
abbrev S2048x512 : Shape := ⟨2, ![2048, 512]⟩
abbrev S2048x1024 : Shape := ⟨2, ![2048, 1024]⟩
abbrev S2048x128 : Shape := ⟨2, ![2048, 128]⟩
abbrev S8x321x512 : Shape := ⟨3, ![8, 321, 512]⟩
abbrev S2688x512 : Shape := ⟨2, ![2688, 512]⟩
abbrev S512x512 : Shape := ⟨2, ![512, 512]⟩
abbrev S1024x512 : Shape := ⟨2, ![1024, 512]⟩
abbrev S128x512 : Shape := ⟨2, ![128, 512]⟩
abbrev S321x512 : Shape := ⟨2, ![321, 512]⟩
abbrev S1x321x512 : Shape := ⟨3, ![1, 321, 512]⟩

abbrev nBuf : Space → Nat
  | .hbm => 7
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x1024, .bf16⟩
  | .hbm, ⟨5, _⟩ => ⟨S4096x128, .bf16⟩
  | .hbm, ⟨6, _⟩ => ⟨S8x321x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x1024, .bf16⟩
  | .local _ .vmem, ⟨9, _⟩ => ⟨S2048x1024, .bf16⟩
  | .local _ .vmem, ⟨10, _⟩ => ⟨S2048x128, .bf16⟩
  | .local _ .vmem, ⟨11, _⟩ => ⟨S2048x128, .bf16⟩
  | .local _ .vmem, ⟨12, _⟩ => ⟨S8x321x512, .bf16⟩
  | .local _ .vmem, ⟨13, _⟩ => ⟨S8x321x512, .bf16⟩
  | .local _ .vmem, ⟨14, _⟩ => ⟨S2688x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def k0_cond11 (i : grid0.Coords) : BitVec 1 :=
  let arg1 : BitVec 32 := BitVec.ofNat 32 (i 1).val
  let c1_i32 : BitVec 32 := 1#32
  let v41 : BitVec 1 := Scalar.cmpi .eq arg1 c1_i32
  let v42 : BitVec 32 := Scalar.extui v41
  let c0_i32_34 : BitVec 32 := 0#32
  let v43 : BitVec 1 := Scalar.cmpi .ne v42 c0_i32_34
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S8x321x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference7Ideal.lean ====
abbrev S4096x1024 : Shape := ⟨2, ![4096, 1024]⟩
abbrev S4096x512 : Shape := ⟨2, ![4096, 512]⟩
abbrev S4096x128 : Shape := ⟨2, ![4096, 128]⟩
abbrev S4096x8 : Shape := ⟨2, ![4096, 8]⟩
abbrev S4096x2568 : Shape := ⟨2, ![4096, 2568]⟩
abbrev S_ : Shape := ⟨0, ![]⟩
abbrev S1024x2568 : Shape := ⟨2, ![1024, 2568]⟩
abbrev S2568x1024 : Shape := ⟨2, ![2568, 1024]⟩
abbrev S8x321x1024 : Shape := ⟨3, ![8, 321, 1024]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x1024, .bf16⟩
  | .hbm, ⟨5, _⟩ => ⟨S4096x128, .bf16⟩
  | .hbm, ⟨6, _⟩ => ⟨S4096x1024, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x1024, .f32⟩
  | .hbm, ⟨11, _⟩ => ⟨S4096x128, .f32⟩
  | .hbm, ⟨12, _⟩ => ⟨S4096x8, .f32⟩
  | .hbm, ⟨13, _⟩ => ⟨S4096x2568, .f32⟩
  | .hbm, ⟨14, _⟩ => ⟨S_, .f32⟩
  | .hbm, ⟨15, _⟩ => ⟨S1024x2568, .f32⟩
  | .hbm, ⟨16, _⟩ => ⟨S4096x2568, .f32⟩
  | .hbm, ⟨17, _⟩ => ⟨S2568x1024, .f32⟩
  | .hbm, ⟨18, _⟩ => ⟨S1024x2568, .f32⟩
  | .hbm, ⟨19, _⟩ => ⟨S2568x1024, .f32⟩
  | .hbm, ⟨20, _⟩ => ⟨S8x321x1024, .f32⟩
  | .hbm, ⟨21, _⟩ => ⟨S8x321x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel8.lean ====
abbrev S4096x1024 : Shape := ⟨2, ![4096, 1024]⟩
abbrev S1024x4096 : Shape := ⟨2, ![1024, 4096]⟩
abbrev S1024 : Shape := ⟨1, ![1024]⟩
abbrev S1x1024 : Shape := ⟨2, ![1, 1024]⟩
abbrev S4096x4096 : Shape := ⟨2, ![4096, 4096]⟩
abbrev S1x128 : Shape := ⟨2, ![1, 128]⟩
abbrev S512x1024 : Shape := ⟨2, ![512, 1024]⟩
abbrev S512x4096 : Shape := ⟨2, ![512, 4096]⟩
abbrev S1 : Shape := ⟨1, ![1]⟩
abbrev S_ : Shape := ⟨0, ![]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩
abbrev S1x1 : Shape := ⟨2, ![1, 1]⟩

abbrev nBuf : Space → Nat
  | .hbm => 12
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S1x1024, .f32⟩
  | .hbm, ⟨7, _⟩ => ⟨S4096x4096, .bf16⟩
  | .hbm, ⟨8, _⟩ => ⟨S4096x1024, .bf16⟩
  | .hbm, ⟨9, _⟩ => ⟨S4096x1024, .f32⟩
  | .hbm, ⟨10, _⟩ => ⟨S1x1024, .f32⟩
  | .hbm, ⟨11, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x4096, .bf16⟩
  | .local _ .vmem, ⟨9, _⟩ => ⟨S512x4096, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x128, .f32⟩
  | .local _ .vmem, ⟨16, _⟩ => ⟨S4096x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c0_i32_38 : BitVec 32 := 0#32
  let v62 : BitVec 1 := Scalar.cmpi .eq arg0 c0_i32_38
  let v63 : BitVec 32 := Scalar.extui v62
  let c0_i32_39 : BitVec 32 := 0#32
  let v64 : BitVec 1 := Scalar.cmpi .ne v63 c0_i32_39
  v64

def k0_cond4 (i : grid0.Coords) : BitVec 1 :=
  let arg0 : BitVec 32 := BitVec.ofNat 32 (i 0).val
  let c0_i32_38 : BitVec 32 := 0#32
  let v62 : BitVec 1 := Scalar.cmpi .eq arg0 c0_i32_38
  let v_true : BitVec 1 := 1#1
  let v65 : BitVec 1 := Scalar.xori v62 v_true
  let v66 : BitVec 32 := Scalar.extui v65
  let c0_i32_40 : BitVec 32 := 0#32
  let v67 : BitVec 1 := Scalar.cmpi .ne v66 c0_i32_40
  v67

def k0_cond5 (i : grid0.Coords) : BitVec 1 :=
  let arg0 : BitVec 32 := BitVec.ofNat 32 (i 0).val
  let c0_i32_45 : BitVec 32 := 0#32
  let v79 : BitVec 1 := Scalar.cmpi .eq arg0 c0_i32_45
  let v80 : BitVec 32 := Scalar.extui v79
  let c0_i32_46 : BitVec 32 := 0#32
  let v81 : BitVec 1 := Scalar.cmpi .ne v80 c0_i32_46
  v81

def k0_cond6 (i : grid0.Coords) : BitVec 1 :=
  let arg0 : BitVec 32 := BitVec.ofNat 32 (i 0).val
  let c0_i32_45 : BitVec 32 := 0#32
  let v79 : BitVec 1 := Scalar.cmpi .eq arg0 c0_i32_45
  let true_47 : BitVec 1 := 1#1
  let v82 : BitVec 1 := Scalar.xori v79 true_47
  let v83 : BitVec 32 := Scalar.extui v82
  let c0_i32_48 : BitVec 32 := 0#32
  let v84 : BitVec 1 := Scalar.cmpi .ne v83 c0_i32_48
  v84

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S4096x1024 : Shape := ⟨2, ![4096, 1024]⟩
abbrev S1024x4096 : Shape := ⟨2, ![1024, 4096]⟩
abbrev S1024 : Shape := ⟨1, ![1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 88
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S4096x1024, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1, .f32⟩
  | .hbm, ⟨74, _⟩ => ⟨S_, .f32⟩
  | .hbm, ⟨75, _⟩ => ⟨S4096x1, .f32⟩
  | .hbm, ⟨76, _⟩ => ⟨S4096x1, .f32⟩
  | .hbm, ⟨77, _⟩ => ⟨S_, .f32⟩
  | .hbm, ⟨78, _⟩ => ⟨S4096, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x4096, .bf16⟩
  | .hbm, ⟨85, _⟩ => ⟨S4096x1024, .bf16⟩
  | .hbm, ⟨86, _⟩ => ⟨S1x1024, .f32⟩
  | .hbm, ⟨87, _⟩ => ⟨S1x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_cst_8 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_cst_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_11 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_12 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]
-- ==== Kernel9.lean ====
abbrev S4096x1024 : Shape := ⟨2, ![4096, 1024]⟩
abbrev S1024x2568 : Shape := ⟨2, ![1024, 2568]⟩
abbrev S2568x1024 : Shape := ⟨2, ![2568, 1024]⟩
abbrev S_ : Shape := ⟨0, ![]⟩
abbrev S2688x1024 : Shape := ⟨2, ![2688, 1024]⟩
abbrev S4096x512 : Shape := ⟨2, ![4096, 512]⟩
abbrev S4096x128 : Shape := ⟨2, ![4096, 128]⟩
abbrev S1024x1024 : Shape := ⟨2, ![1024, 1024]⟩
abbrev S1024x512 : Shape := ⟨2, ![1024, 512]⟩
abbrev S1024x128 : Shape := ⟨2, ![1024, 128]⟩
abbrev S512x1024 : Shape := ⟨2, ![512, 1024]⟩
abbrev S128x1024 : Shape := ⟨2, ![128, 1024]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x2568, .bf16⟩
  | .hbm, ⟨2, _⟩ => ⟨S2568x1024, .bf16⟩
  | .hbm, ⟨3, _⟩ => ⟨S_, .i32⟩
  | .hbm, ⟨4, _⟩ => ⟨S_, .bf16⟩
  | .hbm, ⟨5, _⟩ => ⟨S2688x1024, .bf16⟩
  | .hbm, ⟨6, _⟩ => ⟨S4096x512, .bf16⟩
  | .hbm, ⟨7, _⟩ => ⟨S4096x512, .bf16⟩
  | .hbm, ⟨8, _⟩ => ⟨S4096x512, .bf16⟩
  | .hbm, ⟨9, _⟩ => ⟨S4096x1024, .f32⟩
  | .hbm, ⟨10, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S2688x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x1024, .f32⟩
  | .local _ .vmem, ⟨10, _⟩ => ⟨S1024x1024, .f32⟩
  | .local _ .vmem, ⟨11, _⟩ => ⟨S1024x128, .f32⟩
  | .local _ .vmem, ⟨12, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2688x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S4096x1024 : Shape := ⟨2, ![4096, 1024]⟩
abbrev S1024x2568 : Shape := ⟨2, ![1024, 2568]⟩
abbrev S4096x2568 : Shape := ⟨2, ![4096, 2568]⟩
abbrev S4096x512 : Shape := ⟨2, ![4096, 512]⟩
abbrev S4096x8 : Shape := ⟨2, ![4096, 8]⟩
abbrev S_ : Shape := ⟨0, ![]⟩
abbrev S4096x128 : Shape := ⟨2, ![4096, 128]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2568, .bf16⟩
  | .hbm, ⟨2, _⟩ => ⟨S4096x1024, .f32⟩
  | .hbm, ⟨3, _⟩ => ⟨S1024x2568, .f32⟩
  | .hbm, ⟨4, _⟩ => ⟨S4096x2568, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x1024, .f32⟩
  | .hbm, ⟨9, _⟩ => ⟨S4096x8, .f32⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S_, .i32⟩
  | .hbm, ⟨14, _⟩ => ⟨S_, .f32⟩
  | .hbm, ⟨15, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel10.lean ====
abbrev S4096x512 : Shape := ⟨2, ![4096, 512]⟩
abbrev S1024x1024 : Shape := ⟨2, ![1024, 1024]⟩
abbrev S4096x1024 : Shape := ⟨2, ![4096, 1024]⟩
abbrev S1024 : Shape := ⟨1, ![1024]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 11
  | .vmem => 15
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .bf16⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S4096x512 : Shape := ⟨2, ![4096, 512]⟩
abbrev S1024x1024 : Shape := ⟨2, ![1024, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S1024x1024, .bf16⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S4096x512, .f32⟩
  | .hbm, ⟨7, _⟩ => ⟨S4096x512, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel11.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel12.lean ====
abbrev S8x321x1024 : Shape := ⟨3, ![8, 321, 1024]⟩
abbrev S1x1024x321 : Shape := ⟨3, ![1, 1024, 321]⟩
abbrev S_ : Shape := ⟨0, ![]⟩
abbrev S1 : Shape := ⟨1, ![1]⟩
abbrev S321x1x1024 : Shape := ⟨3, ![321, 1, 1024]⟩
abbrev S1x321x1024 : Shape := ⟨3, ![1, 321, 1024]⟩
abbrev S321x1024 : Shape := ⟨2, ![321, 1024]⟩

abbrev nBuf : Space → Nat
  | .hbm => 13
  | .vmem => 9
  | .smem => 1
  | _ => 0

abbrev bufTy : (tb : Table) → Fin (tcTables nBuf tb) → BufTy
  | .hbm, ⟨0, _⟩ => ⟨S8x321x1024, .bf16⟩
  | .hbm, ⟨1, _⟩ => ⟨S8x321x1024, .bf16⟩
  | .hbm, ⟨2, _⟩ => ⟨S1x1024x321, .f32⟩
  | .hbm, ⟨3, _⟩ => ⟨S1x1024x321, .f32⟩
  | .hbm, ⟨4, _⟩ => ⟨S1x1024x321, .f32⟩
  | .hbm, ⟨5, _⟩ => ⟨S_, .i32⟩
  | .hbm, ⟨6, _⟩ => ⟨S321x1x1024, .f32⟩
  | .hbm, ⟨7, _⟩ => ⟨S321x1x1024, .f32⟩
  | .hbm, ⟨8, _⟩ => ⟨S321x1x1024, .f32⟩
  | .hbm, ⟨9, _⟩ => ⟨S321x1x1024, .f32⟩
  | .hbm, ⟨10, _⟩ => ⟨S321x1x1024, .f32⟩
  | .hbm, ⟨11, _⟩ => ⟨S321x1x1024, .f32⟩
  | .hbm, ⟨12, _⟩ => ⟨S321x1x1024, .f32⟩
  | .local _ .vmem, ⟨0, _⟩ => ⟨S8x321x1024, .bf16⟩
  | .local _ .vmem, ⟨1, _⟩ => ⟨S1x321x1024, .bf16⟩
  | .local _ .vmem, ⟨2, _⟩ => ⟨S321x1x1024, .f32⟩
  | .local _ .vmem, ⟨3, _⟩ => ⟨S321x1x1024, .f32⟩
  | .local _ .vmem, ⟨4, _⟩ => ⟨S321x1x1024, .f32⟩
  | .local _ .vmem, ⟨5, _⟩ => ⟨S321x1x1024, .f32⟩
  | .local _ .vmem, ⟨6, _⟩ => ⟨S321x1x1024, .f32⟩
  | .local _ .vmem, ⟨7, _⟩ => ⟨S321x1x1024, .f32⟩
  | .local _ .vmem, ⟨8, _⟩ => ⟨S321x1x1024, .f32⟩
  | .local _ .smem, ⟨0, _⟩ => ⟨S1, .i32⟩
  | _, _ => ⟨S8x321x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x321x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x321x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S321x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S321x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S321x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S321x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S321x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S321x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S321x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference12Ideal.lean ====
abbrev S8x321x1024 : Shape := ⟨3, ![8, 321, 1024]⟩
abbrev S1x1024x321 : Shape := ⟨3, ![1, 1024, 321]⟩
abbrev S1x321x1024 : Shape := ⟨3, ![1, 321, 1024]⟩
abbrev S7x321x1024 : Shape := ⟨3, ![7, 321, 1024]⟩
abbrev S_ : Shape := ⟨0, ![]⟩
abbrev S321x1024 : Shape := ⟨2, ![321, 1024]⟩
abbrev S321x1x1024 : Shape := ⟨3, ![321, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x321x1024, .bf16⟩
  | .hbm, ⟨1, _⟩ => ⟨S8x321x1024, .bf16⟩
  | .hbm, ⟨2, _⟩ => ⟨S1x1024x321, .f32⟩
  | .hbm, ⟨3, _⟩ => ⟨S1x1024x321, .f32⟩
  | .hbm, ⟨4, _⟩ => ⟨S1x1024x321, .f32⟩
  | .hbm, ⟨5, _⟩ => ⟨S1x321x1024, .bf16⟩
  | .hbm, ⟨6, _⟩ => ⟨S7x321x1024, .bf16⟩
  | .hbm, ⟨7, _⟩ => ⟨S8x321x1024, .bf16⟩
  | .hbm, ⟨8, _⟩ => ⟨S8x321x1024, .f32⟩
  | .hbm, ⟨9, _⟩ => ⟨S_, .f32⟩
  | .hbm, ⟨10, _⟩ => ⟨S321x1024, .f32⟩
  | .hbm, ⟨11, _⟩ => ⟨S321x1x1024, .f32⟩
  | .hbm, ⟨12, _⟩ => ⟨S321x1x1024, .f32⟩
  | .hbm, ⟨13, _⟩ => ⟨S321x1x1024, .f32⟩
  | .hbm, ⟨14, _⟩ => ⟨S321x1x1024, .f32⟩
  | .hbm, ⟨15, _⟩ => ⟨S_, .f32⟩
  | .hbm, ⟨16, _⟩ => ⟨S321x1x1024, .f32⟩
  | .hbm, ⟨17, _⟩ => ⟨S321x1x1024, .f32⟩
  | .hbm, ⟨18, _⟩ => ⟨S_, .f32⟩
  | .hbm, ⟨19, _⟩ => ⟨S321x1x1024, .f32⟩
  | .hbm, ⟨20, _⟩ => ⟨S321x1x1024, .f32⟩
  | .hbm, ⟨21, _⟩ => ⟨S321x1x1024, .f32⟩
  | .hbm, ⟨22, _⟩ => ⟨S_, .f32⟩
  | .hbm, ⟨23, _⟩ => ⟨S321x1x1024, .f32⟩
  | .hbm, ⟨24, _⟩ => ⟨S321x1x1024, .f32⟩
  | .hbm, ⟨25, _⟩ => ⟨S321x1x1024, .f32⟩
  | .hbm, ⟨26, _⟩ => ⟨S_, .f32⟩
  | .hbm, ⟨27, _⟩ => ⟨S321x1x1024, .f32⟩
  | .hbm, ⟨28, _⟩ => ⟨S321x1x1024, .f32⟩
  | .hbm, ⟨29, _⟩ => ⟨S321x1x1024, .f32⟩
  | .hbm, ⟨30, _⟩ => ⟨S_, .f32⟩
  | .hbm, ⟨31, _⟩ => ⟨S321x1x1024, .f32⟩
  | .hbm, ⟨32, _⟩ => ⟨S321x1x1024, .f32⟩
  | .hbm, ⟨33, _⟩ => ⟨S_, .f32⟩
  | .hbm, ⟨34, _⟩ => ⟨S321x1x1024, .f32⟩
  | .hbm, ⟨35, _⟩ => ⟨S321x1x1024, .f32⟩
  | .hbm, ⟨36, _⟩ => ⟨S321x1x1024, .f32⟩
  | .hbm, ⟨37, _⟩ => ⟨S_, .f32⟩
  | .hbm, ⟨38, _⟩ => ⟨S321x1x1024, .f32⟩
  | .hbm, ⟨39, _⟩ => ⟨S321x1x1024, .f32⟩
  | .hbm, ⟨40, _⟩ => ⟨S321x1x1024, .f32⟩
  | .hbm, ⟨41, _⟩ => ⟨S_, .f32⟩
  | .hbm, ⟨42, _⟩ => ⟨S321x1x1024, .f32⟩
  | .hbm, ⟨43, _⟩ => ⟨S321x1x1024, .f32⟩
  | .hbm, ⟨44, _⟩ => ⟨S321x1x1024, .f32⟩
  | .hbm, ⟨45, _⟩ => ⟨S_, .f32⟩
  | .hbm, ⟨46, _⟩ => ⟨S321x1x1024, .f32⟩
  | .hbm, ⟨47, _⟩ => ⟨S321x1x1024, .f32⟩
  | _, _ => ⟨S8x321x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Proof.RealVec.lean ====
/-
  VECTORS OF REAL NUMBERS. `R1 f`, `R2 f`, `R3 f` are the vectors whose elements are the real numbers that `f` gives
  at the coordinates (natural numbers), read as extended reals. Every vector operation that the block of the kernel
  uses takes such vectors to such a vector, and the lemmas here say to which: an elementwise operation acts on the
  functions, a slice shifts the coordinates, a concatenation chooses by the coordinate, a product sums over a range.
  Over the reals the casts between the float types do nothing, so that the rest of a split product
  (`x - cast (cast x)`) is zero.
-/
module

public import Idealize.ShloMosaic.Lib.Pointwise
public import Idealize.ShloMosaic.Lib.IdealHost
public import Mathlib.Data.EReal.Operations

@[expose] public section

noncomputable section

namespace Cert.Proof.RV
open Idealize.ShloMosaic
open scoped BigOperators

/-- The vector of the real numbers `f a`. -/
def R1 {φ : FTy} {m : Nat} (f : ℕ → ℝ) : FVec Ideal ⟨1, ![m]⟩ φ := fun i => ((f (i 0).val : ℝ) : EReal)
/-- The matrix of the real numbers `f a b`. -/
def R2 {φ : FTy} {m n : Nat} (f : ℕ → ℕ → ℝ) : FVec Ideal ⟨2, ![m, n]⟩ φ := fun i => ((f (i 0).val (i 1).val : ℝ) : EReal)
/-- The array of the real numbers `f a b c`. -/
def R3 {φ : FTy} {m n p : Nat} (f : ℕ → ℕ → ℕ → ℝ) : FVec Ideal ⟨3, ![m, n, p]⟩ φ :=
  fun i => ((f (i 0).val (i 1).val (i 2).val : ℝ) : EReal)

section
variable {φ : FTy} {m n p : Nat}

theorem R2_apply (f : ℕ → ℕ → ℝ) (i : (⟨2, ![m, n]⟩ : Shape).Idx) :
    R2 (φ := φ) f i = ((f (i 0).val (i 1).val : ℝ) : EReal) := rfl

/-- Two functions that agree on the coordinates of the shape give one vector. -/
theorem R2_congr {f g : ℕ → ℕ → ℝ} (h : ∀ a b, a < m → b < n → f a b = g a b) :
    R2 (φ := φ) (m := m) (n := n) f = R2 g := by
  funext i; exact congrArg _ (h _ _ (i 0).isLt (i 1).isLt)

theorem R1_congr {f g : ℕ → ℝ} (h : ∀ a, a < m → f a = g a) :
    R1 (φ := φ) (m := m) f = R1 g := by
  funext i; exact congrArg _ (h _ (i 0).isLt)

theorem mulf_R2 (f g : ℕ → ℕ → ℝ) :
    mulf (R2 (φ := φ) (m := m) (n := n) f) (R2 g) = R2 fun a b => f a b * g a b := by
  funext i; exact (EReal.coe_mul _ _).symm

theorem addf_R2 (f g : ℕ → ℕ → ℝ) :
    addf (R2 (φ := φ) (m := m) (n := n) f) (R2 g) = R2 fun a b => f a b + g a b := by
  funext i; exact (EReal.coe_add _ _).symm

theorem subf_R2 (f g : ℕ → ℕ → ℝ) :
    subf (R2 (φ := φ) (m := m) (n := n) f) (R2 g) = R2 fun a b => f a b - g a b := by
  funext i; exact (EReal.coe_sub _ _).symm

theorem tanh_R2 (f : ℕ → ℕ → ℝ) :
    tanh (R2 (φ := φ) (m := m) (n := n) f) = R2 fun a b => Real.tanh (f a b) := by
  funext i; rfl

theorem rsqrt_R2 (f : ℕ → ℕ → ℝ) (h : ∀ a b, a < m → b < n → 0 < f a b) :
    rsqrt (R2 (φ := φ) (m := m) (n := n) f) = R2 fun a b => (Real.sqrt (f a b))⁻¹ := by
  funext i
  have hp := h _ _ (i 0).isLt (i 1).isLt
  refine (show Ideal.rsqrt ((f _ _ : ℝ) : EReal) = if f (i 0).val (i 1).val < 0 then ⊥ else
    if f (i 0).val (i 1).val = 0 then ⊤ else (((Real.sqrt (f (i 0).val (i 1).val))⁻¹ : ℝ) : EReal) from rfl).trans ?_
  rw [if_neg (not_lt.2 hp.le), if_neg hp.ne']
  rfl

theorem truncf_R2 {ψ : FTy} (f : ℕ → ℕ → ℝ) (h : ψ.bits < φ.bits) :
    truncf ψ (R2 (φ := φ) (m := m) (n := n) f) h = R2 f := rfl

theorem extf_R2 {ψ : FTy} (f : ℕ → ℕ → ℝ) (h : φ.bits < ψ.bits) :
    extf ψ (R2 (φ := φ) (m := m) (n := n) f) h = R2 f := rfl

theorem slice_R2 {p q : Nat} (o₁ o₂ : Nat) (f : ℕ → ℕ → ℝ)
    (h : Shape.Slices (⟨2, ![m, n]⟩ : Shape) ![o₁, o₂] ⟨2, ![p, q]⟩) :
    extractStridedSlice (⟨2, ![p, q]⟩ : Shape) ![o₁, o₂] (R2 (φ := φ) (m := m) (n := n) f) h
      = R2 fun a b => f (o₁ + a) (o₂ + b) := rfl

/-- One row, repeated. -/
theorem broadcastTo_R2 {p : Nat} (f : ℕ → ℕ → ℝ) (hn : n ≠ 1)
    (h : Shape.Broadcasts (⟨2, ![1, n]⟩ : Shape) ⟨2, ![p, n]⟩) :
    broadcastTo (⟨2, ![p, n]⟩ : Shape) (R2 (φ := φ) (m := 1) (n := n) f) h = R2 fun _ b => f 0 b := by
  funext j
  simp only [broadcastTo, R2]
  have h1 : ¬ (⟨2, ![1, n]⟩ : Shape).size 1 = 1 := hn
  rw [dif_neg h1]
  rfl

/-- A number in every place. -/
theorem broadcast_real (x : ℝ) :
    broadcast (⟨2, ![m, n]⟩ : Shape) ((x : ℝ) : EReal) = R2 (φ := φ) fun _ _ => x := rfl

theorem constant_zero : constant (F := Ideal) (⟨2, ![m, n]⟩ : Shape) .f32 0x00000000#32 = R2 fun _ _ => 0 := by
  funext i
  show Ideal.ofBits .f32 0x00000000#32 = _
  rw [Ideal.ofBits_zero_f32]; rfl

end

/-- A sum of products of reals, taken among the extended reals. -/
theorem sum_coe {K : Nat} (F : ℕ → ℝ) :
    (∑ k : Fin K, ((F k.val : ℝ) : EReal)) = ((∑ k ∈ Finset.range K, F k : ℝ) : EReal) := by
  rw [Finset.sum_range]
  induction K with
  | zero => simp
  | succ K ih =>
    rw [Fin.sum_univ_castSucc, Fin.sum_univ_castSucc, EReal.coe_add]
    exact congrArg (· + ((F K : ℝ) : EReal)) ih

theorem sum_coe_mul {K : Nat} (F G : ℕ → ℝ) :
    (∑ k : Fin K, ((F k.val : ℝ) : EReal) * ((G k.val : ℝ) : EReal))
      = ((∑ k ∈ Finset.range K, F k * G k : ℝ) : EReal) := by
  rw [← sum_coe]; exact Finset.sum_congr rfl fun k _ => (EReal.coe_mul _ _).symm

end Cert.Proof.RV

end
-- ==== Proof.RefSums.lean ====
/-
  Sums of the reference that run over several axes at once, read at an index: a `stablehlo.reduce` with `add` over the first
  two axes of an array of rank four, one over the axes 0, 1 and 4 of an array of rank five, and a `dot_general` that contracts
  three axes.
-/
module

public import proofs.«01_k».proof.Proof.RealVec
public import proofs.«01_k».proof.Proof.Gen.ReferenceIdeal
public import Idealize.ShloMosaic.Lib.Pointwise
public import Idealize.ShloMosaic.Lib.IdealHost

@[expose] public section

set_option maxRecDepth 16384

noncomputable section

namespace Cert.Proof.RF
open Idealize.ShloMosaic Cert.Proof.RV Cert.ReferenceIdeal Cert.ReferenceIdeal.Gen
open scoped BigOperators

theorem drop_01 {n0 n1 n2 n3 : Nat} (h : Shape.ReducesTo ⟨4, ![n0, n1, n2, n3]⟩ [0, 1] ⟨2, ![n2, n3]⟩)
    (a : Fin n0) (b : Fin n1) (c : Fin n2) (d : Fin n3) : h.drop (ix4 a b c d) = ix2 c d := by
  funext x
  match x with
  | ⟨0, _⟩ => rfl
  | ⟨1, _⟩ => rfl

theorem drop_014 {n0 n1 n2 n3 n4 : Nat} (h : Shape.ReducesTo ⟨5, ![n0, n1, n2, n3, n4]⟩ [0, 1, 4] ⟨2, ![n2, n3]⟩)
    (a : Fin n0) (b : Fin n1) (c : Fin n2) (d : Fin n3) (e : Fin n4) : h.drop (ix5 a b c d e) = ix2 c d := by
  funext x
  match x with
  | ⟨0, _⟩ => rfl
  | ⟨1, _⟩ => rfl

theorem reduce_01 {n0 n1 n2 n3 : Nat} (h : Shape.ReducesTo ⟨4, ![n0, n1, n2, n3]⟩ [0, 1] ⟨2, ![n2, n3]⟩)
    (x : (⟨4, ![n0, n1, n2, n3]⟩ : Shape).Idx → EReal) (z : EReal) (c : Fin n2) (d : Fin n3) :
    Ideal.hostReduceAdd h x z (ix2 c d) = z + ∑ a : Fin n0, ∑ b : Fin n1, x (ix4 a b c d) := by
  unfold Ideal.hostReduceAdd
  rw [Finset.sum_filter, sum_idx4]
  simp only [drop_01, ix2_inj]
  refine congrArg (z + ·) (Finset.sum_congr rfl fun a _ => Finset.sum_congr rfl fun b _ => ?_)
  rw [Finset.sum_eq_single c (fun c' _ hc => Finset.sum_eq_zero fun d' _ => if_neg fun h => hc h.1) (by simp),
    Finset.sum_eq_single d (fun d' _ hd => if_neg fun h => hd h.2) (by simp), if_pos ⟨rfl, rfl⟩]

theorem reduce_014 {n0 n1 n2 n3 n4 : Nat} (h : Shape.ReducesTo ⟨5, ![n0, n1, n2, n3, n4]⟩ [0, 1, 4] ⟨2, ![n2, n3]⟩)
    (x : (⟨5, ![n0, n1, n2, n3, n4]⟩ : Shape).Idx → EReal) (z : EReal) (c : Fin n2) (d : Fin n3) :
    Ideal.hostReduceAdd h x z (ix2 c d) = z + ∑ a : Fin n0, ∑ b : Fin n1, ∑ e : Fin n4, x (ix5 a b c d e) := by
  unfold Ideal.hostReduceAdd
  rw [Finset.sum_filter, sum_idx5]
  simp only [drop_014, ix2_inj]
  refine congrArg (z + ·) (Finset.sum_congr rfl fun a _ => Finset.sum_congr rfl fun b _ => ?_)
  rw [Finset.sum_eq_single c (fun c' _ hc => Finset.sum_eq_zero fun d' _ => Finset.sum_eq_zero fun e _ => if_neg fun h => hc h.1) (by simp),
    Finset.sum_eq_single d (fun d' _ hd => Finset.sum_eq_zero fun e _ => if_neg fun h => hd h.2) (by simp)]
  exact Finset.sum_congr rfl fun e _ => if_pos ⟨rfl, rfl⟩

/-- The dimension numbers of the weight's gradient. -/
abbrev dW := dot_S8x2x16x64x128_S2x16x128x8x64_S8x128x128_123_014_4_2_0_3

/-- An index of its contraction is the triple of its coordinates. -/
def contrW : Fin 2 × Fin 16 × Fin 64 ≃ dW.contr.Idx where
  toFun p := fun a => match a with
    | ⟨0, _⟩ => p.1
    | ⟨1, _⟩ => p.2.1
    | ⟨2, _⟩ => p.2.2
  invFun q := (q (0 : Fin 3), q (1 : Fin 3), q (2 : Fin 3))
  left_inv _ := rfl
  right_inv q := by
    funext a
    match a with
    | ⟨0, _⟩ => rfl
    | ⟨1, _⟩ => rfl
    | ⟨2, _⟩ => rfl

theorem lhs_W (h : Fin 8) (t s : Fin 128) (p : Fin 2 × Fin 16 × Fin 64) :
    dW.lhsIdx (ix3 h t s) (contrW p) = ix5 h p.1 p.2.1 p.2.2 t := by
  funext a
  match a with
  | ⟨0, _⟩ => rfl
  | ⟨1, _⟩ => rfl
  | ⟨2, _⟩ => rfl
  | ⟨3, _⟩ => rfl
  | ⟨4, _⟩ => rfl

theorem rhs_W (h : Fin 8) (t s : Fin 128) (p : Fin 2 × Fin 16 × Fin 64) :
    dW.rhsIdx (ix3 h t s) (contrW p) = ix5 p.1 p.2.1 s h p.2.2 := by
  funext a
  match a with
  | ⟨0, _⟩ => rfl
  | ⟨1, _⟩ => rfl
  | ⟨2, _⟩ => rfl
  | ⟨3, _⟩ => rfl
  | ⟨4, _⟩ => rfl

theorem dot_W (x : FVec Ideal S8x2x16x64x128 .f32) (y : FVec Ideal S2x16x128x8x64 .f32) (h : Fin 8) (t s : Fin 128) :
    Host.dotGeneral dW none x y (ix3 h t s)
      = ∑ a : Fin 2, ∑ b : Fin 16, ∑ e : Fin 64, x (ix5 h a b e t) * y (ix5 a b s h e) := by
  simp only [Host.dotGeneral]
  rw [Ideal.dotGeneral_apply, ← Equiv.sum_comp contrW]
  simp only [lhs_W, rhs_W, Fintype.sum_prod_type]

end Cert.Proof.RF
-- ==== Proof.RealOps.lean ====
/-
  The layout operations and the products of the kernel's block, at the shapes at which it uses them, on vectors of real
  numbers (Proof/RealVec.lean).
-/
module

public import proofs.«01_k».proof.Proof.RealVec
public import proofs.«01_k».proof.Proof.Gen.KernelIdeal.Skeleton

@[expose] public section

set_option maxRecDepth 16384

noncomputable section

namespace Cert.Proof.RV
open Idealize.ShloMosaic Cert.KernelIdeal Cert.KernelIdeal.Gen
open scoped BigOperators

variable {φ ψ : FTy}

/-- Two halves of 256 columns side by side. -/
def catHalves (x y : FVec Ideal S512x256 φ) : FVec Ideal S512x512 φ :=
  concatenate S512x512 1 [⟨S512x256, x⟩, ⟨S512x256, y⟩] concatenates_S512x256_S512x256_S512x512_d1

theorem catHalves_intro (x y : FVec Ideal S512x256 φ) (h) :
    concatenate S512x512 1 [⟨S512x256, x⟩, ⟨S512x256, y⟩] h = catHalves x y := rfl

theorem catHalves_R2 (f₀ f₁ : ℕ → ℕ → ℝ) :
    catHalves (φ := φ) (R2 f₀) (R2 f₁) = R2 fun a b => if b < 256 then f₀ a b else f₁ a (b - 256) := by
  funext j
  pointwise [catHalves, R2]
  split_ifs <;> first | rfl | (exfalso; omega) | (simp only [Nat.sub_sub])

/-- Two tiles one above the other. -/
def catPair (x y : FVec Ideal S128x128 φ) : FVec Ideal S256x128 φ :=
  concatenate S256x128 0 [⟨S128x128, x⟩, ⟨S128x128, y⟩] concatenates_S128x128_S128x128_S256x128_d0

theorem catPair_intro (x y : FVec Ideal S128x128 φ) (h) :
    concatenate S256x128 0 [⟨S128x128, x⟩, ⟨S128x128, y⟩] h = catPair x y := rfl

theorem catPair_R2 (f₀ f₁ : ℕ → ℕ → ℝ) :
    catPair (φ := φ) (R2 f₀) (R2 f₁) = R2 fun a b => if a < 128 then f₀ a b else f₁ (a - 128) b := by
  funext j
  pointwise [catPair, R2]
  split_ifs <;> first | rfl | (exfalso; omega) | (simp only [Nat.sub_sub])

/-- Four tiles side by side. -/
def catCols (x y z w : FVec Ideal S128x128 φ) : FVec Ideal S128x512 φ :=
  concatenate S128x512 1 [⟨S128x128, x⟩, ⟨S128x128, y⟩, ⟨S128x128, z⟩, ⟨S128x128, w⟩] concatenates_S128x128_S128x128_S128x128_S128x128_S128x512_d1

theorem catCols_intro (x y z w : FVec Ideal S128x128 φ) (h) :
    concatenate S128x512 1 [⟨S128x128, x⟩, ⟨S128x128, y⟩, ⟨S128x128, z⟩, ⟨S128x128, w⟩] h = catCols x y z w := rfl

theorem catCols_R2 (f₀ f₁ f₂ f₃ : ℕ → ℕ → ℝ) :
    catCols (φ := φ) (R2 f₀) (R2 f₁) (R2 f₂) (R2 f₃) = R2 fun a b => if b < 128 then f₀ a b else if b < 256 then f₁ a (b - 128) else
      if b < 384 then f₂ a (b - 256) else f₃ a (b - 384) := by
  funext j
  pointwise [catCols, R2]
  split_ifs <;> first | rfl | (exfalso; omega) | (simp only [Nat.sub_sub])

/-- Four strips one above the other. -/
def catRows (x y z w : FVec Ideal S128x512 φ) : FVec Ideal S512x512 φ :=
  concatenate S512x512 0 [⟨S128x512, x⟩, ⟨S128x512, y⟩, ⟨S128x512, z⟩, ⟨S128x512, w⟩] concatenates_S128x512_S128x512_S128x512_S128x512_S512x512_d0

theorem catRows_intro (x y z w : FVec Ideal S128x512 φ) (h) :
    concatenate S512x512 0 [⟨S128x512, x⟩, ⟨S128x512, y⟩, ⟨S128x512, z⟩, ⟨S128x512, w⟩] h = catRows x y z w := rfl

theorem catRows_R2 (f₀ f₁ f₂ f₃ : ℕ → ℕ → ℝ) :
    catRows (φ := φ) (R2 f₀) (R2 f₁) (R2 f₂) (R2 f₃) = R2 fun a b => if a < 128 then f₀ a b else if a < 256 then f₁ (a - 128) b else
      if a < 384 then f₂ (a - 256) b else f₃ (a - 384) b := by
  funext j
  pointwise [catRows, R2]
  split_ifs <;> first | rfl | (exfalso; omega) | (simp only [Nat.sub_sub])

theorem matmul_avg (f g : ℕ → ℕ → ℝ) (z : ℕ → ℕ → ℝ) :
    matmul dot_S512x256_S256x256_S512x256_1_0_0_1_n_n none (R2 (φ := φ) f) (R2 (φ := ψ) g) (R2 z)
      = R2 fun a b => z a b + ∑ k ∈ Finset.range 256, f a k * g k b := by
  funext j
  pointwise [R2]
  rw [sum_coe_mul (fun k => f (j 0).val k) (fun k => g k (j 1).val), ← EReal.coe_add]

theorem matmul_tile (f g : ℕ → ℕ → ℝ) (z : ℕ → ℕ → ℝ) :
    matmul dot_S128x256_S256x128_S128x128_1_0_0_1_n_n none (R2 (φ := φ) f) (R2 (φ := ψ) g) (R2 z)
      = R2 fun a b => z a b + ∑ k ∈ Finset.range 256, f a k * g k b := by
  funext j
  pointwise [R2]
  rw [sum_coe_mul (fun k => f (j 0).val k) (fun k => g k (j 1).val), ← EReal.coe_add]

theorem matmul_expand (f g : ℕ → ℕ → ℝ) (z : ℕ → ℕ → ℝ) :
    matmul dot_S128x512_S512x128_S128x128_1_0_0_1_n_n none (R2 (φ := φ) f) (R2 (φ := ψ) g) (R2 z)
      = R2 fun a b => z a b + ∑ k ∈ Finset.range 512, f a k * g k b := by
  funext j
  pointwise [R2]
  rw [sum_coe_mul (fun k => f (j 0).val k) (fun k => g k (j 1).val), ← EReal.coe_add]

theorem matmul_lanes (f g : ℕ → ℕ → ℝ) (z : ℕ → ℕ → ℝ) :
    matmul dot_S128x128_S128x128_S128x128_1_1_0_0_n_n none (R2 (φ := φ) f) (R2 (φ := ψ) g) (R2 z)
      = R2 fun a b => z a b + ∑ k ∈ Finset.range 128, f a k * g b k := by
  funext j
  pointwise [R2]
  rw [sum_coe_mul (fun k => f (j 0).val k) (fun k => g (j 1).val k), ← EReal.coe_add]

theorem colsum (f : ℕ → ℕ → ℝ) :
    multiReduction (F := Ideal) .add [0] S512 (R2 (m := 512) (n := 512) f) 0x00000000#32 reduces_S512x512_S512 (.inl rfl) rfl
      = R1 fun b => ∑ a ∈ Finset.range 512, f a b := by
  funext j
  pointwise [R2, R1]
  exact sum_coe fun k => f k (j 0).val

theorem cast_row (f : ℕ → ℝ) (h) :
    shapeCast S1x512 (R1 (φ := φ) (m := 512) f) h = R2 fun _ b => f b := by
  funext j
  pointwise [R2, R1]

theorem cast_same {s : Shape} {α : Type} (x : s.Idx → α) (h) : shapeCast s x h = x := by
  funext j
  exact congrArg x (by simp [Shape.reshapeEquiv])

theorem cast_drop_256 (f : ℕ → ℕ → ℕ → ℝ) (h) :
    shapeCast S128x256 (R3 (φ := φ) (m := 1) (n := 128) (p := 256) f) h = R2 fun a b => f 0 a b := by
  funext j
  pointwise [R2, R3]

theorem cast_drop_128 (f : ℕ → ℕ → ℕ → ℝ) (h) :
    shapeCast S128x128 (R3 (φ := φ) (m := 1) (n := 128) (p := 128) f) h = R2 fun a b => f 0 a b := by
  funext j
  pointwise [R2, R3]

theorem cast_add_128 (f : ℕ → ℕ → ℝ) (h) :
    shapeCast S1x128x128 (R2 (φ := φ) (m := 128) (n := 128) f) h = R3 fun _ a b => f a b := by
  funext j
  pointwise [R2, R3]

/-- The number that the word of √(2/π) is. -/
def cRoot : ℝ := 13386282 / 16777216
/-- The number that the word of 1e-6 is. -/
def cEps : ℝ := 8796093 / 8796093022208

theorem cEps_pos : 0 < cEps := by unfold cEps; norm_num

section
variable {m n : Nat}

theorem splat_half : broadcast (⟨2, ![m, n]⟩ : Shape) (Scalar.ofBits .f32 0x3F000000#32 : Ideal .f32)
    = R2 (φ := .f32) fun _ _ => 1 / 2 := by
  funext i
  show Ideal.ofBits .f32 0x3F000000#32 = ((_ : ℝ) : EReal)
  simp [Ideal.ofBits, Ideal.ieee, -EReal.coe_mul]; norm_num

theorem splat_one : broadcast (⟨2, ![m, n]⟩ : Shape) (Scalar.ofBits .f32 0x3F800000#32 : Ideal .f32)
    = R2 (φ := .f32) fun _ _ => 1 := by
  funext i
  show Ideal.ofBits .f32 0x3F800000#32 = ((_ : ℝ) : EReal)
  rw [Ideal.ofBits_one_f32]; rfl

theorem splat_root : broadcast (⟨2, ![m, n]⟩ : Shape) (Scalar.ofBits .f32 0x3F4C422A#32 : Ideal .f32)
    = R2 (φ := .f32) fun _ _ => cRoot := by
  funext i
  show Ideal.ofBits .f32 0x3F4C422A#32 = ((_ : ℝ) : EReal)
  simp [Ideal.ofBits, Ideal.ieee, -EReal.coe_mul, cRoot]; norm_num

theorem splat_eps : broadcast (⟨2, ![m, n]⟩ : Shape) (Scalar.ofBits .f32 0x358637BD#32 : Ideal .f32)
    = R2 (φ := .f32) fun _ _ => cEps := by
  funext i
  show Ideal.ofBits .f32 0x358637BD#32 = ((_ : ℝ) : EReal)
  simp [Ideal.ofBits, Ideal.ieee, -EReal.coe_mul, cEps]; norm_num

theorem splat_cubic : broadcast (⟨2, ![m, n]⟩ : Shape) (Named.named κ "gelu_cubic" 0x3D372713#32 : Ideal .f32)
    = R2 (φ := .f32) fun _ _ => 8943 / 200000 := rfl
theorem splat_cubic3 : broadcast (⟨2, ![m, n]⟩ : Shape) (Named.named κ "gelu_cubic_3" 0x3E095D4F#32 : Ideal .f32)
    = R2 (φ := .f32) fun _ _ => 26829 / 200000 := rfl

end

end Cert.Proof.RV

end
-- ==== Proof.RefOps.lean ====
/-
  The layout operations, the sums and the products of the reference on arrays of real numbers. An array of the reference holds
  4096 rows of 512 columns at one of several shapes: the rows as 2 sequences of 2048 or of 16 chunks of 128, the columns as 8
  heads of 64. `G` is such an array, given the row and the column of each index.
-/
module

public import proofs.«01_k».proof.Proof.RefSums
public import proofs.«01_k».proof.Proof.RealOps

@[expose] public section

set_option maxRecDepth 16384

noncomputable section

namespace Cert.Proof.RF
open Idealize.ShloMosaic Cert.Proof.RV Cert.ReferenceIdeal Cert.ReferenceIdeal.Gen
open scoped BigOperators

/-- The array that holds the real number `f (r i) (c i)` at the index `i`. -/
def G {s : Shape} (r c : s.Idx → ℕ) (f : ℕ → ℕ → ℝ) : FVec Ideal s .f32 := fun i => ((f (r i) (c i) : ℝ) : EReal)

section
variable {s : Shape} {r c : s.Idx → ℕ}

theorem mulf_G (f g : ℕ → ℕ → ℝ) : mulf (G r c f) (G r c g) = G r c fun a b => f a b * g a b := by
  funext i; exact (EReal.coe_mul _ _).symm
theorem addf_G (f g : ℕ → ℕ → ℝ) : addf (G r c f) (G r c g) = G r c fun a b => f a b + g a b := by
  funext i; exact (EReal.coe_add _ _).symm
theorem subf_G (f g : ℕ → ℕ → ℝ) : subf (G r c f) (G r c g) = G r c fun a b => f a b - g a b := by
  funext i; exact (EReal.coe_sub _ _).symm
theorem negf_G (f : ℕ → ℕ → ℝ) : Host.negf (G r c f) = G r c fun a b => - f a b := by
  funext i; exact (EReal.coe_neg _).symm
theorem tanh_G (f : ℕ → ℕ → ℝ) : Host.tanh (G r c f) = G r c fun a b => Real.tanh (f a b) := by
  funext i; rfl
theorem divf_G (f g : ℕ → ℕ → ℝ) (h : ∀ a b, g a b ≠ 0) : Host.divf (G r c f) (G r c g) = G r c fun a b => f a b / g a b := by

  funext i
  refine (Ideal.div_coe (h (r i) (c i)) _).trans ?_
  show (f (r i) (c i) : EReal) * _ = _
  rw [← EReal.coe_mul, mul_one_div]
  rfl
theorem rsqrt_G (f : ℕ → ℕ → ℝ) (h : ∀ a b, 0 < f a b) : Host.rsqrt (G r c f) = G r c fun a b => (Real.sqrt (f a b))⁻¹ := by
  funext i
  have hp := h (r i) (c i)
  refine (show Ideal.rsqrt ((f _ _ : ℝ) : EReal) = if f (r i) (c i) < 0 then ⊥ else
    if f (r i) (c i) = 0 then ⊤ else (((Real.sqrt (f (r i) (c i)))⁻¹ : ℝ) : EReal) from rfl).trans ?_
  rw [if_neg (not_lt.2 hp.le), if_neg hp.ne']
  rfl

/-- A number broadcast to a shape. -/
theorem splat_G {w : BitVec 32} {x : ℝ} (hw : Ideal.ofBits .f32 w = (x : EReal)) (h) :
    broadcastInDim s ![] h (constant (F := Ideal) S_ .f32 w) = G r c fun _ _ => x := by
  funext i; exact hw
end

theorem word_3 : Ideal.ofBits .f32 0x40400000#32 = ((3 : ℝ) : EReal) := by
  simp [Ideal.ofBits, Ideal.ieee, -EReal.coe_mul]; norm_num
theorem word_1 : Ideal.ofBits .f32 0x3F800000#32 = ((1 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_root : Ideal.ofBits .f32 0x3F4C422A#32 = ((cRoot : ℝ) : EReal) := by
  unfold cRoot
  simp [Ideal.ofBits, Ideal.ieee, -EReal.coe_mul]; norm_num
theorem word_64 : Ideal.ofBits .f32 0x42800000#32 = ((64 : ℝ) : EReal) := by
  simp [Ideal.ofBits, Ideal.ieee, -EReal.coe_mul]; norm_num
theorem word_2 : Ideal.ofBits .f32 0x40000000#32 = ((2 : ℝ) : EReal) := by
  simp [Ideal.ofBits, Ideal.ieee, -EReal.coe_mul]; norm_num
theorem word_eps : Ideal.ofBits .f32 0x358637BD#32 = ((cEps : ℝ) : EReal) := by
  unfold cEps
  simp [Ideal.ofBits, Ideal.ieee, -EReal.coe_mul]; norm_num
theorem word_neghalf : Ideal.ofBits .f32 0xBF000000#32 = ((-1 / 2 : ℝ) : EReal) := by
  simp [Ideal.ofBits, Ideal.ieee, -EReal.coe_mul]; norm_num

/-- The rows and columns at each shape. -/
abbrev A3 (f : ℕ → ℕ → ℝ) : FVec Ideal S2x2048x512 .f32 := G (fun i => 2048 * (i 0).val + (i 1).val) (fun i => (i 2).val) f
abbrev A4 {n : Nat} (f : ℕ → ℕ → ℝ) : FVec Ideal ⟨4, ![2, 2048, 8, n]⟩ .f32 :=
  G (fun i => 2048 * (i 0).val + (i 1).val) (fun i => 64 * (i 2).val + (i 3).val) f
abbrev AH (f : ℕ → ℕ → ℝ) : FVec Ideal S2x2048x8 .f32 := G (fun i => 2048 * (i 0).val + (i 1).val) (fun i => 64 * (i 2).val) f
abbrev A5 (f : ℕ → ℕ → ℝ) : FVec Ideal S2x16x128x8x64 .f32 :=
  G (fun i => 2048 * (i 0).val + 128 * (i 1).val + (i 2).val) (fun i => 64 * (i 3).val + (i 4).val) f
abbrev T5 (f : ℕ → ℕ → ℝ) : FVec Ideal S8x2x16x64x128 .f32 :=
  G (fun i => 2048 * (i 1).val + 128 * (i 2).val + (i 4).val) (fun i => 64 * (i 0).val + (i 3).val) f

theorem at_eq {f : ℕ → ℕ → ℝ} {a a' b b' : ℕ} (h : a = a') (h' : b = b') :
    ((f a b : ℝ) : EReal) = ((f a' b' : ℝ) : EReal) := by rw [h, h']

theorem cast23 (f : ℕ → ℕ → ℝ) (h) : shapeCast S2x2048x512 (R2 (φ := .f32) (m := 4096) (n := 512) f) h = A3 f := by
  funext j
  idx_vars j
  pointwise [R2, G]
  refine at_eq ?_ ?_ <;> omega

theorem cast32 (f : ℕ → ℕ → ℝ) (h) : shapeCast S4096x512 (A3 f) h = R2 (φ := .f32) f := by
  funext j
  idx_vars j
  pointwise [R2, G]
  refine at_eq ?_ ?_ <;> omega

theorem cast34 (f : ℕ → ℕ → ℝ) (h) : shapeCast S2x2048x8x64 (A3 f) h = A4 f := by
  funext j
  idx_vars j
  pointwise [G]
  refine at_eq ?_ ?_ <;> omega

theorem cast43 (f : ℕ → ℕ → ℝ) (h) : shapeCast S2x2048x512 (A4 (n := 64) f) h = A3 f := by
  funext j
  idx_vars j
  pointwise [G]
  refine at_eq ?_ ?_ <;> omega

theorem cast35 (f : ℕ → ℕ → ℝ) (h) : shapeCast S2x16x128x8x64 (A3 f) h = A5 f := by
  funext j
  idx_vars j
  pointwise [G]
  refine at_eq ?_ ?_ <;> omega

theorem cast53 (f : ℕ → ℕ → ℝ) (h) : shapeCast S2x2048x512 (A5 f) h = A3 f := by
  funext j
  idx_vars j
  pointwise [G]
  refine at_eq ?_ ?_ <;> omega

theorem cast45 (f : ℕ → ℕ → ℝ) (h) : shapeCast S2x16x128x8x64 (A4 (n := 64) f) h = A5 f := by
  funext j
  idx_vars j
  pointwise [G]
  refine at_eq ?_ ?_ <;> omega

theorem cast54 (f : ℕ → ℕ → ℝ) (h) : shapeCast S2x2048x8x64 (A5 f) h = A4 f := by
  funext j
  idx_vars j
  pointwise [G]
  refine at_eq ?_ ?_ <;> omega

theorem castH1 (f : ℕ → ℕ → ℝ) (h) : shapeCast S2x2048x8x1 (AH f) h = A4 (n := 1) f := by
  funext j
  idx_vars j
  pointwise [G]

theorem bcastH1 (f : ℕ → ℕ → ℝ) (h) : broadcastInDim (α := Elt Ideal .f32) S2x2048x8x1 ![0, 1, 2] h (AH f) = A4 (n := 1) f := by
  funext j
  idx_vars j
  pointwise [G]

theorem bcastH4 (f : ℕ → ℕ → ℝ) (h) : broadcastInDim (α := Elt Ideal .f32) S2x2048x8x64 ![0, 1, 2] h (AH f) = A4 fun a b => f a (64 * (b / 64)) := by
  funext j
  idx_vars j
  pointwise [G]
  refine at_eq ?_ ?_ <;> omega

theorem bcast14 (f : ℕ → ℕ → ℝ) (h) :
    broadcastInDim (α := Elt Ideal .f32) S2x2048x8x64 ![0, 1, 2, 3] h (A4 (n := 1) f) = A4 fun a b => f a (64 * (b / 64)) := by
  funext j
  idx_vars j
  pointwise [G]
  refine at_eq ?_ ?_ <;> omega

theorem transTA (f : ℕ → ℕ → ℝ) (h) : transpose (α := Elt Ideal .f32) S2x16x128x8x64 [1, 2, 4, 0, 3] (T5 f) h = A5 f := by
  funext j
  idx_vars j
  pointwise [G]

theorem transAT (f : ℕ → ℕ → ℝ) (h) : transpose (α := Elt Ideal .f32) S8x2x16x64x128 [3, 0, 1, 4, 2] (A5 f) h = T5 f := by
  funext j
  idx_vars j
  pointwise [G]

end Cert.Proof.RF
-- ==== Proof.Gelu.lean ====
/-
  The first half of the kernel's block on real inputs: the masks of the two heads that share a tile, the gelu and its
  derivative, and the normalization of each head of 64 columns.
-/
module

public import proofs.«01_k».proof.Proof.RealOps

@[expose] public section

set_option maxRecDepth 16384

noncomputable section

namespace Cert.Proof.RV
open Idealize.ShloMosaic Cert.KernelIdeal Cert.KernelIdeal.Gen
open scoped BigOperators

/-- The hyperbolic tangent of the gelu. -/
def gth (x : ℝ) : ℝ := Real.tanh (cRoot * (x + 8943 / 200000 * x * x * x))
/-- The gelu. -/
def gel (x : ℝ) : ℝ := 1 / 2 * x * (1 + gth x)
/-- Its derivative, as the kernel writes it. -/
def dgel (x : ℝ) : ℝ :=
  1 / 2 * (1 + gth x) + 1 / 2 * x * (1 - gth x * gth x) * cRoot * (1 + 26829 / 200000 * x * x)

/-- The mean over the head of 64 columns that column `c` belongs to. -/
def hmean (f : ℕ → ℕ → ℝ) (a c : ℕ) : ℝ := (∑ k ∈ Finset.range 64, f a (64 * (c / 64) + k)) / 64
/-- The distance from the head's mean. -/
def hcen (f : ℕ → ℕ → ℝ) (a c : ℕ) : ℝ := f a c - hmean f a c
/-- The reciprocal of the head's standard deviation. -/
def hrstd (f : ℕ → ℕ → ℝ) (a c : ℕ) : ℝ := (Real.sqrt (hmean (fun a c => hcen f a c * hcen f a c) a c + cEps))⁻¹
/-- The normalized head. -/
def hhat (f : ℕ → ℕ → ℝ) (a c : ℕ) : ℝ := hcen f a c * hrstd f a c
/-- The normalized head, scaled and shifted. -/
def hln (w b : ℕ → ℝ) (f : ℕ → ℕ → ℝ) (a c : ℕ) : ℝ := hhat f a c * w c + b c

/-- The averaging matrix: 1/64 where the two columns are of one head. -/
def avgM (k c : ℕ) : ℝ := if k / 64 = c / 64 then 1 / 64 else 0

/-- Masks of the left and the right head of a tile of 128 columns. -/
def maskL (_ b : ℕ) : ℝ := if b < 64 then 1 else 0
def maskR (_ b : ℕ) : ℝ := if b < 64 then 0 else 1

theorem sum_avg (f : ℕ → ℝ) (c : ℕ) (hc : c < 256) :
    ∑ k ∈ Finset.range 256, f k * avgM k c = (∑ k ∈ Finset.range 64, f (64 * (c / 64) + k)) / 64 := by
  have h4 : c / 64 < 4 := by omega
  rw [show (256 : ℕ) = 4 * 64 from rfl, Finset.sum_range (n := 4 * 64)]
  have key : ∀ q : ℕ, q < 4 → ∑ k ∈ Finset.range 256, f k * (if k / 64 = q then (1 / 64 : ℝ) else 0)
      = (∑ k ∈ Finset.range 64, f (64 * q + k)) / 64 := by
    intro q hq
    rw [show (256 : ℕ) = 64 * q + (64 + (192 - 64 * q)) by omega, Finset.sum_range_add, Finset.sum_range_add]
    have e1 : ∑ k ∈ Finset.range (64 * q), f k * (if k / 64 = q then (1 / 64 : ℝ) else 0) = 0 := by
      refine Finset.sum_eq_zero fun k hk => ?_
      have := Finset.mem_range.1 hk
      rw [if_neg (by omega), mul_zero]
    have e3 : ∑ k ∈ Finset.range (192 - 64 * q), f (64 * q + (64 + k)) * (if (64 * q + (64 + k)) / 64 = q then (1 / 64 : ℝ) else 0) = 0 := by
      refine Finset.sum_eq_zero fun k hk => ?_
      rw [if_neg (by omega), mul_zero]
    have e2 : ∑ k ∈ Finset.range 64, f (64 * q + k) * (if (64 * q + k) / 64 = q then (1 / 64 : ℝ) else 0)
        = (∑ k ∈ Finset.range 64, f (64 * q + k)) / 64 := by
      rw [Finset.sum_div]
      refine Finset.sum_congr rfl fun k hk => ?_
      have := Finset.mem_range.1 hk
      rw [if_pos (by omega)]; ring
    rw [e1, e2, e3]; ring
  rw [← Finset.sum_range (n := 4 * 64) (fun k => f k * avgM k c)]
  exact key _ h4

theorem pay16_R : k0_pay16 (F := Ideal) = R2 maskL := by
  funext j
  idx_vars j
  pointwise [k0_pay16, R2]
  have key : ∀ j : Fin 128, BitVec.setWidth 32 (IntOp.cmpi CmpIPredicate.slt (BitVec.ofNat 32 j.val) 64#32)
      = if j.val < 64 then 1#32 else 0#32 := by decide
  rw [key j1]
  by_cases h : j1.val < 64
  · rw [if_pos h, show maskL 0 j1.val = 1 from if_pos h]
    show (((1#32).toInt : ℝ) : EReal) = _
    norm_num
  · rw [if_neg h, show maskL 0 j1.val = 0 from if_neg h]
    show (((0#32).toInt : ℝ) : EReal) = _
    norm_num

theorem pay17_R : k0_pay17 (F := Ideal) = R2 maskR := by
  simp only [k0_pay17, pay16_R, splat_one, subf_R2]
  refine R2_congr fun a b _ _ => ?_
  unfold maskL maskR; split_ifs <;> norm_num

variable (u v : ℕ → ℕ → ℝ)

theorem pay24_R : k0_pay24 (F := Ideal) (R2 (φ := .bf16) u) = R2 fun a b => gth (u a b) := by
  simp only [k0_pay24, k0_pay20, extf_R2, splat_cubic, splat_root, mulf_R2, addf_R2, tanh_R2, gth]

theorem pay25_R : k0_pay25 (F := Ideal) (R2 (φ := .bf16) u) = R2 fun a b => gel (u a b) := by
  simp only [k0_pay25, pay24_R, k0_pay20, extf_R2, splat_half, splat_one, mulf_R2, addf_R2, gel]

theorem pay28_R : k0_pay28 (F := Ideal) (k0_pay20 (R2 (φ := .bf16) u)) (k0_pay24 (R2 (φ := .bf16) u))
    (k0_pay26 (R2 (φ := .bf16) u)) (k0_pay27 (R2 (φ := .bf16) u))
    = R2 fun a b => dgel (u a b) := by
  simp only [k0_pay28, k0_pay26, k0_pay27, pay24_R, k0_pay20, extf_R2, splat_half, splat_one, splat_root, splat_cubic3,
    mulf_R2, addf_R2, subf_R2, dgel]

theorem pay29_R : k0_pay29 (F := Ideal) (R2 v) = R2 fun a b => gth (v a b) := by
  simp only [k0_pay29, splat_cubic, splat_root, mulf_R2, addf_R2, tanh_R2, gth]

theorem pay30_R : k0_pay30 (F := Ideal) (R2 v) = R2 fun a b => gel (v a b) := by
  simp only [k0_pay30, pay29_R, splat_half, splat_one, mulf_R2, addf_R2, gel]

theorem pay31_R : k0_pay31 (F := Ideal) (R2 v) = R2 fun a b => dgel (v a b) := by
  simp only [k0_pay31, pay29_R, splat_half, splat_one, splat_root, splat_cubic3, mulf_R2, addf_R2, subf_R2, dgel]

/-- The split product with the averaging matrix, for the two halves of the columns, is the head's mean. -/
theorem hmean_halves (f : ℕ → ℕ → ℝ) (a b : ℕ) (hb : b < 512) :
    (if b < 256 then ((0 : ℝ) + ∑ k ∈ Finset.range 256, f (0 + a) (0 + k) * avgM k b) +
        (0 + ∑ k ∈ Finset.range 256, (f (0 + a) (0 + k) - f (0 + a) (0 + k)) * avgM k b)
      else (0 + ∑ k ∈ Finset.range 256, f (0 + a) (256 + k) * avgM k (b - 256)) +
        (0 + ∑ k ∈ Finset.range 256, (f (0 + a) (256 + k) - f (0 + a) (256 + k)) * avgM k (b - 256)))
      = hmean f a b := by
  simp only [sub_self, zero_mul, Finset.sum_const_zero, add_zero, zero_add]
  split_ifs with h
  · rw [sum_avg _ _ h]; rfl
  · rw [sum_avg (fun k => f a (256 + k)) _ (by omega)]
    unfold hmean
    congr 1
    refine Finset.sum_congr rfl fun k _ => ?_
    congr 1; omega

theorem pay32_R : k0_pay32 (F := Ideal) (R2 (φ := .bf16) avgM) (R2 v) = R2 (hcen v) := by
  simp only [k0_pay32, slice_R2, truncf_R2, extf_R2, subf_R2, constant_zero, matmul_avg, addf_R2, catHalves_intro, catHalves_R2]
  refine R2_congr fun a b _ hb => ?_
  rw [hmean_halves v a b hb]; rfl

theorem hmean_nonneg (f : ℕ → ℕ → ℝ) (a b : ℕ) : 0 ≤ hmean (fun a c => f a c * f a c) a b :=
  div_nonneg (Finset.sum_nonneg fun _ _ => mul_self_nonneg _) (by norm_num)

theorem pay33_R : k0_pay33 (F := Ideal) (R2 (φ := .bf16) avgM) (R2 v) = R2 (hrstd v) := by
  simp only [k0_pay33, pay32_R, slice_R2, truncf_R2, extf_R2, subf_R2, mulf_R2, constant_zero, matmul_avg, addf_R2, catHalves_intro, catHalves_R2,
    splat_eps]
  rw [R2_congr (g := fun a b => hmean (fun a c => hcen v a c * hcen v a c) a b + cEps) fun a b _ hb => by
    rw [← hmean_halves (fun a c => hcen v a c * hcen v a c) a b hb]]
  rw [rsqrt_R2 _ fun a b _ _ => add_pos_of_nonneg_of_pos (hmean_nonneg (hcen v) a b) cEps_pos]
  rfl

theorem pay34_R : k0_pay34 (F := Ideal) (R2 (φ := .bf16) avgM) (R2 v) = R2 (hhat v) := by
  simp only [k0_pay34, pay32_R, pay33_R, mulf_R2]
  rfl

theorem pay35_R (w b : ℕ → ℝ) : k0_pay35 (F := Ideal) (R2 (φ := .bf16) avgM) (R2 fun _ c => w c) (R2 fun _ c => b c) (R2 v) = R2 (hln w b v) := by
  simp only [k0_pay35, pay34_R, broadcastTo_R2 _ (by decide : (512 : ℕ) ≠ 1), mulf_R2, addf_R2]
  rfl

end Cert.Proof.RV

end
-- ==== Proof.Tiles.lean ====
/-
  The tiles of the kernel's block: two heads share a tile of 128 columns, and the product of a head's 128×128 weight
  with its half of the tile is taken as ONE product of the two weights side by side with the two masked tiles one
  above the other. Over the reals that is the sum over the head's own weight (`pair_sum`), and the four tiles of a
  strip of 128 rows together are the strip's products (`strip_cols`).
-/
module

public import proofs.«01_k».proof.Proof.Gelu

@[expose] public section

set_option maxRecDepth 16384

noncomputable section

namespace Cert.Proof.RV
open Idealize.ShloMosaic Cert.KernelIdeal Cert.KernelIdeal.Gen
open scoped BigOperators

/-- The weights of the heads `2 i` and `2 i + 1` side by side. -/
def wpair (W : ℕ → ℕ → ℕ → ℝ) (i a k : ℕ) : ℝ := W (2 * i + k / 128) a (k % 128)

/-- The product of a strip of 128 rows that starts at row `o` with the weight of the column's head. -/
def strip (W : ℕ → ℕ → ℕ → ℝ) (x : ℕ → ℕ → ℝ) (o a c : ℕ) : ℝ :=
  ∑ s ∈ Finset.range 128, W (c / 64) a s * x (o + s) c

theorem pair_sum (W : ℕ → ℕ → ℕ → ℝ) (x : ℕ → ℕ → ℝ) (i o p a b : ℕ) (hb : b < 128) (hp : p = 128 * i) :
    (0 + ∑ k ∈ Finset.range 256, wpair W i a k * (if k < 128 then x (o + k) (p + b) * maskL 0 b else
        x (o + (k - 128)) (p + b) * maskR 0 b)) = strip W x o a (p + b) := by
  rw [zero_add, show (256 : ℕ) = 128 + 128 from rfl, Finset.sum_range_add, ← Finset.sum_add_distrib]
  refine Finset.sum_congr rfl fun s hs => ?_
  have hs := Finset.mem_range.1 hs
  rw [if_pos hs, if_neg (by omega), show 128 + s - 128 = s by omega]
  unfold wpair maskL maskR
  rw [show s / 128 = 0 by omega, show (128 + s) / 128 = 1 by omega, show s % 128 = s by omega,
    show (128 + s) % 128 = s by omega]
  split_ifs with h
  · rw [show (p + b) / 64 = 2 * i + 0 by omega]; ring
  · rw [show (p + b) / 64 = 2 * i + 1 by omega]; ring

/-- The four tiles of a strip, side by side. -/
theorem strip_cols (f : ℕ → ℕ → ℝ) (a b : ℕ) :
    (if b < 128 then f a (0 + b) else if b < 256 then f a (128 + (b - 128)) else
      if b < 384 then f a (256 + (b - 256)) else f a (384 + (b - 384))) = f a b := by
  split_ifs with h1 h2 h3 <;> congr 1 <;> omega

/-- The four strips, one above the other: the whole 512 rows. -/
theorem strip_rows (f : ℕ → ℕ → ℝ) (a b : ℕ) :
    (if a < 128 then f (0 + a) b else if a < 256 then f (128 + (a - 128)) b else
      if a < 384 then f (256 + (a - 256)) b else f (384 + (a - 384)) b) = f a b := by
  split_ifs with h1 h2 h3 <;> congr 1 <;> omega

/-- A masked tile's products with a tile, over the 128 columns of the tile: the sums over the head's own 64. -/
theorem lanes_L (x y : ℕ → ℕ → ℝ) (o p a b : ℕ) :
    ∑ k ∈ Finset.range 128, x (o + a) (p + k) * maskL 0 k * y (o + b) (p + k)
      = ∑ k ∈ Finset.range 64, x (o + a) (p + k) * y (o + b) (p + k) := by
  rw [show (128 : ℕ) = 64 + 64 from rfl, Finset.sum_range_add]
  rw [show (∑ k ∈ Finset.range 64, x (o + a) (p + (64 + k)) * maskL 0 (64 + k) * y (o + b) (p + (64 + k))) = 0 from
    Finset.sum_eq_zero fun k _ => by rw [maskL, if_neg (by omega)]; ring, add_zero]
  refine Finset.sum_congr rfl fun k hk => ?_
  rw [maskL, if_pos (Finset.mem_range.1 hk), mul_one]

theorem lanes_R (x y : ℕ → ℕ → ℝ) (o p a b : ℕ) :
    ∑ k ∈ Finset.range 128, x (o + a) (p + k) * maskR 0 k * y (o + b) (p + k)
      = ∑ k ∈ Finset.range 64, x (o + a) (p + 64 + k) * y (o + b) (p + 64 + k) := by
  rw [show (128 : ℕ) = 64 + 64 from rfl, Finset.sum_range_add]
  rw [show (∑ k ∈ Finset.range 64, x (o + a) (p + k) * maskR 0 k * y (o + b) (p + k)) = 0 from
    Finset.sum_eq_zero fun k hk => by rw [maskR, if_pos (Finset.mem_range.1 hk)]; ring, zero_add]
  refine Finset.sum_congr rfl fun k _ => ?_
  rw [maskR, if_neg (by omega), mul_one, show p + (64 + k) = p + 64 + k by omega]

/-- The matrix that adds up the columns of a head: 1 where column `k` is of head `h`. -/
def expM (k h : ℕ) : ℝ := if k / 64 = h then 1 else 0

theorem sum_exp (f : ℕ → ℝ) (h : ℕ) (hh : h < 8) :
    ∑ k ∈ Finset.range 512, f k * expM k h = ∑ k ∈ Finset.range 64, f (64 * h + k) := by
  rw [show (512 : ℕ) = 64 * h + (64 + (448 - 64 * h)) by omega, Finset.sum_range_add, Finset.sum_range_add]
  rw [show ∑ k ∈ Finset.range (64 * h), f k * expM k h = 0 from Finset.sum_eq_zero fun k hk => by
    have := Finset.mem_range.1 hk
    rw [expM, if_neg (by omega), mul_zero]]
  rw [show ∑ k ∈ Finset.range (448 - 64 * h), f (64 * h + (64 + k)) * expM (64 * h + (64 + k)) h = 0 from
    Finset.sum_eq_zero fun k _ => by rw [expM, if_neg (by omega), mul_zero]]
  rw [zero_add, add_zero]
  refine Finset.sum_congr rfl fun k hk => ?_
  have := Finset.mem_range.1 hk
  rw [expM, if_pos (by omega), mul_one]

theorem sum_exp_out (f : ℕ → ℝ) (h : ℕ) (hh : 8 ≤ h) : ∑ k ∈ Finset.range 512, f k * expM k h = 0 :=
  Finset.sum_eq_zero fun k hk => by
    have := Finset.mem_range.1 hk
    rw [expM, if_neg (by omega), mul_zero]

/-- The products of a chunk of 128 rows with the head's weight, for every chunk of the rows. -/
def mixed (W : ℕ → ℕ → ℕ → ℝ) (x : ℕ → ℕ → ℝ) (a c : ℕ) : ℝ := strip W x (128 * (a / 128)) (a % 128) c

theorem rows_of (f : ℕ → ℕ → ℕ → ℝ) (a b : ℕ) (ha : a < 512) :
    (if a < 128 then f 0 a b else if a < 256 then f 128 (a - 128) b else
      if a < 384 then f 256 (a - 256) b else f 384 (a - 384) b) = f (128 * (a / 128)) (a % 128) b := by
  split_ifs <;> congr 1 <;> omega

/-- What a block's four chunks add to the gradient of the weight of the head whose columns start at `q`. -/
def headGrad (x y : ℕ → ℕ → ℝ) (q a b : ℕ) : ℝ :=
  ∑ k ∈ Finset.range 64, x (0 + a) (q + k) * y (0 + b) (q + k) +
    ∑ k ∈ Finset.range 64, x (128 + a) (q + k) * y (128 + b) (q + k) +
    ∑ k ∈ Finset.range 64, x (256 + a) (q + k) * y (256 + b) (q + k) +
    ∑ k ∈ Finset.range 64, x (384 + a) (q + k) * y (384 + b) (q + k)

/-- What a block's four chunks add to the gradient of the bias of head `h` at row `a` of the chunk. -/
def biasGrad (x : ℕ → ℕ → ℝ) (a h : ℕ) : ℝ :=
  ∑ k ∈ Finset.range 512, x (0 + a) (0 + k) * expM k h + ∑ k ∈ Finset.range 512, x (128 + a) (0 + k) * expM k h +
    ∑ k ∈ Finset.range 512, x (256 + a) (0 + k) * expM k h + ∑ k ∈ Finset.range 512, x (384 + a) (0 + k) * expM k h

end Cert.Proof.RV

end
-- ==== Proof.RefDots.lean ====
/-
  The sums and the products of the reference, and the operations on its weights, on arrays of real numbers
  (Proof/RefOps.lean).
-/
module

public import proofs.«01_k».proof.Proof.RefOps
public import proofs.«01_k».proof.Proof.Tiles

@[expose] public section

set_option maxRecDepth 16384

noncomputable section

namespace Cert.Proof.RF
open Idealize.ShloMosaic Cert.Proof.RV Cert.ReferenceIdeal Cert.ReferenceIdeal.Gen
open scoped BigOperators

theorem zero_at (i : S_.Idx) : constant (F := Ideal) S_ .f32 0x00000000#32 i = 0 := Ideal.ofBits_zero_f32

theorem sum_coe2 {K L : Nat} (F : ℕ → ℕ → ℝ) :
    (∑ a : Fin K, ∑ b : Fin L, ((F a.val b.val : ℝ) : EReal))
      = ((∑ a ∈ Finset.range K, ∑ b ∈ Finset.range L, F a b : ℝ) : EReal) := by
  rw [← sum_coe]; exact Finset.sum_congr rfl fun a _ => sum_coe _

theorem sum_coe3 {K L M : Nat} (F : ℕ → ℕ → ℕ → ℝ) :
    (∑ a : Fin K, ∑ b : Fin L, ∑ c : Fin M, ((F a.val b.val c.val : ℝ) : EReal))
      = ((∑ a ∈ Finset.range K, ∑ b ∈ Finset.range L, ∑ c ∈ Finset.range M, F a b c : ℝ) : EReal) := by
  rw [← sum_coe]; exact Finset.sum_congr rfl fun a _ => sum_coe2 _

/-- The sum over a head. -/
def hsum (f : ℕ → ℕ → ℝ) (a c : ℕ) : ℝ := ∑ k ∈ Finset.range 64, f a (64 * (c / 64) + k)

theorem hsum_head (f : ℕ → ℕ → ℝ) (a b : ℕ) : hsum f a (64 * (b / 64)) = hsum f a b := by
  unfold hsum; rw [Nat.mul_div_cancel_left _ (by norm_num)]

theorem redH (f : ℕ → ℕ → ℝ) :
    Host.reduceAdd (A4 (n := 64) f) (constant (F := Ideal) S_ .f32 0x00000000#32) reducesTo_S2x2048x8x64_S2x2048x8_d3 h_S_
      = AH (hsum f) := by
  funext j
  idx_vars j
  rw [ValueIdx.hostReduceAdd_apply, Ideal.hostReduceAdd_r4_a3, zero_at, zero_add]
  refine (sum_coe fun k => f (2048 * j0.val + j1.val) (64 * j2.val + k)).trans ?_
  show _ = ((hsum f (2048 * j0.val + j1.val) (64 * j2.val) : ℝ) : EReal)
  unfold hsum; rw [Nat.mul_div_cancel_left _ (by norm_num)]

theorem redH1 (f : ℕ → ℕ → ℝ) :
    Host.reduceAdd (A4 (n := 1) f) (constant (F := Ideal) S_ .f32 0x00000000#32) reducesTo_S2x2048x8x1_S2x2048x8_d3 h_S_
      = AH f := by
  funext j
  idx_vars j
  rw [ValueIdx.hostReduceAdd_apply, Ideal.hostReduceAdd_r4_a3, zero_at, zero_add, Fin.sum_univ_one]
  rfl

theorem red01 (f : ℕ → ℕ → ℝ) :
    Host.reduceAdd (A4 (n := 64) f) (constant (F := Ideal) S_ .f32 0x00000000#32) reducesTo_S2x2048x8x64_S8x64_d0_1 h_S_
      = R2 fun h p => ∑ a ∈ Finset.range 2, ∑ l ∈ Finset.range 2048, f (2048 * a + l) (64 * h + p) := by
  funext j
  idx_vars j
  rw [ValueIdx.hostReduceAdd_apply, reduce_01, zero_at, zero_add]
  exact sum_coe2 fun a l => f (2048 * a + l) (64 * j0.val + j1.val)

theorem red014 (f : ℕ → ℕ → ℝ) :
    Host.reduceAdd (A5 f) (constant (F := Ideal) S_ .f32 0x00000000#32) reducesTo_S2x16x128x8x64_S128x8_d0_1_4 h_S_
      = R2 fun t h => ∑ a ∈ Finset.range 2, ∑ c ∈ Finset.range 16, ∑ p ∈ Finset.range 64, f (2048 * a + 128 * c + t) (64 * h + p) := by
  funext j
  idx_vars j
  rw [ValueIdx.hostReduceAdd_apply, reduce_014, zero_at, zero_add]
  exact sum_coe3 fun a c p => f (2048 * a + 128 * c + j0.val) (64 * j1.val + p)

/-- A sum over axes of size one, after the reshape that adds them. -/
theorem red01_unit (f : ℕ → ℕ → ℝ) (h) :
    Host.reduceAdd (shapeCast S1x1x8x64 (R2 (φ := .f32) (m := 8) (n := 64) f) h) (constant (F := Ideal) S_ .f32 0x00000000#32)
      reducesTo_S1x1x8x64_S8x64_d0_1 h_S_ = R2 f := by
  funext j
  idx_vars j
  rw [ValueIdx.hostReduceAdd_apply, reduce_01, zero_at, zero_add, Fin.sum_univ_one, Fin.sum_univ_one]
  pointwise [R2]

theorem red014_unit (f : ℕ → ℕ → ℝ) (h) :
    Host.reduceAdd (shapeCast S1x1x128x8x1 (R2 (φ := .f32) (m := 128) (n := 8) f) h) (constant (F := Ideal) S_ .f32 0x00000000#32)
      reducesTo_S1x1x128x8x1_S128x8_d0_1_4 h_S_ = R2 f := by
  funext j
  idx_vars j
  rw [ValueIdx.hostReduceAdd_apply, reduce_014, zero_at, zero_add, Fin.sum_univ_one, Fin.sum_univ_one, Fin.sum_univ_one]
  pointwise [R2]

/-- The product that mixes the rows of a chunk. -/
theorem dot_mix (f : ℕ → ℕ → ℝ) (W : ℕ → ℕ → ℕ → ℝ) :
    Host.dotGeneral dot_S2x16x128x8x64_S8x128x128_S8x2x16x64x128_2_2_014_1_3_0 none (A5 f) (R3 (φ := .f32) W)
      = T5 fun a b => mixed W f a b := by
  funext j
  idx_vars j
  pointwise [G, R3]
  refine (sum_coe_mul (fun k => f (2048 * j1.val + 128 * j2.val + k) (64 * j0.val + j3.val)) fun k => W j0.val j4.val k).trans ?_
  refine congrArg _ ?_
  unfold mixed strip
  refine Finset.sum_congr rfl fun k _ => ?_
  rw [mul_comm]
  congr 2 <;> omega

/-- The same with the weight transposed. -/
theorem dot_mixT (f : ℕ → ℕ → ℝ) (W : ℕ → ℕ → ℕ → ℝ) :
    Host.dotGeneral dot_S8x2x16x64x128_S8x128x128_S8x2x16x64x128_4_1_123_2_0_0 none (T5 f) (R3 (φ := .f32) W)
      = T5 fun a b => mixed (fun h t s => W h s t) f a b := by
  funext j
  idx_vars j
  pointwise [G, R3]
  refine (sum_coe_mul (fun k => f (2048 * j1.val + 128 * j2.val + k) (64 * j0.val + j3.val)) fun k => W j0.val k j4.val).trans ?_
  refine congrArg _ ?_
  unfold mixed strip
  refine Finset.sum_congr rfl fun k _ => ?_
  rw [mul_comm]
  congr 2 <;> omega

theorem dot_grad (f g : ℕ → ℕ → ℝ) :
    Host.dotGeneral dot_S8x2x16x64x128_S2x16x128x8x64_S8x128x128_123_014_4_2_0_3 none (T5 f) (A5 g)
      = R3 fun h t s => ∑ a ∈ Finset.range 2, ∑ c ∈ Finset.range 16, ∑ p ∈ Finset.range 64,
          f (2048 * a + 128 * c + t) (64 * h + p) * g (2048 * a + 128 * c + s) (64 * h + p) := by
  funext j
  idx_vars j
  rw [dot_W]
  refine Eq.trans ?_ (sum_coe3 fun a c p => f (2048 * a + 128 * c + j1.val) (64 * j0.val + p) * g (2048 * a + 128 * c + j2.val) (64 * j0.val + p))
  exact Finset.sum_congr rfl fun a _ => Finset.sum_congr rfl fun c _ => Finset.sum_congr rfl fun p _ => (EReal.coe_mul _ _).symm

theorem bias_5 (f : ℕ → ℕ → ℝ) (h h' h'') :
    broadcastInDim (α := Elt Ideal .f32) S2x16x128x8x64 ![0, 1, 2, 3, 4] h (broadcastInDim (α := Elt Ideal .f32) S1x1x128x8x1 ![2, 3] h'
      (transpose (α := Elt Ideal .f32) S128x8 [1, 0] (R2 (φ := .f32) (m := 8) (n := 128) f) h'')) = A5 fun a b => f (b / 64) (a % 128) := by
  funext j
  idx_vars j
  pointwise [G, R2]
  refine at_eq ?_ ?_ <;> omega

theorem lane_4 (f : ℕ → ℕ → ℝ) (h h') :
    broadcastInDim (α := Elt Ideal .f32) S2x2048x8x64 ![0, 1, 2, 3] h (broadcastInDim (α := Elt Ideal .f32) S1x1x8x64 ![2, 3] h' (R2 (φ := .f32) (m := 8) (n := 64) f))
      = A4 fun _ b => f (b / 64) (b % 64) := by
  funext j
  idx_vars j
  pointwise [G, R2]
  refine at_eq ?_ ?_ <;> omega

theorem slice_0 (f : ℕ → ℕ → ℝ) (h) :
    extractStridedSlice S4096x512 ![0, 0] (R2 (φ := .bf16) (m := 4096) (n := 1024) f) h = R2 (φ := .bf16) f := by
  funext j
  idx_vars j
  pointwise [R2]

theorem cast_lane (f : ℕ → ℕ → ℝ) (h) :
    shapeCast S1x512 (R2 (φ := .f32) (m := 8) (n := 64) f) h = R2 (φ := .f32) fun _ b => f (b / 64) (b % 64) := by
  funext j
  idx_vars j
  pointwise [R2]

theorem trans_trans (f : ℕ → ℕ → ℝ) (h h') :
    transpose (α := Elt Ideal .f32) S128x8 [1, 0] (transpose (α := Elt Ideal .f32) S8x128 [1, 0] (R2 (φ := .f32) (m := 128) (n := 8) f) h) h' = R2 (φ := .f32) f := by
  funext j
  idx_vars j
  pointwise [R2]

theorem pad_R2 (f : ℕ → ℕ → ℝ) (z : FVec Ideal S_ .f32) (hz : ∀ i, z i = ((0 : ℝ) : EReal)) (h h') :
    pad (α := Elt Ideal .f32) S128x128 ![0, 0] ![0, 120] ![0, 0] (R2 (φ := .f32) (m := 128) (n := 8) f) z h h'
      = R2 (φ := .f32) fun a b => if b < 8 then f a b else 0 := by
  funext j
  idx_vars j
  pointwise [R2]
  split_ifs
  · rfl
  · exact hz _

end Cert.Proof.RF
-- ==== Proof.HostArrays.lean ====
/-
  The arrays that the host code prepares for the kernel, on real inputs.
-/
module

public import proofs.«01_k».proof.Proof.Tiles
public import proofs.«01_k».proof.Proof.Gen.KernelIdeal.Frame
public import Idealize.ShloMosaic.Lib.StableHlo.ReadAt
public import Idealize.ShloMosaic.Lib.Tactic.WordOmega

@[expose] public section

set_option maxRecDepth 16384

noncomputable section

namespace Cert.Proof.RV
open Idealize.ShloMosaic Cert.KernelIdeal Cert.KernelIdeal.Gen
open scoped BigOperators

variable (m : (ℓ : Loc nD τ sig) → Buf (Elt Ideal) ℓ) (c : Dev nD)

/-- A choice by the equality of two small words. -/
theorem select_eq_word {α : Type} (a b : ℕ) (ha : a < 512) (hb : b < 512) (x y : α) :
    Scalar.select (IntOp.cmpi CmpIPredicate.eq (BitVec.ofNat 32 a) (BitVec.ofNat 32 b)) x y = if a = b then x else y := by
  have hi : IntOp.cmpi CmpIPredicate.eq (BitVec.ofNat 32 a) (BitVec.ofNat 32 b) = if a = b then 1#1 else 0#1 := by
    have : (BitVec.ofNat 32 a = BitVec.ofNat 32 b) ↔ a = b := by
      rw [← BitVec.toNat_inj, BitVec.toNat_ofNat, BitVec.toNat_ofNat, Nat.mod_eq_of_lt (by omega), Nat.mod_eq_of_lt (by omega)]
    by_cases h : a = b
    · simp [IntOp.cmpi, h]
    · rw [if_neg h]
      show BitVec.ofBool (BitVec.ofNat 32 a == BitVec.ofNat 32 b) = 0#1
      rw [beq_false_of_ne (mt this.1 h)]; rfl
  rw [hi]
  by_cases h : a = b
  · rw [if_pos h, if_pos h]; rfl
  · rw [if_neg h, if_neg h]; rfl

theorem shrui_word : ∀ a : Fin 512, IntOp.shrui ArithUnit.host (BitVec.ofNat 32 a.val) 6#32 = BitVec.ofNat 32 (a.val / 64) := by
  decide +kernel

/-- A choice by the order of two small words. -/
theorem select_ge_word {α : Type} (a b : ℕ) (ha : a < 512) (hb : b < 512) (x y : α) :
    Scalar.select (IntOp.cmpi CmpIPredicate.sge (IntOp.addi (BitVec.ofNat 32 a) 0#32) (BitVec.ofNat 32 b)) x y = if b ≤ a then x else y := by
  split_ifs with h <;> word_omega

theorem sixtyfourth : Ideal.ofBits FTy.f32 1015021568#32 = (((1 / 64 : ℝ)) : EReal) := by
  simp [Ideal.ofBits, Ideal.ieee, -EReal.coe_mul]; norm_num

theorem V_v16 (lw : ℕ → ℕ → ℝ) (h : m ((c.tc : Thread nD τ).loc main_arg3) = R2 (φ := .f32) (m := 8) (n := 64) lw) :
    V m c main_v16 = R2 (φ := .f32) (m := 1) (n := 512) fun _ b => lw (b / 64) (b % 64) := by
  funext j
  idx_vars j
  unfold V
  after_reads_at
  exact congrFun h _

theorem V_v17 (lb : ℕ → ℕ → ℝ) (h : m ((c.tc : Thread nD τ).loc main_arg4) = R2 (φ := .f32) (m := 8) (n := 64) lb) :
    V m c main_v17 = R2 (φ := .f32) (m := 1) (n := 512) fun _ b => lb (b / 64) (b % 64) := by
  funext j
  idx_vars j
  unfold V
  after_reads_at
  exact congrFun h _

theorem V_v34 (bs : ℕ → ℕ → ℝ) (h : m ((c.tc : Thread nD τ).loc main_arg6) = R2 (φ := .f32) (m := 8) (n := 128) bs) :
    V m c main_v34 = R2 (φ := .f32) (m := 128) (n := 512) fun a b => bs (b / 64) a := by
  funext j
  idx_vars j
  unfold V
  after_reads_at
  exact congrFun h _

theorem V_v8 : V m c main_v8 = R2 (φ := .bf16) (m := 256) (n := 256) avgM := by
  funext j
  idx_vars j
  unfold V
  after_reads_at
  rw [shrui_word ⟨j0.val, by omega⟩, shrui_word ⟨j1.val, by omega⟩, select_eq_word _ _ (by simp only; omega) (by simp only; omega), sixtyfourth]
  show _ = ((avgM j0.val j1.val : ℝ) : EReal)
  unfold avgM
  split_ifs <;> simp

theorem V_v15 : V m c main_v15 = R2 (φ := .bf16) (m := 512) (n := 128) expM := by
  funext j
  idx_vars j
  unfold V
  after_reads_at
  rw [shrui_word j0, select_eq_word _ _ (by omega) (by omega)]
  show _ = ((expM j0.val j1.val : ℝ) : EReal)
  unfold expM
  split_ifs <;> simp

/-- The weights under the causal mask, as the kernel's host code masks them. -/
def wmask (Ws : ℕ → ℕ → ℕ → ℝ) (h t s : ℕ) : ℝ := Ws h t s * if s ≤ t then 1 else 0

theorem wmask_point (Ws : ℕ → ℕ → ℕ → ℝ) (h a b : ℕ) (ha : a < 512) (hb : b < 512) (x : EReal) (hx : x = ((Ws h a b : ℝ) : EReal)) :
    Scalar.select (IntOp.cmpi CmpIPredicate.sge (IntOp.addi (BitVec.ofNat 32 a) 0#32) (BitVec.ofNat 32 b)) x (0 : EReal)
      = ((wmask Ws h a b : ℝ) : EReal) := by
  rw [select_ge_word _ _ ha hb, hx]
  unfold wmask
  by_cases hc : b ≤ a
  · rw [if_pos hc, if_pos hc, mul_one]
  · rw [if_neg hc, if_neg hc, mul_zero]; rfl

theorem V_v26 (Ws : ℕ → ℕ → ℕ → ℝ) (h : m ((c.tc : Thread nD τ).loc main_arg5) = R3 (φ := .f32) (m := 8) (n := 128) (p := 128) Ws) :
    V m c main_v26 = R3 (φ := .bf16) (m := 4) (n := 128) (p := 256) (wpair (wmask Ws)) := by
  funext j
  idx_vars j
  unfold V
  after_reads_at
  have h1 := j1.isLt
  have h2 : j2.val % 128 < 512 := by omega
  have hx := congrFun h (ix3 ⟨j0.val * 2 + j2.val / 128, by omega⟩ j1 ⟨j2.val % 128, by omega⟩)
  refine (wmask_point Ws (j0.val * 2 + j2.val / 128) j1.val (j2.val % 128) (by omega) h2 _ hx).trans ?_
  show _ = ((wmask Ws (2 * j0.val + j2.val / 128) j1.val (j2.val % 128) : ℝ) : EReal)
  rw [Nat.mul_comm 2]

theorem V_v31 (Ws : ℕ → ℕ → ℕ → ℝ) (h : m ((c.tc : Thread nD τ).loc main_arg5) = R3 (φ := .f32) (m := 8) (n := 128) (p := 128) Ws) :
    V m c main_v31 = R3 (φ := .bf16) (m := 4) (n := 128) (p := 256) (wpair fun h a k => wmask Ws h k a) := by
  funext j
  idx_vars j
  unfold V
  after_reads_at
  have h1 := j1.isLt
  have h2 : j2.val % 128 < 512 := by omega
  have hx := congrFun h (ix3 ⟨j0.val * 2 + j2.val / 128, by omega⟩ ⟨j2.val % 128, by omega⟩ j1)
  refine (wmask_point Ws (j0.val * 2 + j2.val / 128) (j2.val % 128) j1.val h2 (by omega) _ hx).trans ?_
  show _ = ((wmask Ws (2 * j0.val + j2.val / 128) (j2.val % 128) j1.val : ℝ) : EReal)
  rw [Nat.mul_comm 2]

end Cert.Proof.RV

end
-- ==== Proof.Blocks.lean ====
/-
  The blocks that the kernel's windows show at each grid point, on real inputs.
-/
module

public import proofs.«01_k».proof.Proof.HostArrays
import Idealize.ShloMosaic.Lib.Pipeline.ValueKit

@[expose] public section

set_option maxRecDepth 16384

noncomputable section

namespace Cert.Proof.RV
open Idealize.ShloMosaic Cert.KernelIdeal Cert.KernelIdeal.Gen
open scoped BigOperators

variable (m : (ℓ : Loc nD τ sig) → Buf (Elt Ideal) ℓ) (c : Dev nD)

theorem point_lt (t : Fin cfg0.N) : t.val < 8 := lt_of_lt_of_eq t.isLt (by decide)

/-! The blocks' places, point by point. -/

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0, 0] := (by decide +kernel : ∀ t : Fin grid0.N, _)
theorem e6 : ∀ t : Fin cfg0.N, win0_6.index t = ![0, 0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![t.val, 0] := (by decide +kernel : ∀ t : Fin grid0.N, _)
theorem e12 : ∀ t : Fin cfg0.N, win0_12.index t = ![0, 0, 0] := (by decide +kernel : ∀ t : Fin grid0.N, _)
theorem e13 : ∀ t : Fin cfg0.N, win0_13.index t = ![0, 0] := (by decide +kernel : ∀ t : Fin grid0.N, _)
theorem e14 : ∀ t : Fin cfg0.N, win0_14.index t = ![0, 0] := (by decide +kernel : ∀ t : Fin grid0.N, _)
theorem e15 : ∀ t : Fin cfg0.N, win0_15.index t = ![0, 0] := (by decide +kernel : ∀ t : Fin grid0.N, _)

theorem blk_0 (X : Buf (Elt Ideal) ((c.tc : Thread nD τ).loc main_arg0)) (t : Fin cfg0.N) (j : S512x512.Idx) (ha) (hb) :
    (((cfg0.win 0).blk t).view.read (Elt Ideal) X) j = X (ix2 ⟨512 * t.val + (j 0).val, ha⟩ ⟨(j 1).val, hb⟩) := by
  blk_ext [e0]

theorem iblk_0 (f : ℕ → ℕ → ℝ) (h : m ((c.tc : Thread nD τ).loc main_arg0) = R2 (φ := .bf16) (m := 4096) (n := 1024) f) (t : Fin cfg0.N) :
    iblk m c 0 t = R2 (φ := .bf16) (m := 512) (n := 512) fun a b => f (512 * t.val + a) b := by
  rw [← V_main_arg0 m c] at h
  have ht := point_lt t
  funext j
  have h0 : (j 0).val < 512 := (j 0).isLt
  have h1 : (j 1).val < 512 := (j 1).isLt
  exact (blk_0 c (V m c main_arg0) t j (by omega) (by omega)).trans (congrFun h _)

theorem blk_1 (X : Buf (Elt Ideal) ((c.tc : Thread nD τ).loc main_arg1)) (t : Fin cfg0.N) (j : S512x512.Idx) (ha) (hb) :
    (((cfg0.win 1).blk t).view.read (Elt Ideal) X) j = X (ix2 ⟨512 * t.val + (j 0).val, ha⟩ ⟨(j 1).val, hb⟩) := by
  blk_ext [e1]

theorem iblk_1 (f : ℕ → ℕ → ℝ) (h : m ((c.tc : Thread nD τ).loc main_arg1) = R2 (φ := .bf16) (m := 4096) (n := 512) f) (t : Fin cfg0.N) :
    iblk m c 1 t = R2 (φ := .bf16) (m := 512) (n := 512) fun a b => f (512 * t.val + a) b := by
  rw [← V_main_arg1 m c] at h
  have ht := point_lt t
  funext j
  have h0 : (j 0).val < 512 := (j 0).isLt
  have h1 : (j 1).val < 512 := (j 1).isLt
  exact (blk_1 c (V m c main_arg1) t j (by omega) (by omega)).trans (congrFun h _)

theorem blk_2 (X : Buf (Elt Ideal) ((c.tc : Thread nD τ).loc main_arg2)) (t : Fin cfg0.N) (j : S512x512.Idx) (ha) (hb) :
    (((cfg0.win 2).blk t).view.read (Elt Ideal) X) j = X (ix2 ⟨512 * t.val + (j 0).val, ha⟩ ⟨(j 1).val, hb⟩) := by
  blk_ext [e2]

theorem iblk_2 (f : ℕ → ℕ → ℝ) (h : m ((c.tc : Thread nD τ).loc main_arg2) = R2 (φ := .bf16) (m := 4096) (n := 512) f) (t : Fin cfg0.N) :
    iblk m c 2 t = R2 (φ := .bf16) (m := 512) (n := 512) fun a b => f (512 * t.val + a) b := by
  rw [← V_main_arg2 m c] at h
  have ht := point_lt t
  funext j
  have h0 : (j 0).val < 512 := (j 0).isLt
  have h1 : (j 1).val < 512 := (j 1).isLt
  exact (blk_2 c (V m c main_arg2) t j (by omega) (by omega)).trans (congrFun h _)

theorem blk_3 (X : Buf (Elt Ideal) ((c.tc : Thread nD τ).loc main_v16)) (t : Fin cfg0.N) :
    (((cfg0.win 3).blk t).view.read (Elt Ideal) X) = X := by
  funext j
  blk_ext [e3]

theorem iblk_3 (lw : ℕ → ℕ → ℝ) (h : m ((c.tc : Thread nD τ).loc main_arg3) = R2 (φ := .f32) (m := 8) (n := 64) lw) (t : Fin cfg0.N) :
    iblk m c 3 t = R2 (φ := .f32) (m := 1) (n := 512) (fun _ b => lw (b / 64) (b % 64)) := by
  exact (blk_3 c (V m c main_v16) t).trans (V_v16 m c lw h)

theorem blk_4 (X : Buf (Elt Ideal) ((c.tc : Thread nD τ).loc main_v17)) (t : Fin cfg0.N) :
    (((cfg0.win 4).blk t).view.read (Elt Ideal) X) = X := by
  funext j
  blk_ext [e4]

theorem iblk_4 (lb : ℕ → ℕ → ℝ) (h : m ((c.tc : Thread nD τ).loc main_arg4) = R2 (φ := .f32) (m := 8) (n := 64) lb) (t : Fin cfg0.N) :
    iblk m c 4 t = R2 (φ := .f32) (m := 1) (n := 512) (fun _ b => lb (b / 64) (b % 64)) := by
  exact (blk_4 c (V m c main_v17) t).trans (V_v17 m c lb h)

theorem blk_7 (X : Buf (Elt Ideal) ((c.tc : Thread nD τ).loc main_v34)) (t : Fin cfg0.N) :
    (((cfg0.win 7).blk t).view.read (Elt Ideal) X) = X := by
  funext j
  blk_ext [e7]

theorem iblk_7 (bs : ℕ → ℕ → ℝ) (h : m ((c.tc : Thread nD τ).loc main_arg6) = R2 (φ := .f32) (m := 8) (n := 128) bs) (t : Fin cfg0.N) :
    iblk m c 7 t = R2 (φ := .f32) (m := 128) (n := 512) (fun a b => bs (b / 64) a) := by
  exact (blk_7 c (V m c main_v34) t).trans (V_v34 m c bs h)

theorem blk_8 (X : Buf (Elt Ideal) ((c.tc : Thread nD τ).loc main_v8)) (t : Fin cfg0.N) :
    (((cfg0.win 8).blk t).view.read (Elt Ideal) X) = X := by
  funext j
  blk_ext [e8]

theorem iblk_8   (t : Fin cfg0.N) :
    iblk m c 8 t = R2 (φ := .bf16) (m := 256) (n := 256) (avgM) := by
  exact (blk_8 c (V m c main_v8) t).trans (V_v8 m c )

theorem blk_9 (X : Buf (Elt Ideal) ((c.tc : Thread nD τ).loc main_v15)) (t : Fin cfg0.N) :
    (((cfg0.win 9).blk t).view.read (Elt Ideal) X) = X := by
  funext j
  blk_ext [e9]

theorem iblk_9   (t : Fin cfg0.N) :
    iblk m c 9 t = R2 (φ := .bf16) (m := 512) (n := 128) (expM) := by
  exact (blk_9 c (V m c main_v15) t).trans (V_v15 m c )

theorem blk_5 (X : Buf (Elt Ideal) ((c.tc : Thread nD τ).loc main_v26)) (t : Fin cfg0.N) :
    (((cfg0.win 5).blk t).view.read (Elt Ideal) X) = X := by
  funext j
  blk_ext [e5]

theorem iblk_5 (Ws : ℕ → ℕ → ℕ → ℝ) (h : m ((c.tc : Thread nD τ).loc main_arg5) = R3 (φ := .f32) (m := 8) (n := 128) (p := 128) Ws) (t : Fin cfg0.N) :
    iblk m c 5 t = R3 (φ := .bf16) (m := 4) (n := 128) (p := 256) (wpair (wmask Ws)) := by
  exact (blk_5 c (V m c main_v26) t).trans (V_v26 m c Ws h)

theorem blk_6 (X : Buf (Elt Ideal) ((c.tc : Thread nD τ).loc main_v31)) (t : Fin cfg0.N) :
    (((cfg0.win 6).blk t).view.read (Elt Ideal) X) = X := by
  funext j
  blk_ext [e6]

theorem iblk_6 (Ws : ℕ → ℕ → ℕ → ℝ) (h : m ((c.tc : Thread nD τ).loc main_arg5) = R3 (φ := .f32) (m := 8) (n := 128) (p := 128) Ws) (t : Fin cfg0.N) :
    iblk m c 6 t = R3 (φ := .bf16) (m := 4) (n := 128) (p := 256) (wpair fun h a k => wmask Ws h k a) := by
  exact (blk_6 c (V m c main_v31) t).trans (V_v31 m c Ws h)

end Cert.Proof.RV

end
-- ==== Proof.Words.lean ====
/-
  The values of the kernel's block, on real inputs. The names ending in `_A` speak of the words of the run at the
  first grid point; the words of the later points are the same (`rfl`), so one evaluation serves both. `dm`, `u`, `v`
  are the block's 512 rows, `w` and `s` scale and shift of the normalization, `W` and `T` the heads' weights of the
  mixing product and of its transpose, `bias` the bias of a chunk of 128 rows.
-/
module

public import proofs.«01_k».proof.Proof.Tiles
public import proofs.«01_k».proof.Proof.Gen.KernelIdeal.Frame
import Idealize.ShloMosaic.Lib.Pipeline.ValueKit

@[expose] public section

set_option maxRecDepth 16384

noncomputable section

namespace Cert.Proof.RV
open Idealize.ShloMosaic Cert.KernelIdeal Cert.KernelIdeal.Gen
open scoped BigOperators

/-- A load of a whole block of two axes. -/
theorem load_all {p q : Nat} {e : EltTy} (arg : Memref sig .tc .vmem ⟨2, ![p, q]⟩ e) (h : arg.IsWhole)
    (x : Vec Ideal ⟨2, ![p, q]⟩ e) (inb) :
    View.readAt (Elt Ideal) arg.view (Rect.unit (s := ⟨2, ![p, q]⟩) ![0, 0] ![p, q] inb).toLoadRect (h.unread x) = x := by
  rw [View.readAt_eq_ld, Memref.IsWhole.read_unread]
  exact View.ld_unit_zero (off := ![0, 0]) (by funext a; fin_cases a <;> rfl) inb x

/-- A load of one of the four layers of a block. -/
theorem load_layer (arg : Memref sig .tc .vmem S4x128x256 .bf16) (h : arg.IsWhole) (f : ℕ → ℕ → ℕ → ℝ) (i : ℕ) (inb) :
    View.readAt (Elt Ideal) arg.view (Rect.unit (s := S4x128x256) ![i, 0, 0] ![1, 128, 256] inb).toLoadRect
      (h.unread (R3 (φ := .bf16) f)) = R3 (φ := .bf16) (m := 1) (n := 128) (p := 256) fun p a k => f (i + p) a k := by
  rw [View.readAt_eq_ld, Memref.IsWhole.read_unread]
  funext j
  idx_vars j
  pointwise [R3]

section
variable (c : Dev nD)
  (arg1 : Memref sig .tc .vmem S512x512 .bf16) (harg1 : arg1.IsWhole)
  (arg2 : Memref sig .tc .vmem S512x512 .bf16) (harg2 : arg2.IsWhole)
  (arg3 : Memref sig .tc .vmem S512x512 .bf16) (harg3 : arg3.IsWhole)
  (arg4 : Memref sig .tc .vmem S1x512 .f32) (harg4 : arg4.IsWhole)
  (arg5 : Memref sig .tc .vmem S1x512 .f32) (harg5 : arg5.IsWhole)
  (arg6 : Memref sig .tc .vmem S4x128x256 .bf16) (harg6 : arg6.IsWhole)
  (arg7 : Memref sig .tc .vmem S4x128x256 .bf16) (harg7 : arg7.IsWhole)
  (arg8 : Memref sig .tc .vmem S128x512 .f32) (harg8 : arg8.IsWhole)
  (arg9 : Memref sig .tc .vmem S256x256 .bf16) (harg9 : arg9.IsWhole)
  (arg10 : Memref sig .tc .vmem S512x128 .bf16) (harg10 : arg10.IsWhole)
  (dm u v : ℕ → ℕ → ℝ) (w s : ℕ → ℝ) (W T : ℕ → ℕ → ℕ → ℝ) (bias : ℕ → ℕ → ℝ)

theorem r_A : kernelRun0_A.sl.r (F := Ideal) c arg9 harg9 (R2 (φ := .bf16) avgM) = (R2 (φ := .bf16) (avgM) : FVec Ideal S256x256 .bf16) := by
  refine (congrArg k0_pay18 (load_all arg9 harg9 _ _)).trans ?_
  simp only [k0_pay18, cast_same, extf_R2]
theorem r_1_A : kernelRun0_A.sl.r_1 (F := Ideal) c arg4 harg4 (R2 (φ := .f32) fun _ b => w b) = R2 (φ := .f32) (fun _ b => w b) := by
  refine (congrArg k0_pay19 (load_all arg4 harg4 _ _)).trans ?_
  simp only [k0_pay19, cast_same, extf_R2]
theorem r_2_A : kernelRun0_A.sl.r_2 (F := Ideal) c arg2 harg2 (R2 (φ := .bf16) u) = R2 (φ := .f32) (u) := by
  refine (congrArg k0_pay20 (load_all arg2 harg2 _ _)).trans ?_
  simp only [k0_pay20, cast_same, extf_R2]
theorem r_3_A : kernelRun0_A.sl.r_3 (F := Ideal) c arg3 harg3 (R2 (φ := .bf16) v) = R2 (φ := .f32) (v) := by
  refine (congrArg k0_pay21 (load_all arg3 harg3 _ _)).trans ?_
  simp only [k0_pay21, cast_same, extf_R2]
theorem r_4_A : kernelRun0_A.sl.r_4 (F := Ideal) c arg5 harg5 (R2 (φ := .f32) fun _ b => s b) = R2 (φ := .f32) (fun _ b => s b) := by
  refine (congrArg k0_pay22 (load_all arg5 harg5 _ _)).trans ?_
  simp only [k0_pay22, cast_same, extf_R2]
theorem r_5_A : kernelRun0_A.sl.r_5 (F := Ideal) c arg8 harg8 (R2 (φ := .f32) bias) = R2 (φ := .f32) (bias) := by
  refine (congrArg k0_pay23 (load_all arg8 harg8 _ _)).trans ?_
  simp only [k0_pay23, cast_same, extf_R2]
theorem r_7_A : kernelRun0_A.sl.r_7 (F := Ideal) c arg2 harg2 (R2 (φ := .bf16) u) = R2 fun a b => gel (u a b) := by
  exact (congrArg k0_pay25 (load_all arg2 harg2 _ _)).trans (pay25_R u)
theorem r_10_A : kernelRun0_A.sl.r_10 (F := Ideal) c arg2 harg2 (R2 (φ := .bf16) u) = R2 fun a b => dgel (u a b) := by
  exact (congrArg (fun x => k0_pay28 (k0_pay20 x) (k0_pay24 x) (k0_pay26 x) (k0_pay27 x)) (load_all arg2 harg2 _ _)).trans (pay28_R u)
theorem r_11_A : kernelRun0_A.sl.r_11 (F := Ideal) c arg3 harg3 (R2 (φ := .bf16) v) = R2 fun a b => gel (v a b) := by
  exact (congrArg k0_pay30 (r_3_A c arg3 harg3 v)).trans (pay30_R v)
theorem r_12_A : kernelRun0_A.sl.r_12 (F := Ideal) c arg3 harg3 (R2 (φ := .bf16) v) = R2 fun a b => dgel (v a b) := by
  exact (congrArg k0_pay31 (r_3_A c arg3 harg3 v)).trans (pay31_R v)
theorem v100_A : kernelRun0_A.sl.v100 (F := Ideal) c arg3 harg3 arg9 harg9 (R2 (φ := .bf16) v) (R2 (φ := .bf16) avgM) = R2 (hcen (fun a b => gel (v a b))) := by
  have e : kernelRun0_A.sl.v100 (F := Ideal) c arg3 harg3 arg9 harg9 (R2 (φ := .bf16) v) (R2 (φ := .bf16) avgM)
      = k0_pay32 (kernelRun0_A.sl.r (F := Ideal) c arg9 harg9 (R2 (φ := .bf16) avgM)) (kernelRun0_A.sl.r_11 (F := Ideal) c arg3 harg3 (R2 (φ := .bf16) v)) := rfl
  rw [e, r_A, r_11_A]; exact pay32_R _
theorem v121_A : kernelRun0_A.sl.v121 (F := Ideal) c arg3 harg3 arg9 harg9 (R2 (φ := .bf16) v) (R2 (φ := .bf16) avgM) = R2 (hrstd (fun a b => gel (v a b))) := by
  have e : kernelRun0_A.sl.v121 (F := Ideal) c arg3 harg3 arg9 harg9 (R2 (φ := .bf16) v) (R2 (φ := .bf16) avgM)
      = k0_pay33 (kernelRun0_A.sl.r (F := Ideal) c arg9 harg9 (R2 (φ := .bf16) avgM)) (kernelRun0_A.sl.r_11 (F := Ideal) c arg3 harg3 (R2 (φ := .bf16) v)) := rfl
  rw [e, r_A, r_11_A]; exact pay33_R _
theorem v122_A : kernelRun0_A.sl.v122 (F := Ideal) c arg3 harg3 arg9 harg9 (R2 (φ := .bf16) v) (R2 (φ := .bf16) avgM) = R2 (hhat (fun a b => gel (v a b))) := by
  unfold kernelRun0_A.sl.v122; rw [v100_A, v121_A, mulf_R2]; rfl
theorem v123_A : kernelRun0_A.sl.v123 (F := Ideal) c arg4 harg4 (R2 (φ := .f32) fun _ b => w b) = R2 fun _ b => w b := by
  unfold kernelRun0_A.sl.v123; rw [r_1_A]; exact broadcastTo_R2 _ (by decide) _
theorem v126_A : kernelRun0_A.sl.v126 (F := Ideal) c arg3 harg3 arg4 harg4 arg5 harg5 arg9 harg9 (R2 (φ := .bf16) v) (R2 (φ := .f32) fun _ b => w b) (R2 (φ := .f32) fun _ b => s b) (R2 (φ := .bf16) avgM) = R2 (hln w s (fun a b => gel (v a b))) := by
  simp only [kernelRun0_A.sl.v126, kernelRun0_A.sl.v125, kernelRun0_A.sl.v124, v122_A, v123_A, r_4_A, broadcastTo_R2 _ (by decide : (512 : ℕ) ≠ 1), mulf_R2, addf_R2]
  rfl
theorem v130_A : kernelRun0_A.sl.v130 (F := Ideal) = R2 fun _ b => maskL 0 b := by
  unfold kernelRun0_A.sl.v130; rw [pay16_R]; exact broadcastTo_R2 _ (by decide) _
theorem v132_A : kernelRun0_A.sl.v132 (F := Ideal) = R2 fun _ b => maskR 0 b := by
  unfold kernelRun0_A.sl.v132; rw [pay17_R]; exact broadcastTo_R2 _ (by decide) _
theorem cst_45_A : kernelRun0_A.sl.cst_45 (F := Ideal) = R2 fun _ _ => 0 := constant_zero
theorem v129_A : kernelRun0_A.sl.v129 (F := Ideal) c arg6 harg6 (R3 (φ := .bf16) fun i a k => wpair W i a k) = R2 (φ := .bf16) (wpair W 0) := by
  refine (congrArg (fun x => shapeCast S128x256 x _) (load_layer arg6 harg6 _ 0 _)).trans ?_
  exact cast_drop_256 _ _
theorem v139_A : kernelRun0_A.sl.v139 (F := Ideal) c arg6 harg6 (R3 (φ := .bf16) fun i a k => wpair W i a k) = R2 (φ := .bf16) (wpair W 1) := by
  refine (congrArg (fun x => shapeCast S128x256 x _) (load_layer arg6 harg6 _ 1 _)).trans ?_
  exact cast_drop_256 _ _
theorem v149_A : kernelRun0_A.sl.v149 (F := Ideal) c arg6 harg6 (R3 (φ := .bf16) fun i a k => wpair W i a k) = R2 (φ := .bf16) (wpair W 2) := by
  refine (congrArg (fun x => shapeCast S128x256 x _) (load_layer arg6 harg6 _ 2 _)).trans ?_
  exact cast_drop_256 _ _
theorem v159_A : kernelRun0_A.sl.v159 (F := Ideal) c arg6 harg6 (R3 (φ := .bf16) fun i a k => wpair W i a k) = R2 (φ := .bf16) (wpair W 3) := by
  refine (congrArg (fun x => shapeCast S128x256 x _) (load_layer arg6 harg6 _ 3 _)).trans ?_
  exact cast_drop_256 _ _
theorem v305_A : kernelRun0_A.sl.v305 (F := Ideal) c arg7 harg7 (R3 (φ := .bf16) fun i a k => wpair T i a k) = R2 (φ := .bf16) (wpair T 0) := by
  refine (congrArg (fun x => shapeCast S128x256 x _) (load_layer arg7 harg7 _ 0 _)).trans ?_
  exact cast_drop_256 _ _
theorem v325_A : kernelRun0_A.sl.v325 (F := Ideal) c arg7 harg7 (R3 (φ := .bf16) fun i a k => wpair T i a k) = R2 (φ := .bf16) (wpair T 1) := by
  refine (congrArg (fun x => shapeCast S128x256 x _) (load_layer arg7 harg7 _ 1 _)).trans ?_
  exact cast_drop_256 _ _
theorem v345_A : kernelRun0_A.sl.v345 (F := Ideal) c arg7 harg7 (R3 (φ := .bf16) fun i a k => wpair T i a k) = R2 (φ := .bf16) (wpair T 2) := by
  refine (congrArg (fun x => shapeCast S128x256 x _) (load_layer arg7 harg7 _ 2 _)).trans ?_
  exact cast_drop_256 _ _
theorem v365_A : kernelRun0_A.sl.v365 (F := Ideal) c arg7 harg7 (R3 (φ := .bf16) fun i a k => wpair T i a k) = R2 (φ := .bf16) (wpair T 3) := by
  refine (congrArg (fun x => shapeCast S128x256 x _) (load_layer arg7 harg7 _ 3 _)).trans ?_
  exact cast_drop_256 _ _
theorem v167_A : kernelRun0_A.sl.v167 (F := Ideal) c arg3 harg3 arg4 harg4 arg5 harg5 arg6 harg6 arg9 harg9 (R2 (φ := .bf16) v) (R2 (φ := .f32) fun _ b => w b) (R2 (φ := .f32) fun _ b => s b) (R3 (φ := .bf16) fun i a k => wpair W i a k) (R2 (φ := .bf16) avgM) = R2 (strip W (hln w s (fun a b => gel (v a b))) 0) := by
  simp only [kernelRun0_A.sl.v127, kernelRun0_A.sl.v131, kernelRun0_A.sl.v133, kernelRun0_A.sl.v134, kernelRun0_A.sl.v135, kernelRun0_A.sl.v136, kernelRun0_A.sl.v137, kernelRun0_A.sl.v141, kernelRun0_A.sl.v143, kernelRun0_A.sl.v144, kernelRun0_A.sl.v145, kernelRun0_A.sl.v146, kernelRun0_A.sl.v147, kernelRun0_A.sl.v151, kernelRun0_A.sl.v153, kernelRun0_A.sl.v154, kernelRun0_A.sl.v155, kernelRun0_A.sl.v156, kernelRun0_A.sl.v157, kernelRun0_A.sl.v161, kernelRun0_A.sl.v163, kernelRun0_A.sl.v164, kernelRun0_A.sl.v165, kernelRun0_A.sl.v166, kernelRun0_A.sl.v167, v126_A, v129_A, v139_A, v149_A, v159_A, slice_R2, mulf_R2, catPair_intro, catPair_R2, truncf_R2, matmul_tile, v130_A, v132_A, cst_45_A, catCols_intro, catCols_R2]
  refine R2_congr fun a b _ hb => ?_
  refine Eq.trans ?_ (strip_cols (strip W (hln w s (fun a b => gel (v a b))) 0) a b)
  split_ifs
  · exact pair_sum W (hln w s (fun a b => gel (v a b))) 0 0 0 a b (by omega) rfl
  · exact pair_sum W (hln w s (fun a b => gel (v a b))) 1 0 128 a (b - 128) (by omega) rfl
  · exact pair_sum W (hln w s (fun a b => gel (v a b))) 2 0 256 a (b - 256) (by omega) rfl
  · exact pair_sum W (hln w s (fun a b => gel (v a b))) 3 0 384 a (b - 384) (by omega) rfl
theorem v209_A : kernelRun0_A.sl.v209 (F := Ideal) c arg3 harg3 arg4 harg4 arg5 harg5 arg6 harg6 arg9 harg9 (R2 (φ := .bf16) v) (R2 (φ := .f32) fun _ b => w b) (R2 (φ := .f32) fun _ b => s b) (R3 (φ := .bf16) fun i a k => wpair W i a k) (R2 (φ := .bf16) avgM) = R2 (strip W (hln w s (fun a b => gel (v a b))) 128) := by
  simp only [kernelRun0_A.sl.v169, kernelRun0_A.sl.v173, kernelRun0_A.sl.v175, kernelRun0_A.sl.v176, kernelRun0_A.sl.v177, kernelRun0_A.sl.v178, kernelRun0_A.sl.v179, kernelRun0_A.sl.v183, kernelRun0_A.sl.v185, kernelRun0_A.sl.v186, kernelRun0_A.sl.v187, kernelRun0_A.sl.v188, kernelRun0_A.sl.v189, kernelRun0_A.sl.v193, kernelRun0_A.sl.v195, kernelRun0_A.sl.v196, kernelRun0_A.sl.v197, kernelRun0_A.sl.v198, kernelRun0_A.sl.v199, kernelRun0_A.sl.v203, kernelRun0_A.sl.v205, kernelRun0_A.sl.v206, kernelRun0_A.sl.v207, kernelRun0_A.sl.v208, kernelRun0_A.sl.v209, v126_A, v129_A, v139_A, v149_A, v159_A, slice_R2, mulf_R2, catPair_intro, catPair_R2, truncf_R2, matmul_tile, v130_A, v132_A, cst_45_A, catCols_intro, catCols_R2]
  refine R2_congr fun a b _ hb => ?_
  refine Eq.trans ?_ (strip_cols (strip W (hln w s (fun a b => gel (v a b))) 128) a b)
  split_ifs
  · exact pair_sum W (hln w s (fun a b => gel (v a b))) 0 128 0 a b (by omega) rfl
  · exact pair_sum W (hln w s (fun a b => gel (v a b))) 1 128 128 a (b - 128) (by omega) rfl
  · exact pair_sum W (hln w s (fun a b => gel (v a b))) 2 128 256 a (b - 256) (by omega) rfl
  · exact pair_sum W (hln w s (fun a b => gel (v a b))) 3 128 384 a (b - 384) (by omega) rfl
theorem v251_A : kernelRun0_A.sl.v251 (F := Ideal) c arg3 harg3 arg4 harg4 arg5 harg5 arg6 harg6 arg9 harg9 (R2 (φ := .bf16) v) (R2 (φ := .f32) fun _ b => w b) (R2 (φ := .f32) fun _ b => s b) (R3 (φ := .bf16) fun i a k => wpair W i a k) (R2 (φ := .bf16) avgM) = R2 (strip W (hln w s (fun a b => gel (v a b))) 256) := by
  simp only [kernelRun0_A.sl.v211, kernelRun0_A.sl.v215, kernelRun0_A.sl.v217, kernelRun0_A.sl.v218, kernelRun0_A.sl.v219, kernelRun0_A.sl.v220, kernelRun0_A.sl.v221, kernelRun0_A.sl.v225, kernelRun0_A.sl.v227, kernelRun0_A.sl.v228, kernelRun0_A.sl.v229, kernelRun0_A.sl.v230, kernelRun0_A.sl.v231, kernelRun0_A.sl.v235, kernelRun0_A.sl.v237, kernelRun0_A.sl.v238, kernelRun0_A.sl.v239, kernelRun0_A.sl.v240, kernelRun0_A.sl.v241, kernelRun0_A.sl.v245, kernelRun0_A.sl.v247, kernelRun0_A.sl.v248, kernelRun0_A.sl.v249, kernelRun0_A.sl.v250, kernelRun0_A.sl.v251, v126_A, v129_A, v139_A, v149_A, v159_A, slice_R2, mulf_R2, catPair_intro, catPair_R2, truncf_R2, matmul_tile, v130_A, v132_A, cst_45_A, catCols_intro, catCols_R2]
  refine R2_congr fun a b _ hb => ?_
  refine Eq.trans ?_ (strip_cols (strip W (hln w s (fun a b => gel (v a b))) 256) a b)
  split_ifs
  · exact pair_sum W (hln w s (fun a b => gel (v a b))) 0 256 0 a b (by omega) rfl
  · exact pair_sum W (hln w s (fun a b => gel (v a b))) 1 256 128 a (b - 128) (by omega) rfl
  · exact pair_sum W (hln w s (fun a b => gel (v a b))) 2 256 256 a (b - 256) (by omega) rfl
  · exact pair_sum W (hln w s (fun a b => gel (v a b))) 3 256 384 a (b - 384) (by omega) rfl
theorem v293_A : kernelRun0_A.sl.v293 (F := Ideal) c arg3 harg3 arg4 harg4 arg5 harg5 arg6 harg6 arg9 harg9 (R2 (φ := .bf16) v) (R2 (φ := .f32) fun _ b => w b) (R2 (φ := .f32) fun _ b => s b) (R3 (φ := .bf16) fun i a k => wpair W i a k) (R2 (φ := .bf16) avgM) = R2 (strip W (hln w s (fun a b => gel (v a b))) 384) := by
  simp only [kernelRun0_A.sl.v253, kernelRun0_A.sl.v257, kernelRun0_A.sl.v259, kernelRun0_A.sl.v260, kernelRun0_A.sl.v261, kernelRun0_A.sl.v262, kernelRun0_A.sl.v263, kernelRun0_A.sl.v267, kernelRun0_A.sl.v269, kernelRun0_A.sl.v270, kernelRun0_A.sl.v271, kernelRun0_A.sl.v272, kernelRun0_A.sl.v273, kernelRun0_A.sl.v277, kernelRun0_A.sl.v279, kernelRun0_A.sl.v280, kernelRun0_A.sl.v281, kernelRun0_A.sl.v282, kernelRun0_A.sl.v283, kernelRun0_A.sl.v287, kernelRun0_A.sl.v289, kernelRun0_A.sl.v290, kernelRun0_A.sl.v291, kernelRun0_A.sl.v292, kernelRun0_A.sl.v293, v126_A, v129_A, v139_A, v149_A, v159_A, slice_R2, mulf_R2, catPair_intro, catPair_R2, truncf_R2, matmul_tile, v130_A, v132_A, cst_45_A, catCols_intro, catCols_R2]
  refine R2_congr fun a b _ hb => ?_
  refine Eq.trans ?_ (strip_cols (strip W (hln w s (fun a b => gel (v a b))) 384) a b)
  split_ifs
  · exact pair_sum W (hln w s (fun a b => gel (v a b))) 0 384 0 a b (by omega) rfl
  · exact pair_sum W (hln w s (fun a b => gel (v a b))) 1 384 128 a (b - 128) (by omega) rfl
  · exact pair_sum W (hln w s (fun a b => gel (v a b))) 2 384 256 a (b - 256) (by omega) rfl
  · exact pair_sum W (hln w s (fun a b => gel (v a b))) 3 384 384 a (b - 384) (by omega) rfl
theorem v295_A : kernelRun0_A.sl.v295 (F := Ideal) c arg3 harg3 arg4 harg4 arg5 harg5 arg6 harg6 arg8 harg8 arg9 harg9 (R2 (φ := .bf16) v) (R2 (φ := .f32) fun _ b => w b) (R2 (φ := .f32) fun _ b => s b) (R3 (φ := .bf16) fun i a k => wpair W i a k) (R2 (φ := .f32) bias) (R2 (φ := .bf16) avgM) = R2 fun a b => mixed W (hln w s (fun a b => gel (v a b))) a b + bias (a % 128) b := by
  simp only [kernelRun0_A.sl.v295, kernelRun0_A.sl.v294, kernelRun0_A.sl.v252, kernelRun0_A.sl.v210, kernelRun0_A.sl.v168, v167_A, v209_A, v251_A, v293_A, r_5_A, addf_R2, catRows_intro, catRows_R2]
  refine R2_congr fun a b ha _ => ?_
  exact rows_of (fun o a b => strip W (hln w s (fun a b => gel (v a b))) o a b + bias a b) a b ha
/-- The gradient of `u`. -/
theorem v300_A : kernelRun0_A.sl.v300 (F := Ideal) c arg1 harg1 arg2 harg2 arg3 harg3 arg4 harg4 arg5 harg5 arg6 harg6 arg8 harg8 arg9 harg9 (R2 (φ := .bf16) dm) (R2 (φ := .bf16) u) (R2 (φ := .bf16) v) (R2 (φ := .f32) fun _ b => w b) (R2 (φ := .f32) fun _ b => s b) (R3 (φ := .bf16) fun i a k => wpair W i a k) (R2 (φ := .f32) bias) (R2 (φ := .bf16) avgM) = R2 (φ := .bf16) fun a b => dm a b * (mixed W (hln w s (fun a b => gel (v a b))) a b + bias (a % 128) b) * dgel (u a b) := by
  have e : kernelRun0_A.sl.v297 (F := Ideal) c arg1 harg1 (R2 (φ := .bf16) dm) = R2 dm := congrArg (fun x => extf .f32 x _) (load_all arg1 harg1 _ _)
  simp only [kernelRun0_A.sl.v300, kernelRun0_A.sl.v299, kernelRun0_A.sl.v298, e, v295_A, r_10_A, mulf_R2, truncf_R2]
/-- The gradient of the mixed half. -/
theorem v302_A : kernelRun0_A.sl.v302 (F := Ideal) c arg1 harg1 arg2 harg2 (R2 (φ := .bf16) dm) (R2 (φ := .bf16) u) = R2 fun a b => dm a b * gel (u a b) := by
  have e : kernelRun0_A.sl.v297 (F := Ideal) c arg1 harg1 (R2 (φ := .bf16) dm) = R2 dm := congrArg (fun x => extf .f32 x _) (load_all arg1 harg1 _ _)
  simp only [kernelRun0_A.sl.v302, e, r_7_A, mulf_R2]
theorem v383_A : kernelRun0_A.sl.v383 (F := Ideal) c arg1 harg1 arg2 harg2 arg7 harg7 (R2 (φ := .bf16) dm) (R2 (φ := .bf16) u) (R3 (φ := .bf16) fun i a k => wpair T i a k) = R2 (strip T (fun a b => dm a b * gel (u a b)) 0) := by
  simp only [kernelRun0_A.sl.v303, kernelRun0_A.sl.v307, kernelRun0_A.sl.v309, kernelRun0_A.sl.v310, kernelRun0_A.sl.v311, kernelRun0_A.sl.v312, kernelRun0_A.sl.v323, kernelRun0_A.sl.v327, kernelRun0_A.sl.v329, kernelRun0_A.sl.v330, kernelRun0_A.sl.v331, kernelRun0_A.sl.v332, kernelRun0_A.sl.v343, kernelRun0_A.sl.v347, kernelRun0_A.sl.v349, kernelRun0_A.sl.v350, kernelRun0_A.sl.v351, kernelRun0_A.sl.v352, kernelRun0_A.sl.v363, kernelRun0_A.sl.v367, kernelRun0_A.sl.v369, kernelRun0_A.sl.v370, kernelRun0_A.sl.v371, kernelRun0_A.sl.v372, kernelRun0_A.sl.v383, v302_A, v305_A, v325_A, v345_A, v365_A, slice_R2, mulf_R2, catPair_intro, catPair_R2, truncf_R2, matmul_tile, v130_A, v132_A, cst_45_A, catCols_intro, catCols_R2]
  refine R2_congr fun a b _ hb => ?_
  refine Eq.trans ?_ (strip_cols (strip T (fun a b => dm a b * gel (u a b)) 0) a b)
  split_ifs
  · exact pair_sum T (fun a b => dm a b * gel (u a b)) 0 0 0 a b (by omega) rfl
  · exact pair_sum T (fun a b => dm a b * gel (u a b)) 1 0 128 a (b - 128) (by omega) rfl
  · exact pair_sum T (fun a b => dm a b * gel (u a b)) 2 0 256 a (b - 256) (by omega) rfl
  · exact pair_sum T (fun a b => dm a b * gel (u a b)) 3 0 384 a (b - 384) (by omega) rfl
theorem v482_A : kernelRun0_A.sl.v482 (F := Ideal) c arg1 harg1 arg2 harg2 arg7 harg7 (R2 (φ := .bf16) dm) (R2 (φ := .bf16) u) (R3 (φ := .bf16) fun i a k => wpair T i a k) = R2 (strip T (fun a b => dm a b * gel (u a b)) 128) := by
  simp only [kernelRun0_A.sl.v394, kernelRun0_A.sl.v398, kernelRun0_A.sl.v400, kernelRun0_A.sl.v401, kernelRun0_A.sl.v402, kernelRun0_A.sl.v403, kernelRun0_A.sl.v416, kernelRun0_A.sl.v420, kernelRun0_A.sl.v422, kernelRun0_A.sl.v423, kernelRun0_A.sl.v424, kernelRun0_A.sl.v425, kernelRun0_A.sl.v438, kernelRun0_A.sl.v442, kernelRun0_A.sl.v444, kernelRun0_A.sl.v445, kernelRun0_A.sl.v446, kernelRun0_A.sl.v447, kernelRun0_A.sl.v460, kernelRun0_A.sl.v464, kernelRun0_A.sl.v466, kernelRun0_A.sl.v467, kernelRun0_A.sl.v468, kernelRun0_A.sl.v469, kernelRun0_A.sl.v482, v302_A, v305_A, v325_A, v345_A, v365_A, slice_R2, mulf_R2, catPair_intro, catPair_R2, truncf_R2, matmul_tile, v130_A, v132_A, cst_45_A, catCols_intro, catCols_R2]
  refine R2_congr fun a b _ hb => ?_
  refine Eq.trans ?_ (strip_cols (strip T (fun a b => dm a b * gel (u a b)) 128) a b)
  split_ifs
  · exact pair_sum T (fun a b => dm a b * gel (u a b)) 0 128 0 a b (by omega) rfl
  · exact pair_sum T (fun a b => dm a b * gel (u a b)) 1 128 128 a (b - 128) (by omega) rfl
  · exact pair_sum T (fun a b => dm a b * gel (u a b)) 2 128 256 a (b - 256) (by omega) rfl
  · exact pair_sum T (fun a b => dm a b * gel (u a b)) 3 128 384 a (b - 384) (by omega) rfl
theorem v582_A : kernelRun0_A.sl.v582 (F := Ideal) c arg1 harg1 arg2 harg2 arg7 harg7 (R2 (φ := .bf16) dm) (R2 (φ := .bf16) u) (R3 (φ := .bf16) fun i a k => wpair T i a k) = R2 (strip T (fun a b => dm a b * gel (u a b)) 256) := by
  simp only [kernelRun0_A.sl.v494, kernelRun0_A.sl.v498, kernelRun0_A.sl.v500, kernelRun0_A.sl.v501, kernelRun0_A.sl.v502, kernelRun0_A.sl.v503, kernelRun0_A.sl.v516, kernelRun0_A.sl.v520, kernelRun0_A.sl.v522, kernelRun0_A.sl.v523, kernelRun0_A.sl.v524, kernelRun0_A.sl.v525, kernelRun0_A.sl.v538, kernelRun0_A.sl.v542, kernelRun0_A.sl.v544, kernelRun0_A.sl.v545, kernelRun0_A.sl.v546, kernelRun0_A.sl.v547, kernelRun0_A.sl.v560, kernelRun0_A.sl.v564, kernelRun0_A.sl.v566, kernelRun0_A.sl.v567, kernelRun0_A.sl.v568, kernelRun0_A.sl.v569, kernelRun0_A.sl.v582, v302_A, v305_A, v325_A, v345_A, v365_A, slice_R2, mulf_R2, catPair_intro, catPair_R2, truncf_R2, matmul_tile, v130_A, v132_A, cst_45_A, catCols_intro, catCols_R2]
  refine R2_congr fun a b _ hb => ?_
  refine Eq.trans ?_ (strip_cols (strip T (fun a b => dm a b * gel (u a b)) 256) a b)
  split_ifs
  · exact pair_sum T (fun a b => dm a b * gel (u a b)) 0 256 0 a b (by omega) rfl
  · exact pair_sum T (fun a b => dm a b * gel (u a b)) 1 256 128 a (b - 128) (by omega) rfl
  · exact pair_sum T (fun a b => dm a b * gel (u a b)) 2 256 256 a (b - 256) (by omega) rfl
  · exact pair_sum T (fun a b => dm a b * gel (u a b)) 3 256 384 a (b - 384) (by omega) rfl
theorem v682_A : kernelRun0_A.sl.v682 (F := Ideal) c arg1 harg1 arg2 harg2 arg7 harg7 (R2 (φ := .bf16) dm) (R2 (φ := .bf16) u) (R3 (φ := .bf16) fun i a k => wpair T i a k) = R2 (strip T (fun a b => dm a b * gel (u a b)) 384) := by
  simp only [kernelRun0_A.sl.v594, kernelRun0_A.sl.v598, kernelRun0_A.sl.v600, kernelRun0_A.sl.v601, kernelRun0_A.sl.v602, kernelRun0_A.sl.v603, kernelRun0_A.sl.v616, kernelRun0_A.sl.v620, kernelRun0_A.sl.v622, kernelRun0_A.sl.v623, kernelRun0_A.sl.v624, kernelRun0_A.sl.v625, kernelRun0_A.sl.v638, kernelRun0_A.sl.v642, kernelRun0_A.sl.v644, kernelRun0_A.sl.v645, kernelRun0_A.sl.v646, kernelRun0_A.sl.v647, kernelRun0_A.sl.v660, kernelRun0_A.sl.v664, kernelRun0_A.sl.v666, kernelRun0_A.sl.v667, kernelRun0_A.sl.v668, kernelRun0_A.sl.v669, kernelRun0_A.sl.v682, v302_A, v305_A, v325_A, v345_A, v365_A, slice_R2, mulf_R2, catPair_intro, catPair_R2, truncf_R2, matmul_tile, v130_A, v132_A, cst_45_A, catCols_intro, catCols_R2]
  refine R2_congr fun a b _ hb => ?_
  refine Eq.trans ?_ (strip_cols (strip T (fun a b => dm a b * gel (u a b)) 384) a b)
  split_ifs
  · exact pair_sum T (fun a b => dm a b * gel (u a b)) 0 384 0 a b (by omega) rfl
  · exact pair_sum T (fun a b => dm a b * gel (u a b)) 1 384 128 a (b - 128) (by omega) rfl
  · exact pair_sum T (fun a b => dm a b * gel (u a b)) 2 384 256 a (b - 256) (by omega) rfl
  · exact pair_sum T (fun a b => dm a b * gel (u a b)) 3 384 384 a (b - 384) (by omega) rfl
/-- The gradient of the normalized half. -/
theorem v694_A : kernelRun0_A.sl.v694 (F := Ideal) c arg1 harg1 arg2 harg2 arg7 harg7 (R2 (φ := .bf16) dm) (R2 (φ := .bf16) u) (R3 (φ := .bf16) fun i a k => wpair T i a k) = R2 fun a b => mixed T (fun a b => dm a b * gel (u a b)) a b := by
  simp only [kernelRun0_A.sl.v694, v383_A, v482_A, v582_A, v682_A, catRows_intro, catRows_R2]
  refine R2_congr fun a b ha _ => ?_
  exact rows_of (fun o a b => strip T (fun a b => dm a b * gel (u a b)) o a b) a b ha
/-- The gradients of the heads' weights. -/
theorem v610_A : kernelRun0_A.sl.v610 (F := Ideal) c arg1 harg1 arg2 harg2 arg3 harg3 arg4 harg4 arg5 harg5 arg9 harg9 (R2 (φ := .bf16) dm) (R2 (φ := .bf16) u) (R2 (φ := .bf16) v) (R2 (φ := .f32) fun _ b => w b) (R2 (φ := .f32) fun _ b => s b) (R2 (φ := .bf16) avgM) = R2 (headGrad (fun a b => dm a b * gel (u a b)) (hln w s (fun a b => gel (v a b))) 0) := by
  simp only [kernelRun0_A.sl.v127, kernelRun0_A.sl.v169, kernelRun0_A.sl.v211, kernelRun0_A.sl.v253, kernelRun0_A.sl.v303, kernelRun0_A.sl.v307, kernelRun0_A.sl.v314, kernelRun0_A.sl.v317, kernelRun0_A.sl.v318, kernelRun0_A.sl.v394, kernelRun0_A.sl.v398, kernelRun0_A.sl.v405, kernelRun0_A.sl.v408, kernelRun0_A.sl.v409, kernelRun0_A.sl.v410, kernelRun0_A.sl.v494, kernelRun0_A.sl.v498, kernelRun0_A.sl.v505, kernelRun0_A.sl.v508, kernelRun0_A.sl.v509, kernelRun0_A.sl.v510, kernelRun0_A.sl.v594, kernelRun0_A.sl.v598, kernelRun0_A.sl.v605, kernelRun0_A.sl.v608, kernelRun0_A.sl.v609, kernelRun0_A.sl.v610, v302_A, v126_A, slice_R2, mulf_R2, addf_R2, truncf_R2, matmul_lanes, v130_A, v132_A, cst_45_A, zero_add]
  refine R2_congr fun a b _ _ => ?_
  have h0 := lanes_L (fun a b => dm a b * gel (u a b)) (hln w s (fun a b => gel (v a b))) 0 0 a b
  have h1 := lanes_L (fun a b => dm a b * gel (u a b)) (hln w s (fun a b => gel (v a b))) 128 0 a b
  have h2 := lanes_L (fun a b => dm a b * gel (u a b)) (hln w s (fun a b => gel (v a b))) 256 0 a b
  have h3 := lanes_L (fun a b => dm a b * gel (u a b)) (hln w s (fun a b => gel (v a b))) 384 0 a b
  simp only [zero_add, headGrad] at h0 h1 h2 h3 ⊢
  rw [h0, h1, h2, h3]
theorem v615_A : kernelRun0_A.sl.v615 (F := Ideal) c arg1 harg1 arg2 harg2 arg3 harg3 arg4 harg4 arg5 harg5 arg9 harg9 (R2 (φ := .bf16) dm) (R2 (φ := .bf16) u) (R2 (φ := .bf16) v) (R2 (φ := .f32) fun _ b => w b) (R2 (φ := .f32) fun _ b => s b) (R2 (φ := .bf16) avgM) = R2 (headGrad (fun a b => dm a b * gel (u a b)) (hln w s (fun a b => gel (v a b))) 64) := by
  simp only [kernelRun0_A.sl.v127, kernelRun0_A.sl.v169, kernelRun0_A.sl.v211, kernelRun0_A.sl.v253, kernelRun0_A.sl.v303, kernelRun0_A.sl.v309, kernelRun0_A.sl.v314, kernelRun0_A.sl.v321, kernelRun0_A.sl.v322, kernelRun0_A.sl.v394, kernelRun0_A.sl.v400, kernelRun0_A.sl.v405, kernelRun0_A.sl.v413, kernelRun0_A.sl.v414, kernelRun0_A.sl.v415, kernelRun0_A.sl.v494, kernelRun0_A.sl.v500, kernelRun0_A.sl.v505, kernelRun0_A.sl.v513, kernelRun0_A.sl.v514, kernelRun0_A.sl.v515, kernelRun0_A.sl.v594, kernelRun0_A.sl.v600, kernelRun0_A.sl.v605, kernelRun0_A.sl.v613, kernelRun0_A.sl.v614, kernelRun0_A.sl.v615, v302_A, v126_A, slice_R2, mulf_R2, addf_R2, truncf_R2, matmul_lanes, v130_A, v132_A, cst_45_A, zero_add]
  refine R2_congr fun a b _ _ => ?_
  have h0 := lanes_R (fun a b => dm a b * gel (u a b)) (hln w s (fun a b => gel (v a b))) 0 0 a b
  have h1 := lanes_R (fun a b => dm a b * gel (u a b)) (hln w s (fun a b => gel (v a b))) 128 0 a b
  have h2 := lanes_R (fun a b => dm a b * gel (u a b)) (hln w s (fun a b => gel (v a b))) 256 0 a b
  have h3 := lanes_R (fun a b => dm a b * gel (u a b)) (hln w s (fun a b => gel (v a b))) 384 0 a b
  simp only [zero_add, headGrad] at h0 h1 h2 h3 ⊢
  rw [h0, h1, h2, h3]
theorem v632_A : kernelRun0_A.sl.v632 (F := Ideal) c arg1 harg1 arg2 harg2 arg3 harg3 arg4 harg4 arg5 harg5 arg9 harg9 (R2 (φ := .bf16) dm) (R2 (φ := .bf16) u) (R2 (φ := .bf16) v) (R2 (φ := .f32) fun _ b => w b) (R2 (φ := .f32) fun _ b => s b) (R2 (φ := .bf16) avgM) = R2 (headGrad (fun a b => dm a b * gel (u a b)) (hln w s (fun a b => gel (v a b))) 128) := by
  simp only [kernelRun0_A.sl.v137, kernelRun0_A.sl.v179, kernelRun0_A.sl.v221, kernelRun0_A.sl.v263, kernelRun0_A.sl.v323, kernelRun0_A.sl.v327, kernelRun0_A.sl.v334, kernelRun0_A.sl.v337, kernelRun0_A.sl.v338, kernelRun0_A.sl.v416, kernelRun0_A.sl.v420, kernelRun0_A.sl.v427, kernelRun0_A.sl.v430, kernelRun0_A.sl.v431, kernelRun0_A.sl.v432, kernelRun0_A.sl.v516, kernelRun0_A.sl.v520, kernelRun0_A.sl.v527, kernelRun0_A.sl.v530, kernelRun0_A.sl.v531, kernelRun0_A.sl.v532, kernelRun0_A.sl.v616, kernelRun0_A.sl.v620, kernelRun0_A.sl.v627, kernelRun0_A.sl.v630, kernelRun0_A.sl.v631, kernelRun0_A.sl.v632, v302_A, v126_A, slice_R2, mulf_R2, addf_R2, truncf_R2, matmul_lanes, v130_A, v132_A, cst_45_A, zero_add]
  refine R2_congr fun a b _ _ => ?_
  have h0 := lanes_L (fun a b => dm a b * gel (u a b)) (hln w s (fun a b => gel (v a b))) 0 128 a b
  have h1 := lanes_L (fun a b => dm a b * gel (u a b)) (hln w s (fun a b => gel (v a b))) 128 128 a b
  have h2 := lanes_L (fun a b => dm a b * gel (u a b)) (hln w s (fun a b => gel (v a b))) 256 128 a b
  have h3 := lanes_L (fun a b => dm a b * gel (u a b)) (hln w s (fun a b => gel (v a b))) 384 128 a b
  simp only [zero_add, headGrad] at h0 h1 h2 h3 ⊢
  rw [h0, h1, h2, h3]
theorem v637_A : kernelRun0_A.sl.v637 (F := Ideal) c arg1 harg1 arg2 harg2 arg3 harg3 arg4 harg4 arg5 harg5 arg9 harg9 (R2 (φ := .bf16) dm) (R2 (φ := .bf16) u) (R2 (φ := .bf16) v) (R2 (φ := .f32) fun _ b => w b) (R2 (φ := .f32) fun _ b => s b) (R2 (φ := .bf16) avgM) = R2 (headGrad (fun a b => dm a b * gel (u a b)) (hln w s (fun a b => gel (v a b))) 192) := by
  simp only [kernelRun0_A.sl.v137, kernelRun0_A.sl.v179, kernelRun0_A.sl.v221, kernelRun0_A.sl.v263, kernelRun0_A.sl.v323, kernelRun0_A.sl.v329, kernelRun0_A.sl.v334, kernelRun0_A.sl.v341, kernelRun0_A.sl.v342, kernelRun0_A.sl.v416, kernelRun0_A.sl.v422, kernelRun0_A.sl.v427, kernelRun0_A.sl.v435, kernelRun0_A.sl.v436, kernelRun0_A.sl.v437, kernelRun0_A.sl.v516, kernelRun0_A.sl.v522, kernelRun0_A.sl.v527, kernelRun0_A.sl.v535, kernelRun0_A.sl.v536, kernelRun0_A.sl.v537, kernelRun0_A.sl.v616, kernelRun0_A.sl.v622, kernelRun0_A.sl.v627, kernelRun0_A.sl.v635, kernelRun0_A.sl.v636, kernelRun0_A.sl.v637, v302_A, v126_A, slice_R2, mulf_R2, addf_R2, truncf_R2, matmul_lanes, v130_A, v132_A, cst_45_A, zero_add]
  refine R2_congr fun a b _ _ => ?_
  have h0 := lanes_R (fun a b => dm a b * gel (u a b)) (hln w s (fun a b => gel (v a b))) 0 128 a b
  have h1 := lanes_R (fun a b => dm a b * gel (u a b)) (hln w s (fun a b => gel (v a b))) 128 128 a b
  have h2 := lanes_R (fun a b => dm a b * gel (u a b)) (hln w s (fun a b => gel (v a b))) 256 128 a b
  have h3 := lanes_R (fun a b => dm a b * gel (u a b)) (hln w s (fun a b => gel (v a b))) 384 128 a b
  simp only [zero_add, headGrad] at h0 h1 h2 h3 ⊢
  rw [h0, h1, h2, h3]
theorem v654_A : kernelRun0_A.sl.v654 (F := Ideal) c arg1 harg1 arg2 harg2 arg3 harg3 arg4 harg4 arg5 harg5 arg9 harg9 (R2 (φ := .bf16) dm) (R2 (φ := .bf16) u) (R2 (φ := .bf16) v) (R2 (φ := .f32) fun _ b => w b) (R2 (φ := .f32) fun _ b => s b) (R2 (φ := .bf16) avgM) = R2 (headGrad (fun a b => dm a b * gel (u a b)) (hln w s (fun a b => gel (v a b))) 256) := by
  simp only [kernelRun0_A.sl.v147, kernelRun0_A.sl.v189, kernelRun0_A.sl.v231, kernelRun0_A.sl.v273, kernelRun0_A.sl.v343, kernelRun0_A.sl.v347, kernelRun0_A.sl.v354, kernelRun0_A.sl.v357, kernelRun0_A.sl.v358, kernelRun0_A.sl.v438, kernelRun0_A.sl.v442, kernelRun0_A.sl.v449, kernelRun0_A.sl.v452, kernelRun0_A.sl.v453, kernelRun0_A.sl.v454, kernelRun0_A.sl.v538, kernelRun0_A.sl.v542, kernelRun0_A.sl.v549, kernelRun0_A.sl.v552, kernelRun0_A.sl.v553, kernelRun0_A.sl.v554, kernelRun0_A.sl.v638, kernelRun0_A.sl.v642, kernelRun0_A.sl.v649, kernelRun0_A.sl.v652, kernelRun0_A.sl.v653, kernelRun0_A.sl.v654, v302_A, v126_A, slice_R2, mulf_R2, addf_R2, truncf_R2, matmul_lanes, v130_A, v132_A, cst_45_A, zero_add]
  refine R2_congr fun a b _ _ => ?_
  have h0 := lanes_L (fun a b => dm a b * gel (u a b)) (hln w s (fun a b => gel (v a b))) 0 256 a b
  have h1 := lanes_L (fun a b => dm a b * gel (u a b)) (hln w s (fun a b => gel (v a b))) 128 256 a b
  have h2 := lanes_L (fun a b => dm a b * gel (u a b)) (hln w s (fun a b => gel (v a b))) 256 256 a b
  have h3 := lanes_L (fun a b => dm a b * gel (u a b)) (hln w s (fun a b => gel (v a b))) 384 256 a b
  simp only [zero_add, headGrad] at h0 h1 h2 h3 ⊢
  rw [h0, h1, h2, h3]
theorem v659_A : kernelRun0_A.sl.v659 (F := Ideal) c arg1 harg1 arg2 harg2 arg3 harg3 arg4 harg4 arg5 harg5 arg9 harg9 (R2 (φ := .bf16) dm) (R2 (φ := .bf16) u) (R2 (φ := .bf16) v) (R2 (φ := .f32) fun _ b => w b) (R2 (φ := .f32) fun _ b => s b) (R2 (φ := .bf16) avgM) = R2 (headGrad (fun a b => dm a b * gel (u a b)) (hln w s (fun a b => gel (v a b))) 320) := by
  simp only [kernelRun0_A.sl.v147, kernelRun0_A.sl.v189, kernelRun0_A.sl.v231, kernelRun0_A.sl.v273, kernelRun0_A.sl.v343, kernelRun0_A.sl.v349, kernelRun0_A.sl.v354, kernelRun0_A.sl.v361, kernelRun0_A.sl.v362, kernelRun0_A.sl.v438, kernelRun0_A.sl.v444, kernelRun0_A.sl.v449, kernelRun0_A.sl.v457, kernelRun0_A.sl.v458, kernelRun0_A.sl.v459, kernelRun0_A.sl.v538, kernelRun0_A.sl.v544, kernelRun0_A.sl.v549, kernelRun0_A.sl.v557, kernelRun0_A.sl.v558, kernelRun0_A.sl.v559, kernelRun0_A.sl.v638, kernelRun0_A.sl.v644, kernelRun0_A.sl.v649, kernelRun0_A.sl.v657, kernelRun0_A.sl.v658, kernelRun0_A.sl.v659, v302_A, v126_A, slice_R2, mulf_R2, addf_R2, truncf_R2, matmul_lanes, v130_A, v132_A, cst_45_A, zero_add]
  refine R2_congr fun a b _ _ => ?_
  have h0 := lanes_R (fun a b => dm a b * gel (u a b)) (hln w s (fun a b => gel (v a b))) 0 256 a b
  have h1 := lanes_R (fun a b => dm a b * gel (u a b)) (hln w s (fun a b => gel (v a b))) 128 256 a b
  have h2 := lanes_R (fun a b => dm a b * gel (u a b)) (hln w s (fun a b => gel (v a b))) 256 256 a b
  have h3 := lanes_R (fun a b => dm a b * gel (u a b)) (hln w s (fun a b => gel (v a b))) 384 256 a b
  simp only [zero_add, headGrad] at h0 h1 h2 h3 ⊢
  rw [h0, h1, h2, h3]
theorem v676_A : kernelRun0_A.sl.v676 (F := Ideal) c arg1 harg1 arg2 harg2 arg3 harg3 arg4 harg4 arg5 harg5 arg9 harg9 (R2 (φ := .bf16) dm) (R2 (φ := .bf16) u) (R2 (φ := .bf16) v) (R2 (φ := .f32) fun _ b => w b) (R2 (φ := .f32) fun _ b => s b) (R2 (φ := .bf16) avgM) = R2 (headGrad (fun a b => dm a b * gel (u a b)) (hln w s (fun a b => gel (v a b))) 384) := by
  simp only [kernelRun0_A.sl.v157, kernelRun0_A.sl.v199, kernelRun0_A.sl.v241, kernelRun0_A.sl.v283, kernelRun0_A.sl.v363, kernelRun0_A.sl.v367, kernelRun0_A.sl.v374, kernelRun0_A.sl.v377, kernelRun0_A.sl.v378, kernelRun0_A.sl.v460, kernelRun0_A.sl.v464, kernelRun0_A.sl.v471, kernelRun0_A.sl.v474, kernelRun0_A.sl.v475, kernelRun0_A.sl.v476, kernelRun0_A.sl.v560, kernelRun0_A.sl.v564, kernelRun0_A.sl.v571, kernelRun0_A.sl.v574, kernelRun0_A.sl.v575, kernelRun0_A.sl.v576, kernelRun0_A.sl.v660, kernelRun0_A.sl.v664, kernelRun0_A.sl.v671, kernelRun0_A.sl.v674, kernelRun0_A.sl.v675, kernelRun0_A.sl.v676, v302_A, v126_A, slice_R2, mulf_R2, addf_R2, truncf_R2, matmul_lanes, v130_A, v132_A, cst_45_A, zero_add]
  refine R2_congr fun a b _ _ => ?_
  have h0 := lanes_L (fun a b => dm a b * gel (u a b)) (hln w s (fun a b => gel (v a b))) 0 384 a b
  have h1 := lanes_L (fun a b => dm a b * gel (u a b)) (hln w s (fun a b => gel (v a b))) 128 384 a b
  have h2 := lanes_L (fun a b => dm a b * gel (u a b)) (hln w s (fun a b => gel (v a b))) 256 384 a b
  have h3 := lanes_L (fun a b => dm a b * gel (u a b)) (hln w s (fun a b => gel (v a b))) 384 384 a b
  simp only [zero_add, headGrad] at h0 h1 h2 h3 ⊢
  rw [h0, h1, h2, h3]
theorem v681_A : kernelRun0_A.sl.v681 (F := Ideal) c arg1 harg1 arg2 harg2 arg3 harg3 arg4 harg4 arg5 harg5 arg9 harg9 (R2 (φ := .bf16) dm) (R2 (φ := .bf16) u) (R2 (φ := .bf16) v) (R2 (φ := .f32) fun _ b => w b) (R2 (φ := .f32) fun _ b => s b) (R2 (φ := .bf16) avgM) = R2 (headGrad (fun a b => dm a b * gel (u a b)) (hln w s (fun a b => gel (v a b))) 448) := by
  simp only [kernelRun0_A.sl.v157, kernelRun0_A.sl.v199, kernelRun0_A.sl.v241, kernelRun0_A.sl.v283, kernelRun0_A.sl.v363, kernelRun0_A.sl.v369, kernelRun0_A.sl.v374, kernelRun0_A.sl.v381, kernelRun0_A.sl.v382, kernelRun0_A.sl.v460, kernelRun0_A.sl.v466, kernelRun0_A.sl.v471, kernelRun0_A.sl.v479, kernelRun0_A.sl.v480, kernelRun0_A.sl.v481, kernelRun0_A.sl.v560, kernelRun0_A.sl.v566, kernelRun0_A.sl.v571, kernelRun0_A.sl.v579, kernelRun0_A.sl.v580, kernelRun0_A.sl.v581, kernelRun0_A.sl.v660, kernelRun0_A.sl.v666, kernelRun0_A.sl.v671, kernelRun0_A.sl.v679, kernelRun0_A.sl.v680, kernelRun0_A.sl.v681, v302_A, v126_A, slice_R2, mulf_R2, addf_R2, truncf_R2, matmul_lanes, v130_A, v132_A, cst_45_A, zero_add]
  refine R2_congr fun a b _ _ => ?_
  have h0 := lanes_R (fun a b => dm a b * gel (u a b)) (hln w s (fun a b => gel (v a b))) 0 384 a b
  have h1 := lanes_R (fun a b => dm a b * gel (u a b)) (hln w s (fun a b => gel (v a b))) 128 384 a b
  have h2 := lanes_R (fun a b => dm a b * gel (u a b)) (hln w s (fun a b => gel (v a b))) 256 384 a b
  have h3 := lanes_R (fun a b => dm a b * gel (u a b)) (hln w s (fun a b => gel (v a b))) 384 384 a b
  simp only [zero_add, headGrad] at h0 h1 h2 h3 ⊢
  rw [h0, h1, h2, h3]
theorem v386_A : kernelRun0_A.sl.v386 (F := Ideal) c arg10 harg10 (R2 (φ := .bf16) expM) = R2 (φ := .bf16) expM := by
  refine (congrArg (fun x => shapeCast S512x128 x _) (load_all arg10 harg10 _ _)).trans ?_
  exact cast_same _ _
/-- The gradient of the bias. -/
theorem v693_A : kernelRun0_A.sl.v693 (F := Ideal) c arg1 harg1 arg2 harg2 arg10 harg10 (R2 (φ := .bf16) dm) (R2 (φ := .bf16) u) (R2 (φ := .bf16) expM) = R2 (biasGrad (fun a b => dm a b * gel (u a b))) := by
  simp only [kernelRun0_A.sl.v384, kernelRun0_A.sl.v387, kernelRun0_A.sl.v388, kernelRun0_A.sl.v389, kernelRun0_A.sl.v390, kernelRun0_A.sl.v391, kernelRun0_A.sl.v392, kernelRun0_A.sl.v393, kernelRun0_A.sl.v483, kernelRun0_A.sl.v486, kernelRun0_A.sl.v487, kernelRun0_A.sl.v488, kernelRun0_A.sl.v489, kernelRun0_A.sl.v490, kernelRun0_A.sl.v491, kernelRun0_A.sl.v492, kernelRun0_A.sl.v493, kernelRun0_A.sl.v583, kernelRun0_A.sl.v586, kernelRun0_A.sl.v587, kernelRun0_A.sl.v588, kernelRun0_A.sl.v589, kernelRun0_A.sl.v590, kernelRun0_A.sl.v591, kernelRun0_A.sl.v592, kernelRun0_A.sl.v593, kernelRun0_A.sl.v683, kernelRun0_A.sl.v686, kernelRun0_A.sl.v687, kernelRun0_A.sl.v688, kernelRun0_A.sl.v689, kernelRun0_A.sl.v690, kernelRun0_A.sl.v691, kernelRun0_A.sl.v692, kernelRun0_A.sl.v693, v302_A, v386_A, slice_R2, subf_R2, addf_R2, truncf_R2, extf_R2, matmul_expand, cst_45_A, sub_self, zero_mul,
    Finset.sum_const_zero, add_zero, zero_add]
  refine R2_congr fun a b _ _ => ?_
  simp only [biasGrad, zero_add]
theorem v696_A : kernelRun0_A.sl.v696 (F := Ideal) c arg1 harg1 arg2 harg2 arg4 harg4 arg7 harg7 (R2 (φ := .bf16) dm) (R2 (φ := .bf16) u) (R2 (φ := .f32) fun _ b => w b) (R3 (φ := .bf16) fun i a k => wpair T i a k) = R2 fun a b => (mixed T (fun a b => dm a b * gel (u a b))) a b * w b := by
  simp only [kernelRun0_A.sl.v696, v694_A, v123_A, mulf_R2]
theorem v714_A : kernelRun0_A.sl.v714 (F := Ideal) c arg1 harg1 arg2 harg2 arg4 harg4 arg7 harg7 arg9 harg9 (R2 (φ := .bf16) dm) (R2 (φ := .bf16) u) (R2 (φ := .f32) fun _ b => w b) (R3 (φ := .bf16) fun i a k => wpair T i a k) (R2 (φ := .bf16) avgM) = R2 (hcen (fun a b => (mixed T (fun a b => dm a b * gel (u a b))) a b * w b)) := by
  simp only [kernelRun0_A.sl.v714, kernelRun0_A.sl.v697, kernelRun0_A.sl.v698, kernelRun0_A.sl.v699, kernelRun0_A.sl.v700, kernelRun0_A.sl.v701, kernelRun0_A.sl.v702, kernelRun0_A.sl.v703, kernelRun0_A.sl.v704, kernelRun0_A.sl.v705, kernelRun0_A.sl.v706, kernelRun0_A.sl.v707, kernelRun0_A.sl.v708, kernelRun0_A.sl.v709, kernelRun0_A.sl.v710, kernelRun0_A.sl.v711, kernelRun0_A.sl.v712, kernelRun0_A.sl.v713, kernelRun0_A.sl.cst_33, v696_A, r_A, slice_R2, truncf_R2, extf_R2, subf_R2, constant_zero, matmul_avg, addf_R2, catHalves_intro, catHalves_R2]
  refine R2_congr fun a b _ hb => ?_
  exact congrArg ((fun a b => (mixed T (fun a b => dm a b * gel (u a b))) a b * w b) a b - ·) (hmean_halves (fun a b => (mixed T (fun a b => dm a b * gel (u a b))) a b * w b) a b hb)
theorem v715_A : kernelRun0_A.sl.v715 (F := Ideal) c arg1 harg1 arg2 harg2 arg3 harg3 arg4 harg4 arg7 harg7 arg9 harg9 (R2 (φ := .bf16) dm) (R2 (φ := .bf16) u) (R2 (φ := .bf16) v) (R2 (φ := .f32) fun _ b => w b) (R3 (φ := .bf16) fun i a k => wpair T i a k) (R2 (φ := .bf16) avgM) = R2 (fun a b => (mixed T (fun a b => dm a b * gel (u a b))) a b * w b * hhat (fun a b => gel (v a b)) a b) := by
  simp only [kernelRun0_A.sl.v715, v696_A, v122_A, mulf_R2]
/-- The gradient of `v`. -/
theorem dv_A : k0_pay155 (kernelRun0_A.sl.r (F := Ideal) c arg9 harg9 (R2 (φ := .bf16) avgM)) (kernelRun0_A.sl.r_12 (F := Ideal) c arg3 harg3 (R2 (φ := .bf16) v)) (kernelRun0_A.sl.v121 (F := Ideal) c arg3 harg3 arg9 harg9 (R2 (φ := .bf16) v) (R2 (φ := .bf16) avgM)) (kernelRun0_A.sl.v122 (F := Ideal) c arg3 harg3 arg9 harg9 (R2 (φ := .bf16) v) (R2 (φ := .bf16) avgM)) (kernelRun0_A.sl.v714 (F := Ideal) c arg1 harg1 arg2 harg2 arg4 harg4 arg7 harg7 arg9 harg9 (R2 (φ := .bf16) dm) (R2 (φ := .bf16) u) (R2 (φ := .f32) fun _ b => w b) (R3 (φ := .bf16) fun i a k => wpair T i a k) (R2 (φ := .bf16) avgM)) (kernelRun0_A.sl.v723 (F := Ideal) c arg1 harg1 arg2 harg2 arg3 harg3 arg4 harg4 arg7 harg7 arg9 harg9 (R2 (φ := .bf16) dm) (R2 (φ := .bf16) u) (R2 (φ := .bf16) v) (R2 (φ := .f32) fun _ b => w b) (R3 (φ := .bf16) fun i a k => wpair T i a k) (R2 (φ := .bf16) avgM)) (kernelRun0_A.sl.v724 (F := Ideal) c arg1 harg1 arg2 harg2 arg3 harg3 arg4 harg4 arg7 harg7 arg9 harg9 (R2 (φ := .bf16) dm) (R2 (φ := .bf16) u) (R2 (φ := .bf16) v) (R2 (φ := .f32) fun _ b => w b) (R3 (φ := .bf16) fun i a k => wpair T i a k) (R2 (φ := .bf16) avgM)) (kernelRun0_A.sl.v725 (F := Ideal) c arg1 harg1 arg2 harg2 arg3 harg3 arg4 harg4 arg7 harg7 arg9 harg9 (R2 (φ := .bf16) dm) (R2 (φ := .bf16) u) (R2 (φ := .bf16) v) (R2 (φ := .f32) fun _ b => w b) (R3 (φ := .bf16) fun i a k => wpair T i a k) (R2 (φ := .bf16) avgM)) (kernelRun0_A.sl.v726 (F := Ideal) c arg1 harg1 arg2 harg2 arg3 harg3 arg4 harg4 arg7 harg7 arg9 harg9 (R2 (φ := .bf16) dm) (R2 (φ := .bf16) u) (R2 (φ := .bf16) v) (R2 (φ := .f32) fun _ b => w b) (R3 (φ := .bf16) fun i a k => wpair T i a k) (R2 (φ := .bf16) avgM))
    = R2 fun a b => hrstd (fun a b => gel (v a b)) a b * (hcen (fun a b => (mixed T (fun a b => dm a b * gel (u a b))) a b * w b) a b - hhat (fun a b => gel (v a b)) a b * hmean (fun a b => (mixed T (fun a b => dm a b * gel (u a b))) a b * w b * hhat (fun a b => gel (v a b)) a b) a b) * dgel (v a b) := by
  simp only [k0_pay155, kernelRun0_A.sl.cst_33, kernelRun0_A.sl.v716, kernelRun0_A.sl.v717, kernelRun0_A.sl.v718, kernelRun0_A.sl.v719, kernelRun0_A.sl.v720, kernelRun0_A.sl.v721, kernelRun0_A.sl.v722, kernelRun0_A.sl.v723, kernelRun0_A.sl.v724, kernelRun0_A.sl.v725, kernelRun0_A.sl.v726, v715_A, v714_A, v122_A, v121_A, r_A, r_12_A, slice_R2, truncf_R2, extf_R2, subf_R2, mulf_R2, constant_zero,
    matmul_avg, addf_R2, catHalves_intro, catHalves_R2]
  refine R2_congr fun a b _ hb => ?_
  rw [← hmean_halves (fun a b => (mixed T (fun a b => dm a b * gel (u a b))) a b * w b * hhat (fun a b => gel (v a b)) a b) a b hb]
end

end Cert.Proof.RV

end
-- ==== Proof.Outputs.lean ====
/-
  What the kernel's body leaves in its outputs' staging buffers at each grid point, on real inputs.
-/
module

public import proofs.«01_k».proof.Proof.Blocks
public import proofs.«01_k».proof.Proof.Words
import Idealize.ShloMosaic.Lib.Pipeline.ValueKit

@[expose] public section

set_option maxRecDepth 16384

noncomputable section

namespace Cert.Proof.RV
open Idealize.ShloMosaic Cert.KernelIdeal Cert.KernelIdeal.Gen
open scoped BigOperators

/-- Eight stores, one per head's layer. -/
theorem layers (P0 P1 P2 P3 P4 P5 P6 P7 : Vec Ideal S1x128x128 .f32) (F : ℕ → ℕ → ℕ → ℝ) (i0 i1 i2 i3 i4 i5 i6 i7)
    (h0 : P0 = R3 (φ := .f32) (m := 1) (n := 128) (p := 128) fun _ a b => F 0 a b)
    (h1 : P1 = R3 (φ := .f32) (m := 1) (n := 128) (p := 128) fun _ a b => F 1 a b)
    (h2 : P2 = R3 (φ := .f32) (m := 1) (n := 128) (p := 128) fun _ a b => F 2 a b)
    (h3 : P3 = R3 (φ := .f32) (m := 1) (n := 128) (p := 128) fun _ a b => F 3 a b)
    (h4 : P4 = R3 (φ := .f32) (m := 1) (n := 128) (p := 128) fun _ a b => F 4 a b)
    (h5 : P5 = R3 (φ := .f32) (m := 1) (n := 128) (p := 128) fun _ a b => F 5 a b)
    (h6 : P6 = R3 (φ := .f32) (m := 1) (n := 128) (p := 128) fun _ a b => F 6 a b)
    (h7 : P7 = R3 (φ := .f32) (m := 1) (n := 128) (p := 128) fun _ a b => F 7 a b) :
    View.canon (Val := Elt Ideal) (e := .f32) [⟨Rect.unit (s := S8x128x128) ![7, 0, 0] ![1, 128, 128] i7, P7⟩,
      ⟨Rect.unit (s := S8x128x128) ![6, 0, 0] ![1, 128, 128] i6, P6⟩, ⟨Rect.unit (s := S8x128x128) ![5, 0, 0] ![1, 128, 128] i5, P5⟩,
      ⟨Rect.unit (s := S8x128x128) ![4, 0, 0] ![1, 128, 128] i4, P4⟩, ⟨Rect.unit (s := S8x128x128) ![3, 0, 0] ![1, 128, 128] i3, P3⟩,
      ⟨Rect.unit (s := S8x128x128) ![2, 0, 0] ![1, 128, 128] i2, P2⟩, ⟨Rect.unit (s := S8x128x128) ![1, 0, 0] ![1, 128, 128] i1, P1⟩,
      ⟨Rect.unit (s := S8x128x128) ![0, 0, 0] ![1, 128, 128] i0, P0⟩] = R3 (φ := .f32) (m := 8) (n := 128) (p := 128) F := by
  subst h0 h1 h2 h3 h4 h5 h6 h7
  funext y
  have hy0 : (y 0).val < 8 := (y 0).isLt
  have hm : ∀ k ik, (y 0).val = k → y ∈ (Rect.unit (s := S8x128x128) ![k, 0, 0] ![1, 128, 128] ik).set := by
    intro k ik hk
    rw [Rect.mem_set_unit]
    intro a
    fin_cases a
    · simp [hk]
    · have : (y 1).val < 128 := (y 1).isLt
      simpa using this
    · have : (y 2).val < 128 := (y 2).isLt
      simpa using this
  have hd : (y 0).val = 0 ∨ (y 0).val = 1 ∨ (y 0).val = 2 ∨ (y 0).val = 3 ∨ (y 0).val = 4 ∨ (y 0).val = 5 ∨ (y 0).val = 6 ∨ (y 0).val = 7 := by omega
  have m0 := hm 0 i0
  have m1 := hm 1 i1
  have m2 := hm 2 i2
  have m3 := hm 3 i3
  have m4 := hm 4 i4
  have m5 := hm 5 i5
  have m6 := hm 6 i6
  have m7 := hm 7 i7
  canon_tiles x h using (by
    simp only [List.mem_cons, List.not_mem_nil, or_false, exists_eq_or_imp, exists_eq_left]
    rcases hd with h | h | h | h | h | h | h | h
    · exact Or.inr (Or.inr (Or.inr (Or.inr (Or.inr (Or.inr (Or.inr (m0 h)))))))
    · exact Or.inr (Or.inr (Or.inr (Or.inr (Or.inr (Or.inr (Or.inl (m1 h)))))))
    · exact Or.inr (Or.inr (Or.inr (Or.inr (Or.inr (Or.inl (m2 h))))))
    · exact Or.inr (Or.inr (Or.inr (Or.inr (Or.inl (m3 h)))))
    · exact Or.inr (Or.inr (Or.inr (Or.inl (m4 h))))
    · exact Or.inr (Or.inr (Or.inl (m5 h)))
    · exact Or.inr (Or.inl (m6 h))
    · exact Or.inl (m7 h))
  all_goals
    clear m0 m1 m2 m3 m4 m5 m6 m7 hm
    show ((F _ (x 1).val (x 2).val : ℝ) : EReal) = ((F (y 0).val (y 1).val (y 2).val : ℝ) : EReal)
    congr 2 <;> omega

/-- A layer of the accumulator, read, added to and stored. -/
def addLayer (arg : Memref sig .tc .vmem S8x128x128 .f32) (h : arg.IsWhole) (X : Vec Ideal S8x128x128 .f32) (i : ℕ)
    (inb : ∀ a, (![i, 0, 0] : Fin 3 → Nat) a + S1x128x128.size a ≤ S8x128x128.size a) (g : FVec Ideal S128x128 .f32) : FVec Ideal S1x128x128 .f32 :=
  shapeCast S1x128x128 (addf (shapeCast S128x128 (View.readAt (Elt Ideal) arg.view (Rect.unit (s := S8x128x128) ![i, 0, 0] S1x128x128.size inb).toLoadRect (h.unread X)) shapeCasts_S1x128x128_S128x128) g) shapeCasts_S128x128_S1x128x128

theorem load_layer_8 (arg : Memref sig .tc .vmem S8x128x128 .f32) (h : arg.IsWhole) (f : ℕ → ℕ → ℕ → ℝ) (i : ℕ) (inb) :
    View.readAt (Elt Ideal) arg.view (Rect.unit (s := S8x128x128) ![i, 0, 0] ![1, 128, 128] inb).toLoadRect
      (h.unread (R3 (φ := .f32) f)) = R3 (φ := .f32) (m := 1) (n := 128) (p := 128) fun p a k => f (i + p) a k := by
  rw [View.readAt_eq_ld, Memref.IsWhole.read_unread]
  funext j
  idx_vars j
  pointwise [R3]

theorem addLayer_R (arg : Memref sig .tc .vmem S8x128x128 .f32) (h : arg.IsWhole) (X : Vec Ideal S8x128x128 .f32) (i : ℕ) (inb)
    (g : FVec Ideal S128x128 .f32) (F : ℕ → ℕ → ℕ → ℝ) (gf : ℕ → ℕ → ℝ) (hX : X = R3 (φ := .f32) F) (hg : g = R2 (φ := .f32) gf) :
    addLayer arg h X i inb g = R3 (φ := .f32) (m := 1) (n := 128) (p := 128) fun _ a b => F i a b + gf a b := by
  subst hX hg
  unfold addLayer
  refine (congrArg (fun x => shapeCast S1x128x128 (addf (shapeCast S128x128 x shapeCasts_S1x128x128_S128x128) (R2 gf)) shapeCasts_S128x128_S1x128x128)
    (load_layer_8 arg h F i inb)).trans ?_
  simp only [cast_drop_128, addf_R2, cast_add_128, add_zero]

/-- The sums of the columns, as a row. -/
theorem pay1_R (f : ℕ → ℕ → ℝ) : k0_pay1 (F := Ideal) (R2 (φ := .f32) (m := 512) (n := 512) f) = R2 fun _ b => ∑ r ∈ Finset.range 512, f r b := by
  unfold k0_pay1
  exact (congrArg (fun x => shapeCast S1x512 x shapeCasts_S512_S1x512) (colsum f)).trans (cast_row _ _)

theorem pay161_R (f g : ℕ → ℕ → ℝ) : k0_pay161 (F := Ideal) (R2 (φ := .f32) (m := 512) (n := 512) g) (R2 (φ := .f32) (m := 512) (n := 512) f)
    = R2 fun _ b => ∑ r ∈ Finset.range 512, f r b * g r b := by
  refine Eq.trans (b := k0_pay1 (mulf (R2 (φ := .f32) f) (R2 g))) rfl ?_
  rw [mulf_R2]; exact pay1_R _

/-- The arguments are the real numbers that these functions give. -/
structure Inp (m : (ℓ : Loc nD τ sig) → Buf (Elt Ideal) ℓ) (c : Dev nD) (DM U Vv lw lb : ℕ → ℕ → ℝ) (Ws : ℕ → ℕ → ℕ → ℝ) (bs : ℕ → ℕ → ℝ) : Prop where
  h0 : m ((c.tc : Thread nD τ).loc main_arg0) = R2 (φ := .bf16) (m := 4096) (n := 1024) DM
  h1 : m ((c.tc : Thread nD τ).loc main_arg1) = R2 (φ := .bf16) (m := 4096) (n := 512) U
  h2 : m ((c.tc : Thread nD τ).loc main_arg2) = R2 (φ := .bf16) (m := 4096) (n := 512) Vv
  h3 : m ((c.tc : Thread nD τ).loc main_arg3) = R2 (φ := .f32) (m := 8) (n := 64) lw
  h4 : m ((c.tc : Thread nD τ).loc main_arg4) = R2 (φ := .f32) (m := 8) (n := 64) lb
  h5 : m ((c.tc : Thread nD τ).loc main_arg5) = R3 (φ := .f32) (m := 8) (n := 128) (p := 128) Ws
  h6 : m ((c.tc : Thread nD τ).loc main_arg6) = R2 (φ := .f32) (m := 8) (n := 128) bs

/-- The rows of block `t`. -/
def rowsAt (f : ℕ → ℕ → ℝ) (t a b : ℕ) : ℝ := f (512 * t + a) b
/-- A row of head pieces, laid out over the 512 columns. -/
def lane (w : ℕ → ℕ → ℝ) (b : ℕ) : ℝ := w (b / 64) (b % 64)
/-- The transposed masked weights. -/
def wmaskT (Ws : ℕ → ℕ → ℕ → ℝ) (h a k : ℕ) : ℝ := wmask Ws h k a
/-- The gelu, elementwise. -/
def gelF (f : ℕ → ℕ → ℝ) (a b : ℕ) : ℝ := gel (f a b)
/-- The gradient of the mixed half. -/
def dmixed (DM U : ℕ → ℕ → ℝ) (a b : ℕ) : ℝ := DM a b * gel (U a b)

variable {m : (ℓ : Loc nD τ sig) → Buf (Elt Ideal) ℓ} {c : Dev nD} {DM U Vv lw lb : ℕ → ℕ → ℝ} {Ws : ℕ → ℕ → ℕ → ℝ} {bs : ℕ → ℕ → ℝ}

theorem out10_A (I : Inp m c DM U Vv lw lb Ws bs) (t : Fin cfg0.N) (h0 : t.val % 8 = 0) (h1 : ¬1 ≤ t.val) :
    (outsAt0 m c t.val t.isLt).1 = R2 (φ := .bf16) (m := 512) (n := 512) (fun a b => rowsAt DM t.val a b * (mixed (wmask Ws) (hln (lane lw) (lane lb) (gelF (rowsAt Vv t.val))) a b + bs (b / 64) (a % 128)) * dgel (rowsAt U t.val a b)) := by
  rw [outsAt0_A m c t h0 h1 h0 h1 h0 h1]; dsimp only; unfold out0_A_10; rw [View.read_writes_junk_eq_canon]; unfold kernelRun0_A; dsimp only
  rw [iblk_0 m c DM I.h0 t, iblk_1 m c U I.h1 t, iblk_2 m c Vv I.h2 t, iblk_3 m c lw I.h3 t, iblk_4 m c lb I.h4 t, iblk_5 m c Ws I.h5 t, iblk_7 m c bs I.h6 t, iblk_8 m c t]
  refine (View.canon_unit_zero (by funext a; fin_cases a <;> rfl) _ _).trans ?_
  exact v300_A ..

theorem out10_B (I : Inp m c DM U Vv lw lb Ws bs) (t : Fin cfg0.N) (h0 : ¬t.val % 8 = 0) (h1 : 1 ≤ t.val) :
    (outsAt0 m c t.val t.isLt).1 = R2 (φ := .bf16) (m := 512) (n := 512) (fun a b => rowsAt DM t.val a b * (mixed (wmask Ws) (hln (lane lw) (lane lb) (gelF (rowsAt Vv t.val))) a b + bs (b / 64) (a % 128)) * dgel (rowsAt U t.val a b)) := by
  rw [outsAt0_B m c t h0 h1 h0 h1 h0 h1]; dsimp only; unfold out0_B_10; rw [View.read_writes_junk_eq_canon]; unfold kernelRun0_B; dsimp only
  rw [iblk_0 m c DM I.h0 t, iblk_1 m c U I.h1 t, iblk_2 m c Vv I.h2 t, iblk_3 m c lw I.h3 t, iblk_4 m c lb I.h4 t, iblk_5 m c Ws I.h5 t, iblk_7 m c bs I.h6 t, iblk_8 m c t]
  refine (View.canon_unit_zero (by funext a; fin_cases a <;> rfl) _ _).trans ?_
  exact v300_A ..

theorem out11_A (I : Inp m c DM U Vv lw lb Ws bs) (t : Fin cfg0.N) (h0 : t.val % 8 = 0) (h1 : ¬1 ≤ t.val) :
    (outsAt0 m c t.val t.isLt).2.1 = R2 (φ := .bf16) (m := 512) (n := 512) (fun a b => hrstd (gelF (rowsAt Vv t.val)) a b * (hcen (fun a b => (mixed (wmaskT Ws) (dmixed (rowsAt DM t.val) (rowsAt U t.val))) a b * lane lw b) a b - hhat (gelF (rowsAt Vv t.val)) a b * hmean (fun a b => (mixed (wmaskT Ws) (dmixed (rowsAt DM t.val) (rowsAt U t.val))) a b * lane lw b * hhat (gelF (rowsAt Vv t.val)) a b) a b) * dgel (rowsAt Vv t.val a b)) := by
  rw [outsAt0_A m c t h0 h1 h0 h1 h0 h1]; dsimp only; unfold out0_A_11; rw [View.read_writes_junk_eq_canon]; unfold kernelRun0_A; dsimp only
  rw [iblk_0 m c DM I.h0 t, iblk_1 m c U I.h1 t, iblk_2 m c Vv I.h2 t, iblk_3 m c lw I.h3 t, iblk_6 m c Ws I.h5 t, iblk_8 m c t]
  refine (View.canon_unit_zero (by funext a; fin_cases a <;> rfl) _ _).trans ?_
  exact dv_A ..

theorem out11_B (I : Inp m c DM U Vv lw lb Ws bs) (t : Fin cfg0.N) (h0 : ¬t.val % 8 = 0) (h1 : 1 ≤ t.val) :
    (outsAt0 m c t.val t.isLt).2.1 = R2 (φ := .bf16) (m := 512) (n := 512) (fun a b => hrstd (gelF (rowsAt Vv t.val)) a b * (hcen (fun a b => (mixed (wmaskT Ws) (dmixed (rowsAt DM t.val) (rowsAt U t.val))) a b * lane lw b) a b - hhat (gelF (rowsAt Vv t.val)) a b * hmean (fun a b => (mixed (wmaskT Ws) (dmixed (rowsAt DM t.val) (rowsAt U t.val))) a b * lane lw b * hhat (gelF (rowsAt Vv t.val)) a b) a b) * dgel (rowsAt Vv t.val a b)) := by
  rw [outsAt0_B m c t h0 h1 h0 h1 h0 h1]; dsimp only; unfold out0_B_11; rw [View.read_writes_junk_eq_canon]; unfold kernelRun0_B; dsimp only
  rw [iblk_0 m c DM I.h0 t, iblk_1 m c U I.h1 t, iblk_2 m c Vv I.h2 t, iblk_3 m c lw I.h3 t, iblk_6 m c Ws I.h5 t, iblk_8 m c t]
  refine (View.canon_unit_zero (by funext a; fin_cases a <;> rfl) _ _).trans ?_
  exact dv_A ..

theorem out12_A (I : Inp m c DM U Vv lw lb Ws bs) (t : Fin cfg0.N) (h0 : t.val % 8 = 0) (h1 : ¬1 ≤ t.val) :
    (outsAt0 m c t.val t.isLt).2.2.1 = R3 (φ := .f32) (m := 8) (n := 128) (p := 128) (fun h a b => headGrad (dmixed (rowsAt DM t.val) (rowsAt U t.val)) (hln (lane lw) (lane lb) (gelF (rowsAt Vv t.val))) (64 * h) a b) := by
  rw [outsAt0_A m c t h0 h1 h0 h1 h0 h1]; dsimp only; unfold out0_A_12; rw [View.read_writes_junk_eq_canon]; unfold kernelRun0_A; dsimp only
  rw [iblk_0 m c DM I.h0 t, iblk_1 m c U I.h1 t, iblk_2 m c Vv I.h2 t, iblk_3 m c lw I.h3 t, iblk_4 m c lb I.h4 t, iblk_8 m c t]
  refine layers _ _ _ _ _ _ _ _ _ _ _ _ _ _ _ _ _ ?_ ?_ ?_ ?_ ?_ ?_ ?_ ?_
  · exact (congrArg (fun x => shapeCast S1x128x128 x shapeCasts_S128x128_S1x128x128) (v610_A ..)).trans (cast_add_128 _ _)
  · exact (congrArg (fun x => shapeCast S1x128x128 x shapeCasts_S128x128_S1x128x128) (v615_A ..)).trans (cast_add_128 _ _)
  · exact (congrArg (fun x => shapeCast S1x128x128 x shapeCasts_S128x128_S1x128x128) (v632_A ..)).trans (cast_add_128 _ _)
  · exact (congrArg (fun x => shapeCast S1x128x128 x shapeCasts_S128x128_S1x128x128) (v637_A ..)).trans (cast_add_128 _ _)
  · exact (congrArg (fun x => shapeCast S1x128x128 x shapeCasts_S128x128_S1x128x128) (v654_A ..)).trans (cast_add_128 _ _)
  · exact (congrArg (fun x => shapeCast S1x128x128 x shapeCasts_S128x128_S1x128x128) (v659_A ..)).trans (cast_add_128 _ _)
  · exact (congrArg (fun x => shapeCast S1x128x128 x shapeCasts_S128x128_S1x128x128) (v676_A ..)).trans (cast_add_128 _ _)
  · exact (congrArg (fun x => shapeCast S1x128x128 x shapeCasts_S128x128_S1x128x128) (v681_A ..)).trans (cast_add_128 _ _)

theorem out12_B (I : Inp m c DM U Vv lw lb Ws bs) (t : Fin cfg0.N) (h0 : ¬t.val % 8 = 0) (h1 : 1 ≤ t.val) (F : ℕ → ℕ → ℕ → ℝ) (hF : (outsAt0 m c (t.val - 1) (lt_of_le_of_lt (Nat.sub_le _ _) t.isLt)).2.2.1 = R3 (φ := .f32) F) :
    (outsAt0 m c t.val t.isLt).2.2.1 = R3 (φ := .f32) (m := 8) (n := 128) (p := 128) (fun h a b => F h a b + headGrad (dmixed (rowsAt DM t.val) (rowsAt U t.val)) (hln (lane lw) (lane lb) (gelF (rowsAt Vv t.val))) (64 * h) a b) := by
  rw [outsAt0_B m c t h0 h1 h0 h1 h0 h1]; dsimp only; unfold out0_B_12; rw [View.read_writes_junk_eq_canon]; unfold kernelRun0_B; dsimp only
  rw [iblk_0 m c DM I.h0 t, iblk_1 m c U I.h1 t, iblk_2 m c Vv I.h2 t, iblk_3 m c lw I.h3 t, iblk_4 m c lb I.h4 t, iblk_8 m c t]
  refine layers _ _ _ _ _ _ _ _ _ _ _ _ _ _ _ _ _ ?_ ?_ ?_ ?_ ?_ ?_ ?_ ?_
  · exact addLayer_R (ms0_12 t) (hs0_12 t) _ 0 _ _ F _ hF (v610_A ..)
  · exact addLayer_R (ms0_12 t) (hs0_12 t) _ 1 _ _ F _ hF (v615_A ..)
  · exact addLayer_R (ms0_12 t) (hs0_12 t) _ 2 _ _ F _ hF (v632_A ..)
  · exact addLayer_R (ms0_12 t) (hs0_12 t) _ 3 _ _ F _ hF (v637_A ..)
  · exact addLayer_R (ms0_12 t) (hs0_12 t) _ 4 _ _ F _ hF (v654_A ..)
  · exact addLayer_R (ms0_12 t) (hs0_12 t) _ 5 _ _ F _ hF (v659_A ..)
  · exact addLayer_R (ms0_12 t) (hs0_12 t) _ 6 _ _ F _ hF (v676_A ..)
  · exact addLayer_R (ms0_12 t) (hs0_12 t) _ 7 _ _ F _ hF (v681_A ..)

theorem out13_A (I : Inp m c DM U Vv lw lb Ws bs) (t : Fin cfg0.N) (h0 : t.val % 8 = 0) (h1 : ¬1 ≤ t.val) :
    (outsAt0 m c t.val t.isLt).2.2.2.1 = R2 (φ := .f32) (m := 128) (n := 128) (fun a b => biasGrad (dmixed (rowsAt DM t.val) (rowsAt U t.val)) a b) := by
  rw [outsAt0_A m c t h0 h1 h0 h1 h0 h1]; dsimp only; unfold out0_A_13; rw [View.read_writes_junk_eq_canon]; unfold kernelRun0_A; dsimp only
  rw [iblk_0 m c DM I.h0 t, iblk_1 m c U I.h1 t, iblk_9 m c t]
  refine (View.canon_unit_zero (by funext a; fin_cases a <;> rfl) _ _).trans ?_
  exact v693_A ..

theorem out13_B (I : Inp m c DM U Vv lw lb Ws bs) (t : Fin cfg0.N) (h0 : ¬t.val % 8 = 0) (h1 : 1 ≤ t.val) (F : ℕ → ℕ → ℝ) (hF : (outsAt0 m c (t.val - 1) (lt_of_le_of_lt (Nat.sub_le _ _) t.isLt)).2.2.2.1 = R2 (φ := .f32) F) :
    (outsAt0 m c t.val t.isLt).2.2.2.1 = R2 (φ := .f32) (m := 128) (n := 128) (fun a b => F a b + biasGrad (dmixed (rowsAt DM t.val) (rowsAt U t.val)) a b) := by
  rw [outsAt0_B m c t h0 h1 h0 h1 h0 h1]; dsimp only; unfold out0_B_13; rw [View.read_writes_junk_eq_canon]; unfold kernelRun0_B; dsimp only
  rw [iblk_0 m c DM I.h0 t, iblk_1 m c U I.h1 t, iblk_9 m c t]
  refine (View.canon_unit_zero (by funext a; fin_cases a <;> rfl) _ _).trans ?_
  rw [hF]
  refine (congrArg₂ k0_pay160 (v693_A ..) (load_all (ms0_13 t) (hs0_13 t) _ _)).trans ?_
  simp only [k0_pay160, cast_same, addf_R2]
  rfl

theorem out14_A (I : Inp m c DM U Vv lw lb Ws bs) (t : Fin cfg0.N) (h0 : t.val % 8 = 0) (h1 : ¬1 ≤ t.val) :
    (outsAt0 m c t.val t.isLt).2.2.2.2.1 = R2 (φ := .f32) (m := 1) (n := 512) (fun a b => ∑ r ∈ Finset.range 512, (mixed (wmaskT Ws) (dmixed (rowsAt DM t.val) (rowsAt U t.val))) r b * hhat (gelF (rowsAt Vv t.val)) r b) := by
  rw [outsAt0_A m c t h0 h1 h0 h1 h0 h1]; dsimp only; unfold out0_A_14; rw [View.read_writes_junk_eq_canon]; unfold kernelRun0_A; dsimp only
  rw [iblk_0 m c DM I.h0 t, iblk_1 m c U I.h1 t, iblk_2 m c Vv I.h2 t, iblk_6 m c Ws I.h5 t, iblk_8 m c t]
  refine (View.canon_unit_zero (by funext a; fin_cases a <;> rfl) _ _).trans ?_
  refine (congrArg₂ k0_pay161 (v122_A ..) (v694_A ..)).trans ?_
  exact pay161_R _ _

theorem out14_B (I : Inp m c DM U Vv lw lb Ws bs) (t : Fin cfg0.N) (h0 : ¬t.val % 8 = 0) (h1 : 1 ≤ t.val) (F : ℕ → ℕ → ℝ) (hF : (outsAt0 m c (t.val - 1) (lt_of_le_of_lt (Nat.sub_le _ _) t.isLt)).2.2.2.2.1 = R2 (φ := .f32) F) :
    (outsAt0 m c t.val t.isLt).2.2.2.2.1 = R2 (φ := .f32) (m := 1) (n := 512) (fun a b => F a b + ∑ r ∈ Finset.range 512, (mixed (wmaskT Ws) (dmixed (rowsAt DM t.val) (rowsAt U t.val))) r b * hhat (gelF (rowsAt Vv t.val)) r b) := by
  rw [outsAt0_B m c t h0 h1 h0 h1 h0 h1]; dsimp only; unfold out0_B_14; rw [View.read_writes_junk_eq_canon]; unfold kernelRun0_B; dsimp only
  rw [iblk_0 m c DM I.h0 t, iblk_1 m c U I.h1 t, iblk_2 m c Vv I.h2 t, iblk_6 m c Ws I.h5 t, iblk_8 m c t]
  refine (View.canon_unit_zero (by funext a; fin_cases a <;> rfl) _ _).trans ?_
  rw [hF]
  refine (congr (congrArg₂ k0_pay162 (v122_A ..) (v694_A ..)) (load_all (ms0_14 t) (hs0_14 t) _ _)).trans ?_
  simp only [k0_pay162, cast_same]
  exact (congrArg (addf (R2 F)) (pay161_R _ _)).trans (addf_R2 _ _)

theorem out15_A (I : Inp m c DM U Vv lw lb Ws bs) (t : Fin cfg0.N) (h0 : t.val % 8 = 0) (h1 : ¬1 ≤ t.val) :
    (outsAt0 m c t.val t.isLt).2.2.2.2.2 = R2 (φ := .f32) (m := 1) (n := 512) (fun a b => ∑ r ∈ Finset.range 512, (mixed (wmaskT Ws) (dmixed (rowsAt DM t.val) (rowsAt U t.val))) r b) := by
  rw [outsAt0_A m c t h0 h1 h0 h1 h0 h1]; dsimp only; unfold out0_A_15; rw [View.read_writes_junk_eq_canon]; unfold kernelRun0_A; dsimp only
  rw [iblk_0 m c DM I.h0 t, iblk_1 m c U I.h1 t, iblk_6 m c Ws I.h5 t]
  refine (View.canon_unit_zero (by funext a; fin_cases a <;> rfl) _ _).trans ?_
  refine (congrArg k0_pay1 (v694_A ..)).trans ?_
  exact pay1_R _

theorem out15_B (I : Inp m c DM U Vv lw lb Ws bs) (t : Fin cfg0.N) (h0 : ¬t.val % 8 = 0) (h1 : 1 ≤ t.val) (F : ℕ → ℕ → ℝ) (hF : (outsAt0 m c (t.val - 1) (lt_of_le_of_lt (Nat.sub_le _ _) t.isLt)).2.2.2.2.2 = R2 (φ := .f32) F) :
    (outsAt0 m c t.val t.isLt).2.2.2.2.2 = R2 (φ := .f32) (m := 1) (n := 512) (fun a b => F a b + ∑ r ∈ Finset.range 512, (mixed (wmaskT Ws) (dmixed (rowsAt DM t.val) (rowsAt U t.val))) r b) := by
  rw [outsAt0_B m c t h0 h1 h0 h1 h0 h1]; dsimp only; unfold out0_B_15; rw [View.read_writes_junk_eq_canon]; unfold kernelRun0_B; dsimp only
  rw [iblk_0 m c DM I.h0 t, iblk_1 m c U I.h1 t, iblk_6 m c Ws I.h5 t]
  refine (View.canon_unit_zero (by funext a; fin_cases a <;> rfl) _ _).trans ?_
  rw [hF]
  refine (congrArg₂ k0_pay2 (v694_A ..) (load_all (ms0_15 t) (hs0_15 t) _ _)).trans ?_
  simp only [k0_pay2, cast_same]
  exact (congrArg (addf (R2 F)) (pay1_R _)).trans (addf_R2 _ _)

end Cert.Proof.RV

end
-- ==== Proof.Final.lean ====
/-
  The kernel's six results after its run, on real inputs: two arrays of 4096 rows, computed block by block, and four
  sums over the eight blocks.
-/
module

public import proofs.«01_k».proof.Proof.Outputs
public import proofs.«01_k».proof.Proof.Gen.KernelIdeal.Value
import Idealize.ShloMosaic.Lib.Pipeline.ValueKit

@[expose] public section

set_option maxRecDepth 16384

noncomputable section

namespace Cert.Proof.RV
open Idealize.ShloMosaic Cert.KernelIdeal Cert.KernelIdeal.Gen
open scoped BigOperators

variable {m : (ℓ : Loc nD τ sig) → Buf (Elt Ideal) ℓ} {c : Dev nD} {DM U Vv lw lb : ℕ → ℕ → ℝ} {Ws : ℕ → ℕ → ℕ → ℝ} {bs : ℕ → ℕ → ℝ}

theorem R3_congr {φ : FTy} {m n p : Nat} {f g : ℕ → ℕ → ℕ → ℝ} (h : ∀ a b c, a < m → b < n → c < p → f a b c = g a b c) :
    R3 (φ := φ) (m := m) (n := n) (p := p) f = R3 g := by
  funext i; exact congrArg _ (h _ _ _ (i 0).isLt (i 1).isLt (i 2).isLt)

/-- The last grid point. -/
abbrev t0_7 : Fin cfg0.N := ⟨7, by decide⟩

/-- A chunk lies within one block. -/
theorem mixed_rows (W : ℕ → ℕ → ℕ → ℝ) (x : ℕ → ℕ → ℝ) (t a b : ℕ) :
    mixed W (rowsAt x t) a b = mixed W x (512 * t + a) b := by
  have e1 : (512 * t + a) % 128 = a % 128 := by omega
  unfold mixed strip
  rw [e1]
  refine Finset.sum_congr rfl fun s _ => ?_
  have e2 : 512 * t + (128 * (a / 128) + s) = 128 * ((512 * t + a) / 128) + s := by omega
  show _ * x (512 * t + (128 * (a / 128) + s)) b = _
  rw [e2]

/-- The gradient of `u`. -/
def duF (DM U Vv lw lb : ℕ → ℕ → ℝ) (Ws : ℕ → ℕ → ℕ → ℝ) (bs : ℕ → ℕ → ℝ) (a b : ℕ) : ℝ :=
  DM a b * (mixed (wmask Ws) (hln (lane lw) (lane lb) (gelF Vv)) a b + bs (b / 64) (a % 128)) * dgel (U a b)
/-- The gradient of the normalized half. -/
def dvnF (DM U : ℕ → ℕ → ℝ) (Ws : ℕ → ℕ → ℕ → ℝ) (a b : ℕ) : ℝ := mixed (wmaskT Ws) (dmixed DM U) a b
/-- The gradient of `v`. -/
def dvF (DM U Vv lw : ℕ → ℕ → ℝ) (Ws : ℕ → ℕ → ℕ → ℝ) (a b : ℕ) : ℝ :=
  hrstd (gelF Vv) a b * (hcen (fun a b => dvnF DM U Ws a b * lane lw b) a b
    - hhat (gelF Vv) a b * hmean (fun a b => dvnF DM U Ws a b * lane lw b * hhat (gelF Vv) a b) a b) * dgel (Vv a b)

theorem point_zero (t : Fin cfg0.N) : (t.val % 8 = 0 ∧ ¬1 ≤ t.val) ∨ (¬t.val % 8 = 0 ∧ 1 ≤ t.val) := by
  have := point_lt t
  omega

theorem out10 (I : Inp m c DM U Vv lw lb Ws bs) (t : Fin cfg0.N) :
    (outsAt0 m c t.val t.isLt).1 = R2 (φ := .bf16) (m := 512) (n := 512) fun a b => duF DM U Vv lw lb Ws bs (512 * t.val + a) b := by
  have hv : ∀ a b, rowsAt DM t.val a b * (mixed (wmask Ws) (hln (lane lw) (lane lb) (gelF (rowsAt Vv t.val))) a b + bs (b / 64) (a % 128))
      * dgel (rowsAt U t.val a b) = duF DM U Vv lw lb Ws bs (512 * t.val + a) b := by
    intro a b
    have e1 : (512 * t.val + a) % 128 = a % 128 := by omega
    have e2 : mixed (wmask Ws) (hln (lane lw) (lane lb) (gelF (rowsAt Vv t.val))) a b
      = mixed (wmask Ws) (hln (lane lw) (lane lb) (gelF Vv)) (512 * t.val + a) b :=
      mixed_rows (wmask Ws) (hln (lane lw) (lane lb) (gelF Vv)) t.val a b
    rw [e2]; unfold duF; rw [e1]; rfl
  rcases point_zero t with h | h
  · exact (out10_A I t h.1 h.2).trans (R2_congr fun a b _ _ => hv a b)
  · exact (out10_B I t h.1 h.2).trans (R2_congr fun a b _ _ => hv a b)

theorem dvn_rows (t a b : ℕ) : mixed (wmaskT Ws) (dmixed (rowsAt DM t) (rowsAt U t)) a b = dvnF DM U Ws (512 * t + a) b :=
  mixed_rows (wmaskT Ws) (dmixed DM U) t a b

theorem out11 (I : Inp m c DM U Vv lw lb Ws bs) (t : Fin cfg0.N) :
    (outsAt0 m c t.val t.isLt).2.1 = R2 (φ := .bf16) (m := 512) (n := 512) fun a b => dvF DM U Vv lw Ws (512 * t.val + a) b := by
  rcases point_zero t with h | h
  · refine (out11_A I t h.1 h.2).trans (R2_congr fun a b _ _ => ?_)
    simp only [dvn_rows]; rfl
  · refine (out11_B I t h.1 h.2).trans (R2_congr fun a b _ _ => ?_)
    simp only [dvn_rows]; rfl

theorem final10 (I : Inp m c DM U Vv lw lb Ws bs) :
    (dats m 0 c).arrAt 10 cfg0.N = R2 (φ := .bf16) (m := 4096) (n := 512) (duF DM U Vv lw lb Ws bs) := by
  refine (dats m 0 c).arrAt_eq_of_covers 10 _ (by decide +kernel) fun t hf y => ?_
  blk_simp
  rw [after0_10, out10 I t]
  have h0 : ((((cfg0.win 10).blk t).view.emb y) 0).val = 512 * t.val + (y 0).val := by
    blk_simp [e10]; omega
  have h1 : ((((cfg0.win 10).blk t).view.emb y) 1).val = (y 1).val := by
    blk_simp [e10]
  show ((duF DM U Vv lw lb Ws bs (512 * t.val + (y 0).val) (y 1).val : ℝ) : EReal)
    = ((duF DM U Vv lw lb Ws bs ((((cfg0.win 10).blk t).view.emb y) 0).val ((((cfg0.win 10).blk t).view.emb y) 1).val : ℝ) : EReal)
  rw [h0, h1]

theorem final11 (I : Inp m c DM U Vv lw lb Ws bs) :
    (dats m 0 c).arrAt 11 cfg0.N = R2 (φ := .bf16) (m := 4096) (n := 512) (dvF DM U Vv lw Ws) := by
  refine (dats m 0 c).arrAt_eq_of_covers 11 _ (by decide +kernel) fun t hf y => ?_
  blk_simp
  rw [after0_11, out11 I t]
  have h0 : ((((cfg0.win 11).blk t).view.emb y) 0).val = 512 * t.val + (y 0).val := by
    blk_simp [e11]; omega
  have h1 : ((((cfg0.win 11).blk t).view.emb y) 1).val = (y 1).val := by
    blk_simp [e11]
  show ((dvF DM U Vv lw Ws (512 * t.val + (y 0).val) (y 1).val : ℝ) : EReal)
    = ((dvF DM U Vv lw Ws ((((cfg0.win 11).blk t).view.emb y) 0).val ((((cfg0.win 11).blk t).view.emb y) 1).val : ℝ) : EReal)
  rw [h0, h1]

theorem acc12 (I : Inp m c DM U Vv lw lb Ws bs) : ∀ (n : ℕ) (hn : n < cfg0.N),
    (outsAt0 m c n hn).2.2.1 = R3 (φ := .f32) (m := 8) (n := 128) (p := 128) fun h a b => ∑ t ∈ Finset.range (n + 1), headGrad (dmixed (rowsAt DM t) (rowsAt U t)) (hln (lane lw) (lane lb) (gelF (rowsAt Vv t))) (64 * h) a b
  | 0, hn => by
    refine (out12_A I ⟨0, hn⟩ rfl (Nat.not_succ_le_zero 0)).trans (R3_congr fun h a b _ _ _ => ?_)
    rw [Finset.sum_range_one]
  | n + 1, hn => by
    have ht := point_lt ⟨n + 1, hn⟩
    simp only at ht
    refine (out12_B I ⟨n + 1, hn⟩ (by simp only; omega) (by simp only; omega) _ (acc12 I n (by omega))).trans (R3_congr fun h a b _ _ _ => ?_)
    rw [Finset.sum_range_succ _ (n + 1)]

theorem final12 (I : Inp m c DM U Vv lw lb Ws bs) :
    (dats m 0 c).arrAt 12 cfg0.N = R3 (φ := .f32) (m := 8) (n := 128) (p := 128) fun h a b => ∑ t ∈ Finset.range 8, headGrad (dmixed (rowsAt DM t) (rowsAt U t)) (hln (lane lw) (lane lb) (gelF (rowsAt Vv t))) (64 * h) a b := by
  refine (dats m 0 c).arrAt_eq_of_after_last 12 t0_7 (by decide +kernel) _ fun j => ?_
  blk_simp
  rw [after0_12]
  exact congrFun (acc12 I 7 (by decide)) _

theorem acc13 (I : Inp m c DM U Vv lw lb Ws bs) : ∀ (n : ℕ) (hn : n < cfg0.N),
    (outsAt0 m c n hn).2.2.2.1 = R2 (φ := .f32) (m := 128) (n := 128) fun a b => ∑ t ∈ Finset.range (n + 1), biasGrad (dmixed (rowsAt DM t) (rowsAt U t)) a b
  | 0, hn => by
    refine (out13_A I ⟨0, hn⟩ rfl (Nat.not_succ_le_zero 0)).trans (R2_congr fun a b _ _ => ?_)
    rw [Finset.sum_range_one]
  | n + 1, hn => by
    have ht := point_lt ⟨n + 1, hn⟩
    simp only at ht
    refine (out13_B I ⟨n + 1, hn⟩ (by simp only; omega) (by simp only; omega) _ (acc13 I n (by omega))).trans (R2_congr fun a b _ _ => ?_)
    rw [Finset.sum_range_succ _ (n + 1)]

theorem final13 (I : Inp m c DM U Vv lw lb Ws bs) :
    (dats m 0 c).arrAt 13 cfg0.N = R2 (φ := .f32) (m := 128) (n := 128) fun a b => ∑ t ∈ Finset.range 8, biasGrad (dmixed (rowsAt DM t) (rowsAt U t)) a b := by
  refine (dats m 0 c).arrAt_eq_of_after_last 13 t0_7 (by decide +kernel) _ fun j => ?_
  blk_simp
  rw [after0_13]
  exact congrFun (acc13 I 7 (by decide)) _

theorem acc14 (I : Inp m c DM U Vv lw lb Ws bs) : ∀ (n : ℕ) (hn : n < cfg0.N),
    (outsAt0 m c n hn).2.2.2.2.1 = R2 (φ := .f32) (m := 1) (n := 512) fun _ b => ∑ t ∈ Finset.range (n + 1), ∑ r ∈ Finset.range 512, mixed (wmaskT Ws) (dmixed (rowsAt DM t) (rowsAt U t)) r b * hhat (gelF (rowsAt Vv t)) r b
  | 0, hn => by
    refine (out14_A I ⟨0, hn⟩ rfl (Nat.not_succ_le_zero 0)).trans (R2_congr fun a b _ _ => ?_)
    rw [Finset.sum_range_one]
  | n + 1, hn => by
    have ht := point_lt ⟨n + 1, hn⟩
    simp only at ht
    refine (out14_B I ⟨n + 1, hn⟩ (by simp only; omega) (by simp only; omega) _ (acc14 I n (by omega))).trans (R2_congr fun a b _ _ => ?_)
    rw [Finset.sum_range_succ _ (n + 1)]

theorem final14 (I : Inp m c DM U Vv lw lb Ws bs) :
    (dats m 0 c).arrAt 14 cfg0.N = R2 (φ := .f32) (m := 1) (n := 512) fun _ b => ∑ t ∈ Finset.range 8, ∑ r ∈ Finset.range 512, mixed (wmaskT Ws) (dmixed (rowsAt DM t) (rowsAt U t)) r b * hhat (gelF (rowsAt Vv t)) r b := by
  refine (dats m 0 c).arrAt_eq_of_after_last 14 t0_7 (by decide +kernel) _ fun j => ?_
  blk_simp
  rw [after0_14]
  exact congrFun (acc14 I 7 (by decide)) _

theorem acc15 (I : Inp m c DM U Vv lw lb Ws bs) : ∀ (n : ℕ) (hn : n < cfg0.N),
    (outsAt0 m c n hn).2.2.2.2.2 = R2 (φ := .f32) (m := 1) (n := 512) fun _ b => ∑ t ∈ Finset.range (n + 1), ∑ r ∈ Finset.range 512, mixed (wmaskT Ws) (dmixed (rowsAt DM t) (rowsAt U t)) r b
  | 0, hn => by
    refine (out15_A I ⟨0, hn⟩ rfl (Nat.not_succ_le_zero 0)).trans (R2_congr fun a b _ _ => ?_)
    rw [Finset.sum_range_one]
  | n + 1, hn => by
    have ht := point_lt ⟨n + 1, hn⟩
    simp only at ht
    refine (out15_B I ⟨n + 1, hn⟩ (by simp only; omega) (by simp only; omega) _ (acc15 I n (by omega))).trans (R2_congr fun a b _ _ => ?_)
    rw [Finset.sum_range_succ _ (n + 1)]

theorem final15 (I : Inp m c DM U Vv lw lb Ws bs) :
    (dats m 0 c).arrAt 15 cfg0.N = R2 (φ := .f32) (m := 1) (n := 512) fun _ b => ∑ t ∈ Finset.range 8, ∑ r ∈ Finset.range 512, mixed (wmaskT Ws) (dmixed (rowsAt DM t) (rowsAt U t)) r b := by
  refine (dats m 0 c).arrAt_eq_of_after_last 15 t0_7 (by decide +kernel) _ fun j => ?_
  blk_simp
  rw [after0_15]
  exact congrFun (acc15 I 7 (by decide)) _

end Cert.Proof.RV

end
-- ==== Proof.RefValue.lean ====
/-
  The buffers of the reference on real inputs, in program order.
-/
module

public import proofs.«01_k».proof.Proof.RefDots
public import proofs.«01_k».proof.Proof.Final
public import proofs.«01_k».proof.Proof.Gen.ReferenceIdeal.Read

@[expose] public section

set_option maxRecDepth 16384

noncomputable section

namespace Cert.Proof.RF
open Idealize.ShloMosaic Cert.Proof.RV Cert.ReferenceIdeal Cert.ReferenceIdeal.Gen Cert.ReferenceIdeal.Read
open scoped BigOperators

theorem G_congr {s : Shape} {r c : s.Idx → ℕ} {f g : ℕ → ℕ → ℝ} (h : ∀ a b, f a b = g a b) : G r c f = G r c g := by
  rw [show f = g from funext fun a => funext fun b => h a b]

/-- The arguments. -/
abbrev B0 (DM : ℕ → ℕ → ℝ) : FVec Ideal S4096x1024 .bf16 := R2 DM
abbrev B1 (U : ℕ → ℕ → ℝ) : FVec Ideal S4096x512 .bf16 := R2 U
abbrev B3 (w : ℕ → ℕ → ℝ) : FVec Ideal S8x64 .f32 := R2 w
abbrev B5 (Ws : ℕ → ℕ → ℕ → ℝ) : FVec Ideal S8x128x128 .f32 := R3 Ws
abbrev B6 (bs : ℕ → ℕ → ℝ) : FVec Ideal S8x128 .f32 := R2 bs

theorem splat3 {w : BitVec 32} {x : ℝ} (hw : Ideal.ofBits .f32 w = (x : EReal)) (h) :
    broadcastInDim S2x2048x512 ![] h (constant (F := Ideal) S_ .f32 w) = A3 fun _ _ => x := splat_G hw h
theorem splat1 {w : BitVec 32} {x : ℝ} (hw : Ideal.ofBits .f32 w = (x : EReal)) (h) :
    broadcastInDim S2x2048x8x1 ![] h (constant (F := Ideal) S_ .f32 w) = A4 (n := 1) fun _ _ => x := splat_G hw h
theorem splat4 {w : BitVec 32} {x : ℝ} (hw : Ideal.ofBits .f32 w = (x : EReal)) (h) :
    broadcastInDim S2x2048x8x64 ![] h (constant (F := Ideal) S_ .f32 w) = A4 (n := 64) fun _ _ => x := splat_G hw h

theorem cubic_0 (i : S_.Idx) : val_main_v0 (F := Ideal) i = ((8943 / 200000 : ℝ) : EReal) := by
  have h1 : Ideal.ofBits .f32 0x472EAB00#32 = ((44715 : ℝ) : EReal) := by
    simp [Ideal.ofBits, Ideal.ieee, -EReal.coe_mul]; norm_num
  have h2 : Ideal.ofBits .f32 0x49742400#32 = ((1000000 : ℝ) : EReal) := by
    simp [Ideal.ofBits, Ideal.ieee, -EReal.coe_mul]; norm_num
  show Ideal.div (Ideal.ofBits .f32 0x472EAB00#32) (Ideal.ofBits .f32 0x49742400#32) = _
  rw [h1, h2, Ideal.div_coe (by norm_num), ← EReal.coe_mul]
  norm_num

theorem p14 : val_main_v14 (F := Ideal) = A3 fun _ _ => 8943 / 200000 := by funext i; exact cubic_0 _
theorem p35 : val_main_v35 (F := Ideal) = A3 fun _ _ => 8943 / 200000 := by funext i; exact cubic_0 _

theorem mask_point (x : ℝ) (a b : ℕ) (ha : a < 128) (hb : b < 128) :
    Scalar.select (Scalar.select (IntOp.cmpi CmpIPredicate.sge (IntOp.addi (BitVec.ofNat 32 a) 0#32) (BitVec.ofNat 32 b)) 1#1 0#1)
      (x : EReal) 0 = ((x * (if b ≤ a then 1 else 0) : ℝ) : EReal) := by
  rw [select_ge_word a b (by omega) (by omega)]
  split_ifs
  · rw [mul_one]; rfl
  · rw [mul_zero]; rfl

theorem p4 (Ws : ℕ → ℕ → ℕ → ℝ) : val_main_v4 (F := Ideal) (B5 Ws) = R3 (φ := .f32) (wmask Ws) := by
  funext j
  idx_vars j
  unfold val_main_v4 val_main_call1_v0 val_main_v3 val_main_v2 val_main_call0_v4 val_main_v1 val_main_call0_v5 val_main_call0_v2
    val_main_call0_v0 val_main_call0_v1 val_main_call0_v3 val_main_c val_main_call0_c val_main_call0_c_0 val_main_call1_v1 val_main_cst_1
  pointwise [R3]
  refine (mask_point (Ws j0.val j1.val j2.val) j1.val j2.val j1.isLt j2.isLt).trans ?_
  rfl

section gelu
variable (U : ℕ → ℕ → ℝ)

theorem p6 : val_main_v6 (F := Ideal) (B1 U) = A3 U := by
  simp only [val_main_v6, val_main_v5, extf_R2, cast23]
theorem p19 : val_main_v19 (F := Ideal) (B1 U) = A3 fun a b => gth (U a b) := by
  simp only [val_main_v19, val_main_v18, val_main_v17, val_main_v16, val_main_v15, p14, val_main_v10, val_main_v9,
    val_main_cst_3, splat3 word_root, p6, mulf_G, addf_G, tanh_G]
  refine G_congr fun a b => congrArg Real.tanh ?_
  ring
theorem p28 : val_main_v28 (F := Ideal) (B1 U) = A3 fun a b => 1 / 2 * (1 + gth (U a b)) := by
  simp only [val_main_v28, val_main_v27, val_main_v26, val_main_v25, val_main_cst_6, val_main_cst_7, splat3 word_half, splat3 word_1, p19, mulf_G, addf_G]
theorem p29 : val_main_v29 (F := Ideal) (B1 U) = A3 fun a b => gel (U a b) := by
  simp only [val_main_v29, p28, p6, mulf_G]
  refine G_congr fun a b => ?_
  unfold gel; ring
theorem p24 : val_main_v24 (F := Ideal) (B1 U) = A3 fun a b => (1 + gth (U a b)) * (1 - gth (U a b)) := by
  simp only [val_main_v24, val_main_v23, val_main_v22, val_main_v21, val_main_v20, val_main_cst_4, val_main_cst_5, splat3 word_1, p19,
    mulf_G, addf_G, subf_G]
theorem p13 : val_main_v13 (F := Ideal) (B1 U) = A3 fun a b => 3 * (U a b * U a b) := by
  simp only [val_main_v13, val_main_v12, val_main_v11, val_main_cst_2, splat3 word_3, p6, mulf_G]

theorem p8 : val_main_v8 (F := Ideal) (B1 U) = A3 U := by
  simp only [val_main_v8, val_main_v7, extf_R2, cast23]
theorem p40 : val_main_v40 (F := Ideal) (B1 U) = A3 fun a b => gth (U a b) := by
  simp only [val_main_v40, val_main_v39, val_main_v38, val_main_v37, val_main_v36, p35, val_main_v31, val_main_v30,
    val_main_cst_9, splat3 word_root, p8, mulf_G, addf_G, tanh_G]
  refine G_congr fun a b => congrArg Real.tanh ?_
  ring
theorem p49 : val_main_v49 (F := Ideal) (B1 U) = A3 fun a b => 1 / 2 * (1 + gth (U a b)) := by
  simp only [val_main_v49, val_main_v48, val_main_v47, val_main_v46, val_main_cst_12, val_main_cst_13, splat3 word_half, splat3 word_1, p40, mulf_G, addf_G]
theorem p50 : val_main_v50 (F := Ideal) (B1 U) = A3 fun a b => gel (U a b) := by
  simp only [val_main_v50, p49, p8, mulf_G]
  refine G_congr fun a b => ?_
  unfold gel; ring
theorem p45 : val_main_v45 (F := Ideal) (B1 U) = A3 fun a b => (1 + gth (U a b)) * (1 - gth (U a b)) := by
  simp only [val_main_v45, val_main_v44, val_main_v43, val_main_v42, val_main_v41, val_main_cst_10, val_main_cst_11, splat3 word_1, p40,
    mulf_G, addf_G, subf_G]
theorem p34 : val_main_v34 (F := Ideal) (B1 U) = A3 fun a b => 3 * (U a b * U a b) := by
  simp only [val_main_v34, val_main_v33, val_main_v32, val_main_cst_8, splat3 word_3, p8, mulf_G]
end gelu

section norm
variable (V lw lb : ℕ → ℕ → ℝ)

theorem hmean_head (f : ℕ → ℕ → ℝ) (a b : ℕ) : hmean f a (64 * (b / 64)) = hmean f a b := by
  unfold hmean; rw [Nat.mul_div_cancel_left _ (by norm_num)]
theorem hrstd_head (f : ℕ → ℕ → ℝ) (a b : ℕ) : hrstd f a (64 * (b / 64)) = hrstd f a b := by
  unfold hrstd; rw [hmean_head]
theorem hmean_sum (f : ℕ → ℕ → ℝ) (a b : ℕ) : hsum f a b / 64 = hmean f a b := rfl

/-- The variance of a head, with the small number added. -/
def hvar (f : ℕ → ℕ → ℝ) (a c : ℕ) : ℝ := hmean (fun a c => hcen f a c * hcen f a c) a c + cEps
theorem hvar_pos (f : ℕ → ℕ → ℝ) (a c : ℕ) : 0 < hvar f a c := add_pos_of_nonneg_of_pos (hmean_nonneg _ _ _) cEps_pos
theorem hvar_head (f : ℕ → ℕ → ℝ) (a b : ℕ) : hvar f a (64 * (b / 64)) = hvar f a b := by
  unfold hvar; rw [hmean_head]

theorem n64 : ∀ _ _ : ℕ, (64 : ℝ) ≠ 0 := fun _ _ => by norm_num

theorem p51 : val_main_v51 (F := Ideal) (B1 V) = A4 (gelF V) := by
  simp only [val_main_v51, p50, cast34]; rfl
theorem p53 : val_main_v53 (F := Ideal) (B1 V) = A4 (hsum (gelF V)) := by
  unfold val_main_v53 val_main_v52 val_main_cst_14; rw [p51, redH]; exact bcastH1 _ _
theorem p55 : val_main_v55 (F := Ideal) (B1 V) = A4 (hmean (gelF V)) := by
  simp only [val_main_v55, val_main_v54, val_main_cst_15, p53, splat1 word_64, divf_G _ _ n64, hmean_sum]
/-- A number of each head, at each column of the head. -/
theorem p56 : val_main_v56 (F := Ideal) (B1 V) = A4 (hmean (gelF V)) := by
  unfold val_main_v56; rw [p55]; exact (bcast14 _ _).trans (G_congr fun a b => hmean_head _ a b)
theorem p65 : val_main_v65 (F := Ideal) (B1 V) = A4 (hmean (gelF V)) := by
  unfold val_main_v65; rw [p55]; exact (bcast14 _ _).trans (G_congr fun a b => hmean_head _ a b)
theorem p57 : val_main_v57 (F := Ideal) (B1 V) = A4 (hcen (gelF V)) := by
  simp only [val_main_v57, p51, p56, subf_G]; rfl
theorem p66 : val_main_v66 (F := Ideal) (B1 V) = A4 (hcen (gelF V)) := by
  simp only [val_main_v66, p51, p65, subf_G]; rfl
theorem p60 : val_main_v60 (F := Ideal) (B1 V) = A4 fun a b => 2 * hcen (gelF V) a b := by
  simp only [val_main_v60, val_main_v59, val_main_cst_16, p57, splat4 word_2, mulf_G]
theorem p62 : val_main_v62 (F := Ideal) (B1 V) = A4 (hsum fun a c => hcen (gelF V) a c * hcen (gelF V) a c) := by
  unfold val_main_v62 val_main_v61 val_main_v58 val_main_cst_17; rw [p57, mulf_G, redH]; exact bcastH1 _ _
theorem p68 : val_main_v68 (F := Ideal) (B1 V) = A4 (hvar (gelF V)) := by
  simp only [val_main_v68, val_main_v67, val_main_v64, val_main_v63, val_main_cst_18,
    val_main_cst_19, p62, splat1 word_64, splat1 word_eps, divf_G _ _ n64, hmean_sum, addf_G]
  rfl
theorem p69 : val_main_v69 (F := Ideal) (B1 V) = A4 (hrstd (gelF V)) := by
  simp only [val_main_v69, p68, rsqrt_G _ (hvar_pos _)]
  rfl
theorem p72 : val_main_v72 (F := Ideal) (B1 V) = A4 fun a b => -1 / 2 * (hrstd (gelF V) a b / hvar (gelF V) a b) := by
  simp only [val_main_v72, val_main_v71, val_main_v70, val_main_cst_20, p68, p69, splat1 word_neghalf,
    divf_G _ _ fun a b => (hvar_pos (gelF V) a b).ne', mulf_G]
theorem p73 : val_main_v73 (F := Ideal) (B1 V) = A4 (hrstd (gelF V)) := by
  unfold val_main_v73; rw [p69]; exact (bcast14 _ _).trans (G_congr fun a b => hrstd_head _ a b)
theorem p74 : val_main_v74 (F := Ideal) (B1 V) = A4 (hhat (gelF V)) := by
  simp only [val_main_v74, p66, p73, mulf_G]; rfl
theorem p76 : val_main_v76 (F := Ideal) (B3 lw) = A4 fun _ b => lane lw b := lane_4 lw _ _
theorem p79 : val_main_v79 (F := Ideal) (B3 lb) = A4 fun _ b => lane lb b := lane_4 lb _ _
theorem p111 : val_main_v111 (F := Ideal) (B3 lw) = A4 fun _ b => lane lw b := lane_4 lw _ _
theorem p80 : val_main_v80 (F := Ideal) (B1 V) (B3 lw) (B3 lb) = A4 (hln (lane lw) (lane lb) (gelF V)) := by
  simp only [val_main_v80, val_main_v77, p74, p76, p79, mulf_G, addf_G]; rfl
theorem p81 : val_main_v81 (F := Ideal) (B1 V) (B3 lw) (B3 lb) = A5 (hln (lane lw) (lane lb) (gelF V)) := by
  simp only [val_main_v81, p80, cast45]
theorem p117 : val_main_v117 (F := Ideal) (B1 V) = A4 (hrstd (gelF V)) := by
  unfold val_main_v117; rw [p69]; exact (bcast14 _ _).trans (G_congr fun a b => hrstd_head _ a b)
end norm

section mix
variable (DM U V lw lb : ℕ → ℕ → ℝ) (Ws : ℕ → ℕ → ℕ → ℝ) (bs : ℕ → ℕ → ℝ)

theorem p83 : val_main_v83 (F := Ideal) (B1 V) (B3 lw) (B3 lb) (B5 Ws)
    = A5 fun a b => mixed (wmask Ws) (hln (lane lw) (lane lb) (gelF V)) a b := by
  unfold val_main_v83 val_main_v82; rw [p81, p4, dot_mix]; exact transTA _ _
theorem p86 : val_main_v86 (F := Ideal) (B6 bs) = A5 fun a b => bs (b / 64) (a % 128) := bias_5 bs _ _ _
theorem p88 : val_main_v88 (F := Ideal) (B1 V) (B3 lw) (B3 lb) (B5 Ws) (B6 bs)
    = A3 fun a b => mixed (wmask Ws) (hln (lane lw) (lane lb) (gelF V)) a b + bs (b / 64) (a % 128) := by
  simp only [val_main_v88, val_main_v87, p83, p86, addf_G, cast53]
theorem p92 : val_main_v92 (F := Ideal) (B0 DM) = A3 DM := by
  simp only [val_main_v92, val_main_v91, val_main_v90, slice_0, extf_R2, cast23]
theorem p94 : val_main_v94 (F := Ideal) (B0 DM) (B1 V) (B3 lw) (B3 lb) (B5 Ws) (B6 bs)
    = A3 fun a b => DM a b * (mixed (wmask Ws) (hln (lane lw) (lane lb) (gelF V)) a b + bs (b / 64) (a % 128)) := by
  simp only [val_main_v94, p92, p88, mulf_G]
theorem p95 : val_main_v95 (F := Ideal) (B0 DM) (B1 U) = A5 (dmixed DM U) := by
  simp only [val_main_v95, val_main_v93, p29, p92, mulf_G, cast35]
  refine G_congr fun a b => ?_
  exact mul_comm _ _
theorem p100 : val_main_v100 (F := Ideal) (B0 DM) (B1 U) = T5 (dmixed DM U) := by
  unfold val_main_v100; rw [p95]; exact transAT _ _
theorem p103 : val_main_v103 (F := Ideal) (B0 DM) (B1 U) (B5 Ws) = A5 (dvnF DM U Ws) := by
  unfold val_main_v103 val_main_v102; rw [p100, p4, dot_mixT]; exact transTA _ _
theorem p104 : val_main_v104 (F := Ideal) (B0 DM) (B1 U) (B5 Ws) = A4 (dvnF DM U Ws) := by
  simp only [val_main_v104, p103, cast54]

theorem r101 : val_main_v101 (F := Ideal) (B0 DM) (B1 U) (B1 V) (B3 lw) (B3 lb)
    = R3 (φ := .f32) fun h t s => ∑ a ∈ Finset.range 2, ∑ c ∈ Finset.range 16, ∑ p ∈ Finset.range 64,
        dmixed DM U (2048 * a + 128 * c + t) (64 * h + p) * hln (lane lw) (lane lb) (gelF V) (2048 * a + 128 * c + s) (64 * h + p) := by
  simp only [val_main_v101, p100, p81, dot_grad]
theorem r168 : val_main_v168 (F := Ideal) (B0 DM) (B1 U)
    = R2 (φ := .f32) fun t h => if h < 8 then ∑ a ∈ Finset.range 2, ∑ c ∈ Finset.range 16, ∑ p ∈ Finset.range 64,
        dmixed DM U (2048 * a + 128 * c + t) (64 * h + p) else 0 := by
  unfold val_main_v168 val_main_v167 val_main_v99 val_main_v98 val_main_v97 val_main_v96 val_main_cst_21 val_main_cst_22
  rw [p95, red014, red014_unit]
  refine Eq.trans (congrArg (fun x => pad S128x128 ![0, 0] ![0, 120] ![0, 0] x (val_main_call2_v0 (F := Ideal)) pads_S128x8_S128x128_000_01200 h_S_)
    (trans_trans _ _ _)) (pad_R2 _ _ (fun i => ?_) _ _)
  show (((0#32 : BitVec 32).toInt : ℝ) : EReal) = ((0 : ℝ) : EReal)
  simp
theorem r169 : val_main_v169 (F := Ideal) (B0 DM) (B1 U) (B1 V) (B5 Ws)
    = R2 (φ := .f32) fun _ b => ∑ a ∈ Finset.range 2, ∑ l ∈ Finset.range 2048,
        hhat (gelF V) (2048 * a + l) (64 * (b / 64) + b % 64) * dvnF DM U Ws (2048 * a + l) (64 * (b / 64) + b % 64) := by
  simp only [val_main_v169, val_main_v113, val_main_v110, val_main_v109, val_main_v108, val_main_cst_25, val_main_cst_26, p74, p104, mulf_G,
    red01, red01_unit, cast_lane]
theorem r170 : val_main_v170 (F := Ideal) (B0 DM) (B1 U) (B5 Ws)
    = R2 (φ := .f32) fun _ b => ∑ a ∈ Finset.range 2, ∑ l ∈ Finset.range 2048,
        dvnF DM U Ws (2048 * a + l) (64 * (b / 64) + b % 64) := by
  simp only [val_main_v170, val_main_v107, val_main_v106, val_main_v105, val_main_cst_23, val_main_cst_24, p104, red01, red01_unit, cast_lane]
end mix

end Cert.Proof.RF
-- ==== Proof.RefBack.lean ====
/-
  The reference's chain back through the normalization and the gelu on real inputs.
-/
module

public import proofs.«01_k».proof.Proof.RefValue

@[expose] public section

set_option maxRecDepth 16384

noncomputable section

namespace Cert.Proof.RF
open Idealize.ShloMosaic Cert.Proof.RV Cert.ReferenceIdeal Cert.ReferenceIdeal.Gen Cert.ReferenceIdeal.Read
open scoped BigOperators

/-! A number of the head is the same at each of the head's columns. -/

theorem in_head (c : ℕ) {k : ℕ} (hk : k < 64) : (64 * (c / 64) + k) / 64 = c / 64 := by omega
theorem hmean_in (f : ℕ → ℕ → ℝ) (a c : ℕ) {k : ℕ} (hk : k < 64) : hmean f a (64 * (c / 64) + k) = hmean f a c := by
  unfold hmean; rw [in_head c hk]
theorem hsum_in (f : ℕ → ℕ → ℝ) (a c : ℕ) {k : ℕ} (hk : k < 64) : hsum f a (64 * (c / 64) + k) = hsum f a c := by
  unfold hsum; rw [in_head c hk]
theorem hrstd_in (f : ℕ → ℕ → ℝ) (a c : ℕ) {k : ℕ} (hk : k < 64) : hrstd f a (64 * (c / 64) + k) = hrstd f a c := by
  unfold hrstd; rw [hmean_in _ a c hk]
theorem hvar_in (f : ℕ → ℕ → ℝ) (a c : ℕ) {k : ℕ} (hk : k < 64) : hvar f a (64 * (c / 64) + k) = hvar f a c := by
  unfold hvar; rw [hmean_in _ a c hk]

theorem hsum_smul (f g : ℕ → ℕ → ℝ) (a c : ℕ) (hg : ∀ k < 64, g a (64 * (c / 64) + k) = g a c) :
    hsum (fun a b => f a b * g a b) a c = hsum f a c * g a c := by
  unfold hsum
  rw [Finset.sum_mul]
  exact Finset.sum_congr rfl fun k hk => congrArg _ (hg k (Finset.mem_range.mp hk))
theorem hsum_neg (f : ℕ → ℕ → ℝ) (a c : ℕ) : hsum (fun a b => -f a b) a c = -hsum f a c := by
  unfold hsum; rw [Finset.sum_neg_distrib]
theorem hsum_cen (f : ℕ → ℕ → ℝ) (a c : ℕ) : hsum (hcen f) a c = 0 := by
  have h : ∀ k ∈ Finset.range 64, hcen f a (64 * (c / 64) + k) = f a (64 * (c / 64) + k) - hmean f a c := fun k hk => by
    unfold hcen; rw [hmean_in f a c (Finset.mem_range.mp hk)]
  unfold hsum
  rw [Finset.sum_congr rfl h, Finset.sum_sub_distrib, Finset.sum_const, Finset.card_range]
  unfold hmean
  simp only [nsmul_eq_mul]
  push_cast
  ring
theorem hrstd_sq (f : ℕ → ℕ → ℝ) (a c : ℕ) : hrstd f a c * hrstd f a c = 1 / hvar f a c := by
  show (Real.sqrt (hvar f a c))⁻¹ * (Real.sqrt (hvar f a c))⁻¹ = _
  rw [← mul_inv, Real.mul_self_sqrt (hvar_pos f a c).le, one_div]

/-- The first part of the way back: what the reference adds from the variance. -/
def viaVar (f D : ℕ → ℕ → ℝ) (a b : ℕ) : ℝ :=
  hsum (fun a b => hcen f a b * D a b) a b * (-1 / 2 * (hrstd f a b / hvar f a b)) / 64 * (2 * hcen f a b)

theorem viaVar_sum (f D : ℕ → ℕ → ℝ) (a b : ℕ) : hsum (fun a b => -viaVar f D a b) a b = 0 := by
  have h : viaVar f D = fun a b => hcen f a b *
      (hsum (fun a b => hcen f a b * D a b) a b * (-1 / 2 * (hrstd f a b / hvar f a b)) / 64 * 2) := by
    funext a b; unfold viaVar; ring
  rw [hsum_neg, h, hsum_smul (hcen f) (fun a b => hsum (fun a b => hcen f a b * D a b) a b * (-1 / 2 * (hrstd f a b / hvar f a b)) / 64 * 2)
    a b fun k hk => by rw [hsum_in _ a b hk, hrstd_in _ a b hk, hvar_in _ a b hk], hsum_cen, zero_mul, neg_zero]

/-- The reference's sum is the usual formula for the gradient of a normalization. -/
theorem norm_back (f D : ℕ → ℕ → ℝ) (a b : ℕ) :
    D a b * hrstd f a b + viaVar f D a b
        + (hsum (fun a b => -(D a b * hrstd f a b)) a b + hsum (fun a b => -viaVar f D a b) a b) / 64
      = hrstd f a b * (hcen D a b - hhat f a b * hmean (fun a b => D a b * hhat f a b) a b) := by
  have h1 : hmean (fun a b => D a b * hhat f a b) a b = hsum (fun a b => hcen f a b * D a b) a b * hrstd f a b / 64 := by
    rw [← hmean_sum, ← hsum_smul (fun a b => hcen f a b * D a b) (hrstd f) a b fun k hk => hrstd_in f a b hk]
    have : (fun a b => D a b * hhat f a b) = fun a b => hcen f a b * D a b * hrstd f a b := by
      funext a b; unfold hhat; ring
    rw [this]
  rw [viaVar_sum, hsum_neg, hsum_smul D (hrstd f) a b fun k hk => hrstd_in f a b hk, h1]
  have h2 : hrstd f a b / hvar f a b = hrstd f a b * (hrstd f a b * hrstd f a b) := by
    rw [hrstd_sq]; ring
  unfold viaVar hcen hhat
  rw [h2, ← hmean_sum D]
  unfold hcen
  ring

/-- The reference's gradient of the gelu. -/
theorem gelu_back (x g : ℝ) :
    g * (1 / 2 * (1 + gth x)) + cRoot * (1 / 2 * (x * g) * ((1 + gth x) * (1 - gth x)))
        + 8943 / 200000 * (cRoot * (1 / 2 * (x * g) * ((1 + gth x) * (1 - gth x)))) * (3 * (x * x))
      = g * dgel x := by
  unfold dgel; ring

section back
variable (DM U V lw lb : ℕ → ℕ → ℝ) (Ws : ℕ → ℕ → ℕ → ℝ) (bs : ℕ → ℕ → ℝ)

/-- The gradient of the normalized half. -/
def dhat (a b : ℕ) : ℝ := dvnF DM U Ws a b * lane lw b

theorem p112 : val_main_v112 (F := Ideal) (B0 DM) (B1 U) (B3 lw) (B5 Ws) = A4 (dhat DM U lw Ws) := by
  simp only [val_main_v112, p104, p111, mulf_G]; rfl
theorem p116 : val_main_v116 (F := Ideal) (B0 DM) (B1 U) (B1 V) (B3 lw) (B5 Ws)
    = A4 (hsum fun a b => hcen (gelF V) a b * dhat DM U lw Ws a b) := by
  unfold val_main_v116 val_main_v115 val_main_v114 val_main_cst_27; rw [p66, p112, mulf_G, redH]; exact castH1 _ _
theorem p118 : val_main_v118 (F := Ideal) (B0 DM) (B1 U) (B1 V) (B3 lw) (B5 Ws)
    = A4 fun a b => dhat DM U lw Ws a b * hrstd (gelF V) a b := by
  simp only [val_main_v118, p112, p117, mulf_G]
theorem p122 : val_main_v122 (F := Ideal) (B0 DM) (B1 U) (B1 V) (B3 lw) (B5 Ws)
    = A4 (hsum fun a b => -(dhat DM U lw Ws a b * hrstd (gelF V) a b)) := by
  unfold val_main_v122 val_main_v121 val_main_v120 val_main_cst_28; rw [p118, negf_G, redH]; exact castH1 _ _
theorem p124 : val_main_v124 (F := Ideal) (B0 DM) (B1 U) (B1 V) (B3 lw) (B5 Ws)
    = A4 (n := 1) fun a b => hsum (fun a b => hcen (gelF V) a b * dhat DM U lw Ws a b) a b
        * (-1 / 2 * (hrstd (gelF V) a b / hvar (gelF V) a b)) / 64 := by
  simp only [val_main_v124, val_main_v123, val_main_cst_29, val_main_v119, p116, p72, splat1 word_64, mulf_G, divf_G _ _ n64]
theorem p126 : val_main_v126 (F := Ideal) (B0 DM) (B1 U) (B1 V) (B3 lw) (B5 Ws)
    = A4 (n := 64) fun a b => hsum (fun a b => hcen (gelF V) a b * dhat DM U lw Ws a b) a b
        * (-1 / 2 * (hrstd (gelF V) a b / hvar (gelF V) a b)) / 64 := by
  unfold val_main_v126 val_main_v125 val_main_cst_30; rw [p124, redH1]
  exact (bcastH4 _ _).trans (G_congr fun a b => by rw [hsum_head, hrstd_head, hvar_head])
theorem p127 : val_main_v127 (F := Ideal) (B0 DM) (B1 U) (B1 V) (B3 lw) (B5 Ws) = A4 (viaVar (gelF V) (dhat DM U lw Ws)) := by
  simp only [val_main_v127, p126, p60, mulf_G]; rfl
theorem p130 : val_main_v130 (F := Ideal) (B0 DM) (B1 U) (B1 V) (B3 lw) (B5 Ws)
    = A4 (hsum fun a b => -viaVar (gelF V) (dhat DM U lw Ws) a b) := by
  unfold val_main_v130 val_main_v129 val_main_v128 val_main_cst_31; rw [p127, negf_G, redH]; exact castH1 _ _
theorem p134 : val_main_v134 (F := Ideal) (B0 DM) (B1 U) (B1 V) (B3 lw) (B5 Ws)
    = A4 (n := 1) fun a b => (hsum (fun a b => -(dhat DM U lw Ws a b * hrstd (gelF V) a b)) a b
        + hsum (fun a b => -viaVar (gelF V) (dhat DM U lw Ws) a b) a b) / 64 := by
  simp only [val_main_v134, val_main_v133, val_main_cst_32, val_main_v132, p122, p130, splat1 word_64, addf_G, divf_G _ _ n64]
theorem p136 : val_main_v136 (F := Ideal) (B0 DM) (B1 U) (B1 V) (B3 lw) (B5 Ws)
    = A4 (n := 64) fun a b => (hsum (fun a b => -(dhat DM U lw Ws a b * hrstd (gelF V) a b)) a b
        + hsum (fun a b => -viaVar (gelF V) (dhat DM U lw Ws) a b) a b) / 64 := by
  unfold val_main_v136 val_main_v135 val_main_cst_33; rw [p134, redH1]
  exact (bcastH4 _ _).trans (G_congr fun a b => by rw [hsum_head, hsum_head])

/-- The gradient of the second half after its gelu. -/
def dgelV (a b : ℕ) : ℝ :=
  hrstd (gelF V) a b * (hcen (dhat DM U lw Ws) a b
    - hhat (gelF V) a b * hmean (fun a b => dhat DM U lw Ws a b * hhat (gelF V) a b) a b)

theorem p138 : val_main_v138 (F := Ideal) (B0 DM) (B1 U) (B1 V) (B3 lw) (B5 Ws) = A3 (dgelV DM U V lw Ws) := by
  simp only [val_main_v138, val_main_v137, val_main_v131, p118, p127, p136, addf_G, cast43]
  exact G_congr fun a b => norm_back _ _ a b
theorem p150 : val_main_v150 (F := Ideal) (B0 DM) (B1 U) (B1 V) (B3 lw) (B5 Ws)
    = A3 fun a b => dgelV DM U V lw Ws a b * dgel (V a b) := by
  have h : val_main_v147 (F := Ideal) = A3 fun _ _ => 8943 / 200000 := by funext i; exact cubic_0 _
  simp only [val_main_v150, val_main_v149, val_main_v148, val_main_v146, val_main_v145, val_main_v144, val_main_v143, val_main_v142,
    val_main_v141, val_main_v140, val_main_v139, val_main_cst_34, val_main_cst_35, h, p138, p8, p49, p45, p34,
    splat3 word_half, splat3 word_root, mulf_G, addf_G]
  exact G_congr fun a b => gelu_back _ _
theorem p162 : val_main_v162 (F := Ideal) (B0 DM) (B1 U) (B1 V) (B3 lw) (B3 lb) (B5 Ws) (B6 bs)
    = A3 (duF DM U V lw lb Ws bs) := by
  have h : val_main_v159 (F := Ideal) = A3 fun _ _ => 8943 / 200000 := by funext i; exact cubic_0 _
  simp only [val_main_v162, val_main_v161, val_main_v160, val_main_v158, val_main_v157, val_main_v156, val_main_v155, val_main_v154,
    val_main_v153, val_main_v152, val_main_v151, val_main_cst_36, val_main_cst_37, h, p94, p6, p28, p24, p13,
    splat3 word_half, splat3 word_root, mulf_G, addf_G]
  exact G_congr fun a b => gelu_back _ _

theorem r164 : val_main_v164 (F := Ideal) (B0 DM) (B1 U) (B1 V) (B3 lw) (B3 lb) (B5 Ws) (B6 bs)
    = R2 (φ := .bf16) (duF DM U V lw lb Ws bs) := by
  simp only [val_main_v164, val_main_v163, p162, cast32]; rfl
theorem r166 : val_main_v166 (F := Ideal) (B0 DM) (B1 U) (B1 V) (B3 lw) (B5 Ws) = R2 (φ := .bf16) (dvF DM U V lw Ws) := by
  simp only [val_main_v166, val_main_v165, p150, cast32]; rfl
end back

end Cert.Proof.RF
-- ==== Proof.Match.lean ====
/-
  The reference's sums over the rows, regrouped as the kernel's.
-/
module

public import proofs.«01_k».proof.Proof.RefBack

@[expose] public section

noncomputable section

namespace Cert.Proof.RF
open Idealize.ShloMosaic Cert.Proof.RV
open scoped BigOperators

/-- Two sequences of sixteen chunks of rows are eight blocks of four. -/
theorem chunks_sum (F : ℕ → ℝ) :
    (∑ a ∈ Finset.range 2, ∑ c ∈ Finset.range 16, F (2048 * a + 128 * c))
      = ∑ t ∈ Finset.range 8, (F (512 * t + 0) + F (512 * t + 128) + F (512 * t + 256) + F (512 * t + 384)) := by
  simp only [Finset.sum_range_succ, Finset.sum_range_zero]
  norm_num
  ring

/-- Two sequences of 2048 rows are eight blocks of 512. -/
theorem rows_sum (F : ℕ → ℝ) :
    (∑ a ∈ Finset.range 2, ∑ l ∈ Finset.range 2048, F (2048 * a + l))
      = ∑ t ∈ Finset.range 8, ∑ r ∈ Finset.range 512, F (512 * t + r) := by
  have h : ∀ n, (∑ l ∈ Finset.range 2048, F (n + l)) = (∑ r ∈ Finset.range 512, F (n + r)) + (∑ r ∈ Finset.range 512, F (n + 512 + r))
      + (∑ r ∈ Finset.range 512, F (n + 1024 + r)) + ∑ r ∈ Finset.range 512, F (n + 1536 + r) := fun n => by
    rw [show (2048 : ℕ) = 512 + 512 + 512 + 512 from rfl, Finset.sum_range_add, Finset.sum_range_add, Finset.sum_range_add]
    simp only [Nat.add_assoc]
    simp only [← Nat.add_assoc, Nat.reduceAdd]
  simp only [h]
  rw [Finset.sum_range_succ, Finset.sum_range_succ, Finset.sum_range_zero, zero_add]
  simp only [Finset.sum_range_succ _ 7, Finset.sum_range_succ _ 6, Finset.sum_range_succ _ 5, Finset.sum_range_succ _ 4,
    Finset.sum_range_succ _ 3, Finset.sum_range_succ _ 2, Finset.sum_range_succ _ 1, Finset.sum_range_succ _ 0, Finset.sum_range_zero]
  norm_num
  ring

section sums
variable (DM U V lw lb : ℕ → ℕ → ℝ) (Ws : ℕ → ℕ → ℕ → ℝ)

theorem weight_sum (h t s : ℕ) :
    (∑ a ∈ Finset.range 2, ∑ c ∈ Finset.range 16, ∑ p ∈ Finset.range 64,
        dmixed DM U (2048 * a + 128 * c + t) (64 * h + p) * hln (lane lw) (lane lb) (gelF V) (2048 * a + 128 * c + s) (64 * h + p))
      = ∑ u ∈ Finset.range 8, headGrad (dmixed (rowsAt DM u) (rowsAt U u)) (hln (lane lw) (lane lb) (gelF (rowsAt V u))) (64 * h) t s := by
  refine (chunks_sum fun r => ∑ p ∈ Finset.range 64, dmixed DM U (r + t) (64 * h + p)
    * hln (lane lw) (lane lb) (gelF V) (r + s) (64 * h + p)).trans (Finset.sum_congr rfl fun u _ => ?_)
  unfold headGrad
  simp only [Nat.add_assoc]
  rfl

theorem bias_sum (t h : ℕ) :
    (if h < 8 then ∑ a ∈ Finset.range 2, ∑ c ∈ Finset.range 16, ∑ p ∈ Finset.range 64,
        dmixed DM U (2048 * a + 128 * c + t) (64 * h + p) else 0)
      = ∑ u ∈ Finset.range 8, biasGrad (dmixed (rowsAt DM u) (rowsAt U u)) t h := by
  unfold biasGrad
  split_ifs with hh
  · refine (chunks_sum fun r => ∑ p ∈ Finset.range 64, dmixed DM U (r + t) (64 * h + p)).trans (Finset.sum_congr rfl fun u _ => ?_)
    simp only [sum_exp _ h hh, Nat.add_assoc, zero_add]
    rfl
  · simp only [sum_exp_out _ h (not_lt.mp hh), add_zero, Finset.sum_const_zero]

theorem lane_idx (b : ℕ) : 64 * (b / 64) + b % 64 = b := Nat.div_add_mod b 64

theorem scale_sum (b : ℕ) :
    (∑ a ∈ Finset.range 2, ∑ l ∈ Finset.range 2048,
        hhat (gelF V) (2048 * a + l) (64 * (b / 64) + b % 64) * dvnF DM U Ws (2048 * a + l) (64 * (b / 64) + b % 64))
      = ∑ t ∈ Finset.range 8, ∑ r ∈ Finset.range 512, mixed (wmaskT Ws) (dmixed (rowsAt DM t) (rowsAt U t)) r b
          * hhat (gelF (rowsAt V t)) r b := by
  simp only [lane_idx, dvn_rows]
  refine (rows_sum fun r => hhat (gelF V) r b * dvnF DM U Ws r b).trans (Finset.sum_congr rfl fun t _ => Finset.sum_congr rfl fun r _ => ?_)
  exact mul_comm _ _

theorem shift_sum (b : ℕ) :
    (∑ a ∈ Finset.range 2, ∑ l ∈ Finset.range 2048, dvnF DM U Ws (2048 * a + l) (64 * (b / 64) + b % 64))
      = ∑ t ∈ Finset.range 8, ∑ r ∈ Finset.range 512, mixed (wmaskT Ws) (dmixed (rowsAt DM t) (rowsAt U t)) r b := by
  simp only [lane_idx, dvn_rows]
  exact rows_sum fun r => dvnF DM U Ws r b
end sums

end Cert.Proof.RF
-- ==== Proof.Finite.lean ====
/-
  What the precondition says: every element of every argument is a real number.
-/
module

public import proofs.«01_k».proof.Defs
public import proofs.«01_k».proof.Proof.Outputs
public import Idealize.ShloMosaic.Lib.ReduceAll
public import Idealize.ShloMosaic.Lib.Affine

@[expose] public section

noncomputable section

namespace Cert.Proof.Finite
open Idealize.ShloMosaic Cert.Pre_finite Cert.Pre_finite.Facts

/-- The precondition's side conditions. -/
theorem facts : Cert.Pre_finite.Facts where
  bitsLt_bf16_f32 := by decide
  bcast_S_S4096x1024 := by decide
  reducesTo_S4096x1024_S_d0_1 := by decide
  h_S_ := by decide
  bcast_S_S4096x512 := by decide
  reducesTo_S4096x512_S_d0_1 := by decide
  bcast_S_S8x64 := by decide
  reducesTo_S8x64_S_d0_1 := by decide
  bcast_S_S8x128x128 := by decide
  reducesTo_S8x128x128_S_d0_1_2 := by decide
  bcast_S_S8x128 := by decide
  reducesTo_S8x128_S_d0_1 := by decide

/-- A number whose absolute value is below infinity is real. -/
theorem real_of_lt (x : EReal) (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x with
  | bot => simp [Ideal.cmp] at h
  | top => simp [Ideal.cmp] at h
  | coe r => exact ⟨r, rfl⟩

instance : Subsingleton S_.Idx := ⟨fun a b => funext fun i => i.elim0⟩

/-- An array all of whose elements pass the test is of real numbers. -/
theorem all_real {s : Shape} {axes : List (Fin s.rank)} (x : FVec Ideal s .f32) (hb hr hu) (j : S_.Idx)
    (h : Host.reduce IntOp.andi (cmpf .olt (Host.absf x) (broadcastInDim s ![] hb (constant (F := Ideal) S_ .f32 0x7F800000#32)))
      (constantI S_ 1 1#1) (axes := axes) (t := S_) hr hu j = 1#1) (i : s.Idx) : ∃ r : ℝ, x i = (r : EReal) :=
  real_of_lt (x i) (Host.reduce_andi_all _ _ hr hu j h i)

theorem R2_of_real {φ : FTy} {m n : ℕ} (x : FVec Ideal ⟨2, ![m, n]⟩ φ) (h : ∀ i, ∃ r : ℝ, x i = (r : EReal)) :
    ∃ f : ℕ → ℕ → ℝ, x = RV.R2 (φ := φ) f := by
  choose g hg using h
  refine ⟨fun a b => if hab : a < m ∧ b < n then g (ix2 ⟨a, hab.1⟩ ⟨b, hab.2⟩) else 0, ?_⟩
  funext i
  rw [hg]
  show ((g i : ℝ) : EReal) = ((if hab : (i 0).val < m ∧ (i 1).val < n then g (ix2 ⟨(i 0).val, hab.1⟩ ⟨(i 1).val, hab.2⟩) else 0 : ℝ) : EReal)
  rw [dif_pos (⟨(i 0).isLt, (i 1).isLt⟩ : (i 0).val < m ∧ (i 1).val < n)]
  refine congrArg (fun k => ((g k : ℝ) : EReal)) (funext fun k => ?_)
  match k with
  | ⟨0, _⟩ => rfl
  | ⟨1, _⟩ => rfl

theorem R3_of_real {φ : FTy} {m n p : ℕ} (x : FVec Ideal ⟨3, ![m, n, p]⟩ φ) (h : ∀ i, ∃ r : ℝ, x i = (r : EReal)) :
    ∃ f : ℕ → ℕ → ℕ → ℝ, x = RV.R3 (φ := φ) f := by
  choose g hg using h
  refine ⟨fun a b c => if hab : a < m ∧ b < n ∧ c < p then g (ix3 ⟨a, hab.1⟩ ⟨b, hab.2.1⟩ ⟨c, hab.2.2⟩) else 0, ?_⟩
  funext i
  rw [hg]
  show ((g i : ℝ) : EReal) = ((if hab : (i 0).val < m ∧ (i 1).val < n ∧ (i 2).val < p then
    g (ix3 ⟨(i 0).val, hab.1⟩ ⟨(i 1).val, hab.2.1⟩ ⟨(i 2).val, hab.2.2⟩) else 0 : ℝ) : EReal)
  rw [dif_pos (⟨(i 0).isLt, (i 1).isLt, (i 2).isLt⟩ : (i 0).val < m ∧ (i 1).val < n ∧ (i 2).val < p)]
  refine congrArg (fun k => ((g k : ℝ) : EReal)) (funext fun k => ?_)
  match k with
  | ⟨0, _⟩ => rfl
  | ⟨1, _⟩ => rfl
  | ⟨2, _⟩ => rfl

theorem fn_real (x0 : FVec Ideal S4096x1024 .bf16) (x1 x2 : FVec Ideal S4096x512 .bf16) (x3 x4 : FVec Ideal S8x64 .f32)
    (x5 : FVec Ideal S8x128x128 .f32) (x6 : FVec Ideal S8x128 .f32)
    (h : @Cert.Pre_finite.fn facts Ideal _ x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ ∀ i, ∃ r : ℝ, x6 i = (r : EReal) := by
  have j : S_.Idx := fun i => i.elim0
  have e := congrFun h j
  dsimp only [fn, fn_part1, fn_part2] at e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨all_real (extf .f32 x0 (by decide)) _ _ _ j e0, all_real (extf .f32 x1 (by decide)) _ _ _ j e1,
    all_real (extf .f32 x2 (by decide)) _ _ _ j e2,
    all_real x3 _ _ _ j e3, all_real x4 _ _ _ j e4, all_real x5 _ _ _ j e5, all_real x6 _ _ _ j e6⟩

open Cert.KernelIdeal in
/-- Under the precondition the arguments are arrays of real numbers. -/
theorem inp (m : (ℓ : Loc nD τ sig) → Buf (Elt Ideal) ℓ) (hpre : Cert.Pre_KernelIdeal_finite (hPre_finite := facts) m) (c : Dev nD) :
    ∃ DM U V lw lb Ws bs, RV.Inp m c DM U V lw lb Ws bs := by
  obtain ⟨h0, h1, h2, h3, h4, h5, h6⟩ := fn_real _ _ _ _ _ _ _ (hpre c)
  obtain ⟨DM, h0⟩ := R2_of_real _ h0
  obtain ⟨U, h1⟩ := R2_of_real _ h1
  obtain ⟨V, h2⟩ := R2_of_real _ h2
  obtain ⟨lw, h3⟩ := R2_of_real _ h3
  obtain ⟨lb, h4⟩ := R2_of_real _ h4
  obtain ⟨Ws, h5⟩ := R3_of_real _ h5
  obtain ⟨bs, h6⟩ := R2_of_real _ h6
  exact ⟨DM, U, V, lw, lb, Ws, bs, ⟨h0, h1, h2, h3, h4, h5, h6⟩⟩

end Cert.Proof.Finite
-- ==== Proof.MlpHidden.lean ====
/-
  The gradient of the perceptron's hidden layer: what the kernel's call leaves, and the reference's value.
-/
module

public import proofs.«01_k».proof.Proof.Gen.Kernel2Ideal.Value
public import proofs.«01_k».proof.Proof.Gen.Reference2Ideal.Run
public import proofs.«01_k».proof.Proof.Gen.Reference2Ideal.Read
public import proofs.«01_k».proof.Defs
public import Idealize.ShloMosaic.Lib.StableHlo.ReadAt
import Idealize.ShloMosaic.Lib.Pipeline.ValueKit

@[expose] public section

set_option maxRecDepth 16384

noncomputable section

namespace Cert.Proof.Hidden
open Idealize.ShloMosaic Idealize.SL.Sem Cert.Kernel2Ideal Cert.Kernel2Ideal.Gen
open scoped BigOperators

variable (m : (ℓ : Loc nD τ sig) → Buf (Elt Ideal) ℓ) (c : Dev nD)

theorem e0 : ∀ t : Fin cfg0.N, win0_0.index t = ![t.val % 4, 0] := (by decide +kernel : ∀ t : Fin grid0.N, _)
theorem e1 : ∀ t : Fin cfg0.N, win0_1.index t = ![t.val / 4, 0] := (by decide +kernel : ∀ t : Fin grid0.N, _)
theorem e2 : ∀ t : Fin cfg0.N, win0_2.index t = ![t.val % 4, t.val / 4] := (by decide +kernel : ∀ t : Fin grid0.N, _)
theorem e3 : ∀ t : Fin cfg0.N, win0_3.index t = ![t.val % 4, t.val / 4] := (by decide +kernel : ∀ t : Fin grid0.N, _)

theorem point_lt (t : Fin cfg0.N) : t.val < 8 := lt_of_lt_of_eq t.isLt (by decide)

theorem two : Ideal.ofBits FTy.f32 1073741824#32 = ((2 : ℝ) : EReal) := by
  simp [Ideal.ofBits, Ideal.ieee, -EReal.coe_mul]; norm_num

/-- What the body stores, at an index. -/
theorem out_apply (x0 : Vec Ideal S1024x1024 .bf16) (x1 : Vec Ideal S2048x1024 .bf16) (x2 : Vec Ideal S1024x2048 .bf16) (a : Fin 1024) (b : Fin 2048) :
    out0_3 (F := Ideal) x0 x1 x2 (ix2 a b) = (∑ k : Fin 1024, x0 (ix2 a k) * x1 (ix2 b k)) * (((2 : ℝ) : EReal) * x2 (ix2 a b)) := by
  unfold out0_3
  rw [View.canon_unit_zero (by funext a; fin_cases a <;> rfl)]
  pointwise [k0_pay1, two]

/-- The preactivations, at an index. -/
def pre (x0 : Vec Ideal S4096x1024 .bf16) (x1 : Vec Ideal S1024x4096 .bf16) (a b : Fin 4096) : EReal :=
  ∑ k : Fin 1024, x0 (ix2 a k) * x1 (ix2 k b)

/-- The activations that the host prepares. -/
theorem act_apply (x0 : Vec Ideal S4096x1024 .bf16) (x1 : Vec Ideal S1024x4096 .bf16)
    (h0 : m ((c.tc : Thread nD τ).loc main_arg0) = x0) (h1 : m ((c.tc : Thread nD τ).loc main_arg1) = x1) (a b : Fin 4096) :
    V m c main_v3 (ix2 a b) = max (pre x0 x1 a b) 0 := by
  subst h0 h1
  unfold V
  after_reads_at
  rfl

/-- The reference's value, at an index. -/
theorem ref_apply (x0 : Vec Ideal S4096x1024 .bf16) (x1 : Vec Ideal S1024x4096 .bf16) (x2 x3 : Vec Ideal S4096x1024 .bf16) (a b : Fin 4096) :
    Cert.Reference2Ideal.Read.val_main_v17 (F := Ideal) x0 x1 x2 x3 (ix2 a b)
      = (∑ k : Fin 1024, x3 (ix2 a k) * x2 (ix2 b k)) * (((2 : ℝ) : EReal) * max (pre x0 x1 a b) 0) := by
  unfold pre
  pointwise [Cert.Reference2Ideal.Read.val_main_v17, Cert.Reference2Ideal.Read.val_main_v16, Cert.Reference2Ideal.Read.val_main_v15,
    Cert.Reference2Ideal.Read.val_main_v14, Cert.Reference2Ideal.Read.val_main_v13, Cert.Reference2Ideal.Read.val_main_v11,
    Cert.Reference2Ideal.Read.val_main_v10, Cert.Reference2Ideal.Read.val_main_v7, Cert.Reference2Ideal.Read.val_main_v6,
    Cert.Reference2Ideal.Read.val_main_v5, Cert.Reference2Ideal.Read.val_main_v4, Cert.Reference2Ideal.Read.val_main_v3,
    Cert.Reference2Ideal.Read.val_main_v2, Cert.Reference2Ideal.Read.val_main_v1, Cert.Reference2Ideal.Read.val_main_v0,
    Cert.Reference2Ideal.Read.val_main_cst, Cert.Reference2Ideal.Read.val_main_cst_1, Cert.Reference2Ideal.Read.val_main_cst_2,
    Cert.Reference2Ideal.Read.val_main_call0_v0, Cert.Reference2Ideal.Read.val_main_call0_cst, two]
  split_ifs with h
  · rfl
  · rw [max_eq_right (not_lt.1 h), mul_zero, mul_zero]

theorem blk_0 (X : Buf (Elt Ideal) ((c.tc : Thread nD τ).loc main_arg3)) (t : Fin cfg0.N) (j : S1024x1024.Idx) (ha) (hb) :
    (((cfg0.win 0).blk t).view.read (Elt Ideal) X) j = X (ix2 ⟨1024 * (t.val % 4) + (j 0).val, ha⟩ ⟨(j 1).val, hb⟩) := by
  blk_ext [e0]
theorem blk_1 (X : Buf (Elt Ideal) ((c.tc : Thread nD τ).loc main_arg2)) (t : Fin cfg0.N) (j : S2048x1024.Idx) (ha) (hb) :
    (((cfg0.win 1).blk t).view.read (Elt Ideal) X) j = X (ix2 ⟨2048 * (t.val / 4) + (j 0).val, ha⟩ ⟨(j 1).val, hb⟩) := by
  blk_ext [e1]
theorem blk_2 (X : Buf (Elt Ideal) ((c.tc : Thread nD τ).loc main_v3)) (t : Fin cfg0.N) (j : S1024x2048.Idx) (ha) (hb) :
    (((cfg0.win 2).blk t).view.read (Elt Ideal) X) j = X (ix2 ⟨1024 * (t.val % 4) + (j 0).val, ha⟩ ⟨2048 * (t.val / 4) + (j 1).val, hb⟩) := by
  blk_ext [e2]

theorem ib_0 (x3 : Vec Ideal S4096x1024 .bf16) (h : m ((c.tc : Thread nD τ).loc main_arg3) = x3) (t : Fin cfg0.N) (a k : Fin 1024) (ha) :
    iblk m c 0 t (ix2 a k) = x3 (ix2 ⟨1024 * (t.val % 4) + a.val, ha⟩ k) := by
  rw [← V_main_arg3 m c] at h
  exact (blk_0 c (V m c main_arg3) t (ix2 a k) ha k.isLt).trans (congrFun h _)
theorem ib_1 (x2 : Vec Ideal S4096x1024 .bf16) (h : m ((c.tc : Thread nD τ).loc main_arg2) = x2) (t : Fin cfg0.N) (a : Fin 2048) (k : Fin 1024) (ha) :
    iblk m c 1 t (ix2 a k) = x2 (ix2 ⟨2048 * (t.val / 4) + a.val, ha⟩ k) := by
  rw [← V_main_arg2 m c] at h
  exact (blk_1 c (V m c main_arg2) t (ix2 a k) ha k.isLt).trans (congrFun h _)
theorem ib_2 (x0 : Vec Ideal S4096x1024 .bf16) (x1 : Vec Ideal S1024x4096 .bf16)
    (h0 : m ((c.tc : Thread nD τ).loc main_arg0) = x0) (h1 : m ((c.tc : Thread nD τ).loc main_arg1) = x1) (t : Fin cfg0.N) (a : Fin 1024) (b : Fin 2048) (ha) (hb) :
    iblk m c 2 t (ix2 a b) = max (pre x0 x1 ⟨1024 * (t.val % 4) + a.val, ha⟩ ⟨2048 * (t.val / 4) + b.val, hb⟩) 0 :=
  (blk_2 c (V m c main_v3) t (ix2 a b) ha hb).trans (act_apply m c x0 x1 h0 h1 _ _)

/-- The call leaves the reference's value. -/
theorem final (x0 : Vec Ideal S4096x1024 .bf16) (x1 : Vec Ideal S1024x4096 .bf16) (x2 x3 : Vec Ideal S4096x1024 .bf16)
    (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3) :
    (dats m 0 c).arrAt 3 cfg0.N = Cert.Reference2Ideal.Read.val_main_v17 (F := Ideal) x0 x1 x2 x3 := by
  refine (dats m 0 c).arrAt_eq_of_covers 3 _ (by decide +kernel) fun t hf y => ?_
  have ht := point_lt t
  have hy0 : (y 0).val < 1024 := (y 0).isLt
  have hy1 : (y 1).val < 2048 := (y 1).isLt
  have g0 : ((((cfg0.win 3).blk t).view.emb y) 0).val = 1024 * (t.val % 4) + (y 0).val := by
    blk_simp [e3]; omega
  have g1 : ((((cfg0.win 3).blk t).view.emb y) 1).val = 2048 * (t.val / 4) + (y 1).val := by
    blk_simp [e3]; omega
  have he : (((cfg0.win 3).blk t).view.emb y) = ix2 (⟨1024 * (t.val % 4) + (y 0).val, by omega⟩ : Fin 4096) (⟨2048 * (t.val / 4) + (y 1).val, by omega⟩ : Fin 4096) := by
    funext a
    match a with
    | ⟨0, _⟩ => exact Fin.ext g0
    | ⟨1, _⟩ => exact Fin.ext g1
  have hy : y = ix2 (⟨(y 0).val, hy0⟩ : Fin 1024) (⟨(y 1).val, hy1⟩ : Fin 2048) := by
    funext a
    match a with
    | ⟨0, _⟩ => rfl
    | ⟨1, _⟩ => rfl
  rw [he]
  refine Eq.trans ?_ (ref_apply x0 x1 x2 x3 _ _).symm
  blk_simp
  rw [after0_3]
  refine (congrArg (out0_3 (iblk m c 0 t) (iblk m c 1 t) (iblk m c 2 t)) hy).trans ((out_apply _ _ _ _ _).trans ?_)
  rw [ib_2 m c x0 x1 h0 h1 t _ _ (by dsimp only; omega) (by dsimp only; omega)]
  refine congrArg (· * _) (Finset.sum_congr rfl fun k _ => ?_)
  rw [ib_0 m c x3 h3 t _ _ (by dsimp only; omega), ib_1 m c x2 h2 t _ _ (by dsimp only; omega)]

/-- The reference's run keeps its arguments and ends quiet. -/
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The kernel's result is the reference's. -/
theorem algebraic : Cert.algebraic_Kernel2Ideal_Reference2Ideal := by
  intro m ρ m' ρ' _ hagree
  refine ⟨fun c => Cert.Reference2Ideal.Read.val_main_v17 (F := Ideal) (m ((c.tc : Thread nD τ).loc main_arg0)) (m ((c.tc : Thread nD τ).loc main_arg1)) (m ((c.tc : Thread nD τ).loc main_arg2)) (m ((c.tc : Thread nD τ).loc main_arg3)), ?_, ?_⟩
  · refine (θ_run Cert.Kernel2Ideal.defs _ _).mono (fun r h c => ?_) (Cert.Kernel2Ideal.Value.run_blocks (F := Ideal) m ρ)
    obtain ⟨h0, hk⟩ := h c
    exact ⟨h0.trans (final m c _ _ _ _ rfl rfl rfl rfl), hk⟩
  · refine (θ_run Cert.Reference2Ideal.defs _ _).mono (fun r h c => ?_) (Cert.Reference2Ideal.Value.run (F := Ideal) m' ρ')
    obtain ⟨h0, hk⟩ := h c
    obtain ⟨g0, g1, g2, g3⟩ := hagree c
    refine ⟨h0.trans ((Cert.Reference2Ideal.Read.val_main_v17_eq _ _ _ _).trans ?_), hk⟩
    rw [g0, g1, g2, g3]

end Cert.Proof.Hidden

end
-- ==== Proof.WgradDown.lean ====
/-
  The gradient of the perceptron's second weights: what the kernel's call leaves, and the reference's value.
-/
module

public import proofs.«01_k».proof.Proof.Gen.Kernel3Ideal.Value
public import proofs.«01_k».proof.Proof.Gen.Reference3Ideal.Run
public import proofs.«01_k».proof.Proof.Gen.Reference3Ideal.Read
public import proofs.«01_k».proof.Defs
public import Idealize.ShloMosaic.Lib.StableHlo.ReadAt
import Idealize.ShloMosaic.Lib.Pipeline.ValueKit

@[expose] public section

set_option maxRecDepth 16384

noncomputable section

namespace Cert.Proof.Down
open Idealize.ShloMosaic Idealize.SL.Sem Cert.Kernel3Ideal Cert.Kernel3Ideal.Gen
open scoped BigOperators

variable (m : (ℓ : Loc nD τ sig) → Buf (Elt Ideal) ℓ) (c : Dev nD)

theorem e0 : ∀ t : Fin cfg0.N, win0_0.index t = ![0, t.val] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem point_lt (t : Fin cfg0.N) : t.val < 8 := lt_of_lt_of_eq t.isLt (by decide)

/-- What the body stores, at an index. -/
theorem out_apply (x0 : Vec Ideal S4096x512 .bf16) (x1 : Vec Ideal S4096x1024 .bf16) (a : Fin 512) (b : Fin 1024) :
    k0_pay1 (F := Ideal) x0 x1 (ix2 a b) = ∑ k : Fin 4096, x0 (ix2 k a) * x0 (ix2 k a) * x1 (ix2 k b) := by
  pointwise [k0_pay1]

theorem outs (t : Fin cfg0.N) : outsAt0 m c t = k0_pay1 (iblk m c 0 t) (iblk m c 1 t) := by
  unfold outsAt0 out0_A_2
  rw [View.read_writes_junk_eq_canon]
  unfold kernelRun0_A
  dsimp only
  refine (View.canon_unit_zero (by funext a; fin_cases a <;> rfl) _ _).trans ?_
  rw [View.readAt_eq_ld, View.readAt_eq_ld, Memref.IsWhole.read_unread, Memref.IsWhole.read_unread]
  rw [View.ld_unit_zero (by funext a; fin_cases a <;> rfl), View.ld_unit_zero (by funext a; fin_cases a <;> rfl)]

/-- The preactivations, at an index. -/
def pre (x0 : Vec Ideal S4096x1024 .bf16) (x1 : Vec Ideal S1024x4096 .bf16) (a b : Fin 4096) : EReal :=
  ∑ k : Fin 1024, x0 (ix2 a k) * x1 (ix2 k b)

/-- The activations that the host prepares. -/
theorem act_apply (x0 : Vec Ideal S4096x1024 .bf16) (x1 : Vec Ideal S1024x4096 .bf16)
    (h0 : m ((c.tc : Thread nD τ).loc main_arg0) = x0) (h1 : m ((c.tc : Thread nD τ).loc main_arg1) = x1) (a b : Fin 4096) :
    V m c main_v3 (ix2 a b) = max (pre x0 x1 a b) 0 := by
  subst h0 h1
  unfold V
  after_reads_at
  rfl

/-- The reference's value, at an index. -/
theorem ref_apply (x0 : Vec Ideal S4096x1024 .bf16) (x1 : Vec Ideal S1024x4096 .bf16) (x2 : Vec Ideal S4096x1024 .bf16) (a : Fin 4096) (b : Fin 1024) :
    Cert.Reference3Ideal.Read.val_main_v10 (F := Ideal) x0 x1 x2 (ix2 a b)
      = ∑ k : Fin 4096, x2 (ix2 k b) * (max (pre x0 x1 k a) 0 * max (pre x0 x1 k a) 0) := by
  unfold pre
  pointwise [Cert.Reference3Ideal.Read.val_main_v10, Cert.Reference3Ideal.Read.val_main_v9, Cert.Reference3Ideal.Read.val_main_v8,
    Cert.Reference3Ideal.Read.val_main_v6,
    Cert.Reference3Ideal.Read.val_main_v5, Cert.Reference3Ideal.Read.val_main_v4,
    Cert.Reference3Ideal.Read.val_main_v2, Cert.Reference3Ideal.Read.val_main_v1, Cert.Reference3Ideal.Read.val_main_v0,
    Cert.Reference3Ideal.Read.val_main_call0_v0, Cert.Reference3Ideal.Read.val_main_call0_cst]

theorem blk_0 (X : Buf (Elt Ideal) ((c.tc : Thread nD τ).loc main_v3)) (t : Fin cfg0.N) (j : S4096x512.Idx) (ha) (hb) :
    (((cfg0.win 0).blk t).view.read (Elt Ideal) X) j = X (ix2 ⟨(j 0).val, ha⟩ ⟨512 * t.val + (j 1).val, hb⟩) := by
  blk_ext [e0]
theorem blk_1 (X : Buf (Elt Ideal) ((c.tc : Thread nD τ).loc main_arg2)) (t : Fin cfg0.N) :
    (((cfg0.win 1).blk t).view.read (Elt Ideal) X) = X := by
  funext j
  blk_ext [e1]

theorem ib_0 (x0 : Vec Ideal S4096x1024 .bf16) (x1 : Vec Ideal S1024x4096 .bf16)
    (h0 : m ((c.tc : Thread nD τ).loc main_arg0) = x0) (h1 : m ((c.tc : Thread nD τ).loc main_arg1) = x1) (t : Fin cfg0.N) (a : Fin 4096) (b : Fin 512) (hb) :
    iblk m c 0 t (ix2 a b) = max (pre x0 x1 a ⟨512 * t.val + b.val, hb⟩) 0 :=
  (blk_0 c (V m c main_v3) t (ix2 a b) a.isLt hb).trans (act_apply m c x0 x1 h0 h1 _ _)
theorem ib_1 (x2 : Vec Ideal S4096x1024 .bf16) (h : m ((c.tc : Thread nD τ).loc main_arg2) = x2) (t : Fin cfg0.N) :
    iblk m c 1 t = x2 := by
  rw [← V_main_arg2 m c] at h
  exact (blk_1 c (V m c main_arg2) t).trans h

/-- The call leaves the reference's value. -/
theorem final (x0 : Vec Ideal S4096x1024 .bf16) (x1 : Vec Ideal S1024x4096 .bf16) (x2 : Vec Ideal S4096x1024 .bf16)
    (h0 : m ((c.tc : Thread nD τ).loc main_arg0) = x0) (h1 : m ((c.tc : Thread nD τ).loc main_arg1) = x1)
    (h2 : m ((c.tc : Thread nD τ).loc main_arg2) = x2) :
    (dats m 0 c).arrAt 2 cfg0.N = Cert.Reference3Ideal.Read.val_main_v10 (F := Ideal) x0 x1 x2 := by
  refine (dats m 0 c).arrAt_eq_of_covers 2 _ (by decide +kernel) fun t hf y => ?_
  have ht := point_lt t
  have hy0 : (y 0).val < 512 := (y 0).isLt
  have hy1 : (y 1).val < 1024 := (y 1).isLt
  have g0 : ((((cfg0.win 2).blk t).view.emb y) 0).val = 512 * t.val + (y 0).val := by
    blk_simp [e2]; omega
  have g1 : ((((cfg0.win 2).blk t).view.emb y) 1).val = (y 1).val := by
    blk_simp [e2]
  have he : (((cfg0.win 2).blk t).view.emb y) = ix2 (⟨512 * t.val + (y 0).val, by omega⟩ : Fin 4096) (⟨(y 1).val, hy1⟩ : Fin 1024) := by
    funext a
    match a with
    | ⟨0, _⟩ => exact Fin.ext g0
    | ⟨1, _⟩ => exact Fin.ext g1
  have hy : y = ix2 (⟨(y 0).val, hy0⟩ : Fin 512) (⟨(y 1).val, hy1⟩ : Fin 1024) := by
    funext a
    match a with
    | ⟨0, _⟩ => rfl
    | ⟨1, _⟩ => rfl
  rw [he]
  refine Eq.trans ?_ (ref_apply x0 x1 x2 _ _).symm
  blk_simp
  rw [after0_2, outs m c t]
  refine (congrArg (k0_pay1 (iblk m c 0 t) (iblk m c 1 t)) hy).trans ((out_apply _ _ _ _).trans ?_)
  refine Finset.sum_congr rfl fun k _ => ?_
  rw [ib_0 m c x0 x1 h0 h1 t _ _ (by dsimp only; omega), ib_1 m c x2 h2 t, mul_comm]

/-- The reference's run keeps its arguments and ends quiet. -/
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The kernel's result is the reference's. -/
theorem algebraic : Cert.algebraic_Kernel3Ideal_Reference3Ideal := by
  intro m ρ m' ρ' _ hagree
  refine ⟨fun c => Cert.Reference3Ideal.Read.val_main_v10 (F := Ideal) (m ((c.tc : Thread nD τ).loc main_arg0)) (m ((c.tc : Thread nD τ).loc main_arg1)) (m ((c.tc : Thread nD τ).loc main_arg2)), ?_, ?_⟩
  · refine (θ_run Cert.Kernel3Ideal.defs _ _).mono (fun r h c => ?_) (Cert.Kernel3Ideal.Value.run_blocks (F := Ideal) m ρ)
    obtain ⟨h0, hk⟩ := h c
    exact ⟨h0.trans (final m c _ _ _ rfl rfl rfl), hk⟩
  · refine (θ_run Cert.Reference3Ideal.defs _ _).mono (fun r h c => ?_) (Cert.Reference3Ideal.Value.run (F := Ideal) m' ρ')
    obtain ⟨h0, hk⟩ := h c
    obtain ⟨g0, g1, g2⟩ := hagree c
    refine ⟨h0.trans ((Cert.Reference3Ideal.Read.val_main_v10_eq _ _ _).trans ?_), hk⟩
    rw [g0, g1, g2]

end Cert.Proof.Down

end
-- ==== Proof.WgradUp.lean ====
/-
  The gradient of the perceptron's first weights: what the kernel's call leaves, and the reference's value.
-/
module

public import proofs.«01_k».proof.Proof.Gen.Kernel4Ideal.Value
public import proofs.«01_k».proof.Proof.Gen.Reference4Ideal.Run
public import proofs.«01_k».proof.Proof.Gen.Reference4Ideal.Read
public import proofs.«01_k».proof.Defs
public import Idealize.ShloMosaic.Lib.StableHlo.ReadAt
import Idealize.ShloMosaic.Lib.Pipeline.ValueKit

@[expose] public section

set_option maxRecDepth 16384

noncomputable section

namespace Cert.Proof.Up
open Idealize.ShloMosaic Idealize.SL.Sem Cert.Kernel4Ideal Cert.Kernel4Ideal.Gen
open scoped BigOperators

variable (m : (ℓ : Loc nD τ sig) → Buf (Elt Ideal) ℓ) (c : Dev nD)

theorem e0 : ∀ t : Fin cfg0.N, win0_0.index t = ![0, 0] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![t.val, 0, 0] := (by decide +kernel : ∀ t : Fin grid0.N, _)

theorem point_lt (t : Fin cfg0.N) : t.val < 8 := lt_of_lt_of_eq t.isLt (by decide)

/-- What the body stores, at an index. -/
theorem out_apply (x0 : Vec Ideal S4096x1024 .bf16) (x1 : Vec Ideal S4096x512 .bf16) (p : Fin 1) (a : Fin 1024) (b : Fin 512) :
    k0_pay1 (F := Ideal) x0 x1 (ix3 p a b) = ∑ k : Fin 4096, x0 (ix2 k a) * x1 (ix2 k b) := by
  pointwise [k0_pay1]

theorem outs (t : Fin cfg0.N) : outsAt0 m c t = k0_pay1 (iblk m c 0 t) (iblk m c 1 t) := by
  unfold outsAt0 out0_A_2
  rw [View.read_writes_junk_eq_canon]
  unfold kernelRun0_A
  dsimp only
  refine (View.canon_unit_zero (by funext a; fin_cases a <;> rfl) _ _).trans ?_
  rw [View.readAt_eq_ld, View.readAt_eq_ld, Memref.IsWhole.read_unread, Memref.IsWhole.read_unread]
  rw [View.ld_unit_zero (by funext a; fin_cases a <;> rfl), View.ld_unit_zero (by funext a; fin_cases a <;> rfl)]

/-- The reference's value, at an index. -/
theorem ref_apply (x0 : Vec Ideal S4096x1024 .bf16) (x1 : Vec Ideal S4096x4096 .bf16) (p : Fin 8) (a : Fin 1024) (b : Fin 512) :
    Cert.Reference4Ideal.Read.val_main_v8 (F := Ideal) x0 x1 (ix3 p a b)
      = ∑ k : Fin 4096, x1 (ix2 k ⟨p.val * 512 + b.val, by omega⟩) * x0 (ix2 k a) := by
  pointwise [Cert.Reference4Ideal.Read.val_main_v8, Cert.Reference4Ideal.Read.val_main_v7, Cert.Reference4Ideal.Read.val_main_v6,
    Cert.Reference4Ideal.Read.val_main_v5, Cert.Reference4Ideal.Read.val_main_v4,
    Cert.Reference4Ideal.Read.val_main_v1, Cert.Reference4Ideal.Read.val_main_v0]

theorem blk_0 (X : Buf (Elt Ideal) ((c.tc : Thread nD τ).loc main_arg0)) (t : Fin cfg0.N) :
    (((cfg0.win 0).blk t).view.read (Elt Ideal) X) = X := by
  funext j
  blk_ext [e0]
theorem blk_1 (X : Buf (Elt Ideal) ((c.tc : Thread nD τ).loc main_arg1)) (t : Fin cfg0.N) (j : S4096x512.Idx) (ha) (hb) :
    (((cfg0.win 1).blk t).view.read (Elt Ideal) X) j = X (ix2 ⟨(j 0).val, ha⟩ ⟨512 * t.val + (j 1).val, hb⟩) := by
  blk_ext [e1]

theorem ib_0 (x0 : Vec Ideal S4096x1024 .bf16) (h : m ((c.tc : Thread nD τ).loc main_arg0) = x0) (t : Fin cfg0.N) :
    iblk m c 0 t = x0 := by
  rw [← V_main_arg0 m c] at h
  exact (blk_0 c (V m c main_arg0) t).trans h
theorem ib_1 (x1 : Vec Ideal S4096x4096 .bf16) (h : m ((c.tc : Thread nD τ).loc main_arg1) = x1) (t : Fin cfg0.N) (a : Fin 4096) (b : Fin 512) (hb) :
    iblk m c 1 t (ix2 a b) = x1 (ix2 a ⟨512 * t.val + b.val, hb⟩) := by
  rw [← V_main_arg1 m c] at h
  exact (blk_1 c (V m c main_arg1) t (ix2 a b) a.isLt hb).trans (congrFun h _)

/-- The call leaves the reference's value. -/
theorem final (x0 : Vec Ideal S4096x1024 .bf16) (x1 : Vec Ideal S4096x4096 .bf16)
    (h0 : m ((c.tc : Thread nD τ).loc main_arg0) = x0) (h1 : m ((c.tc : Thread nD τ).loc main_arg1) = x1) :
    (dats m 0 c).arrAt 2 cfg0.N = Cert.Reference4Ideal.Read.val_main_v8 (F := Ideal) x0 x1 := by
  refine (dats m 0 c).arrAt_eq_of_covers 2 _ (by decide +kernel) fun t hf y => ?_
  have ht := point_lt t
  have hy0 : (y 0).val < 1 := (y 0).isLt
  have hy1 : (y 1).val < 1024 := (y 1).isLt
  have hy2 : (y 2).val < 512 := (y 2).isLt
  have g0 : ((((cfg0.win 2).blk t).view.emb y) 0).val = t.val := by
    blk_simp [e2]
  have g1 : ((((cfg0.win 2).blk t).view.emb y) 1).val = (y 1).val := by
    blk_simp [e2]
  have g2 : ((((cfg0.win 2).blk t).view.emb y) 2).val = (y 2).val := by
    blk_simp [e2]
  have he : (((cfg0.win 2).blk t).view.emb y) = ix3 (⟨t.val, ht⟩ : Fin 8) (⟨(y 1).val, hy1⟩ : Fin 1024) (⟨(y 2).val, hy2⟩ : Fin 512) := by
    funext a
    match a with
    | ⟨0, _⟩ => exact Fin.ext g0
    | ⟨1, _⟩ => exact Fin.ext g1
    | ⟨2, _⟩ => exact Fin.ext g2
  have hy : y = ix3 (⟨(y 0).val, hy0⟩ : Fin 1) (⟨(y 1).val, hy1⟩ : Fin 1024) (⟨(y 2).val, hy2⟩ : Fin 512) := by
    funext a
    match a with
    | ⟨0, _⟩ => rfl
    | ⟨1, _⟩ => rfl
    | ⟨2, _⟩ => rfl
  rw [he]
  refine Eq.trans ?_ (ref_apply x0 x1 _ _ _).symm
  blk_simp
  rw [after0_2, outs m c t]
  refine (congrArg (k0_pay1 (iblk m c 0 t) (iblk m c 1 t)) hy).trans ((out_apply _ _ _ _ _).trans ?_)
  refine Finset.sum_congr rfl fun k _ => ?_
  rw [ib_1 m c x1 h1 t _ _ (by dsimp only; omega), ib_0 m c x0 h0 t, mul_comm]
  congr 3
  exact Fin.ext (congrArg (· + (y 2).val) (Nat.mul_comm 512 t.val))

/-- The reference's run keeps its arguments and ends quiet. -/
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The kernel's result is the reference's. -/
theorem algebraic : Cert.algebraic_Kernel4Ideal_Reference4Ideal := by
  intro m ρ m' ρ' _ hagree
  refine ⟨fun c => Cert.Reference4Ideal.Read.val_main_v8 (F := Ideal) (m ((c.tc : Thread nD τ).loc main_arg0)) (m ((c.tc : Thread nD τ).loc main_arg1)), ?_, ?_⟩
  · refine (θ_run Cert.Kernel4Ideal.defs _ _).mono (fun r h c => ?_) (Cert.Kernel4Ideal.Value.run_blocks (F := Ideal) m ρ)
    obtain ⟨h0, hk⟩ := h c
    exact ⟨h0.trans (final m c _ _ rfl rfl), hk⟩
  · refine (θ_run Cert.Reference4Ideal.defs _ _).mono (fun r h c => ?_) (Cert.Reference4Ideal.Value.run (F := Ideal) m' ρ')
    obtain ⟨h0, hk⟩ := h c
    obtain ⟨g0, g1⟩ := hagree c
    refine ⟨h0.trans ((Cert.Reference4Ideal.Read.val_main_v8_eq _ _).trans ?_), hk⟩
    rw [g0, g1]

end Cert.Proof.Up

end
-- ==== Proof.RmsBack.lean ====
/-
  The derivative of the root-mean-square norm along a row, over the extended reals.
-/
module

public import Idealize.ShloMosaic.PureOps.Ideal
public import Mathlib.Data.EReal.Operations
public import Mathlib.Data.EReal.Inv

@[expose] public section

noncomputable section

namespace Cert.Proof.Rms
open Idealize.ShloMosaic
open scoped BigOperators

theorem sq_nonneg (x : EReal) : 0 ≤ x * x := by
  induction x using EReal.rec with
  | bot => simp
  | coe r => exact_mod_cast mul_self_nonneg r
  | top => simp

/-- A nonnegative real factor leaves a sum. -/
theorem sum_mul_real {ι : Type*} (s : Finset ι) (f : ι → EReal) (p : ℝ) (hp : 0 ≤ p) :
    ∑ k ∈ s, f k * (p : EReal) = (∑ k ∈ s, f k) * (p : EReal) := by
  classical
  induction s using Finset.induction_on with
  | empty => simp
  | insert a s h ih =>
      rw [Finset.sum_insert h, Finset.sum_insert h, ih,
        EReal.right_distrib_of_nonneg_of_ne_top (by exact_mod_cast hp) (EReal.coe_ne_top p)]

/-- The scale of a row: zero where an entry is infinite, else the real inverse root. -/
theorem scale_cases {N : ℕ} (n : Fin N → EReal) (c e : ℝ) (hc : 0 < c) (he : 0 < e) (s : EReal)
    (hs : s = (∑ k, n k * n k) * (c : EReal) + (e : EReal)) :
    (Ideal.rsqrt s = 0 ∧ Ideal.div (Ideal.rsqrt s) s = 0) ∨
      ∃ p : ℝ, 0 < p ∧ Ideal.rsqrt s = (p : EReal) ∧ Ideal.div (Ideal.rsqrt s) s = ((p * p * p : ℝ) : EReal) := by
  have h0 : (e : EReal) ≤ s := by
    rw [hs]
    refine le_add_of_nonneg_left (mul_nonneg (Finset.sum_nonneg fun k _ => sq_nonneg _) (by exact_mod_cast hc.le))
  clear hs
  induction s using EReal.rec with
  | bot => exact absurd h0 (by simp)
  | top =>
      left
      simp [Ideal.div]
  | coe r =>
      right
      have hr : 0 < r := lt_of_lt_of_le he (by exact_mod_cast h0)
      refine ⟨(Real.sqrt r)⁻¹, by positivity, ?_, ?_⟩
      · rw [Ideal.rsqrt_coe, if_neg (not_lt.2 hr.le), if_neg hr.ne']
      · rw [Ideal.rsqrt_coe, if_neg (not_lt.2 hr.le), if_neg hr.ne']
        have h2 : (Real.sqrt r)⁻¹ * (Real.sqrt r)⁻¹ = r⁻¹ := by
          rw [← mul_inv, Real.mul_self_sqrt hr.le]
        rw [mul_comm ((Real.sqrt r)⁻¹ * _) , h2]
        unfold Ideal.div
        rw [if_neg (by exact_mod_cast hr.ne')]
        norm_cast

/-- The kernel's and the reference's gradient through the norm. -/
theorem back {N : ℕ} (n g : Fin N → EReal) (c e : ℝ) (hc : 0 < c) (he : 0 < e) (s : EReal)
    (hs : s = (∑ k, n k * n k) * (c : EReal) + (e : EReal)) (j : Fin N) :
    Ideal.rsqrt s * (g j - n j * Ideal.rsqrt s * ((∑ k, g k * (n k * Ideal.rsqrt s)) * (c : EReal)))
      = g j * Ideal.rsqrt s
        + (n j * ((∑ k, n k * g k) * (((-(1 / 2) : ℝ) : EReal) * Ideal.div (Ideal.rsqrt s) s) * (c : EReal))
          + n j * ((∑ k, n k * g k) * (((-(1 / 2) : ℝ) : EReal) * Ideal.div (Ideal.rsqrt s) s) * (c : EReal))) := by
  obtain ⟨h1, h2⟩ | ⟨p, hp, h1, h2⟩ := scale_cases n c e hc he s hs
  · rw [h2, h1]; simp
  · rw [h2, h1]
    have hS : (∑ k, g k * (n k * (p : EReal))) = (∑ k, n k * g k) * (p : EReal) := by
      rw [← sum_mul_real _ _ p hp.le]
      exact Finset.sum_congr rfl fun k _ => by rw [← mul_assoc, mul_comm (g k)]
    rw [hS]
    generalize (∑ k, n k * g k) = S
    have hR : ∀ x : EReal, x + x = x * ((2 : ℝ) : EReal) := fun x => by
      rw [show ((2 : ℝ) : EReal) = ((1 : ℝ) : EReal) + ((1 : ℝ) : EReal) by norm_cast]
      rw [EReal.left_distrib_of_nonneg (by simp) (by simp)]
      simp
    rw [hR, sub_eq_add_neg, EReal.left_distrib_of_nonneg_of_ne_top (by exact_mod_cast hp.le) (EReal.coe_ne_top p), mul_comm (p : EReal) (g j)]
    congr 1
    rw [mul_neg]
    have hq : (((-(1 / 2) : ℝ) : EReal) * ((p * p * p : ℝ) : EReal)) = -((p * p * p / 2 : ℝ) : EReal) := by
      rw [← EReal.coe_mul, ← EReal.coe_neg]; congr 1; ring
    rw [hq]
    simp only [mul_neg, neg_mul]
    congr 1
    rw [show ((p * p * p / 2 : ℝ) : EReal) = (p : EReal) * (p : EReal) * (p : EReal) * ((1 / 2 : ℝ) : EReal) by
      rw [← EReal.coe_mul, ← EReal.coe_mul, ← EReal.coe_mul]; congr 1; ring]
    have hone : ((1 / 2 : ℝ) : EReal) * ((2 : ℝ) : EReal) = 1 := by
      rw [← EReal.coe_mul]; norm_num
    calc (p : EReal) * (n j * (p : EReal) * (S * (p : EReal) * (c : EReal)))
        = n j * (S * ((p : EReal) * (p : EReal) * (p : EReal)) * (c : EReal)) * 1 := by
          rw [mul_one]; ac_rfl
      _ = _ := by rw [← hone]; ac_rfl

theorem width : Ideal.ofBits FTy.f32 1149239296#32 = ((1024 : ℝ) : EReal) := by
  simp [Ideal.ofBits, Ideal.ieee, -EReal.coe_mul]; norm_num

theorem neg_half : Ideal.ofBits FTy.f32 3204448256#32 = ((-(1 / 2) : ℝ) : EReal) := by
  simp [Ideal.ofBits, Ideal.ieee, -EReal.coe_mul]; norm_num

theorem eps_pos : ∃ e : ℝ, 0 < e ∧ Ideal.ofBits FTy.f32 897988541#32 = (e : EReal) := by
  refine ⟨8796093 * 2 ^ (-43 : ℤ), by positivity, ?_⟩
  simp [Ideal.ofBits, Ideal.ieee, -EReal.coe_mul]

/-- The mean square of a row of 1024 entries, plus the small constant. -/
def msq {N : ℕ} (n : Fin N → EReal) : EReal :=
  Ideal.div (∑ k, n k * n k) (Ideal.ofBits FTy.f32 1149239296#32) + Ideal.ofBits FTy.f32 897988541#32

/-- The row's scale. -/
def scl {N : ℕ} (n : Fin N → EReal) : EReal := Ideal.rsqrt (msq n)

/-- The gradient through the norm of a row, as the kernel computes it. -/
def bk {N : ℕ} (n g : Fin N → EReal) (j : Fin N) : EReal :=
  scl n * (g j - n j * scl n * Ideal.div (∑ k, g k * (n k * scl n)) (Ideal.ofBits FTy.f32 1149239296#32))

/-- The reference's coefficient of the row in that gradient. -/
def tk {N : ℕ} (n g : Fin N → EReal) : EReal :=
  Ideal.div ((∑ k, n k * g k) * (Ideal.ofBits FTy.f32 3204448256#32 * Ideal.div (scl n) (msq n))) (Ideal.ofBits FTy.f32 1149239296#32)

theorem bk_eq {N : ℕ} (n g : Fin N → EReal) (j : Fin N) : g j * scl n + n j * tk n g + tk n g * n j = bk n g j := by
  obtain ⟨e, he, hw⟩ := eps_pos
  have h := back n g (1 / 1024) e (by norm_num) he (msq n) (by
    unfold msq; rw [width, hw, Ideal.div_coe (by norm_num)]) j
  unfold bk tk scl
  rw [width, neg_half, Ideal.div_coe (by norm_num), Ideal.div_coe (by norm_num), h, add_assoc, mul_comm _ (n j)]

/-- A family on `N` rows as one on all the naturals. -/
def ext {N : ℕ} (f : Fin N → EReal) (r : ℕ) : EReal := if h : r < N then f ⟨r, h⟩ else 0

theorem ext_lt {N : ℕ} (f : Fin N → EReal) (r : ℕ) (h : r < N) : ext f r = f ⟨r, h⟩ := dif_pos h

theorem sum_tiles (f : ℕ → EReal) (w n : ℕ) :
    ∑ t ∈ Finset.range n, ∑ a ∈ Finset.range w, f (w * t + a) = ∑ r ∈ Finset.range (w * n), f r := by
  induction n with
  | zero => simp
  | succ n ih => rw [Finset.sum_range_succ, ih, Nat.mul_succ, Finset.sum_range_add]

/-- A sum over blocks of rows is the sum over the rows. -/
theorem sum_blocks {N : ℕ} (w n : ℕ) (h : w * n = N) (f : Fin N → EReal) :
    ∑ t ∈ Finset.range n, ∑ a : Fin w, ext f (w * t + a.val) = ∑ r : Fin N, f r := by
  have h1 : ∀ t ∈ Finset.range n, ∑ a : Fin w, ext f (w * t + a.val) = ∑ a ∈ Finset.range w, ext f (w * t + a) :=
    fun t _ => (Finset.sum_range fun a => ext f (w * t + a)).symm
  rw [Finset.sum_congr rfl h1, sum_tiles, h, Finset.sum_range]
  exact Finset.sum_congr rfl fun r _ => ext_lt f r.val r.isLt

end Cert.Proof.Rms

end
-- ==== Proof.MlpInRef.lean ====
/-
  The reference's gradient through the perceptron's first product and the two norms around it, at an index.
-/
module

public import proofs.«01_k».proof.Proof.Gen.Reference5Ideal.Run
public import proofs.«01_k».proof.Proof.Gen.Reference5Ideal.Read
public import proofs.«01_k».proof.Proof.RmsBack
public import proofs.«01_k».proof.Defs
public import Idealize.ShloMosaic.Lib.Pipeline.ValueKit

@[expose] public section

set_option maxRecDepth 16384

noncomputable section

namespace Cert.Proof.InBack
open Idealize.ShloMosaic Idealize.SL.Sem Cert.Reference5Ideal Cert.Reference5Ideal.Read Cert.Proof.Rms
open scoped BigOperators

variable (x0 x1 : Vec Ideal S4096x1024 .f32) (x2 x3 : Vec Ideal S1024 .f32) (x4 : Vec Ideal S1024x4096 .bf16)
  (x5 : Vec Ideal S4096x1024 .f32) (x6 : Vec Ideal S4096x4096 .bf16)

/-- The residual stream after the mixers, a row. -/
def mid (a : Fin 4096) (k : Fin 1024) : EReal :=
  x0 (ix2 a k) + x1 (ix2 a k) * scl (fun k : Fin 1024 => x1 (ix2 a k)) * x2 (ix1 k)
/-- The gradient of the normed stream. -/
def dh (a : Fin 4096) (k : Fin 1024) : EReal := ∑ l : Fin 4096, x6 (ix2 a l) * x4 (ix2 k l)
/-- The gradient of the stream. -/
def dmid (a : Fin 4096) (b : Fin 1024) : EReal :=
  x5 (ix2 a b) + bk (mid x0 x1 x2 a) (fun k => dh x4 x6 a k * x3 (ix1 k)) b
/-- The gradient of the mixers' projected output. -/
def dout (a : Fin 4096) (b : Fin 1024) : EReal :=
  bk (fun k : Fin 1024 => x1 (ix2 a k)) (fun k => dmid x0 x1 x2 x3 x4 x5 x6 a k * x2 (ix1 k)) b
/-- The part of one row in the gradient of the second norm's weight. -/
def p3 (a : Fin 4096) (b : Fin 1024) : EReal := dh x4 x6 a b * (mid x0 x1 x2 a b * scl (mid x0 x1 x2 a))
/-- The part of one row in the gradient of the first norm's weight. -/
def p2 (a : Fin 4096) (b : Fin 1024) : EReal :=
  dmid x0 x1 x2 x3 x4 x5 x6 a b * (x1 (ix2 a b) * scl (fun k : Fin 1024 => x1 (ix2 a k)))

theorem v6_apply (a : Fin 4096) (b : Fin 1) : val_main_v6 (F := Ideal) x1 (ix2 a b) = msq fun k : Fin 1024 => x1 (ix2 a k) := by
  unfold msq
  pointwise [val_main_v6, val_main_v5, val_main_v4, val_main_v3, val_main_v2, val_main_v1, val_main_v0, val_main_cst, val_main_cst_0, val_main_cst_1]

theorem v7_apply (a : Fin 4096) (b : Fin 1) : val_main_v7 (F := Ideal) x1 (ix2 a b) = scl fun k : Fin 1024 => x1 (ix2 a k) :=
  congrArg Ideal.rsqrt (v6_apply x1 a b)

theorem v16_apply (a : Fin 4096) (b : Fin 1024) : val_main_v16 (F := Ideal) x0 x1 x2 (ix2 a b) = mid x0 x1 x2 a b := by
  unfold mid
  rw [← v7_apply x1 a 0]
  pointwise [val_main_v16, val_main_v15, val_main_v14, val_main_v13, val_main_v12, val_main_v11]

theorem v23_apply (a : Fin 4096) (b : Fin 1) : val_main_v23 (F := Ideal) x0 x1 x2 (ix2 a b) = msq (mid x0 x1 x2 a) := by
  unfold msq
  simp only [← v16_apply]
  pointwise [val_main_v23, val_main_v22, val_main_v21, val_main_v20, val_main_v19, val_main_v18, val_main_v17, val_main_cst_3, val_main_cst_4, val_main_cst_5]

theorem v24_apply (a : Fin 4096) (b : Fin 1) : val_main_v24 (F := Ideal) x0 x1 x2 (ix2 a b) = scl (mid x0 x1 x2 a) :=
  congrArg Ideal.rsqrt (v23_apply x0 x1 x2 a b)

theorem v36_apply (a : Fin 4096) (b : Fin 1024) : val_main_v36 (F := Ideal) x4 x6 (ix2 a b) = dh x4 x6 a b := by
  unfold dh
  pointwise [val_main_v36, val_main_v35, val_main_v33]

theorem v41_apply (a : Fin 4096) (b : Fin 1024) : val_main_v41 (F := Ideal) x3 x4 x6 (ix2 a b) = dh x4 x6 a b * x3 (ix1 b) := by
  rw [← v36_apply]
  pointwise [val_main_v41, val_main_v40, val_main_v30]

theorem v53_apply (a : Fin 4096) (b : Fin 1024) :
    val_main_v53 (F := Ideal) x0 x1 x2 x3 x4 x6 (ix2 a b) = tk (mid x0 x1 x2 a) fun k => dh x4 x6 a k * x3 (ix1 k) := by
  unfold tk
  rw [← v24_apply x0 x1 x2 a 0, ← v23_apply x0 x1 x2 a 0]
  simp only [← v16_apply, ← v41_apply]
  pointwise [val_main_v53, val_main_v52, val_main_v51, val_main_v50, val_main_v49, val_main_v45, val_main_v44, val_main_v43, val_main_v27, val_main_v26, val_main_v25,
    val_main_cst_6, val_main_cst_9, val_main_cst_10, val_main_cst_11]
  rw [Fin.sum_univ_one]
  simp only [v41_apply]

theorem v57_apply (a : Fin 4096) (b : Fin 1024) :
    val_main_v57 (F := Ideal) x0 x1 x2 x3 x4 x5 x6 (ix2 a b) = dmid x0 x1 x2 x3 x4 x5 x6 a b := by
  unfold dmid
  rw [← bk_eq, ← v53_apply x0 x1 x2 x3 x4 x6 a b, ← v24_apply x0 x1 x2 a 0, ← v16_apply, ← v41_apply, ← add_assoc, ← add_assoc]
  pointwise [val_main_v57, val_main_v56, val_main_v55, val_main_v54, val_main_v48, val_main_v47, val_main_v46]

theorem v63_apply (a : Fin 4096) (b : Fin 1024) :
    val_main_v63 (F := Ideal) x0 x1 x2 x3 x4 x5 x6 (ix2 a b) = dmid x0 x1 x2 x3 x4 x5 x6 a b * x2 (ix1 b) := by
  rw [← v57_apply]
  pointwise [val_main_v63, val_main_v62, val_main_v58, val_main_v13]

theorem v74_apply (a : Fin 4096) (b : Fin 1024) :
    val_main_v74 (F := Ideal) x0 x1 x2 x3 x4 x5 x6 (ix2 a b)
      = tk (fun k : Fin 1024 => x1 (ix2 a k)) fun k => dmid x0 x1 x2 x3 x4 x5 x6 a k * x2 (ix1 k) := by
  unfold tk
  rw [← v7_apply x1 a 0, ← v6_apply x1 a 0]
  simp only [← v63_apply]
  pointwise [val_main_v74, val_main_v73, val_main_v72, val_main_v71, val_main_v70, val_main_v67, val_main_v66, val_main_v65, val_main_v10, val_main_v9, val_main_v8,
    val_main_cst_2, val_main_cst_14, val_main_cst_15, val_main_cst_16]
  rw [Fin.sum_univ_one]
  simp only [v63_apply]

theorem v79_apply (a : Fin 4096) (b : Fin 1024) :
    val_main_v79 (F := Ideal) x0 x1 x2 x3 x4 x5 x6 (ix2 a b) = dout x0 x1 x2 x3 x4 x5 x6 a b := by
  unfold dout
  rw [← bk_eq, ← v74_apply x0 x1 x2 x3 x4 x5 x6 a b, ← v7_apply x1 a 0, ← v63_apply]
  pointwise [val_main_v79, val_main_v78, val_main_v77, val_main_v76, val_main_v75, val_main_v69, val_main_v68]

theorem v80_apply (b : Fin 1024) (z : Fin 1) :
    val_main_v80 (F := Ideal) x0 x1 x2 x4 x6 (ix2 z b) = ∑ a : Fin 4096, p3 x0 x1 x2 x4 x6 a b := by
  have h : ∀ a : Fin 4096, p3 x0 x1 x2 x4 x6 a b = val_main_v37 (F := Ideal) x0 x1 x2 x4 x6 (ix2 a b) := by
    intro a
    unfold p3
    rw [mul_comm, ← v16_apply, ← v24_apply x0 x1 x2 a 0, ← v36_apply]
    pointwise [val_main_v37, val_main_v29, val_main_v28]
  simp only [h]
  pointwise [val_main_v80, val_main_v42, val_main_v39, val_main_v38, val_main_cst_7, val_main_cst_8]
  exact Fin.sum_univ_one _

theorem v81_apply (b : Fin 1024) (z : Fin 1) :
    val_main_v81 (F := Ideal) x0 x1 x2 x3 x4 x5 x6 (ix2 z b) = ∑ a : Fin 4096, p2 x0 x1 x2 x3 x4 x5 x6 a b := by
  have h : ∀ a : Fin 4096, p2 x0 x1 x2 x3 x4 x5 x6 a b = val_main_v59 (F := Ideal) x0 x1 x2 x3 x4 x5 x6 (ix2 a b) := by
    intro a
    unfold p2
    rw [mul_comm, ← v7_apply x1 a 0, ← v57_apply]
    pointwise [val_main_v59, val_main_v58, val_main_v12, val_main_v11]
  simp only [h]
  pointwise [val_main_v81, val_main_v64, val_main_v61, val_main_v60, val_main_cst_12, val_main_cst_13]
  exact Fin.sum_univ_one _

end Cert.Proof.InBack

end
-- ==== Proof.MlpIn.lean ====
/-
  The gradient through the perceptron's first product and the norms around it: what the kernel's call leaves.
-/
module

public import proofs.«01_k».proof.Proof.Gen.Kernel5Ideal.Value
public import proofs.«01_k».proof.Proof.MlpInRef
public import Idealize.ShloMosaic.Lib.StableHlo.ReadAt
import Idealize.ShloMosaic.Lib.Pipeline.ValueKit

@[expose] public section

set_option maxRecDepth 16384

noncomputable section

namespace Cert.Proof.InBack
open Idealize.ShloMosaic Idealize.SL.Sem Cert.Kernel5Ideal Cert.Kernel5Ideal.Gen Cert.Proof.Rms
open scoped BigOperators

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)

theorem point_lt (t : Fin cfg0.N) : t.val < 8 := lt_of_lt_of_eq t.isLt (by decide)

/-- A load of a whole block. -/
theorem load_whole {p q : Nat} {e : EltTy} (arg : Memref sig .tc .vmem ⟨2, ![p, q]⟩ e) (h : arg.IsWhole)
    (x : Vec Ideal ⟨2, ![p, q]⟩ e) (inb) :
    View.readAt (Elt Ideal) arg.view (Rect.unit (s := ⟨2, ![p, q]⟩) ![0, 0] ![p, q] inb).toLoadRect (h.unread x) = x := by
  rw [View.readAt_eq_ld, Memref.IsWhole.read_unread]
  exact View.ld_unit_zero (off := ![0, 0]) (by funext a; fin_cases a <;> rfl) inb x

section Block
variable (v0 : Vec Ideal S512x4096 .bf16) (v1 : Vec Ideal S1024x4096 .bf16) (v3 v32 v33 v35 : Vec Ideal S512x1024 .f32) (v5 v36 : Vec Ideal S1x1024 .f32)

theorem pay2_apply (a : Fin 512) (b : Fin 1024) :
    k0_pay2 (F := Ideal) v0 v1 (ix2 a b) = ∑ l : Fin 4096, v0 (ix2 a l) * v1 (ix2 b l) := by
  pointwise [k0_pay2]

theorem pay4_apply (a : Fin 512) (z : Fin 1) : k0_pay4 (F := Ideal) v3 (ix2 a z) = scl fun k : Fin 1024 => v3 (ix2 a k) := by
  unfold scl msq
  pointwise [k0_pay4, k0_pay3]

theorem pay5_apply (a : Fin 512) (b : Fin 1024) :
    k0_pay5 (F := Ideal) v3 (ix2 a b) = v3 (ix2 a b) * scl fun k : Fin 1024 => v3 (ix2 a k) := by
  rw [← pay4_apply v3 a 0]
  pointwise [k0_pay5, k0_pay3]

theorem pay8_apply (a : Fin 512) (z : Fin 1) : k0_pay8 (F := Ideal) v35 (ix2 a z) = scl fun k : Fin 1024 => v35 (ix2 a k) := by
  unfold scl msq
  pointwise [k0_pay8]

theorem pay9_apply (a : Fin 512) (b : Fin 1024) :
    k0_pay9 (F := Ideal) v35 (ix2 a b) = v35 (ix2 a b) * scl fun k : Fin 1024 => v35 (ix2 a k) := by
  rw [← pay8_apply v35 a 0]
  pointwise [k0_pay9]

theorem pay7_apply (a : Fin 512) (b : Fin 1024) :
    k0_pay7 (F := Ideal) v0 v1 v3 v5 v32 (ix2 a b)
      = v32 (ix2 a b) + bk (fun k : Fin 1024 => v3 (ix2 a k)) (fun k => (∑ l : Fin 4096, v0 (ix2 a l) * v1 (ix2 k l)) * v5 (ix2 0 k)) b := by
  unfold bk
  pointwise [k0_pay7]
  simp only [pay2_apply, pay5_apply, pay4_apply]

theorem pay11_apply (a : Fin 512) (b : Fin 1024) :
    k0_pay11 (F := Ideal) v33 v35 v36 (ix2 a b)
      = bk (fun k : Fin 1024 => v35 (ix2 a k)) (fun k => v33 (ix2 a k) * v36 (ix2 0 k)) b := by
  unfold bk
  pointwise [k0_pay11]
  simp only [pay9_apply, pay8_apply]

theorem pay6_apply (z : Fin 1) (b : Fin 1024) :
    k0_pay6 (F := Ideal) v0 v1 v3 (ix2 z b)
      = ∑ a : Fin 512, (∑ l : Fin 4096, v0 (ix2 a l) * v1 (ix2 b l)) * (v3 (ix2 a b) * scl fun k : Fin 1024 => v3 (ix2 a k)) := by
  pointwise [k0_pay6]
  simp only [pay2_apply, pay5_apply]

theorem pay10_apply (z : Fin 1) (b : Fin 1024) :
    k0_pay10 (F := Ideal) v33 v35 (ix2 z b)
      = ∑ a : Fin 512, v33 (ix2 a b) * (v35 (ix2 a b) * scl fun k : Fin 1024 => v35 (ix2 a k)) := by
  pointwise [k0_pay10]
  simp only [pay9_apply]

end Block

/-! The blocks the windows hold. -/

theorem blk_0 (X : Buf (Elt Ideal) ((c.tc : Thread nD τ).loc main_arg6)) (t : Fin cfg0.N) (j : S512x4096.Idx) (ha) (hb) :
    (((cfg0.win 0).blk t).view.read (Elt Ideal) X) j = X (ix2 ⟨512 * t.val + (j 0).val, ha⟩ ⟨(j 1).val, hb⟩) := by
  blk_ext [e0]
theorem blk_1 (X : Buf (Elt Ideal) ((c.tc : Thread nD τ).loc main_arg4)) (t : Fin cfg0.N) (j : S1024x4096.Idx) (ha) (hb) :
    (((cfg0.win 1).blk t).view.read (Elt Ideal) X) j = X (ix2 ⟨(j 0).val, ha⟩ ⟨(j 1).val, hb⟩) := by
  blk_ext [e1]
theorem blk_2 (X : Buf (Elt Ideal) ((c.tc : Thread nD τ).loc main_v13)) (t : Fin cfg0.N) (j : S512x1024.Idx) (ha) (hb) :
    (((cfg0.win 2).blk t).view.read (Elt Ideal) X) j = X (ix2 ⟨512 * t.val + (j 0).val, ha⟩ ⟨(j 1).val, hb⟩) := by
  blk_ext [e2]
theorem blk_3 (X : Buf (Elt Ideal) ((c.tc : Thread nD τ).loc main_arg5)) (t : Fin cfg0.N) (j : S512x1024.Idx) (ha) (hb) :
    (((cfg0.win 3).blk t).view.read (Elt Ideal) X) j = X (ix2 ⟨512 * t.val + (j 0).val, ha⟩ ⟨(j 1).val, hb⟩) := by
  blk_ext [e3]
theorem blk_4 (X : Buf (Elt Ideal) ((c.tc : Thread nD τ).loc main_arg1)) (t : Fin cfg0.N) (j : S512x1024.Idx) (ha) (hb) :
    (((cfg0.win 4).blk t).view.read (Elt Ideal) X) j = X (ix2 ⟨512 * t.val + (j 0).val, ha⟩ ⟨(j 1).val, hb⟩) := by
  blk_ext [e4]
theorem blk_5 (X : Buf (Elt Ideal) ((c.tc : Thread nD τ).loc main_v14)) (t : Fin cfg0.N) (j : S1x1024.Idx) (ha) (hb) :
    (((cfg0.win 5).blk t).view.read (Elt Ideal) X) j = X (ix2 ⟨(j 0).val, ha⟩ ⟨(j 1).val, hb⟩) := by
  blk_ext [e5]
theorem blk_6 (X : Buf (Elt Ideal) ((c.tc : Thread nD τ).loc main_v15)) (t : Fin cfg0.N) (j : S1x1024.Idx) (ha) (hb) :
    (((cfg0.win 6).blk t).view.read (Elt Ideal) X) j = X (ix2 ⟨(j 0).val, ha⟩ ⟨(j 1).val, hb⟩) := by
  blk_ext [e6]

/-- The arguments of the call, as the memory holds them. -/
structure Args (x0 x1 : Vec Ideal S4096x1024 .f32) (x2 x3 : Vec Ideal S1024 .f32) (x4 : Vec Ideal S1024x4096 .bf16)
    (x5 : Vec Ideal S4096x1024 .f32) (x6 : Vec Ideal S4096x4096 .bf16) : Prop where
  h0 : m ((c.tc : Thread nD τ).loc main_arg0) = x0
  h1 : m ((c.tc : Thread nD τ).loc main_arg1) = x1
  h2 : m ((c.tc : Thread nD τ).loc main_arg2) = x2
  h3 : m ((c.tc : Thread nD τ).loc main_arg3) = x3
  h4 : m ((c.tc : Thread nD τ).loc main_arg4) = x4
  h5 : m ((c.tc : Thread nD τ).loc main_arg5) = x5
  h6 : m ((c.tc : Thread nD τ).loc main_arg6) = x6

variable {m c} {x0 x1 : Vec Ideal S4096x1024 .f32} {x2 x3 : Vec Ideal S1024 .f32} {x4 : Vec Ideal S1024x4096 .bf16}
  {x5 : Vec Ideal S4096x1024 .f32} {x6 : Vec Ideal S4096x4096 .bf16}

theorem host_mid (A : Args m c x0 x1 x2 x3 x4 x5 x6) (a : Fin 4096) (k : Fin 1024) : V m c main_v13 (ix2 a k) = mid x0 x1 x2 a k := by
  obtain ⟨h0, h1, h2, h3, h4, h5, h6⟩ := A
  subst h0 h1 h2
  unfold V
  after_reads_at
  rfl
theorem host_g3 (A : Args m c x0 x1 x2 x3 x4 x5 x6) (z : Fin 1) (k : Fin 1024) : V m c main_v14 (ix2 z k) = x3 (ix1 k) := by
  obtain ⟨h0, h1, h2, h3, h4, h5, h6⟩ := A
  subst h3
  unfold V
  after_reads_at
theorem host_g2 (A : Args m c x0 x1 x2 x3 x4 x5 x6) (z : Fin 1) (k : Fin 1024) : V m c main_v15 (ix2 z k) = x2 (ix1 k) := by
  obtain ⟨h0, h1, h2, h3, h4, h5, h6⟩ := A
  subst h2
  unfold V
  after_reads_at

theorem ib_0 (A : Args m c x0 x1 x2 x3 x4 x5 x6) (t : Fin cfg0.N) (a : Fin 512) (k : Fin 4096) (ha) :
    iblk m c 0 t (ix2 a k) = x6 (ix2 ⟨512 * t.val + a.val, ha⟩ k) := by
  have h := A.h6
  rw [← V_main_arg6 m c] at h
  exact (blk_0 c (V m c main_arg6) t (ix2 a k) ha k.isLt).trans (congrFun h _)
theorem ib_1 (A : Args m c x0 x1 x2 x3 x4 x5 x6) (t : Fin cfg0.N) (a : Fin 1024) (k : Fin 4096) :
    iblk m c 1 t (ix2 a k) = x4 (ix2 a k) := by
  have h := A.h4
  rw [← V_main_arg4 m c] at h
  exact (blk_1 c (V m c main_arg4) t (ix2 a k) a.isLt k.isLt).trans (congrFun h _)
theorem ib_2 (A : Args m c x0 x1 x2 x3 x4 x5 x6) (t : Fin cfg0.N) (a : Fin 512) (k : Fin 1024) (ha) :
    iblk m c 2 t (ix2 a k) = mid x0 x1 x2 ⟨512 * t.val + a.val, ha⟩ k :=
  (blk_2 c (V m c main_v13) t (ix2 a k) ha k.isLt).trans (host_mid A _ _)
theorem ib_3 (A : Args m c x0 x1 x2 x3 x4 x5 x6) (t : Fin cfg0.N) (a : Fin 512) (k : Fin 1024) (ha) :
    iblk m c 3 t (ix2 a k) = x5 (ix2 ⟨512 * t.val + a.val, ha⟩ k) := by
  have h := A.h5
  rw [← V_main_arg5 m c] at h
  exact (blk_3 c (V m c main_arg5) t (ix2 a k) ha k.isLt).trans (congrFun h _)
theorem ib_4 (A : Args m c x0 x1 x2 x3 x4 x5 x6) (t : Fin cfg0.N) (a : Fin 512) (k : Fin 1024) (ha) :
    iblk m c 4 t (ix2 a k) = x1 (ix2 ⟨512 * t.val + a.val, ha⟩ k) := by
  have h := A.h1
  rw [← V_main_arg1 m c] at h
  exact (blk_4 c (V m c main_arg1) t (ix2 a k) ha k.isLt).trans (congrFun h _)
theorem ib_5 (A : Args m c x0 x1 x2 x3 x4 x5 x6) (t : Fin cfg0.N) (z : Fin 1) (k : Fin 1024) :
    iblk m c 5 t (ix2 z k) = x3 (ix1 k) :=
  (blk_5 c (V m c main_v14) t (ix2 z k) z.isLt k.isLt).trans (host_g3 A _ _)
theorem ib_6 (A : Args m c x0 x1 x2 x3 x4 x5 x6) (t : Fin cfg0.N) (z : Fin 1) (k : Fin 1024) :
    iblk m c 6 t (ix2 z k) = x2 (ix1 k) :=
  (blk_6 c (V m c main_v15) t (ix2 z k) z.isLt k.isLt).trans (host_g2 A _ _)

theorem row_lt (t : Fin cfg0.N) (a : Fin 512) : 512 * t.val + a.val < 4096 := by
  have := point_lt t; have := a.isLt; omega

theorem b7_apply (A : Args m c x0 x1 x2 x3 x4 x5 x6) (t : Fin cfg0.N) (a : Fin 512) (b : Fin 1024) :
    k0_pay7 (F := Ideal) (iblk m c 0 t) (iblk m c 1 t) (iblk m c 2 t) (iblk m c 5 t) (iblk m c 3 t) (ix2 a b)
      = dmid x0 x1 x2 x3 x4 x5 x6 ⟨512 * t.val + a.val, row_lt t a⟩ b := by
  refine (pay7_apply _ _ _ _ _ a b).trans ?_
  simp only [ib_0 A t a _ (row_lt t a), ib_1 A t, ib_2 A t a _ (row_lt t a), ib_3 A t a _ (row_lt t a), ib_5 A t]
  rfl

theorem point_zero (t : Fin cfg0.N) : (t.val % 8 = 0 ∧ ¬1 ≤ t.val) ∨ (¬t.val % 8 = 0 ∧ 1 ≤ t.val) := by
  have := point_lt t
  omega

theorem o7_eq (t : Fin cfg0.N) :
    (outsAt0 m c t.val t.isLt).1 = k0_pay7 (F := Ideal) (iblk m c 0 t) (iblk m c 1 t) (iblk m c 2 t) (iblk m c 5 t) (iblk m c 3 t) := by
  rcases point_zero t with h | h
  · rw [outsAt0_A m c t h.1 h.2 h.1 h.2]; dsimp only; unfold out0_A_7; rw [View.read_writes_junk_eq_canon]; unfold kernelRun0_A; dsimp only
    refine (View.canon_unit_zero (by funext a; fin_cases a <;> rfl) _ _).trans ?_
    simp only [load_whole, kernelRun0_A.sl.r, kernelRun0_A.sl.r_1, kernelRun0_A.sl.r_2, kernelRun0_A.sl.r_3]
  · rw [outsAt0_B m c t h.1 h.2 h.1 h.2]; dsimp only; unfold out0_B_7; rw [View.read_writes_junk_eq_canon]; unfold kernelRun0_B; dsimp only
    refine (View.canon_unit_zero (by funext a; fin_cases a <;> rfl) _ _).trans ?_
    simp only [load_whole, kernelRun0_B.sl.r, kernelRun0_B.sl.r_1, kernelRun0_B.sl.r_2, kernelRun0_B.sl.r_3]

theorem o8_eq (t : Fin cfg0.N) :
    (outsAt0 m c t.val t.isLt).2.1
      = k0_pay11 (F := Ideal) (k0_pay7 (iblk m c 0 t) (iblk m c 1 t) (iblk m c 2 t) (iblk m c 5 t) (iblk m c 3 t)) (iblk m c 4 t) (iblk m c 6 t) := by
  rcases point_zero t with h | h
  · rw [outsAt0_A m c t h.1 h.2 h.1 h.2]; dsimp only; unfold out0_A_8; rw [View.read_writes_junk_eq_canon]; unfold kernelRun0_A; dsimp only
    refine (View.canon_unit_zero (by funext a; fin_cases a <;> rfl) _ _).trans ?_
    simp only [load_whole, kernelRun0_A.sl.r, kernelRun0_A.sl.r_1, kernelRun0_A.sl.r_2, kernelRun0_A.sl.r_3]
  · rw [outsAt0_B m c t h.1 h.2 h.1 h.2]; dsimp only; unfold out0_B_8; rw [View.read_writes_junk_eq_canon]; unfold kernelRun0_B; dsimp only
    refine (View.canon_unit_zero (by funext a; fin_cases a <;> rfl) _ _).trans ?_
    simp only [load_whole, kernelRun0_B.sl.r, kernelRun0_B.sl.r_1, kernelRun0_B.sl.r_2, kernelRun0_B.sl.r_3]

/-- A block's part in the gradient of the second norm's weight. -/
abbrev blk3 (m : (ℓ : Loc nD τ sig) → Buf (Elt Ideal) ℓ) (c : Dev nD) (t : Fin cfg0.N) : FVec Ideal S1x1024 .f32 :=
  k0_pay6 (iblk m c 0 t) (iblk m c 1 t) (iblk m c 2 t)
/-- A block's part in the gradient of the first norm's weight. -/
abbrev blk2 (m : (ℓ : Loc nD τ sig) → Buf (Elt Ideal) ℓ) (c : Dev nD) (t : Fin cfg0.N) : FVec Ideal S1x1024 .f32 :=
  k0_pay10 (k0_pay7 (iblk m c 0 t) (iblk m c 1 t) (iblk m c 2 t) (iblk m c 5 t) (iblk m c 3 t)) (iblk m c 4 t)

theorem o9_A (t : Fin cfg0.N) (h : t.val % 8 = 0 ∧ ¬1 ≤ t.val) : (outsAt0 m c t.val t.isLt).2.2.1 = blk3 m c t := by
  rw [outsAt0_A m c t h.1 h.2 h.1 h.2]; dsimp only; unfold out0_A_9; rw [View.read_writes_junk_eq_canon]; unfold kernelRun0_A; dsimp only
  refine (View.canon_unit_zero (by funext a; fin_cases a <;> rfl) _ _).trans ?_
  simp only [load_whole, kernelRun0_A.sl.r, kernelRun0_A.sl.r_1, kernelRun0_A.sl.r_2, kernelRun0_A.sl.r_3]
theorem o10_A (t : Fin cfg0.N) (h : t.val % 8 = 0 ∧ ¬1 ≤ t.val) : (outsAt0 m c t.val t.isLt).2.2.2 = blk2 m c t := by
  rw [outsAt0_A m c t h.1 h.2 h.1 h.2]; dsimp only; unfold out0_A_10; rw [View.read_writes_junk_eq_canon]; unfold kernelRun0_A; dsimp only
  refine (View.canon_unit_zero (by funext a; fin_cases a <;> rfl) _ _).trans ?_
  simp only [load_whole, kernelRun0_A.sl.r, kernelRun0_A.sl.r_1, kernelRun0_A.sl.r_2, kernelRun0_A.sl.r_3]
theorem o9_B (t : Fin cfg0.N) (h : ¬t.val % 8 = 0 ∧ 1 ≤ t.val) : (outsAt0 m c t.val t.isLt).2.2.1
    = k0_pay12 (blk3 m c t) (outsAt0 m c (t.val - 1) (lt_of_le_of_lt (Nat.sub_le _ _) t.isLt)).2.2.1 := by
  rw [outsAt0_B m c t h.1 h.2 h.1 h.2]; dsimp only; unfold out0_B_9; rw [View.read_writes_junk_eq_canon]; unfold kernelRun0_B; dsimp only
  refine (View.canon_unit_zero (by funext a; fin_cases a <;> rfl) _ _).trans ?_
  simp only [load_whole, kernelRun0_B.sl.r, kernelRun0_B.sl.r_1, kernelRun0_B.sl.r_2, kernelRun0_B.sl.r_3]
theorem o10_B (t : Fin cfg0.N) (h : ¬t.val % 8 = 0 ∧ 1 ≤ t.val) : (outsAt0 m c t.val t.isLt).2.2.2
    = k0_pay1 (blk2 m c t) (outsAt0 m c (t.val - 1) (lt_of_le_of_lt (Nat.sub_le _ _) t.isLt)).2.2.2 := by
  rw [outsAt0_B m c t h.1 h.2 h.1 h.2]; dsimp only; unfold out0_B_10; rw [View.read_writes_junk_eq_canon]; unfold kernelRun0_B; dsimp only
  refine (View.canon_unit_zero (by funext a; fin_cases a <;> rfl) _ _).trans ?_
  simp only [load_whole, kernelRun0_B.sl.r, kernelRun0_B.sl.r_1, kernelRun0_B.sl.r_2, kernelRun0_B.sl.r_3]

theorem blk3_apply (A : Args m c x0 x1 x2 x3 x4 x5 x6) (t : Fin cfg0.N) (z : Fin 1) (b : Fin 1024) :
    blk3 m c t (ix2 z b) = ∑ a : Fin 512, ext (fun r => p3 x0 x1 x2 x4 x6 r b) (512 * t.val + a.val) := by
  refine (pay6_apply _ _ _ z b).trans (Finset.sum_congr rfl fun a _ => ?_)
  rw [ext_lt _ _ (row_lt t a)]
  simp only [ib_0 A t a _ (row_lt t a), ib_1 A t, ib_2 A t a _ (row_lt t a)]
  rfl
theorem blk2_apply (A : Args m c x0 x1 x2 x3 x4 x5 x6) (t : Fin cfg0.N) (z : Fin 1) (b : Fin 1024) :
    blk2 m c t (ix2 z b) = ∑ a : Fin 512, ext (fun r => p2 x0 x1 x2 x3 x4 x5 x6 r b) (512 * t.val + a.val) := by
  refine (pay10_apply _ _ z b).trans (Finset.sum_congr rfl fun a _ => ?_)
  rw [ext_lt _ _ (row_lt t a)]
  simp only [b7_apply A, ib_4 A t a _ (row_lt t a)]
  rfl

theorem acc9 (A : Args m c x0 x1 x2 x3 x4 x5 x6) (z : Fin 1) (b : Fin 1024) : ∀ (n : ℕ) (hn : n < cfg0.N),
    (outsAt0 m c n hn).2.2.1 (ix2 z b) = ∑ t ∈ Finset.range (n + 1), ∑ a : Fin 512, ext (fun r => p3 x0 x1 x2 x4 x6 r b) (512 * t + a.val)
  | 0, hn => by
    rw [Finset.sum_range_one]
    exact (congrFun (o9_A ⟨0, hn⟩ (by simp)) _).trans (blk3_apply A ⟨0, hn⟩ z b)
  | n + 1, hn => by
    have ht := point_lt ⟨n + 1, hn⟩
    simp only at ht
    rw [Finset.sum_range_succ _ (n + 1), ← acc9 A z b n (by omega)]
    refine (congrFun (o9_B ⟨n + 1, hn⟩ (by simp only; omega)) _).trans ?_
    rw [← blk3_apply A ⟨n + 1, hn⟩ z b]
    simp only [k0_pay12, Nat.add_sub_cancel]
    pointwise
theorem acc10 (A : Args m c x0 x1 x2 x3 x4 x5 x6) (z : Fin 1) (b : Fin 1024) : ∀ (n : ℕ) (hn : n < cfg0.N),
    (outsAt0 m c n hn).2.2.2 (ix2 z b) = ∑ t ∈ Finset.range (n + 1), ∑ a : Fin 512, ext (fun r => p2 x0 x1 x2 x3 x4 x5 x6 r b) (512 * t + a.val)
  | 0, hn => by
    rw [Finset.sum_range_one]
    exact (congrFun (o10_A ⟨0, hn⟩ (by simp)) _).trans (blk2_apply A ⟨0, hn⟩ z b)
  | n + 1, hn => by
    have ht := point_lt ⟨n + 1, hn⟩
    simp only at ht
    rw [Finset.sum_range_succ _ (n + 1), ← acc10 A z b n (by omega)]
    refine (congrFun (o10_B ⟨n + 1, hn⟩ (by simp only; omega)) _).trans ?_
    rw [← blk2_apply A ⟨n + 1, hn⟩ z b]
    simp only [k0_pay1, Nat.add_sub_cancel]
    pointwise

theorem final7 (A : Args m c x0 x1 x2 x3 x4 x5 x6) :
    (dats m 0 c).arrAt 7 cfg0.N = Cert.Reference5Ideal.Read.val_main_v57 (F := Ideal) x0 x1 x2 x3 x4 x5 x6 := by
  refine (dats m 0 c).arrAt_eq_of_covers 7 _ (by decide +kernel) fun t hf y => ?_
  have ht := point_lt t
  have hy0 : (y 0).val < 512 := (y 0).isLt
  have hy1 : (y 1).val < 1024 := (y 1).isLt
  have g0 : ((((cfg0.win 7).blk t).view.emb y) 0).val = 512 * t.val + (y 0).val := by
    blk_simp [e7]; omega
  have g1 : ((((cfg0.win 7).blk t).view.emb y) 1).val = (y 1).val := by
    blk_simp [e7]
  have he : (((cfg0.win 7).blk t).view.emb y) = ix2 (⟨512 * t.val + (y 0).val, by omega⟩ : Fin 4096) (⟨(y 1).val, hy1⟩ : Fin 1024) := by
    funext a
    match a with
    | ⟨0, _⟩ => exact Fin.ext g0
    | ⟨1, _⟩ => exact Fin.ext g1
  have hy : y = ix2 (⟨(y 0).val, hy0⟩ : Fin 512) (⟨(y 1).val, hy1⟩ : Fin 1024) := by
    funext a
    match a with
    | ⟨0, _⟩ => rfl
    | ⟨1, _⟩ => rfl
  rw [he]
  refine Eq.trans ?_ (v57_apply x0 x1 x2 x3 x4 x5 x6 _ _).symm
  blk_simp
  rw [after0_7]
  exact (congrArg (outsAt0 m c t.val t.isLt).1 hy).trans ((congrFun (o7_eq t) _).trans (b7_apply A t _ _))

theorem final8 (A : Args m c x0 x1 x2 x3 x4 x5 x6) :
    (dats m 0 c).arrAt 8 cfg0.N = Cert.Reference5Ideal.Read.val_main_v79 (F := Ideal) x0 x1 x2 x3 x4 x5 x6 := by
  refine (dats m 0 c).arrAt_eq_of_covers 8 _ (by decide +kernel) fun t hf y => ?_
  have ht := point_lt t
  have hy0 : (y 0).val < 512 := (y 0).isLt
  have hy1 : (y 1).val < 1024 := (y 1).isLt
  have g0 : ((((cfg0.win 8).blk t).view.emb y) 0).val = 512 * t.val + (y 0).val := by
    blk_simp [e8]; omega
  have g1 : ((((cfg0.win 8).blk t).view.emb y) 1).val = (y 1).val := by
    blk_simp [e8]
  have he : (((cfg0.win 8).blk t).view.emb y) = ix2 (⟨512 * t.val + (y 0).val, by omega⟩ : Fin 4096) (⟨(y 1).val, hy1⟩ : Fin 1024) := by
    funext a
    match a with
    | ⟨0, _⟩ => exact Fin.ext g0
    | ⟨1, _⟩ => exact Fin.ext g1
  have hy : y = ix2 (⟨(y 0).val, hy0⟩ : Fin 512) (⟨(y 1).val, hy1⟩ : Fin 1024) := by
    funext a
    match a with
    | ⟨0, _⟩ => rfl
    | ⟨1, _⟩ => rfl
  rw [he]
  refine Eq.trans ?_ (v79_apply x0 x1 x2 x3 x4 x5 x6 _ _).symm
  blk_simp
  rw [after0_8]
  refine (congrArg (outsAt0 m c t.val t.isLt).2.1 hy).trans ((congrFun (o8_eq t) _).trans ((pay11_apply _ _ _ _ _).trans ?_))
  simp only [b7_apply A, ib_4 A t ⟨(y 0).val, hy0⟩ _ (row_lt t ⟨(y 0).val, hy0⟩), ib_6 A t]
  rfl

/-- The last grid point. -/
abbrev last : Fin cfg0.N := ⟨7, by decide⟩

theorem final9 (A : Args m c x0 x1 x2 x3 x4 x5 x6) :
    (dats m 0 c).arrAt 9 cfg0.N = Cert.Reference5Ideal.Read.val_main_v80 (F := Ideal) x0 x1 x2 x4 x6 := by
  refine (dats m 0 c).arrAt_eq_of_after_last 9 last (by decide +kernel) _ fun j => ?_
  have hj : j = ix2 (⟨(j 0).val, (j 0).isLt⟩ : Fin 1) (⟨(j 1).val, (j 1).isLt⟩ : Fin 1024) := by
    funext a
    match a with
    | ⟨0, _⟩ => rfl
    | ⟨1, _⟩ => rfl
  rw [hj]
  refine Eq.trans ?_ (v80_apply x0 x1 x2 x4 x6 _ _).symm
  blk_simp
  rw [after0_9]
  exact (acc9 A _ _ 7 (by decide)).trans (sum_blocks 512 8 rfl _)

theorem final10 (A : Args m c x0 x1 x2 x3 x4 x5 x6) :
    (dats m 0 c).arrAt 10 cfg0.N = Cert.Reference5Ideal.Read.val_main_v81 (F := Ideal) x0 x1 x2 x3 x4 x5 x6 := by
  refine (dats m 0 c).arrAt_eq_of_after_last 10 last (by decide +kernel) _ fun j => ?_
  have hj : j = ix2 (⟨(j 0).val, (j 0).isLt⟩ : Fin 1) (⟨(j 1).val, (j 1).isLt⟩ : Fin 1024) := by
    funext a
    match a with
    | ⟨0, _⟩ => rfl
    | ⟨1, _⟩ => rfl
  rw [hj]
  refine Eq.trans ?_ (v81_apply x0 x1 x2 x3 x4 x5 x6 _ _).symm
  blk_simp
  rw [after0_10]
  exact (acc10 A _ _ 7 (by decide)).trans (sum_blocks 512 8 rfl _)

/-- The reference's run keeps its arguments and ends quiet. -/
theorem frame_ri : Cert.quiescent_Reference5Ideal := fun m ρ _ =>
  (θ_run Cert.Reference5Ideal.defs _ _).mono (fun r h => ⟨fun c => (h c).2.2.2.2,
      Idealize.ShloMosaic.sem_eq_zero_of_no_sems (by decide) r.2⟩)
    (Cert.Reference5Ideal.Value.run (F := Ideal) m ρ)

/-- The kernel's results are the reference's. -/
theorem algebraic : Cert.algebraic_Kernel5Ideal_Reference5Ideal := by
  intro m ρ m' ρ' _ hagree
  refine ⟨fun c => Cert.Reference5Ideal.Read.val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.Reference5Ideal.Read.val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)),
    fun c => Cert.Reference5Ideal.Read.val_main_v80 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)),
    fun c => Cert.Reference5Ideal.Read.val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)), ?_, ?_⟩
  · refine (θ_run Cert.Kernel5Ideal.defs _ _).mono (fun r h c => ?_) (Cert.Kernel5Ideal.Value.run_blocks (F := Ideal) m ρ)
    obtain ⟨q0, q1, q2, q3, hk⟩ := h c
    have A : Args m c _ _ _ _ _ _ _ := ⟨rfl, rfl, rfl, rfl, rfl, rfl, rfl⟩
    exact ⟨q0.trans (final7 A), q1.trans (final8 A), q2.trans (final9 A), q3.trans (final10 A), hk⟩
  · refine (θ_run Cert.Reference5Ideal.defs _ _).mono (fun r h c => ?_) (Cert.Reference5Ideal.Value.run (F := Ideal) m' ρ')
    obtain ⟨q0, q1, q2, q3, hk⟩ := h c
    obtain ⟨g0, g1, g2, g3, g4, g5, g6⟩ := hagree c
    refine ⟨q0.trans ((Cert.Reference5Ideal.Read.val_main_v57_eq _ _).trans ?_), q1.trans ((Cert.Reference5Ideal.Read.val_main_v79_eq _ _).trans ?_),
      q2.trans ((Cert.Reference5Ideal.Read.val_main_v80_eq _ _ _ _ _).trans ?_), q3.trans ((Cert.Reference5Ideal.Read.val_main_v81_eq _ _).trans ?_), hk⟩
    · rw [g0, g1, g2, g3, g4, g5, g6]
    · rw [g0, g1, g2, g3, g4, g5, g6]
    · rw [g0, g1, g2]; exact congrArg₂ _ g4 g6
    · rw [g0, g1, g2, g3, g4, g5, g6]

end Cert.Proof.InBack

end
-- ==== Proof.WgradOut.lean ====
/-
  The gradients of the mixers' outputs and of the output projection: what the kernel's call leaves.
-/
module

public import proofs.«01_k».proof.Proof.Gen.Kernel6Ideal.Value
public import proofs.«01_k».proof.Proof.Gen.Reference6Ideal.Run
public import proofs.«01_k».proof.Proof.Gen.Reference6Ideal.Read
public import proofs.«01_k».proof.Proof.RmsBack
public import proofs.«01_k».proof.Defs
public import Idealize.ShloMosaic.Lib.StableHlo.ReadAt
import Idealize.ShloMosaic.Lib.Pipeline.ValueKit

@[expose] public section

set_option maxRecDepth 16384

noncomputable section

namespace Cert.Proof.WOut
open Idealize.ShloMosaic Idealize.SL.Sem Cert.Kernel6Ideal Cert.Kernel6Ideal.Gen Cert.Proof.Rms
open scoped BigOperators

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![0, 0] := (by decide +kernel : ∀ t : Fin grid0.N, _)

theorem point_lt (t : Fin cfg0.N) : t.val < 4 := lt_of_lt_of_eq t.isLt (by decide)

/-- A load of a whole block. -/
theorem load_whole {p q : Nat} {e : EltTy} (arg : Memref sig .tc .vmem ⟨2, ![p, q]⟩ e) (h : arg.IsWhole)
    (x : Vec Ideal ⟨2, ![p, q]⟩ e) (inb) :
    View.readAt (Elt Ideal) arg.view (Rect.unit (s := ⟨2, ![p, q]⟩) ![0, 0] ![p, q] inb).toLoadRect (h.unread x) = x := by
  rw [View.readAt_eq_ld, Memref.IsWhole.read_unread]
  exact View.ld_unit_zero (off := ![0, 0]) (by funext a; fin_cases a <;> rfl) inb x
/-- A load of a block's rows from `o` on. -/
theorem load_rows {p q r : Nat} {e : EltTy} (arg : Memref sig .tc .vmem ⟨2, ![p, q]⟩ e) (h : arg.IsWhole)
    (x : Vec Ideal ⟨2, ![p, q]⟩ e) (o : Nat) (inb) (a : Fin r) (b : Fin q) (ha : o + a.val < p) :
    View.readAt (Elt Ideal) arg.view (Rect.unit (s := ⟨2, ![p, q]⟩) ![o, 0] ![r, q] inb).toLoadRect (h.unread x) (ix2 a b) = x (ix2 ⟨o + a.val, ha⟩ b) := by
  rw [View.readAt_eq_ld, Memref.IsWhole.read_unread]
  show x _ = x _
  congr 1
  funext d
  match d with
  | ⟨0, _⟩ => exact Fin.ext (by show o + 1 * a.val = o + a.val; omega)
  | ⟨1, _⟩ => exact Fin.ext (by show 0 + 1 * b.val = b.val; omega)
/-- A load of a whole block that the body's stores cover. -/
theorem load_cov {p q : Nat} {e : EltTy} (v : View sig .tc .vmem ⟨2, ![p, q]⟩ e) (L : List (View.Piece (Elt Ideal) ⟨2, ![p, q]⟩ e)) (inb) :
    v.readCov L (Rect.unit (s := ⟨2, ![p, q]⟩) ![0, 0] ![p, q] inb).toLoadRect = View.canon L := by
  unfold View.readCov
  rw [View.readAt_eq_ld, View.read_writes_junk_eq_canon]
  exact View.ld_unit_zero (off := ![0, 0]) (by funext a; fin_cases a <;> rfl) inb (View.canon L)

/-- Two matrices of 512 columns side by side, at an index. -/
def side {n : Nat} (y2 y3 : Vec Ideal ⟨2, ![n, 512]⟩ .bf16) (k : Fin n) (r : Fin 1024) : EReal :=
  if h : r.val < 512 then y2 (ix2 k ⟨r.val, h⟩) else y3 (ix2 k ⟨r.val - 512, by omega⟩)
/-- The product of the two matrices, transposed, with a third one, at an index. -/
def tr {n : Nat} (y0 : Vec Ideal ⟨2, ![n, 1024]⟩ .bf16) (y2 y3 : Vec Ideal ⟨2, ![n, 512]⟩ .bf16) (r b : Fin 1024) : EReal :=
  ∑ k : Fin n, side y2 y3 k r * y0 (ix2 k b)

theorem tr_top {n : Nat} (y0 : Vec Ideal ⟨2, ![n, 1024]⟩ .bf16) (y2 y3 : Vec Ideal ⟨2, ![n, 512]⟩ .bf16) (r b : Fin 1024) (a : Fin 512) (h : r.val = a.val) :
    tr y0 y2 y3 r b = ∑ k : Fin n, y2 (ix2 k a) * y0 (ix2 k b) := by
  unfold tr side
  have hr : r.val < 512 := h ▸ a.isLt
  simp only [dif_pos hr]
  exact Finset.sum_congr rfl fun k _ => congrArg (fun i : Fin 512 => y2 (ix2 k i) * y0 (ix2 k b)) (Fin.ext h)
theorem tr_low {n : Nat} (y0 : Vec Ideal ⟨2, ![n, 1024]⟩ .bf16) (y2 y3 : Vec Ideal ⟨2, ![n, 512]⟩ .bf16) (r b : Fin 1024) (a : Fin 512) (h : r.val = 512 + a.val) :
    tr y0 y2 y3 r b = ∑ k : Fin n, y3 (ix2 k a) * y0 (ix2 k b) := by
  unfold tr side
  have hr : ¬r.val < 512 := by omega
  simp only [dif_neg hr]
  exact Finset.sum_congr rfl fun k _ => congrArg (fun i : Fin 512 => y3 (ix2 k i) * y0 (ix2 k b)) (Fin.ext (by show r.val - 512 = a.val; omega))

section Block
variable (v0 v1 : Vec Ideal S1024x1024 .bf16) (v5 : Vec Ideal S1024x512 .bf16) (v24 : Vec Ideal S512x1024 .f32)

theorem pay1_apply (a b : Fin 1024) : k0_pay1 (F := Ideal) v0 v1 (ix2 a b) = ∑ k : Fin 1024, v0 (ix2 a k) * v1 (ix2 b k) := by
  pointwise [k0_pay1]
theorem pay3_apply (a : Fin 512) (b : Fin 1024) : k0_pay3 (F := Ideal) v0 v5 (ix2 a b) = ∑ k : Fin 1024, v5 (ix2 k a) * v0 (ix2 k b) := by
  pointwise [k0_pay3, k0_pay2]
theorem pay6_apply (a : Fin 512) (b : Fin 1024) : k0_pay6 (F := Ideal) v0 v5 (ix2 a b) = ∑ k : Fin 1024, v5 (ix2 k a) * v0 (ix2 k b) := by
  pointwise [k0_pay6, k0_pay5]
theorem pay4_apply (a : Fin 512) (b : Fin 1024) : k0_pay4 (F := Ideal) v0 v5 v24 (ix2 a b) = v24 (ix2 a b) + ∑ k : Fin 1024, v5 (ix2 k a) * v0 (ix2 k b) := by
  pointwise [k0_pay4, k0_pay2]
theorem pay7_apply (a : Fin 512) (b : Fin 1024) : k0_pay7 (F := Ideal) v0 v5 v24 (ix2 a b) = v24 (ix2 a b) + ∑ k : Fin 1024, v5 (ix2 k a) * v0 (ix2 k b) := by
  pointwise [k0_pay7, k0_pay5]
theorem pay8_eq (v : Vec Ideal S1024x1024 .f32) : k0_pay8 (F := Ideal) v = v := rfl

end Block

/-- A block's part in the gradient of the weight. -/
abbrev prt (m : (ℓ : Loc nD τ sig) → Buf (Elt Ideal) ℓ) (c : Dev nD) (t : Fin cfg0.N) : Vec Ideal S1024x1024 .f32 := fun j =>
  tr (iblk m c 0 t) (iblk m c 2 t) (iblk m c 3 t) (⟨(j 0).val, (j 0).isLt⟩ : Fin 1024) (⟨(j 1).val, (j 1).isLt⟩ : Fin 1024)

/-- What the accumulator held before. -/
abbrev prev (m : (ℓ : Loc nD τ sig) → Buf (Elt Ideal) ℓ) (c : Dev nD) (t : Fin cfg0.N) : Vec Ideal S1024x1024 .f32 :=
  (outsAt0 m c (t.val - 1) (lt_of_le_of_lt (Nat.sub_le _ _) t.isLt)).2.2

theorem split (x : S512x1024.Idx) : x = ix2 (⟨(x 0).val, (x 0).isLt⟩ : Fin 512) (⟨(x 1).val, (x 1).isLt⟩ : Fin 1024) := by
  funext a
  match a with
  | ⟨0, _⟩ => rfl
  | ⟨1, _⟩ => rfl

theorem sc_A (t : Fin cfg0.N) (h : t.val % 4 = 0 ∧ ¬1 ≤ t.val ∧ ¬t.val % 4 = 3) : (outsAt0 m c t.val t.isLt).2.2 = prt m c t := by
  rw [outsAt0_A m c t h.1 h.2.1 h.1 h.2.1 h.2.2]; dsimp only; unfold sout0_A_0; rw [View.read_writes_junk_eq_canon]; unfold kernelRun0_A; dsimp only
  refine funext fun y => View.canon_apply_of_pieces (prt m c t) _ ?_ y
    (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      ((hcond0_0 t).mpr h.1) (fun h' => h.2.1 ((hcond0_1 t).mp h')) ((hcond0_2 t).mpr h.1) (fun h' => h.2.1 ((hcond0_3 t).mp h')) (fun h' => h.2.2 ((hcond0_4 t).mp h')) (iblk m c 0 t) (iblk m c 1 t) (iblk m c 2 t) (iblk m c 3 t) y)
  intro p hp
  simp only [List.mem_cons, List.mem_nil_iff, or_false] at hp
  rcases hp with rfl | rfl
  · intro x
    have hx0 : (x 0).val < 512 := (x 0).isLt
    have hx1 : (x 1).val < 1024 := (x 1).isLt
    simp only [load_whole]
    have he : (Rect.unit (s := S1024x1024) ![512, 0] ![512, 1024] inb_S1024x1024_S512x1024_512_0).emb x = ix2 (⟨512 + (x 0).val, by omega⟩ : Fin 1024) (⟨(x 1).val, hx1⟩ : Fin 1024) := by
      funext a
      match a with
      | ⟨0, _⟩ => exact Fin.ext (by show 512 + 1 * (x 0).val = 512 + (x 0).val; omega)
      | ⟨1, _⟩ => exact Fin.ext (by show 0 + 1 * (x 1).val = (x 1).val; omega)
    refine Eq.trans ?_ (congrArg (prt m c t) he).symm
    exact (congrArg _ (split x)).trans ((pay6_apply _ _ _ _).trans (tr_low _ _ _ (⟨512 + (x 0).val, by omega⟩ : Fin 1024) (⟨(x 1).val, hx1⟩ : Fin 1024) ⟨(x 0).val, hx0⟩ rfl).symm)
  · intro x
    have hx0 : (x 0).val < 512 := (x 0).isLt
    have hx1 : (x 1).val < 1024 := (x 1).isLt
    simp only [load_whole]
    have he : (Rect.unit (s := S1024x1024) ![0, 0] ![512, 1024] inb_S1024x1024_S512x1024_0_0).emb x = ix2 (⟨(x 0).val, by omega⟩ : Fin 1024) (⟨(x 1).val, hx1⟩ : Fin 1024) := by
      funext a
      match a with
      | ⟨0, _⟩ => exact Fin.ext (by show 0 + 1 * (x 0).val = (x 0).val; omega)
      | ⟨1, _⟩ => exact Fin.ext (by show 0 + 1 * (x 1).val = (x 1).val; omega)
    refine Eq.trans ?_ (congrArg (prt m c t) he).symm
    exact (congrArg _ (split x)).trans ((pay3_apply _ _ _ _).trans (tr_top _ _ _ (⟨(x 0).val, by omega⟩ : Fin 1024) (⟨(x 1).val, hx1⟩ : Fin 1024) ⟨(x 0).val, hx0⟩ rfl).symm)

theorem o4_A (t : Fin cfg0.N) (h : t.val % 4 = 0 ∧ ¬1 ≤ t.val ∧ ¬t.val % 4 = 3) : (outsAt0 m c t.val t.isLt).1 = k0_pay1 (iblk m c 0 t) (iblk m c 1 t) := by
  rw [outsAt0_A m c t h.1 h.2.1 h.1 h.2.1 h.2.2]; dsimp only; unfold out0_A_4; rw [View.read_writes_junk_eq_canon]; unfold kernelRun0_A; dsimp only
  refine (View.canon_unit_zero (by funext a; fin_cases a <;> rfl) _ _).trans ?_
  simp only [load_whole]
theorem sc_B (t : Fin cfg0.N) (h : ¬t.val % 4 = 0 ∧ 1 ≤ t.val ∧ ¬t.val % 4 = 3) : (outsAt0 m c t.val t.isLt).2.2 = fun j => prev m c t j + prt m c t j := by
  rw [outsAt0_B m c t h.1 h.2.1 h.1 h.2.1 h.2.2]; dsimp only; unfold sout0_B_0; rw [View.read_writes_junk_eq_canon]; unfold kernelRun0_B; dsimp only
  refine funext fun y => View.canon_apply_of_pieces (fun j => prev m c t j + prt m c t j) _ ?_ y
    (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (fun h' => h.1 ((hcond0_0 t).mp h')) ((hcond0_1 t).mpr h.2.1) (fun h' => h.1 ((hcond0_2 t).mp h')) ((hcond0_3 t).mpr h.2.1) (fun h' => h.2.2 ((hcond0_4 t).mp h')) (iblk m c 0 t) (iblk m c 1 t) (iblk m c 2 t) (iblk m c 3 t) (prev m c t) y)
  intro p hp
  simp only [List.mem_cons, List.mem_nil_iff, or_false] at hp
  rcases hp with rfl | rfl
  · intro x
    have hx0 : (x 0).val < 512 := (x 0).isLt
    have hx1 : (x 1).val < 1024 := (x 1).isLt
    simp only [load_whole]
    have he : (Rect.unit (s := S1024x1024) ![512, 0] ![512, 1024] inb_S1024x1024_S512x1024_512_0).emb x = ix2 (⟨512 + (x 0).val, by omega⟩ : Fin 1024) (⟨(x 1).val, hx1⟩ : Fin 1024) := by
      funext a
      match a with
      | ⟨0, _⟩ => exact Fin.ext (by show 512 + 1 * (x 0).val = 512 + (x 0).val; omega)
      | ⟨1, _⟩ => exact Fin.ext (by show 0 + 1 * (x 1).val = (x 1).val; omega)
    refine Eq.trans ?_ (congrArg (fun j => prev m c t j + prt m c t j) he).symm
    exact (congrArg _ (split x)).trans ((pay7_apply _ _ _ _ _).trans (congrArg₂ (· + ·) (load_rows (Memref.whole cc0_scratch0) (Memref.isWhole_whole cc0_scratch0) (prev m c t) 512 _ ⟨(x 0).val, hx0⟩ ⟨(x 1).val, hx1⟩ (by show 512 + (x 0).val < 1024; omega)) (tr_low _ _ _ (⟨512 + (x 0).val, by omega⟩ : Fin 1024) (⟨(x 1).val, hx1⟩ : Fin 1024) ⟨(x 0).val, hx0⟩ rfl).symm))
  · intro x
    have hx0 : (x 0).val < 512 := (x 0).isLt
    have hx1 : (x 1).val < 1024 := (x 1).isLt
    simp only [load_whole]
    have he : (Rect.unit (s := S1024x1024) ![0, 0] ![512, 1024] inb_S1024x1024_S512x1024_0_0).emb x = ix2 (⟨(x 0).val, by omega⟩ : Fin 1024) (⟨(x 1).val, hx1⟩ : Fin 1024) := by
      funext a
      match a with
      | ⟨0, _⟩ => exact Fin.ext (by show 0 + 1 * (x 0).val = (x 0).val; omega)
      | ⟨1, _⟩ => exact Fin.ext (by show 0 + 1 * (x 1).val = (x 1).val; omega)
    refine Eq.trans ?_ (congrArg (fun j => prev m c t j + prt m c t j) he).symm
    exact (congrArg _ (split x)).trans ((pay4_apply _ _ _ _ _).trans (congrArg₂ (· + ·) ((load_rows (Memref.whole cc0_scratch0) (Memref.isWhole_whole cc0_scratch0) (prev m c t) 0 _ ⟨(x 0).val, hx0⟩ ⟨(x 1).val, hx1⟩ (by show 0 + (x 0).val < 1024; omega)).trans (congrArg (fun i : Fin 1024 => prev m c t (ix2 i ⟨(x 1).val, hx1⟩)) (Fin.ext (by show 0 + (x 0).val = (x 0).val; omega)))) (tr_top _ _ _ (⟨(x 0).val, by omega⟩ : Fin 1024) (⟨(x 1).val, hx1⟩ : Fin 1024) ⟨(x 0).val, hx0⟩ rfl).symm))

theorem o4_B (t : Fin cfg0.N) (h : ¬t.val % 4 = 0 ∧ 1 ≤ t.val ∧ ¬t.val % 4 = 3) : (outsAt0 m c t.val t.isLt).1 = k0_pay1 (iblk m c 0 t) (iblk m c 1 t) := by
  rw [outsAt0_B m c t h.1 h.2.1 h.1 h.2.1 h.2.2]; dsimp only; unfold out0_B_4; rw [View.read_writes_junk_eq_canon]; unfold kernelRun0_B; dsimp only
  refine (View.canon_unit_zero (by funext a; fin_cases a <;> rfl) _ _).trans ?_
  simp only [load_whole]
theorem hs_C (t : Fin cfg0.N) (h : ¬t.val % 4 = 0 ∧ 1 ≤ t.val ∧ t.val % 4 = 3) : View.canon (kernelRun0_C.sl.HS0_2 c (ms0_0 t) (hs0_0 t) (ms0_2 t) (hs0_2 t) (ms0_3 t) (hs0_3 t) scM0_0 (Memref.isWhole_whole _) (iblk m c 0 t) (iblk m c 2 t) (iblk m c 3 t) (prev m c t)) = fun j => prev m c t j + prt m c t j := by
  refine funext fun y => View.canon_apply_of_pieces (fun j => prev m c t j + prt m c t j) _ ?_ y
    (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (fun h' => h.1 ((hcond0_0 t).mp h')) ((hcond0_1 t).mpr h.2.1) (fun h' => h.1 ((hcond0_2 t).mp h')) ((hcond0_3 t).mpr h.2.1) ((hcond0_4 t).mpr h.2.2) (iblk m c 0 t) (iblk m c 1 t) (iblk m c 2 t) (iblk m c 3 t) (prev m c t) y)
  unfold kernelRun0_C.sl.HS0_2
  intro p hp
  simp only [List.mem_cons, List.mem_nil_iff, or_false] at hp
  rcases hp with rfl | rfl
  · intro x
    have hx0 : (x 0).val < 512 := (x 0).isLt
    have hx1 : (x 1).val < 1024 := (x 1).isLt
    simp only [load_whole]
    have he : (Rect.unit (s := S1024x1024) ![512, 0] ![512, 1024] inb_S1024x1024_S512x1024_512_0).emb x = ix2 (⟨512 + (x 0).val, by omega⟩ : Fin 1024) (⟨(x 1).val, hx1⟩ : Fin 1024) := by
      funext a
      match a with
      | ⟨0, _⟩ => exact Fin.ext (by show 512 + 1 * (x 0).val = 512 + (x 0).val; omega)
      | ⟨1, _⟩ => exact Fin.ext (by show 0 + 1 * (x 1).val = (x 1).val; omega)
    refine Eq.trans ?_ (congrArg (fun j => prev m c t j + prt m c t j) he).symm
    exact (congrArg _ (split x)).trans ((pay7_apply _ _ _ _ _).trans (congrArg₂ (· + ·) (load_rows (Memref.whole cc0_scratch0) (Memref.isWhole_whole cc0_scratch0) (prev m c t) 512 _ ⟨(x 0).val, hx0⟩ ⟨(x 1).val, hx1⟩ (by show 512 + (x 0).val < 1024; omega)) (tr_low _ _ _ (⟨512 + (x 0).val, by omega⟩ : Fin 1024) (⟨(x 1).val, hx1⟩ : Fin 1024) ⟨(x 0).val, hx0⟩ rfl).symm))
  · intro x
    have hx0 : (x 0).val < 512 := (x 0).isLt
    have hx1 : (x 1).val < 1024 := (x 1).isLt
    simp only [load_whole]
    have he : (Rect.unit (s := S1024x1024) ![0, 0] ![512, 1024] inb_S1024x1024_S512x1024_0_0).emb x = ix2 (⟨(x 0).val, by omega⟩ : Fin 1024) (⟨(x 1).val, hx1⟩ : Fin 1024) := by
      funext a
      match a with
      | ⟨0, _⟩ => exact Fin.ext (by show 0 + 1 * (x 0).val = (x 0).val; omega)
      | ⟨1, _⟩ => exact Fin.ext (by show 0 + 1 * (x 1).val = (x 1).val; omega)
    refine Eq.trans ?_ (congrArg (fun j => prev m c t j + prt m c t j) he).symm
    exact (congrArg _ (split x)).trans ((pay4_apply _ _ _ _ _).trans (congrArg₂ (· + ·) ((load_rows (Memref.whole cc0_scratch0) (Memref.isWhole_whole cc0_scratch0) (prev m c t) 0 _ ⟨(x 0).val, hx0⟩ ⟨(x 1).val, hx1⟩ (by show 0 + (x 0).val < 1024; omega)).trans (congrArg (fun i : Fin 1024 => prev m c t (ix2 i ⟨(x 1).val, hx1⟩)) (Fin.ext (by show 0 + (x 0).val = (x 0).val; omega)))) (tr_top _ _ _ (⟨(x 0).val, by omega⟩ : Fin 1024) (⟨(x 1).val, hx1⟩ : Fin 1024) ⟨(x 0).val, hx0⟩ rfl).symm))

theorem sc_C (t : Fin cfg0.N) (h : ¬t.val % 4 = 0 ∧ 1 ≤ t.val ∧ t.val % 4 = 3) : (outsAt0 m c t.val t.isLt).2.2 = fun j => prev m c t j + prt m c t j := by
  rw [outsAt0_C m c t h.1 h.2.1 h.1 h.2.1 h.2.2]; dsimp only; unfold sout0_C_0; rw [View.read_writes_junk_eq_canon]; unfold kernelRun0_C; dsimp only
  exact hs_C m c t h
theorem o5_C (t : Fin cfg0.N) (h : ¬t.val % 4 = 0 ∧ 1 ≤ t.val ∧ t.val % 4 = 3) : (outsAt0 m c t.val t.isLt).2.1 = fun j => prev m c t j + prt m c t j := by
  rw [outsAt0_C m c t h.1 h.2.1 h.1 h.2.1 h.2.2]; dsimp only; unfold out0_C_5; rw [View.read_writes_junk_eq_canon]; unfold kernelRun0_C; dsimp only
  refine (View.canon_unit_zero (by funext a; fin_cases a <;> rfl) _ _).trans ?_
  unfold kernelRun0_C.sl.v24_1
  exact (pay8_eq _).trans ((load_cov _ _ _).trans (hs_C m c t h))
theorem o4_C (t : Fin cfg0.N) (h : ¬t.val % 4 = 0 ∧ 1 ≤ t.val ∧ t.val % 4 = 3) : (outsAt0 m c t.val t.isLt).1 = k0_pay1 (iblk m c 0 t) (iblk m c 1 t) := by
  rw [outsAt0_C m c t h.1 h.2.1 h.1 h.2.1 h.2.2]; dsimp only; unfold out0_C_4; rw [View.read_writes_junk_eq_canon]; unfold kernelRun0_C; dsimp only
  refine (View.canon_unit_zero (by funext a; fin_cases a <;> rfl) _ _).trans ?_
  simp only [load_whole]
theorem o4 (t : Fin cfg0.N) : (outsAt0 m c t.val t.isLt).1 = k0_pay1 (iblk m c 0 t) (iblk m c 1 t) := by
  have := point_lt t
  by_cases h0 : t.val = 0
  · exact o4_A m c t (by omega)
  · by_cases h3 : t.val = 3
    · exact o4_C m c t (by omega)
    · exact o4_B m c t (by omega)

theorem blk_0 (X : Buf (Elt Ideal) ((c.tc : Thread nD τ).loc main_arg0)) (t : Fin cfg0.N) (j : S1024x1024.Idx) (ha) (hb) :
    (((cfg0.win 0).blk t).view.read (Elt Ideal) X) j = X (ix2 ⟨1024 * t.val + (j 0).val, ha⟩ ⟨(j 1).val, hb⟩) := by
  blk_ext [e0]
theorem blk_1 (X : Buf (Elt Ideal) ((c.tc : Thread nD τ).loc main_arg1)) (t : Fin cfg0.N) (j : S1024x1024.Idx) (ha) (hb) :
    (((cfg0.win 1).blk t).view.read (Elt Ideal) X) j = X (ix2 ⟨(j 0).val, ha⟩ ⟨(j 1).val, hb⟩) := by
  blk_ext [e1]
theorem blk_2 (X : Buf (Elt Ideal) ((c.tc : Thread nD τ).loc main_arg2)) (t : Fin cfg0.N) (j : S1024x512.Idx) (ha) (hb) :
    (((cfg0.win 2).blk t).view.read (Elt Ideal) X) j = X (ix2 ⟨1024 * t.val + (j 0).val, ha⟩ ⟨(j 1).val, hb⟩) := by
  blk_ext [e2]
theorem blk_3 (X : Buf (Elt Ideal) ((c.tc : Thread nD τ).loc main_arg3)) (t : Fin cfg0.N) (j : S1024x512.Idx) (ha) (hb) :
    (((cfg0.win 3).blk t).view.read (Elt Ideal) X) j = X (ix2 ⟨1024 * t.val + (j 0).val, ha⟩ ⟨(j 1).val, hb⟩) := by
  blk_ext [e3]

/-- The arguments of the call, as the memory holds them. -/
structure Args (x0 : Vec Ideal S4096x1024 .bf16) (x1 : Vec Ideal S1024x1024 .bf16) (x2 x3 : Vec Ideal S4096x512 .bf16) : Prop where
  h0 : m ((c.tc : Thread nD τ).loc main_arg0) = x0
  h1 : m ((c.tc : Thread nD τ).loc main_arg1) = x1
  h2 : m ((c.tc : Thread nD τ).loc main_arg2) = x2
  h3 : m ((c.tc : Thread nD τ).loc main_arg3) = x3

variable {m c} {x0 : Vec Ideal S4096x1024 .bf16} {x1 : Vec Ideal S1024x1024 .bf16} {x2 x3 : Vec Ideal S4096x512 .bf16}

theorem row_lt (t : Fin cfg0.N) (a : Fin 1024) : 1024 * t.val + a.val < 4096 := by
  have := point_lt t; have := a.isLt; omega

theorem ib_0 (A : Args m c x0 x1 x2 x3) (t : Fin cfg0.N) (a : Fin 1024) (k : Fin 1024) :
    iblk m c 0 t (ix2 a k) = x0 (ix2 ⟨1024 * t.val + a.val, row_lt t a⟩ k) := by
  have h := A.h0
  rw [← V_main_arg0 m c] at h
  exact (blk_0 c (V m c main_arg0) t (ix2 a k) (row_lt t a) k.isLt).trans (congrFun h _)
theorem ib_1 (A : Args m c x0 x1 x2 x3) (t : Fin cfg0.N) (a : Fin 1024) (k : Fin 1024) :
    iblk m c 1 t (ix2 a k) = x1 (ix2 a k) := by
  have h := A.h1
  rw [← V_main_arg1 m c] at h
  exact (blk_1 c (V m c main_arg1) t (ix2 a k) a.isLt k.isLt).trans (congrFun h _)
theorem ib_2 (A : Args m c x0 x1 x2 x3) (t : Fin cfg0.N) (a : Fin 1024) (k : Fin 512) :
    iblk m c 2 t (ix2 a k) = x2 (ix2 ⟨1024 * t.val + a.val, row_lt t a⟩ k) := by
  have h := A.h2
  rw [← V_main_arg2 m c] at h
  exact (blk_2 c (V m c main_arg2) t (ix2 a k) (row_lt t a) k.isLt).trans (congrFun h _)
theorem ib_3 (A : Args m c x0 x1 x2 x3) (t : Fin cfg0.N) (a : Fin 1024) (k : Fin 512) :
    iblk m c 3 t (ix2 a k) = x3 (ix2 ⟨1024 * t.val + a.val, row_lt t a⟩ k) := by
  have h := A.h3
  rw [← V_main_arg3 m c] at h
  exact (blk_3 c (V m c main_arg3) t (ix2 a k) (row_lt t a) k.isLt).trans (congrFun h _)

theorem ib_side (A : Args m c x0 x1 x2 x3) (t : Fin cfg0.N) (a r : Fin 1024) :
    side (iblk m c 2 t) (iblk m c 3 t) a r = side x2 x3 ⟨1024 * t.val + a.val, row_lt t a⟩ r := by
  unfold side
  by_cases h : r.val < 512
  · rw [dif_pos h, dif_pos h, ib_2 A]
  · rw [dif_neg h, dif_neg h, ib_3 A]

theorem prt_apply (A : Args m c x0 x1 x2 x3) (t : Fin cfg0.N) (r b : Fin 1024) :
    prt m c t (ix2 r b) = ∑ a : Fin 1024, ext (fun k => side x2 x3 k r * x0 (ix2 k b)) (1024 * t.val + a.val) := by
  show tr _ _ _ _ _ = _
  unfold tr
  refine Finset.sum_congr rfl fun a _ => ?_
  rw [ext_lt _ _ (row_lt t a)]
  exact congrArg₂ (· * ·) (ib_side A t a r) (ib_0 A t a b)

/-- The accumulator after a block that is not the last one, or after the last one. -/
theorem acc (A : Args m c x0 x1 x2 x3) (r b : Fin 1024) : ∀ (n : ℕ) (hn : n < cfg0.N),
    (outsAt0 m c n hn).2.2 (ix2 r b) = ∑ t ∈ Finset.range (n + 1), ∑ a : Fin 1024, ext (fun k => side x2 x3 k r * x0 (ix2 k b)) (1024 * t + a.val)
  | 0, hn => by
    rw [Finset.sum_range_one]
    exact (congrFun (sc_A m c ⟨0, hn⟩ (by simp)) _).trans (prt_apply A ⟨0, hn⟩ r b)
  | n + 1, hn => by
    have ht := point_lt ⟨n + 1, hn⟩
    simp only at ht
    rw [Finset.sum_range_succ _ (n + 1), ← acc A r b n (by omega), ← prt_apply A ⟨n + 1, hn⟩ r b]
    by_cases h3 : n + 1 = 3
    · exact congrFun (sc_C m c ⟨n + 1, hn⟩ (by simp only; omega)) _
    · exact congrFun (sc_B m c ⟨n + 1, hn⟩ (by simp only; omega)) _

/-! The reference's values. -/

theorem v9_apply (x0 : Vec Ideal S4096x1024 .bf16) (x1 : Vec Ideal S1024x1024 .bf16) (a : Fin 4096) (b : Fin 1024) :
    Cert.Reference6Ideal.Read.val_main_v9 (F := Ideal) x0 x1 (ix2 a b) = ∑ k : Fin 1024, x0 (ix2 a k) * x1 (ix2 b k) := by
  pointwise [Cert.Reference6Ideal.Read.val_main_v9, Cert.Reference6Ideal.Read.val_main_v8, Cert.Reference6Ideal.Read.val_main_v0, Cert.Reference6Ideal.Read.val_main_v1]
theorem v4_apply (x2 x3 : Vec Ideal S4096x512 .bf16) (a : Fin 4096) (b : Fin 1024) :
    Cert.Reference6Ideal.Read.val_main_v4 (F := Ideal) x2 x3 (ix2 a b) = side x2 x3 a b := by
  unfold side
  pointwise [Cert.Reference6Ideal.Read.val_main_v4, Cert.Reference6Ideal.Read.val_main_v2, Cert.Reference6Ideal.Read.val_main_v3]
theorem v10_apply (x0 : Vec Ideal S4096x1024 .bf16) (x2 x3 : Vec Ideal S4096x512 .bf16) (a b : Fin 1024) :
    Cert.Reference6Ideal.Read.val_main_v10 (F := Ideal) x0 x2 x3 (ix2 a b) = ∑ k : Fin 4096, side x2 x3 k a * x0 (ix2 k b) := by
  pointwise [Cert.Reference6Ideal.Read.val_main_v10, Cert.Reference6Ideal.Read.val_main_v7, Cert.Reference6Ideal.Read.val_main_v6, Cert.Reference6Ideal.Read.val_main_v0]
  exact Finset.sum_congr rfl fun k _ => (congrArg (x0 (ix2 k b) * ·) (v4_apply x2 x3 k a)).trans (mul_comm _ _)

theorem final4 (A : Args m c x0 x1 x2 x3) :
    (dats m 0 c).arrAt 4 cfg0.N = Cert.Reference6Ideal.Read.val_main_v9 (F := Ideal) x0 x1 := by
  refine (dats m 0 c).arrAt_eq_of_covers 4 _ (by decide +kernel) fun t hf y => ?_
  have ht := point_lt t
  have hy0 : (y 0).val < 1024 := (y 0).isLt
  have hy1 : (y 1).val < 1024 := (y 1).isLt
  have g0 : ((((cfg0.win 4).blk t).view.emb y) 0).val = 1024 * t.val + (y 0).val := by
    blk_simp [e4]; omega
  have g1 : ((((cfg0.win 4).blk t).view.emb y) 1).val = (y 1).val := by
    blk_simp [e4]
  have he : (((cfg0.win 4).blk t).view.emb y) = ix2 (⟨1024 * t.val + (y 0).val, by omega⟩ : Fin 4096) (⟨(y 1).val, hy1⟩ : Fin 1024) := by
    funext a
    match a with
    | ⟨0, _⟩ => exact Fin.ext g0
    | ⟨1, _⟩ => exact Fin.ext g1
  have hy : y = ix2 (⟨(y 0).val, hy0⟩ : Fin 1024) (⟨(y 1).val, hy1⟩ : Fin 1024) := by
    funext a
    match a with
    | ⟨0, _⟩ => rfl
    | ⟨1, _⟩ => rfl
  rw [he]
  refine Eq.trans ?_ (v9_apply x0 x1 _ _).symm
  blk_simp
  rw [after0_4]
  refine (congrArg (outsAt0 m c t.val t.isLt).1 hy).trans ((congrFun (o4 m c t) _).trans ((pay1_apply _ _ _ _).trans ?_))
  exact Finset.sum_congr rfl fun k _ => congrArg₂ (· * ·) (ib_0 A t ⟨(y 0).val, hy0⟩ k) (ib_1 A t ⟨(y 1).val, hy1⟩ k)

/-- The last grid point. -/
abbrev last : Fin cfg0.N := ⟨3, by decide⟩

theorem final5 (A : Args m c x0 x1 x2 x3) :
    (dats m 0 c).arrAt 5 cfg0.N = Cert.Reference6Ideal.Read.val_main_v10 (F := Ideal) x0 x2 x3 := by
  refine (dats m 0 c).arrAt_eq_of_after_last 5 last (by decide +kernel) _ fun j => ?_
  have hj : j = ix2 (⟨(j 0).val, (j 0).isLt⟩ : Fin 1024) (⟨(j 1).val, (j 1).isLt⟩ : Fin 1024) := by
    funext a
    match a with
    | ⟨0, _⟩ => rfl
    | ⟨1, _⟩ => rfl
  rw [hj]
  refine Eq.trans ?_ (v10_apply x0 x2 x3 _ _).symm
  blk_simp
  rw [after0_5]
  refine (congrFun ((o5_C m c last (by decide)).trans (sc_C m c last (by decide)).symm) _).trans ?_
  exact (acc A _ _ 3 (by decide)).trans (sum_blocks 1024 4 rfl _)

/-- The reference's run keeps its arguments and ends quiet. -/
theorem frame_ri : Cert.quiescent_Reference6Ideal := fun m ρ _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m ρ)

/-- The kernel's results are the reference's. -/
theorem algebraic : Cert.algebraic_Kernel6Ideal_Reference6Ideal := by
  intro m ρ m' ρ' _ hagree
  refine ⟨fun c => Cert.Reference6Ideal.Read.val_main_v9 (F := Ideal) (m ((c.tc : Thread nD τ).loc main_arg0)) (m ((c.tc : Thread nD τ).loc main_arg1)),
    fun c => Cert.Reference6Ideal.Read.val_main_v10 (F := Ideal) (m ((c.tc : Thread nD τ).loc main_arg0)) (m ((c.tc : Thread nD τ).loc main_arg2)) (m ((c.tc : Thread nD τ).loc main_arg3)), ?_, ?_⟩
  · refine (θ_run Cert.Kernel6Ideal.defs _ _).mono (fun r h c => ?_) (Cert.Kernel6Ideal.Value.run_blocks (F := Ideal) m ρ)
    obtain ⟨q0, q1, hk⟩ := h c
    have A : Args m c _ _ _ _ := ⟨rfl, rfl, rfl, rfl⟩
    exact ⟨q0.trans (final4 A), q1.trans (final5 A), hk⟩
  · refine (θ_run Cert.Reference6Ideal.defs _ _).mono (fun r h c => ?_) (Cert.Reference6Ideal.Value.run (F := Ideal) m' ρ')
    obtain ⟨q0, q1, hk⟩ := h c
    obtain ⟨g0, g1, g2, g3⟩ := hagree c
    refine ⟨q0.trans ((Cert.Reference6Ideal.Read.val_main_v9_eq _ _).trans ?_), q1.trans ((Cert.Reference6Ideal.Read.val_main_v10_eq _ _ _).trans ?_), hk⟩
    · rw [g0, g1]
    · rw [g0, g2, g3]

end Cert.Proof.WOut

end
-- ==== Proof.WgradIn.lean ====
/-
  The gradient of the input projection: what the kernel's call leaves.
-/
module

public import proofs.«01_k».proof.Proof.Gen.Kernel7Ideal.Value
public import proofs.«01_k».proof.Proof.Gen.Reference7Ideal.Run
public import proofs.«01_k».proof.Proof.Gen.Reference7Ideal.Read
public import proofs.«01_k».proof.Proof.RmsBack
public import proofs.«01_k».proof.Defs
public import Idealize.ShloMosaic.Lib.StableHlo.ReadAt
import Idealize.ShloMosaic.Lib.Pipeline.ValueKit

@[expose] public section

set_option maxRecDepth 16384

noncomputable section

namespace Cert.Proof.WIn
open Idealize.ShloMosaic Idealize.SL.Sem Cert.Kernel7Ideal Cert.Kernel7Ideal.Gen Cert.Proof.Rms
open scoped BigOperators

variable (m : (ℓ : Loc nD τ sig) → Buf (Elt Ideal) ℓ) (c : Dev nD)

theorem e0 : ∀ t : Fin cfg0.N, win0_0.index t = ![t.val % 2, t.val / 2] := (by decide +kernel : ∀ t : Fin grid0.N, _)
theorem e1 : ∀ t : Fin cfg0.N, win0_1.index t = ![t.val % 2, 0] := (by decide +kernel : ∀ t : Fin grid0.N, _)
theorem e2 : ∀ t : Fin cfg0.N, win0_2.index t = ![t.val % 2, 0] := (by decide +kernel : ∀ t : Fin grid0.N, _)
theorem e3 : ∀ t : Fin cfg0.N, win0_3.index t = ![t.val % 2, 0] := (by decide +kernel : ∀ t : Fin grid0.N, _)
theorem e4 : ∀ t : Fin cfg0.N, win0_4.index t = ![t.val % 2, 0] := (by decide +kernel : ∀ t : Fin grid0.N, _)
theorem e5 : ∀ t : Fin cfg0.N, win0_5.index t = ![t.val % 2, 0] := (by decide +kernel : ∀ t : Fin grid0.N, _)
theorem e6 : ∀ t : Fin cfg0.N, win0_6.index t = ![0, 0, t.val / 2] := (by decide +kernel : ∀ t : Fin grid0.N, _)

theorem point_lt (t : Fin cfg0.N) : t.val < 4 := lt_of_lt_of_eq t.isLt (by decide)

/-- A load of a whole block. -/
theorem load_whole {p q : Nat} {e : EltTy} (arg : Memref sig .tc .vmem ⟨2, ![p, q]⟩ e) (h : arg.IsWhole)
    (x : Vec Ideal ⟨2, ![p, q]⟩ e) (inb) :
    View.readAt (Elt Ideal) arg.view (Rect.unit (s := ⟨2, ![p, q]⟩) ![0, 0] ![p, q] inb).toLoadRect (h.unread x) = x := by
  rw [View.readAt_eq_ld, Memref.IsWhole.read_unread]
  exact View.ld_unit_zero (off := ![0, 0]) (by funext a; fin_cases a <;> rfl) inb x
/-- A load of a block's rows from `o` on. -/
theorem load_rows {p q r : Nat} {e : EltTy} (arg : Memref sig .tc .vmem ⟨2, ![p, q]⟩ e) (h : arg.IsWhole)
    (x : Vec Ideal ⟨2, ![p, q]⟩ e) (o : Nat) (inb) (a : Fin r) (b : Fin q) (ha : o + a.val < p) :
    View.readAt (Elt Ideal) arg.view (Rect.unit (s := ⟨2, ![p, q]⟩) ![o, 0] ![r, q] inb).toLoadRect (h.unread x) (ix2 a b) = x (ix2 ⟨o + a.val, ha⟩ b) := by
  rw [View.readAt_eq_ld, Memref.IsWhole.read_unread]
  show x _ = x _
  congr 1
  funext d
  match d with
  | ⟨0, _⟩ => exact Fin.ext (by show o + 1 * a.val = o + a.val; omega)
  | ⟨1, _⟩ => exact Fin.ext (by show 0 + 1 * b.val = b.val; omega)
/-- A load of a block's rows, from `o` on, that the body's stores cover. -/
theorem load_cov_rows {p q r : Nat} {e : EltTy} (v : View sig .tc .vmem ⟨2, ![p, q]⟩ e) (L : List (View.Piece (Elt Ideal) ⟨2, ![p, q]⟩ e))
    (o : Nat) (inb) (a : Fin r) (b : Fin q) (ha : o + a.val < p) :
    v.readCov L (Rect.unit (s := ⟨2, ![p, q]⟩) ![o, 0] ![r, q] inb).toLoadRect (ix2 a b) = View.canon L (ix2 ⟨o + a.val, ha⟩ b) := by
  unfold View.readCov
  rw [View.readAt_eq_ld, View.read_writes_junk_eq_canon]
  show View.canon L _ = View.canon L _
  congr 1
  funext d
  match d with
  | ⟨0, _⟩ => exact Fin.ext (by show o + 1 * a.val = o + a.val; omega)
  | ⟨1, _⟩ => exact Fin.ext (by show 0 + 1 * b.val = b.val; omega)

/-- Five matrices side by side, at an index. -/
def side {n : Nat} (y1 y2 y3 : Vec Ideal ⟨2, ![n, 512]⟩ .bf16) (y4 : Vec Ideal ⟨2, ![n, 1024]⟩ .bf16) (y5 : Vec Ideal ⟨2, ![n, 128]⟩ .bf16) (k : Fin n) (r : Fin 2688) : EReal :=
  if h1 : r.val < 512 then y1 (ix2 k ⟨r.val, h1⟩)
  else if h2 : r.val < 1024 then y2 (ix2 k ⟨r.val - 512, by omega⟩)
  else if h3 : r.val < 1536 then y3 (ix2 k ⟨r.val - 1024, by omega⟩)
  else if h4 : r.val < 2560 then y4 (ix2 k ⟨r.val - 1536, by omega⟩)
  else y5 (ix2 k ⟨r.val - 2560, by omega⟩)

section Side
variable {n : Nat} (y0 : Vec Ideal ⟨2, ![n, 512]⟩ .bf16) (y1 y2 y3 : Vec Ideal ⟨2, ![n, 512]⟩ .bf16) (y4 : Vec Ideal ⟨2, ![n, 1024]⟩ .bf16) (y5 : Vec Ideal ⟨2, ![n, 128]⟩ .bf16)

/-- The product of the five matrices, transposed, with another one, at an index. -/
def tr (r : Fin 2688) (b : Fin 512) : EReal :=
  ∑ k : Fin n, side y1 y2 y3 y4 y5 k r * y0 (ix2 k b)

theorem tr_1 (r : Fin 2688) (b : Fin 512) (a : Fin 512) (h : r.val = 0 + a.val) :
    tr y0 y1 y2 y3 y4 y5 r b = ∑ k : Fin n, y1 (ix2 k a) * y0 (ix2 k b) := by
  unfold tr side
  refine Finset.sum_congr rfl fun k _ => ?_
  rw [dif_pos (show r.val < 512 by omega)]
  exact congrArg (fun i : Fin 512 => y1 (ix2 k i) * y0 (ix2 k b)) (Fin.ext (by show r.val = a.val; omega))
theorem tr_2 (r : Fin 2688) (b : Fin 512) (a : Fin 512) (h : r.val = 512 + a.val) :
    tr y0 y1 y2 y3 y4 y5 r b = ∑ k : Fin n, y2 (ix2 k a) * y0 (ix2 k b) := by
  unfold tr side
  refine Finset.sum_congr rfl fun k _ => ?_
  rw [dif_neg (show ¬r.val < 512 by omega), dif_pos (show r.val < 1024 by omega)]
  exact congrArg (fun i : Fin 512 => y2 (ix2 k i) * y0 (ix2 k b)) (Fin.ext (by show r.val - 512 = a.val; omega))
theorem tr_3 (r : Fin 2688) (b : Fin 512) (a : Fin 512) (h : r.val = 1024 + a.val) :
    tr y0 y1 y2 y3 y4 y5 r b = ∑ k : Fin n, y3 (ix2 k a) * y0 (ix2 k b) := by
  unfold tr side
  refine Finset.sum_congr rfl fun k _ => ?_
  rw [dif_neg (show ¬r.val < 512 by omega), dif_neg (show ¬r.val < 1024 by omega), dif_pos (show r.val < 1536 by omega)]
  exact congrArg (fun i : Fin 512 => y3 (ix2 k i) * y0 (ix2 k b)) (Fin.ext (by show r.val - 1024 = a.val; omega))
theorem tr_4 (r : Fin 2688) (b : Fin 512) (a : Fin 1024) (h : r.val = 1536 + a.val) :
    tr y0 y1 y2 y3 y4 y5 r b = ∑ k : Fin n, y4 (ix2 k a) * y0 (ix2 k b) := by
  unfold tr side
  refine Finset.sum_congr rfl fun k _ => ?_
  rw [dif_neg (show ¬r.val < 512 by omega), dif_neg (show ¬r.val < 1024 by omega), dif_neg (show ¬r.val < 1536 by omega), dif_pos (show r.val < 2560 by omega)]
  exact congrArg (fun i : Fin 1024 => y4 (ix2 k i) * y0 (ix2 k b)) (Fin.ext (by show r.val - 1536 = a.val; omega))
theorem tr_5 (r : Fin 2688) (b : Fin 512) (a : Fin 128) (h : r.val = 2560 + a.val) :
    tr y0 y1 y2 y3 y4 y5 r b = ∑ k : Fin n, y5 (ix2 k a) * y0 (ix2 k b) := by
  unfold tr side
  refine Finset.sum_congr rfl fun k _ => ?_
  rw [dif_neg (show ¬r.val < 512 by omega), dif_neg (show ¬r.val < 1024 by omega), dif_neg (show ¬r.val < 1536 by omega), dif_neg (show ¬r.val < 2560 by omega)]
  exact congrArg (fun i : Fin 128 => y5 (ix2 k i) * y0 (ix2 k b)) (Fin.ext (by show r.val - 2560 = a.val; omega))

end Side

section Block
variable (v0 : Vec Ideal S2048x512 .bf16)

theorem pay17_apply (v : Vec Ideal S2048x512 .bf16) (a : Fin 512) (b : Fin 512) :
    k0_pay17 (F := Ideal) v0 v (ix2 a b) = ∑ k : Fin 2048, v (ix2 k a) * v0 (ix2 k b) := by
  pointwise [k0_pay17, k0_pay16]
theorem pay18_apply (v : Vec Ideal S2048x512 .bf16) (u : Vec Ideal S512x512 .f32) (a : Fin 512) (b : Fin 512) :
    k0_pay18 (F := Ideal) v0 v u (ix2 a b) = u (ix2 a b) + ∑ k : Fin 2048, v (ix2 k a) * v0 (ix2 k b) := by
  pointwise [k0_pay18, k0_pay16]
theorem pay20_apply (v : Vec Ideal S2048x512 .bf16) (a : Fin 512) (b : Fin 512) :
    k0_pay20 (F := Ideal) v0 v (ix2 a b) = ∑ k : Fin 2048, v (ix2 k a) * v0 (ix2 k b) := by
  pointwise [k0_pay20, k0_pay19]
theorem pay21_apply (v : Vec Ideal S2048x512 .bf16) (u : Vec Ideal S512x512 .f32) (a : Fin 512) (b : Fin 512) :
    k0_pay21 (F := Ideal) v0 v u (ix2 a b) = u (ix2 a b) + ∑ k : Fin 2048, v (ix2 k a) * v0 (ix2 k b) := by
  pointwise [k0_pay21, k0_pay19]
theorem pay23_apply (v : Vec Ideal S2048x512 .bf16) (a : Fin 512) (b : Fin 512) :
    k0_pay23 (F := Ideal) v0 v (ix2 a b) = ∑ k : Fin 2048, v (ix2 k a) * v0 (ix2 k b) := by
  pointwise [k0_pay23, k0_pay22]
theorem pay24_apply (v : Vec Ideal S2048x512 .bf16) (u : Vec Ideal S512x512 .f32) (a : Fin 512) (b : Fin 512) :
    k0_pay24 (F := Ideal) v0 v u (ix2 a b) = u (ix2 a b) + ∑ k : Fin 2048, v (ix2 k a) * v0 (ix2 k b) := by
  pointwise [k0_pay24, k0_pay22]
theorem pay2_apply (v : Vec Ideal S2048x1024 .bf16) (a : Fin 1024) (b : Fin 512) :
    k0_pay2 (F := Ideal) v0 v (constant S1024x512 .f32 0x00000000#32) (ix2 a b) = ∑ k : Fin 2048, v (ix2 k a) * v0 (ix2 k b) := by
  pointwise [k0_pay2, k0_pay1]
theorem pay3_apply (v : Vec Ideal S2048x1024 .bf16) (u : Vec Ideal S1024x512 .f32) (a : Fin 1024) (b : Fin 512) :
    k0_pay3 (F := Ideal) v0 v (constant S1024x512 .f32 0x00000000#32) u (ix2 a b) = u (ix2 a b) + ∑ k : Fin 2048, v (ix2 k a) * v0 (ix2 k b) := by
  pointwise [k0_pay3, k0_pay1]
theorem pay5_apply (v : Vec Ideal S2048x128 .bf16) (a : Fin 128) (b : Fin 512) :
    k0_pay5 (F := Ideal) v0 v (ix2 a b) = ∑ k : Fin 2048, v (ix2 k a) * v0 (ix2 k b) := by
  pointwise [k0_pay5, k0_pay4]
theorem pay6_apply (v : Vec Ideal S2048x128 .bf16) (u : Vec Ideal S128x512 .f32) (a : Fin 128) (b : Fin 512) :
    k0_pay6 (F := Ideal) v0 v u (ix2 a b) = u (ix2 a b) + ∑ k : Fin 2048, v (ix2 k a) * v0 (ix2 k b) := by
  pointwise [k0_pay6, k0_pay4]
theorem pay9_apply (v : Vec Ideal S321x512 .f32) (p : Fin 1) (a : Fin 321) (b : Fin 512) :
    k0_pay9 (F := Ideal) v (ix3 p a b) = v (ix2 a b) := by
  pointwise [k0_pay9]
theorem pay8_apply (v : Vec Ideal S321x512 .f32) (p : Fin 1) (a : Fin 321) (b : Fin 512) :
    k0_pay8 (F := Ideal) v (ix3 p a b) = v (ix2 a b) := by
  pointwise [k0_pay8]
theorem pay7_apply (v : Vec Ideal S321x512 .f32) (p : Fin 1) (a : Fin 321) (b : Fin 512) :
    k0_pay7 (F := Ideal) (k0_pay15 (F := Ideal) v) (ix3 p a b) = v (ix2 a b) := by
  pointwise [k0_pay7, k0_pay15]
theorem pay14_apply (v : Vec Ideal S321x512 .f32) (p : Fin 1) (a : Fin 321) (b : Fin 512) :
    k0_pay14 (F := Ideal) v (ix3 p a b) = v (ix2 a b) := by
  pointwise [k0_pay14]
theorem pay13_apply (v : Vec Ideal S321x512 .f32) (p : Fin 1) (a : Fin 321) (b : Fin 512) :
    k0_pay13 (F := Ideal) v (ix3 p a b) = v (ix2 a b) := by
  pointwise [k0_pay13]
theorem pay12_apply (v : Vec Ideal S321x512 .f32) (p : Fin 1) (a : Fin 321) (b : Fin 512) :
    k0_pay12 (F := Ideal) v (ix3 p a b) = v (ix2 a b) := by
  pointwise [k0_pay12]
theorem pay11_apply (v : Vec Ideal S321x512 .f32) (p : Fin 1) (a : Fin 321) (b : Fin 512) :
    k0_pay11 (F := Ideal) v (ix3 p a b) = v (ix2 a b) := by
  pointwise [k0_pay11]
theorem pay10_apply (v : Vec Ideal S321x512 .f32) (p : Fin 1) (a : Fin 321) (b : Fin 512) :
    k0_pay10 (F := Ideal) v (ix3 p a b) = v (ix2 a b) := by
  pointwise [k0_pay10]

end Block

/-- A block's part in the gradient of the weight. -/
abbrev prt (m : (ℓ : Loc nD τ sig) → Buf (Elt Ideal) ℓ) (c : Dev nD) (t : Fin cfg0.N) : Vec Ideal S2688x512 .f32 := fun j =>
  tr (iblk m c 0 t) (iblk m c 1 t) (iblk m c 2 t) (iblk m c 3 t) (iblk m c 4 t) (iblk m c 5 t) (⟨(j 0).val, (j 0).isLt⟩ : Fin 2688) (⟨(j 1).val, (j 1).isLt⟩ : Fin 512)

/-- What the accumulator held before. -/
abbrev prev (m : (ℓ : Loc nD τ sig) → Buf (Elt Ideal) ℓ) (c : Dev nD) (t : Fin cfg0.N) : Vec Ideal S2688x512 .f32 :=
  (outsAt0 m c (t.val - 1) (lt_of_le_of_lt (Nat.sub_le _ _) t.isLt)).2

theorem split2 {p q : Nat} (x : Shape.Idx ⟨2, ![p, q]⟩) : x = ix2 (⟨(x 0).val, (x 0).isLt⟩ : Fin p) (⟨(x 1).val, (x 1).isLt⟩ : Fin q) := by
  funext a
  match a with
  | ⟨0, _⟩ => rfl
  | ⟨1, _⟩ => rfl
theorem split3 {p q r : Nat} (x : Shape.Idx ⟨3, ![p, q, r]⟩) : x = ix3 (⟨(x 0).val, (x 0).isLt⟩ : Fin p) (⟨(x 1).val, (x 1).isLt⟩ : Fin q) (⟨(x 2).val, (x 2).isLt⟩ : Fin r) := by
  funext a
  match a with
  | ⟨0, _⟩ => rfl
  | ⟨1, _⟩ => rfl
  | ⟨2, _⟩ => rfl

theorem sc_A (t : Fin cfg0.N) (h : t.val % 2 = 0 ∧ ¬t.val % 2 = 1) : (outsAt0 m c t.val t.isLt).2 = prt m c t := by
  rw [outsAt0_A m c t h.1 h.2 h.1 h.2 h.1 h.2 h.1 h.2 h.1 h.2 h.2]; dsimp only; unfold sout0_A_0; rw [View.read_writes_junk_eq_canon]; unfold kernelRun0_A; dsimp only
  refine funext fun y => View.canon_apply_of_pieces (prt m c t) _ ?_ y
    (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      ((hcond0_0 t).mpr h.1) (fun h' => h.2 ((hcond0_1 t).mp h')) ((hcond0_2 t).mpr h.1) (fun h' => h.2 ((hcond0_3 t).mp h')) ((hcond0_4 t).mpr h.1) (fun h' => h.2 ((hcond0_5 t).mp h')) ((hcond0_6 t).mpr h.1) (fun h' => h.2 ((hcond0_7 t).mp h')) ((hcond0_8 t).mpr h.1) (fun h' => h.2 ((hcond0_9 t).mp h')) (fun h' => h.2 ((hcond0_10 t).mp h')) (iblk m c 0 t) (iblk m c 1 t) (iblk m c 2 t) (iblk m c 3 t) (iblk m c 4 t) (iblk m c 5 t) y)
  unfold kernelRun0_A.sl.r kernelRun0_A.sl.r_1 kernelRun0_A.sl.cst_22
  intro p hp
  simp only [List.mem_cons, List.mem_nil_iff, or_false] at hp
  rcases hp with rfl | rfl | rfl | rfl | rfl
  · intro x
    have hx0 : (x 0).val < 128 := (x 0).isLt
    have hx1 : (x 1).val < 512 := (x 1).isLt
    simp only [load_whole]
    have he : (Rect.unit (s := S2688x512) ![2560, 0] ![128, 512] inb_S2688x512_S128x512_2560_0).emb x = ix2 (⟨2560 + (x 0).val, by omega⟩ : Fin 2688) (⟨(x 1).val, hx1⟩ : Fin 512) := by
      funext a
      match a with
      | ⟨0, _⟩ => exact Fin.ext (by show 2560 + 1 * (x 0).val = 2560 + (x 0).val; omega)
      | ⟨1, _⟩ => exact Fin.ext (by show 0 + 1 * (x 1).val = (x 1).val; omega)
    refine Eq.trans ?_ (congrArg (prt m c t) he).symm
    exact (congrArg _ (split2 x)).trans ((pay5_apply _ _ _ _).trans (tr_5 _ _ _ _ _ _ (⟨2560 + (x 0).val, by omega⟩ : Fin 2688) (⟨(x 1).val, hx1⟩ : Fin 512) ⟨(x 0).val, hx0⟩ rfl).symm)
  · intro x
    have hx0 : (x 0).val < 1024 := (x 0).isLt
    have hx1 : (x 1).val < 512 := (x 1).isLt
    simp only [load_whole]
    have he : (Rect.unit (s := S2688x512) ![1536, 0] ![1024, 512] inb_S2688x512_S1024x512_1536_0).emb x = ix2 (⟨1536 + (x 0).val, by omega⟩ : Fin 2688) (⟨(x 1).val, hx1⟩ : Fin 512) := by
      funext a
      match a with
      | ⟨0, _⟩ => exact Fin.ext (by show 1536 + 1 * (x 0).val = 1536 + (x 0).val; omega)
      | ⟨1, _⟩ => exact Fin.ext (by show 0 + 1 * (x 1).val = (x 1).val; omega)
    refine Eq.trans ?_ (congrArg (prt m c t) he).symm
    exact (congrArg _ (split2 x)).trans ((pay2_apply _ _ _ _).trans (tr_4 _ _ _ _ _ _ (⟨1536 + (x 0).val, by omega⟩ : Fin 2688) (⟨(x 1).val, hx1⟩ : Fin 512) ⟨(x 0).val, hx0⟩ rfl).symm)
  · intro x
    have hx0 : (x 0).val < 512 := (x 0).isLt
    have hx1 : (x 1).val < 512 := (x 1).isLt
    simp only [load_whole]
    have he : (Rect.unit (s := S2688x512) ![1024, 0] ![512, 512] inb_S2688x512_S512x512_1024_0).emb x = ix2 (⟨1024 + (x 0).val, by omega⟩ : Fin 2688) (⟨(x 1).val, hx1⟩ : Fin 512) := by
      funext a
      match a with
      | ⟨0, _⟩ => exact Fin.ext (by show 1024 + 1 * (x 0).val = 1024 + (x 0).val; omega)
      | ⟨1, _⟩ => exact Fin.ext (by show 0 + 1 * (x 1).val = (x 1).val; omega)
    refine Eq.trans ?_ (congrArg (prt m c t) he).symm
    exact (congrArg _ (split2 x)).trans ((pay23_apply _ _ _ _).trans (tr_3 _ _ _ _ _ _ (⟨1024 + (x 0).val, by omega⟩ : Fin 2688) (⟨(x 1).val, hx1⟩ : Fin 512) ⟨(x 0).val, hx0⟩ rfl).symm)
  · intro x
    have hx0 : (x 0).val < 512 := (x 0).isLt
    have hx1 : (x 1).val < 512 := (x 1).isLt
    simp only [load_whole]
    have he : (Rect.unit (s := S2688x512) ![512, 0] ![512, 512] inb_S2688x512_S512x512_512_0).emb x = ix2 (⟨512 + (x 0).val, by omega⟩ : Fin 2688) (⟨(x 1).val, hx1⟩ : Fin 512) := by
      funext a
      match a with
      | ⟨0, _⟩ => exact Fin.ext (by show 512 + 1 * (x 0).val = 512 + (x 0).val; omega)
      | ⟨1, _⟩ => exact Fin.ext (by show 0 + 1 * (x 1).val = (x 1).val; omega)
    refine Eq.trans ?_ (congrArg (prt m c t) he).symm
    exact (congrArg _ (split2 x)).trans ((pay20_apply _ _ _ _).trans (tr_2 _ _ _ _ _ _ (⟨512 + (x 0).val, by omega⟩ : Fin 2688) (⟨(x 1).val, hx1⟩ : Fin 512) ⟨(x 0).val, hx0⟩ rfl).symm)
  · intro x
    have hx0 : (x 0).val < 512 := (x 0).isLt
    have hx1 : (x 1).val < 512 := (x 1).isLt
    simp only [load_whole]
    have he : (Rect.unit (s := S2688x512) ![0, 0] ![512, 512] inb_S2688x512_S512x512_0_0).emb x = ix2 (⟨0 + (x 0).val, by omega⟩ : Fin 2688) (⟨(x 1).val, hx1⟩ : Fin 512) := by
      funext a
      match a with
      | ⟨0, _⟩ => exact Fin.ext (by show 0 + 1 * (x 0).val = 0 + (x 0).val; omega)
      | ⟨1, _⟩ => exact Fin.ext (by show 0 + 1 * (x 1).val = (x 1).val; omega)
    refine Eq.trans ?_ (congrArg (prt m c t) he).symm
    exact (congrArg _ (split2 x)).trans ((pay17_apply _ _ _ _).trans (tr_1 _ _ _ _ _ _ (⟨0 + (x 0).val, by omega⟩ : Fin 2688) (⟨(x 1).val, hx1⟩ : Fin 512) ⟨(x 0).val, hx0⟩ rfl).symm)

theorem hs_B (t : Fin cfg0.N) (h : ¬t.val % 2 = 0 ∧ t.val % 2 = 1) : View.canon (kernelRun0_B.sl.HS0_5 c (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) (iblk m c 5 t) (prev m c t)) = fun j => prev m c t j + prt m c t j := by
  refine funext fun y => View.canon_apply_of_pieces (fun j => prev m c t j + prt m c t j) _ ?_ y
    (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (fun h' => h.1 ((hcond0_0 t).mp h')) ((hcond0_1 t).mpr h.2) (fun h' => h.1 ((hcond0_2 t).mp h')) ((hcond0_3 t).mpr h.2) (fun h' => h.1 ((hcond0_4 t).mp h')) ((hcond0_5 t).mpr h.2) (fun h' => h.1 ((hcond0_6 t).mp h')) ((hcond0_7 t).mpr h.2) (fun h' => h.1 ((hcond0_8 t).mp h')) ((hcond0_9 t).mpr h.2) ((hcond0_10 t).mpr h.2) (iblk m c 0 t) (iblk m c 1 t) (iblk m c 2 t) (iblk m c 3 t) (iblk m c 4 t) (iblk m c 5 t) (prev m c t) y)
  unfold kernelRun0_B.sl.HS0_5 kernelRun0_B.sl.v44_3 kernelRun0_B.sl.v44_2 kernelRun0_B.sl.v44_1 kernelRun0_B.sl.v44 kernelRun0_B.sl.r kernelRun0_B.sl.r_1 kernelRun0_B.sl.cst_22
  intro p hp
  simp only [List.mem_cons, List.mem_nil_iff, or_false] at hp
  rcases hp with rfl | rfl | rfl | rfl | rfl
  · intro x
    have hx0 : (x 0).val < 128 := (x 0).isLt
    have hx1 : (x 1).val < 512 := (x 1).isLt
    simp only [load_whole]
    have he : (Rect.unit (s := S2688x512) ![2560, 0] ![128, 512] inb_S2688x512_S128x512_2560_0).emb x = ix2 (⟨2560 + (x 0).val, by omega⟩ : Fin 2688) (⟨(x 1).val, hx1⟩ : Fin 512) := by
      funext a
      match a with
      | ⟨0, _⟩ => exact Fin.ext (by show 2560 + 1 * (x 0).val = 2560 + (x 0).val; omega)
      | ⟨1, _⟩ => exact Fin.ext (by show 0 + 1 * (x 1).val = (x 1).val; omega)
    refine Eq.trans ?_ (congrArg (fun j => prev m c t j + prt m c t j) he).symm
    exact (congrArg _ (split2 x)).trans ((pay6_apply _ _ _ _ _).trans (congrArg₂ (· + ·) (load_rows (Memref.whole cc0_scratch0) (Memref.isWhole_whole cc0_scratch0) (prev m c t) 2560 _ ⟨(x 0).val, hx0⟩ ⟨(x 1).val, hx1⟩ (by show 2560 + (x 0).val < 2688; omega)) ((tr_5 _ _ _ _ _ _ (⟨2560 + (x 0).val, by omega⟩ : Fin 2688) (⟨(x 1).val, hx1⟩ : Fin 512) ⟨(x 0).val, hx0⟩ rfl).symm)))
  · intro x
    have hx0 : (x 0).val < 1024 := (x 0).isLt
    have hx1 : (x 1).val < 512 := (x 1).isLt
    simp only [load_whole]
    have he : (Rect.unit (s := S2688x512) ![1536, 0] ![1024, 512] inb_S2688x512_S1024x512_1536_0).emb x = ix2 (⟨1536 + (x 0).val, by omega⟩ : Fin 2688) (⟨(x 1).val, hx1⟩ : Fin 512) := by
      funext a
      match a with
      | ⟨0, _⟩ => exact Fin.ext (by show 1536 + 1 * (x 0).val = 1536 + (x 0).val; omega)
      | ⟨1, _⟩ => exact Fin.ext (by show 0 + 1 * (x 1).val = (x 1).val; omega)
    refine Eq.trans ?_ (congrArg (fun j => prev m c t j + prt m c t j) he).symm
    exact (congrArg _ (split2 x)).trans ((pay3_apply _ _ _ _ _).trans (congrArg₂ (· + ·) (load_rows (Memref.whole cc0_scratch0) (Memref.isWhole_whole cc0_scratch0) (prev m c t) 1536 _ ⟨(x 0).val, hx0⟩ ⟨(x 1).val, hx1⟩ (by show 1536 + (x 0).val < 2688; omega)) ((tr_4 _ _ _ _ _ _ (⟨1536 + (x 0).val, by omega⟩ : Fin 2688) (⟨(x 1).val, hx1⟩ : Fin 512) ⟨(x 0).val, hx0⟩ rfl).symm)))
  · intro x
    have hx0 : (x 0).val < 512 := (x 0).isLt
    have hx1 : (x 1).val < 512 := (x 1).isLt
    simp only [load_whole]
    have he : (Rect.unit (s := S2688x512) ![1024, 0] ![512, 512] inb_S2688x512_S512x512_1024_0).emb x = ix2 (⟨1024 + (x 0).val, by omega⟩ : Fin 2688) (⟨(x 1).val, hx1⟩ : Fin 512) := by
      funext a
      match a with
      | ⟨0, _⟩ => exact Fin.ext (by show 1024 + 1 * (x 0).val = 1024 + (x 0).val; omega)
      | ⟨1, _⟩ => exact Fin.ext (by show 0 + 1 * (x 1).val = (x 1).val; omega)
    refine Eq.trans ?_ (congrArg (fun j => prev m c t j + prt m c t j) he).symm
    exact (congrArg _ (split2 x)).trans ((pay24_apply _ _ _ _ _).trans (congrArg₂ (· + ·) (load_rows (Memref.whole cc0_scratch0) (Memref.isWhole_whole cc0_scratch0) (prev m c t) 1024 _ ⟨(x 0).val, hx0⟩ ⟨(x 1).val, hx1⟩ (by show 1024 + (x 0).val < 2688; omega)) ((tr_3 _ _ _ _ _ _ (⟨1024 + (x 0).val, by omega⟩ : Fin 2688) (⟨(x 1).val, hx1⟩ : Fin 512) ⟨(x 0).val, hx0⟩ rfl).symm)))
  · intro x
    have hx0 : (x 0).val < 512 := (x 0).isLt
    have hx1 : (x 1).val < 512 := (x 1).isLt
    simp only [load_whole]
    have he : (Rect.unit (s := S2688x512) ![512, 0] ![512, 512] inb_S2688x512_S512x512_512_0).emb x = ix2 (⟨512 + (x 0).val, by omega⟩ : Fin 2688) (⟨(x 1).val, hx1⟩ : Fin 512) := by
      funext a
      match a with
      | ⟨0, _⟩ => exact Fin.ext (by show 512 + 1 * (x 0).val = 512 + (x 0).val; omega)
      | ⟨1, _⟩ => exact Fin.ext (by show 0 + 1 * (x 1).val = (x 1).val; omega)
    refine Eq.trans ?_ (congrArg (fun j => prev m c t j + prt m c t j) he).symm
    exact (congrArg _ (split2 x)).trans ((pay21_apply _ _ _ _ _).trans (congrArg₂ (· + ·) (load_rows (Memref.whole cc0_scratch0) (Memref.isWhole_whole cc0_scratch0) (prev m c t) 512 _ ⟨(x 0).val, hx0⟩ ⟨(x 1).val, hx1⟩ (by show 512 + (x 0).val < 2688; omega)) ((tr_2 _ _ _ _ _ _ (⟨512 + (x 0).val, by omega⟩ : Fin 2688) (⟨(x 1).val, hx1⟩ : Fin 512) ⟨(x 0).val, hx0⟩ rfl).symm)))
  · intro x
    have hx0 : (x 0).val < 512 := (x 0).isLt
    have hx1 : (x 1).val < 512 := (x 1).isLt
    simp only [load_whole]
    have he : (Rect.unit (s := S2688x512) ![0, 0] ![512, 512] inb_S2688x512_S512x512_0_0).emb x = ix2 (⟨0 + (x 0).val, by omega⟩ : Fin 2688) (⟨(x 1).val, hx1⟩ : Fin 512) := by
      funext a
      match a with
      | ⟨0, _⟩ => exact Fin.ext (by show 0 + 1 * (x 0).val = 0 + (x 0).val; omega)
      | ⟨1, _⟩ => exact Fin.ext (by show 0 + 1 * (x 1).val = (x 1).val; omega)
    refine Eq.trans ?_ (congrArg (fun j => prev m c t j + prt m c t j) he).symm
    exact (congrArg _ (split2 x)).trans ((pay18_apply _ _ _ _ _).trans (congrArg₂ (· + ·) (load_rows (Memref.whole cc0_scratch0) (Memref.isWhole_whole cc0_scratch0) (prev m c t) 0 _ ⟨(x 0).val, hx0⟩ ⟨(x 1).val, hx1⟩ (by show 0 + (x 0).val < 2688; omega)) ((tr_1 _ _ _ _ _ _ (⟨0 + (x 0).val, by omega⟩ : Fin 2688) (⟨(x 1).val, hx1⟩ : Fin 512) ⟨(x 0).val, hx0⟩ rfl).symm)))

/-- The eight cuts of the accumulator. -/
abbrev cut (m : (ℓ : Loc nD τ sig) → Buf (Elt Ideal) ℓ) (c : Dev nD) (t : Fin cfg0.N) : Vec Ideal S8x321x512 .bf16 := fun j =>
  have h0 : (j 0).val < 8 := (j 0).isLt
  have h1 : (j 1).val < 321 := (j 1).isLt
  prev m c t (ix2 ⟨(j 0).val * 321 + (j 1).val, by omega⟩ ⟨(j 2).val, (j 2).isLt⟩) + prt m c t (ix2 ⟨(j 0).val * 321 + (j 1).val, by omega⟩ ⟨(j 2).val, (j 2).isLt⟩)

theorem o_B (t : Fin cfg0.N) (h : ¬t.val % 2 = 0 ∧ t.val % 2 = 1) : (outsAt0 m c t.val t.isLt).1 = cut m c t := by
  rw [outsAt0_B m c t h.1 h.2 h.1 h.2 h.1 h.2 h.1 h.2 h.1 h.2 h.2]; dsimp only; unfold out0_B_6; rw [View.read_writes_junk_eq_canon]; unfold kernelRun0_B; dsimp only
  refine funext fun y => View.canon_apply_of_pieces (cut m c t) _ ?_ y
    (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (fun h' => h.1 ((hcond0_0 t).mp h')) ((hcond0_1 t).mpr h.2) (fun h' => h.1 ((hcond0_2 t).mp h')) ((hcond0_3 t).mpr h.2) (fun h' => h.1 ((hcond0_4 t).mp h')) ((hcond0_5 t).mpr h.2) (fun h' => h.1 ((hcond0_6 t).mp h')) ((hcond0_7 t).mpr h.2) (fun h' => h.1 ((hcond0_8 t).mp h')) ((hcond0_9 t).mpr h.2) ((hcond0_10 t).mpr h.2) (iblk m c 0 t) (iblk m c 1 t) (iblk m c 2 t) (iblk m c 3 t) (iblk m c 4 t) (iblk m c 5 t) (prev m c t) y)
  unfold kernelRun0_B.sl.v79 kernelRun0_B.sl.v74 kernelRun0_B.sl.r_2 kernelRun0_B.sl.v69 kernelRun0_B.sl.v64 kernelRun0_B.sl.v59 kernelRun0_B.sl.v54 kernelRun0_B.sl.v49 kernelRun0_B.sl.v44_4
  intro p hp
  simp only [List.mem_cons, List.mem_nil_iff, or_false] at hp
  rcases hp with rfl | rfl | rfl | rfl | rfl | rfl | rfl | rfl
  · intro x
    have hx1 : (x 1).val < 321 := (x 1).isLt
    have hx2 : (x 2).val < 512 := (x 2).isLt
    have he : (Rect.unit (s := S8x321x512) ![7, 0, 0] ![1, 321, 512] inb_S8x321x512_S1x321x512_7_0_0).emb x = ix3 (⟨7, by omega⟩ : Fin 8) (⟨(x 1).val, hx1⟩ : Fin 321) (⟨(x 2).val, hx2⟩ : Fin 512) := by
      funext a
      match a with
      | ⟨0, _⟩ => exact Fin.ext (by have hx0 : (x 0).val < 1 := (x 0).isLt; show 7 + 1 * (x 0).val = 7; omega)
      | ⟨1, _⟩ => exact Fin.ext (by show 0 + 1 * (x 1).val = (x 1).val; omega)
      | ⟨2, _⟩ => exact Fin.ext (by show 0 + 1 * (x 2).val = (x 2).val; omega)
    refine Eq.trans ?_ (congrArg (cut m c t) he).symm
    exact (congrArg _ (split3 x)).trans ((pay9_apply _ _ _ _).trans ((load_cov_rows _ _ 2247 _ ⟨(x 1).val, hx1⟩ ⟨(x 2).val, hx2⟩ (by show 2247 + (x 1).val < 2688; omega)).trans (congrFun (hs_B m c t h) _)))
  · intro x
    have hx1 : (x 1).val < 321 := (x 1).isLt
    have hx2 : (x 2).val < 512 := (x 2).isLt
    have he : (Rect.unit (s := S8x321x512) ![6, 0, 0] ![1, 321, 512] inb_S8x321x512_S1x321x512_6_0_0).emb x = ix3 (⟨6, by omega⟩ : Fin 8) (⟨(x 1).val, hx1⟩ : Fin 321) (⟨(x 2).val, hx2⟩ : Fin 512) := by
      funext a
      match a with
      | ⟨0, _⟩ => exact Fin.ext (by have hx0 : (x 0).val < 1 := (x 0).isLt; show 6 + 1 * (x 0).val = 6; omega)
      | ⟨1, _⟩ => exact Fin.ext (by show 0 + 1 * (x 1).val = (x 1).val; omega)
      | ⟨2, _⟩ => exact Fin.ext (by show 0 + 1 * (x 2).val = (x 2).val; omega)
    refine Eq.trans ?_ (congrArg (cut m c t) he).symm
    exact (congrArg _ (split3 x)).trans ((pay8_apply _ _ _ _).trans ((load_cov_rows _ _ 1926 _ ⟨(x 1).val, hx1⟩ ⟨(x 2).val, hx2⟩ (by show 1926 + (x 1).val < 2688; omega)).trans (congrFun (hs_B m c t h) _)))
  · intro x
    have hx1 : (x 1).val < 321 := (x 1).isLt
    have hx2 : (x 2).val < 512 := (x 2).isLt
    have he : (Rect.unit (s := S8x321x512) ![5, 0, 0] ![1, 321, 512] inb_S8x321x512_S1x321x512_5_0_0).emb x = ix3 (⟨5, by omega⟩ : Fin 8) (⟨(x 1).val, hx1⟩ : Fin 321) (⟨(x 2).val, hx2⟩ : Fin 512) := by
      funext a
      match a with
      | ⟨0, _⟩ => exact Fin.ext (by have hx0 : (x 0).val < 1 := (x 0).isLt; show 5 + 1 * (x 0).val = 5; omega)
      | ⟨1, _⟩ => exact Fin.ext (by show 0 + 1 * (x 1).val = (x 1).val; omega)
      | ⟨2, _⟩ => exact Fin.ext (by show 0 + 1 * (x 2).val = (x 2).val; omega)
    refine Eq.trans ?_ (congrArg (cut m c t) he).symm
    exact (congrArg _ (split3 x)).trans ((pay7_apply _ _ _ _).trans ((load_cov_rows _ _ 1605 _ ⟨(x 1).val, hx1⟩ ⟨(x 2).val, hx2⟩ (by show 1605 + (x 1).val < 2688; omega)).trans (congrFun (hs_B m c t h) _)))
  · intro x
    have hx1 : (x 1).val < 321 := (x 1).isLt
    have hx2 : (x 2).val < 512 := (x 2).isLt
    have he : (Rect.unit (s := S8x321x512) ![4, 0, 0] ![1, 321, 512] inb_S8x321x512_S1x321x512_4_0_0).emb x = ix3 (⟨4, by omega⟩ : Fin 8) (⟨(x 1).val, hx1⟩ : Fin 321) (⟨(x 2).val, hx2⟩ : Fin 512) := by
      funext a
      match a with
      | ⟨0, _⟩ => exact Fin.ext (by have hx0 : (x 0).val < 1 := (x 0).isLt; show 4 + 1 * (x 0).val = 4; omega)
      | ⟨1, _⟩ => exact Fin.ext (by show 0 + 1 * (x 1).val = (x 1).val; omega)
      | ⟨2, _⟩ => exact Fin.ext (by show 0 + 1 * (x 2).val = (x 2).val; omega)
    refine Eq.trans ?_ (congrArg (cut m c t) he).symm
    exact (congrArg _ (split3 x)).trans ((pay14_apply _ _ _ _).trans ((load_cov_rows _ _ 1284 _ ⟨(x 1).val, hx1⟩ ⟨(x 2).val, hx2⟩ (by show 1284 + (x 1).val < 2688; omega)).trans (congrFun (hs_B m c t h) _)))
  · intro x
    have hx1 : (x 1).val < 321 := (x 1).isLt
    have hx2 : (x 2).val < 512 := (x 2).isLt
    have he : (Rect.unit (s := S8x321x512) ![3, 0, 0] ![1, 321, 512] inb_S8x321x512_S1x321x512_3_0_0).emb x = ix3 (⟨3, by omega⟩ : Fin 8) (⟨(x 1).val, hx1⟩ : Fin 321) (⟨(x 2).val, hx2⟩ : Fin 512) := by
      funext a
      match a with
      | ⟨0, _⟩ => exact Fin.ext (by have hx0 : (x 0).val < 1 := (x 0).isLt; show 3 + 1 * (x 0).val = 3; omega)
      | ⟨1, _⟩ => exact Fin.ext (by show 0 + 1 * (x 1).val = (x 1).val; omega)
      | ⟨2, _⟩ => exact Fin.ext (by show 0 + 1 * (x 2).val = (x 2).val; omega)
    refine Eq.trans ?_ (congrArg (cut m c t) he).symm
    exact (congrArg _ (split3 x)).trans ((pay13_apply _ _ _ _).trans ((load_cov_rows _ _ 963 _ ⟨(x 1).val, hx1⟩ ⟨(x 2).val, hx2⟩ (by show 963 + (x 1).val < 2688; omega)).trans (congrFun (hs_B m c t h) _)))
  · intro x
    have hx1 : (x 1).val < 321 := (x 1).isLt
    have hx2 : (x 2).val < 512 := (x 2).isLt
    have he : (Rect.unit (s := S8x321x512) ![2, 0, 0] ![1, 321, 512] inb_S8x321x512_S1x321x512_2_0_0).emb x = ix3 (⟨2, by omega⟩ : Fin 8) (⟨(x 1).val, hx1⟩ : Fin 321) (⟨(x 2).val, hx2⟩ : Fin 512) := by
      funext a
      match a with
      | ⟨0, _⟩ => exact Fin.ext (by have hx0 : (x 0).val < 1 := (x 0).isLt; show 2 + 1 * (x 0).val = 2; omega)
      | ⟨1, _⟩ => exact Fin.ext (by show 0 + 1 * (x 1).val = (x 1).val; omega)
      | ⟨2, _⟩ => exact Fin.ext (by show 0 + 1 * (x 2).val = (x 2).val; omega)
    refine Eq.trans ?_ (congrArg (cut m c t) he).symm
    exact (congrArg _ (split3 x)).trans ((pay12_apply _ _ _ _).trans ((load_cov_rows _ _ 642 _ ⟨(x 1).val, hx1⟩ ⟨(x 2).val, hx2⟩ (by show 642 + (x 1).val < 2688; omega)).trans (congrFun (hs_B m c t h) _)))
  · intro x
    have hx1 : (x 1).val < 321 := (x 1).isLt
    have hx2 : (x 2).val < 512 := (x 2).isLt
    have he : (Rect.unit (s := S8x321x512) ![1, 0, 0] ![1, 321, 512] inb_S8x321x512_S1x321x512_1_0_0).emb x = ix3 (⟨1, by omega⟩ : Fin 8) (⟨(x 1).val, hx1⟩ : Fin 321) (⟨(x 2).val, hx2⟩ : Fin 512) := by
      funext a
      match a with
      | ⟨0, _⟩ => exact Fin.ext (by have hx0 : (x 0).val < 1 := (x 0).isLt; show 1 + 1 * (x 0).val = 1; omega)
      | ⟨1, _⟩ => exact Fin.ext (by show 0 + 1 * (x 1).val = (x 1).val; omega)
      | ⟨2, _⟩ => exact Fin.ext (by show 0 + 1 * (x 2).val = (x 2).val; omega)
    refine Eq.trans ?_ (congrArg (cut m c t) he).symm
    exact (congrArg _ (split3 x)).trans ((pay11_apply _ _ _ _).trans ((load_cov_rows _ _ 321 _ ⟨(x 1).val, hx1⟩ ⟨(x 2).val, hx2⟩ (by show 321 + (x 1).val < 2688; omega)).trans (congrFun (hs_B m c t h) _)))
  · intro x
    have hx1 : (x 1).val < 321 := (x 1).isLt
    have hx2 : (x 2).val < 512 := (x 2).isLt
    have he : (Rect.unit (s := S8x321x512) ![0, 0, 0] ![1, 321, 512] inb_S8x321x512_S1x321x512_0_0_0).emb x = ix3 (⟨0, by omega⟩ : Fin 8) (⟨(x 1).val, hx1⟩ : Fin 321) (⟨(x 2).val, hx2⟩ : Fin 512) := by
      funext a
      match a with
      | ⟨0, _⟩ => exact Fin.ext (by have hx0 : (x 0).val < 1 := (x 0).isLt; show 0 + 1 * (x 0).val = 0; omega)
      | ⟨1, _⟩ => exact Fin.ext (by show 0 + 1 * (x 1).val = (x 1).val; omega)
      | ⟨2, _⟩ => exact Fin.ext (by show 0 + 1 * (x 2).val = (x 2).val; omega)
    refine Eq.trans ?_ (congrArg (cut m c t) he).symm
    exact (congrArg _ (split3 x)).trans ((pay10_apply _ _ _ _).trans ((load_cov_rows _ _ 0 _ ⟨(x 1).val, hx1⟩ ⟨(x 2).val, hx2⟩ (by show 0 + (x 1).val < 2688; omega)).trans (congrFun (hs_B m c t h) _)))
theorem blk_0 (X : Buf (Elt Ideal) ((c.tc : Thread nD τ).loc main_arg0)) (t : Fin cfg0.N) (j : S2048x512.Idx) (ha) (hb) :
    (((cfg0.win 0).blk t).view.read (Elt Ideal) X) j = X (ix2 ⟨2048 * (t.val % 2) + (j 0).val, ha⟩ ⟨512 * (t.val / 2) + (j 1).val, hb⟩) := by
  blk_ext [e0]
theorem blk_1 (X : Buf (Elt Ideal) ((c.tc : Thread nD τ).loc main_arg1)) (t : Fin cfg0.N) (j : S2048x512.Idx) (ha) (hb) :
    (((cfg0.win 1).blk t).view.read (Elt Ideal) X) j = X (ix2 ⟨2048 * (t.val % 2) + (j 0).val, ha⟩ ⟨(j 1).val, hb⟩) := by
  blk_ext [e1]
theorem blk_2 (X : Buf (Elt Ideal) ((c.tc : Thread nD τ).loc main_arg2)) (t : Fin cfg0.N) (j : S2048x512.Idx) (ha) (hb) :
    (((cfg0.win 2).blk t).view.read (Elt Ideal) X) j = X (ix2 ⟨2048 * (t.val % 2) + (j 0).val, ha⟩ ⟨(j 1).val, hb⟩) := by
  blk_ext [e2]
theorem blk_3 (X : Buf (Elt Ideal) ((c.tc : Thread nD τ).loc main_arg3)) (t : Fin cfg0.N) (j : S2048x512.Idx) (ha) (hb) :
    (((cfg0.win 3).blk t).view.read (Elt Ideal) X) j = X (ix2 ⟨2048 * (t.val % 2) + (j 0).val, ha⟩ ⟨(j 1).val, hb⟩) := by
  blk_ext [e3]
theorem blk_4 (X : Buf (Elt Ideal) ((c.tc : Thread nD τ).loc main_arg4)) (t : Fin cfg0.N) (j : S2048x1024.Idx) (ha) (hb) :
    (((cfg0.win 4).blk t).view.read (Elt Ideal) X) j = X (ix2 ⟨2048 * (t.val % 2) + (j 0).val, ha⟩ ⟨(j 1).val, hb⟩) := by
  blk_ext [e4]
theorem blk_5 (X : Buf (Elt Ideal) ((c.tc : Thread nD τ).loc main_arg5)) (t : Fin cfg0.N) (j : S2048x128.Idx) (ha) (hb) :
    (((cfg0.win 5).blk t).view.read (Elt Ideal) X) j = X (ix2 ⟨2048 * (t.val % 2) + (j 0).val, ha⟩ ⟨(j 1).val, hb⟩) := by
  blk_ext [e5]

/-- The arguments of the call, as the memory holds them. -/
structure Args (x0 : Vec Ideal S4096x1024 .bf16) (x1 x2 x3 : Vec Ideal S4096x512 .bf16) (x4 : Vec Ideal S4096x1024 .bf16) (x5 : Vec Ideal S4096x128 .bf16) : Prop where
  h0 : m ((c.tc : Thread nD τ).loc main_arg0) = x0
  h1 : m ((c.tc : Thread nD τ).loc main_arg1) = x1
  h2 : m ((c.tc : Thread nD τ).loc main_arg2) = x2
  h3 : m ((c.tc : Thread nD τ).loc main_arg3) = x3
  h4 : m ((c.tc : Thread nD τ).loc main_arg4) = x4
  h5 : m ((c.tc : Thread nD τ).loc main_arg5) = x5

variable {m c} {x0 : Vec Ideal S4096x1024 .bf16} {x1 x2 x3 : Vec Ideal S4096x512 .bf16} {x4 : Vec Ideal S4096x1024 .bf16} {x5 : Vec Ideal S4096x128 .bf16}

theorem row_lt (t : Fin cfg0.N) (a : Fin 2048) : 2048 * (t.val % 2) + a.val < 4096 := by
  have := a.isLt; omega
theorem col_lt (t : Fin cfg0.N) (b : Fin 512) : 512 * (t.val / 2) + b.val < 1024 := by
  have := point_lt t; have := b.isLt; omega

theorem ib_0 (A : Args m c x0 x1 x2 x3 x4 x5) (t : Fin cfg0.N) (a : Fin 2048) (k : Fin 512) :
    iblk m c 0 t (ix2 a k) = x0 (ix2 ⟨2048 * (t.val % 2) + a.val, row_lt t a⟩ ⟨512 * (t.val / 2) + k.val, col_lt t k⟩) := by
  have h := A.h0
  rw [← V_main_arg0 m c] at h
  exact (blk_0 c (V m c main_arg0) t (ix2 a k) (row_lt t a) (col_lt t k)).trans (congrFun h _)
theorem ib_1 (A : Args m c x0 x1 x2 x3 x4 x5) (t : Fin cfg0.N) (a : Fin 2048) (k : Fin 512) :
    iblk m c 1 t (ix2 a k) = x1 (ix2 ⟨2048 * (t.val % 2) + a.val, row_lt t a⟩ k) := by
  have h := A.h1
  rw [← V_main_arg1 m c] at h
  exact (blk_1 c (V m c main_arg1) t (ix2 a k) (row_lt t a) k.isLt).trans (congrFun h _)
theorem ib_2 (A : Args m c x0 x1 x2 x3 x4 x5) (t : Fin cfg0.N) (a : Fin 2048) (k : Fin 512) :
    iblk m c 2 t (ix2 a k) = x2 (ix2 ⟨2048 * (t.val % 2) + a.val, row_lt t a⟩ k) := by
  have h := A.h2
  rw [← V_main_arg2 m c] at h
  exact (blk_2 c (V m c main_arg2) t (ix2 a k) (row_lt t a) k.isLt).trans (congrFun h _)
theorem ib_3 (A : Args m c x0 x1 x2 x3 x4 x5) (t : Fin cfg0.N) (a : Fin 2048) (k : Fin 512) :
    iblk m c 3 t (ix2 a k) = x3 (ix2 ⟨2048 * (t.val % 2) + a.val, row_lt t a⟩ k) := by
  have h := A.h3
  rw [← V_main_arg3 m c] at h
  exact (blk_3 c (V m c main_arg3) t (ix2 a k) (row_lt t a) k.isLt).trans (congrFun h _)
theorem ib_4 (A : Args m c x0 x1 x2 x3 x4 x5) (t : Fin cfg0.N) (a : Fin 2048) (k : Fin 1024) :
    iblk m c 4 t (ix2 a k) = x4 (ix2 ⟨2048 * (t.val % 2) + a.val, row_lt t a⟩ k) := by
  have h := A.h4
  rw [← V_main_arg4 m c] at h
  exact (blk_4 c (V m c main_arg4) t (ix2 a k) (row_lt t a) k.isLt).trans (congrFun h _)
theorem ib_5 (A : Args m c x0 x1 x2 x3 x4 x5) (t : Fin cfg0.N) (a : Fin 2048) (k : Fin 128) :
    iblk m c 5 t (ix2 a k) = x5 (ix2 ⟨2048 * (t.val % 2) + a.val, row_lt t a⟩ k) := by
  have h := A.h5
  rw [← V_main_arg5 m c] at h
  exact (blk_5 c (V m c main_arg5) t (ix2 a k) (row_lt t a) k.isLt).trans (congrFun h _)

theorem ib_side (A : Args m c x0 x1 x2 x3 x4 x5) (t : Fin cfg0.N) (a : Fin 2048) (r : Fin 2688) :
    side (iblk m c 1 t) (iblk m c 2 t) (iblk m c 3 t) (iblk m c 4 t) (iblk m c 5 t) a r = side x1 x2 x3 x4 x5 ⟨2048 * (t.val % 2) + a.val, row_lt t a⟩ r := by
  unfold side
  split_ifs
  · exact ib_1 A t a _
  · exact ib_2 A t a _
  · exact ib_3 A t a _
  · exact ib_4 A t a _
  · exact ib_5 A t a _

theorem prt_apply (A : Args m c x0 x1 x2 x3 x4 x5) (t : Fin cfg0.N) (r : Fin 2688) (b : Fin 512) :
    prt m c t (ix2 r b) = ∑ a : Fin 2048, ext (fun k => side x1 x2 x3 x4 x5 k r * x0 (ix2 k ⟨512 * (t.val / 2) + b.val, col_lt t b⟩)) (2048 * (t.val % 2) + a.val) := by
  show tr _ _ _ _ _ _ _ _ = _
  unfold tr
  refine Finset.sum_congr rfl fun a _ => ?_
  rw [ext_lt _ _ (row_lt t a)]
  exact congrArg₂ (· * ·) (ib_side A t a r) (ib_0 A t a b)

/-- The accumulator after the two blocks of tokens. -/
theorem acc (A : Args m c x0 x1 x2 x3 x4 x5) (t : Fin cfg0.N) (h : ¬t.val % 2 = 0 ∧ t.val % 2 = 1) (r : Fin 2688) (b : Fin 512) :
    prev m c t (ix2 r b) + prt m c t (ix2 r b) = ∑ k : Fin 4096, side x1 x2 x3 x4 x5 k r * x0 (ix2 k ⟨512 * (t.val / 2) + b.val, col_lt t b⟩) := by
  have hlt : t.val - 1 < cfg0.N := lt_of_le_of_lt (Nat.sub_le _ _) t.isLt
  have hp : prev m c t (ix2 r b) = prt m c ⟨t.val - 1, hlt⟩ (ix2 r b) :=
    congrFun (sc_A m c ⟨t.val - 1, hlt⟩ ⟨by show (t.val - 1) % 2 = 0; omega, by show ¬(t.val - 1) % 2 = 1; omega⟩) _
  rw [hp, prt_apply A, prt_apply A]
  refine Eq.trans ?_ (sum_blocks 2048 2 rfl _)
  rw [Finset.sum_range_succ, Finset.sum_range_one]
  have q0 : (t.val - 1) % 2 = 0 := by omega
  have q1 : (t.val - 1) / 2 = t.val / 2 := by omega
  have q2 : t.val % 2 = 1 := h.2
  simp only [q0, q1, q2]

/-! The reference's values. -/

theorem v7_apply (k : Fin 4096) (r : Fin 2568) :
    Cert.Reference7Ideal.Read.val_main_v7 (F := Ideal) x1 x2 x3 x4 x5 (ix2 k r) = side x1 x2 x3 x4 x5 k ⟨r.val, by omega⟩ := by
  unfold side
  pointwise [Cert.Reference7Ideal.Read.val_main_v7, Cert.Reference7Ideal.Read.val_main_v6, Cert.Reference7Ideal.Read.val_main_v5, Cert.Reference7Ideal.Read.val_main_v4, Cert.Reference7Ideal.Read.val_main_v3, Cert.Reference7Ideal.Read.val_main_v2, Cert.Reference7Ideal.Read.val_main_v1]
  split_ifs <;> (repeat' split) <;> first | rfl | (exfalso; omega) | (simp only [Nat.sub_sub])
theorem v10_apply (a : Fin 2568) (b : Fin 1024) :
    Cert.Reference7Ideal.Read.val_main_v10 (F := Ideal) x0 x1 x2 x3 x4 x5 (ix2 a b) = ∑ k : Fin 4096, side x1 x2 x3 x4 x5 k ⟨a.val, by omega⟩ * x0 (ix2 k b) := by
  pointwise [Cert.Reference7Ideal.Read.val_main_v10, Cert.Reference7Ideal.Read.val_main_v0]
  exact Finset.sum_congr rfl fun k _ => congrArg (· * x0 (ix2 k b)) (v7_apply k a)
theorem v14_apply (p : Fin 8) (a : Fin 321) (b : Fin 1024) :
    Cert.Reference7Ideal.Read.val_main_v14 (F := Ideal) x0 x1 x2 x3 x4 x5 (ix3 p a b)
      = ∑ k : Fin 4096, side x1 x2 x3 x4 x5 k ⟨p.val * 321 + a.val, by omega⟩ * x0 (ix2 k b) := by
  rw [Cert.Reference7Ideal.Read.val_main_v14_apply, Cert.Reference7Ideal.Read.val_main_v13_apply, Cert.Reference7Ideal.Read.val_main_v12_apply, Cert.Reference7Ideal.Read.val_main_v11_apply]
  refine Eq.trans (congrArg (Cert.Reference7Ideal.Read.val_main_v10 (F := Ideal) x0 x1 x2 x3 x4 x5) ?_) (v10_apply ⟨p.val * 321 + a.val, by omega⟩ b)
  funext d
  match d with
  | ⟨0, _⟩ => exact Fin.ext (by show ((p.val * 321 + a.val) * 1024 + b.val) / 1024 = p.val * 321 + a.val; omega)
  | ⟨1, _⟩ => exact Fin.ext (by show ((p.val * 321 + a.val) * 1024 + b.val) % 1024 = b.val; omega)

/-- The call leaves the reference's value. -/
theorem final (A : Args m c x0 x1 x2 x3 x4 x5) :
    (dats m 0 c).arrAt 6 cfg0.N = Cert.Reference7Ideal.Read.val_main_v14 (F := Ideal) x0 x1 x2 x3 x4 x5 := by
  refine (dats m 0 c).arrAt_eq_of_covers 6 _ (by decide +kernel) fun t hf y => ?_
  have ht := point_lt t
  have h2 : t.val % 2 = 1 := (flush0_6 t).mp hf
  have h : ¬t.val % 2 = 0 ∧ t.val % 2 = 1 := by omega
  have hy0 : (y 0).val < 8 := (y 0).isLt
  have hy1 : (y 1).val < 321 := (y 1).isLt
  have hy2 : (y 2).val < 512 := (y 2).isLt
  have g0 : ((((cfg0.win 6).blk t).view.emb y) 0).val = (y 0).val := by
    blk_simp [e6]
  have g1 : ((((cfg0.win 6).blk t).view.emb y) 1).val = (y 1).val := by
    blk_simp [e6]
  have g2 : ((((cfg0.win 6).blk t).view.emb y) 2).val = 512 * (t.val / 2) + (y 2).val := by
    blk_simp [e6]; omega
  have he : (((cfg0.win 6).blk t).view.emb y) = ix3 (⟨(y 0).val, hy0⟩ : Fin 8) (⟨(y 1).val, hy1⟩ : Fin 321) (⟨512 * (t.val / 2) + (y 2).val, by omega⟩ : Fin 1024) := by
    funext a
    match a with
    | ⟨0, _⟩ => exact Fin.ext g0
    | ⟨1, _⟩ => exact Fin.ext g1
    | ⟨2, _⟩ => exact Fin.ext g2
  rw [he]
  refine Eq.trans ?_ (v14_apply _ _ _).symm
  blk_simp
  rw [after0_6]
  exact (congrFun (o_B m c t h) y).trans (acc A t h _ _)

/-- The reference's run keeps its arguments and ends quiet. -/
theorem frame_ri : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The kernel's result is the reference's. -/
theorem algebraic : Cert.algebraic_Kernel7Ideal_Reference7Ideal := by
  intro m ρ m' ρ' _ hagree
  refine ⟨fun c => Cert.Reference7Ideal.Read.val_main_v14 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)), ?_, ?_⟩
  · refine (θ_run Cert.Kernel7Ideal.defs _ _).mono (fun r h c => ?_) (Cert.Kernel7Ideal.Value.run_blocks (F := Ideal) m ρ)
    obtain ⟨q0, hk⟩ := h c
    have A : Args m c _ _ _ _ _ _ := ⟨rfl, rfl, rfl, rfl, rfl, rfl⟩
    exact ⟨q0.trans (final A), hk⟩
  · refine (θ_run Cert.Reference7Ideal.defs _ _).mono (fun r h c => ?_) (Cert.Reference7Ideal.Value.run (F := Ideal) m' ρ')
    obtain ⟨q0, hk⟩ := h c
    obtain ⟨g0, g1, g2, g3, g4, g5⟩ := hagree c
    refine ⟨q0.trans ((Cert.Reference7Ideal.Read.val_main_v14_eq _ _ _ _ _ _).trans ?_), hk⟩
    rw [g0, g1, g2, g3, g4, g5]

end Cert.Proof.WIn

end
-- ==== Proof.ProjIn.lean ====
/-
  The mixer's input projection: what the kernel's call leaves, and the reference's five values.
-/
module

public import proofs.«01_k».proof.Proof.Gen.Kernel9Ideal.Value
public import proofs.«01_k».proof.Proof.Gen.Reference9Ideal.Run
public import proofs.«01_k».proof.Proof.Gen.Reference9Ideal.Read
public import proofs.«01_k».proof.Defs
public import Idealize.ShloMosaic.Lib.StableHlo.ReadAt
import Idealize.ShloMosaic.Lib.Pipeline.ValueKit

@[expose] public section

set_option maxRecDepth 16384

noncomputable section

namespace Cert.Proof.ProjIn
open Idealize.ShloMosaic Idealize.SL.Sem Cert.Kernel9Ideal Cert.Kernel9Ideal.Gen
open scoped BigOperators

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

theorem point_lt (t : Fin cfg0.N) : t.val < 4 := lt_of_lt_of_eq t.isLt (by decide)

theorem zero_bf16 : (FloatOps.sitofp (F := Ideal) FTy.bf16 0#32) = (0 : EReal) := by
  show (((0#32 : BitVec 32).toInt : ℝ) : EReal) = 0
  simp
theorem zero_f32 : (FloatOps.sitofp (F := Ideal) FTy.f32 0#32) = (0 : EReal) := by
  show (((0#32 : BitVec 32).toInt : ℝ) : EReal) = 0
  simp

/-- One entry of the projection: a token's row times a column of the weight. -/
def proj (x0 : Vec Ideal S4096x1024 .bf16) (x1 : Vec Ideal S1024x2568 .bf16) (a : Fin 4096) (b : Fin 2568) : EReal :=
  ∑ k : Fin 1024, x0 (ix2 a k) * x1 (ix2 k b)

/-- What the body stores in its result 1, at an index. -/
theorem out2_apply (x0 : Vec Ideal S1024x1024 .bf16) (x1 : Vec Ideal S2688x1024 .bf16) (a : Fin 1024) (b : Fin 512) :
    out0_2 (F := Ideal) x0 x1 (ix2 a b) = ∑ k : Fin 1024, x0 (ix2 a k) * x1 (ix2 (⟨0 + b.val, by omega⟩ : Fin 2688) k) := by
  unfold out0_2
  rw [View.canon_unit_zero (by funext a; fin_cases a <;> rfl)]
  pointwise [k0_pay1]

/-- What the body stores in its result 2, at an index. -/
theorem out3_apply (x0 : Vec Ideal S1024x1024 .bf16) (x1 : Vec Ideal S2688x1024 .bf16) (a : Fin 1024) (b : Fin 512) :
    out0_3 (F := Ideal) x0 x1 (ix2 a b) = ∑ k : Fin 1024, x0 (ix2 a k) * x1 (ix2 (⟨512 + b.val, by omega⟩ : Fin 2688) k) := by
  unfold out0_3
  rw [View.canon_unit_zero (by funext a; fin_cases a <;> rfl)]
  pointwise [k0_pay2]

/-- What the body stores in its result 3, at an index. -/
theorem out4_apply (x0 : Vec Ideal S1024x1024 .bf16) (x1 : Vec Ideal S2688x1024 .bf16) (a : Fin 1024) (b : Fin 512) :
    out0_4 (F := Ideal) x0 x1 (ix2 a b) = ∑ k : Fin 1024, x0 (ix2 a k) * x1 (ix2 (⟨1024 + b.val, by omega⟩ : Fin 2688) k) := by
  unfold out0_4
  rw [View.canon_unit_zero (by funext a; fin_cases a <;> rfl)]
  pointwise [k0_pay3]

/-- What the body stores in its result 4, at an index. -/
theorem out5_apply (x0 : Vec Ideal S1024x1024 .bf16) (x1 : Vec Ideal S2688x1024 .bf16) (a : Fin 1024) (b : Fin 1024) :
    out0_5 (F := Ideal) x0 x1 (ix2 a b) = ∑ k : Fin 1024, x0 (ix2 a k) * x1 (ix2 (⟨1536 + b.val, by omega⟩ : Fin 2688) k) := by
  unfold out0_5
  rw [View.canon_unit_zero (by funext a; fin_cases a <;> rfl)]
  pointwise [k0_pay4]

/-- What the body stores in its result 5, at an index. -/
theorem out6_apply (x0 : Vec Ideal S1024x1024 .bf16) (x1 : Vec Ideal S2688x1024 .bf16) (a : Fin 1024) (b : Fin 128) :
    out0_6 (F := Ideal) x0 x1 (ix2 a b) = ∑ k : Fin 1024, x0 (ix2 a k) * x1 (ix2 (⟨2560 + b.val, by omega⟩ : Fin 2688) k) := by
  unfold out0_6
  rw [View.canon_unit_zero (by funext a; fin_cases a <;> rfl)]
  pointwise [k0_pay5]

/-- The weight as the host prepares it: transposed, with rows of zeros below. -/
theorem weight_apply (x1 : Vec Ideal S1024x2568 .bf16) (h1 : m ((c.tc : Thread nD τ).loc main_arg1) = x1) (r : Fin 2688) (k : Fin 1024) :
    V m c main_v1 (ix2 r k) = if h : r.val < 2568 then x1 (ix2 k ⟨r.val, h⟩) else 0 := by
  subst h1
  unfold V
  after_reads_at
  pointwise
  split_ifs <;> first | rfl | exact zero_bf16

theorem ref2_apply (x0 : Vec Ideal S4096x1024 .bf16) (x1 : Vec Ideal S1024x2568 .bf16) (a : Fin 4096) (b : Fin 512) :
    Cert.Reference9Ideal.Read.val_main_v8 (F := Ideal) x0 x1 (ix2 a b) = proj x0 x1 a ⟨0 + b.val, by omega⟩ := by
  unfold proj
  pointwise [Cert.Reference9Ideal.Read.val_main_v8, Cert.Reference9Ideal.Read.val_main_v3, Cert.Reference9Ideal.Read.val_main_v2, Cert.Reference9Ideal.Read.val_main_v1, Cert.Reference9Ideal.Read.val_main_v0]

theorem ref3_apply (x0 : Vec Ideal S4096x1024 .bf16) (x1 : Vec Ideal S1024x2568 .bf16) (a : Fin 4096) (b : Fin 512) :
    Cert.Reference9Ideal.Read.val_main_v9 (F := Ideal) x0 x1 (ix2 a b) = proj x0 x1 a ⟨512 + b.val, by omega⟩ := by
  unfold proj
  pointwise [Cert.Reference9Ideal.Read.val_main_v9, Cert.Reference9Ideal.Read.val_main_v4, Cert.Reference9Ideal.Read.val_main_v2, Cert.Reference9Ideal.Read.val_main_v1, Cert.Reference9Ideal.Read.val_main_v0]

theorem ref4_apply (x0 : Vec Ideal S4096x1024 .bf16) (x1 : Vec Ideal S1024x2568 .bf16) (a : Fin 4096) (b : Fin 512) :
    Cert.Reference9Ideal.Read.val_main_v10 (F := Ideal) x0 x1 (ix2 a b) = proj x0 x1 a ⟨1024 + b.val, by omega⟩ := by
  unfold proj
  pointwise [Cert.Reference9Ideal.Read.val_main_v10, Cert.Reference9Ideal.Read.val_main_v5, Cert.Reference9Ideal.Read.val_main_v2, Cert.Reference9Ideal.Read.val_main_v1, Cert.Reference9Ideal.Read.val_main_v0]

theorem ref5_apply (x0 : Vec Ideal S4096x1024 .bf16) (x1 : Vec Ideal S1024x2568 .bf16) (a : Fin 4096) (b : Fin 1024) :
    Cert.Reference9Ideal.Read.val_main_v6 (F := Ideal) x0 x1 (ix2 a b) = proj x0 x1 a ⟨1536 + b.val, by omega⟩ := by
  unfold proj
  pointwise [Cert.Reference9Ideal.Read.val_main_v6, Cert.Reference9Ideal.Read.val_main_v2, Cert.Reference9Ideal.Read.val_main_v1, Cert.Reference9Ideal.Read.val_main_v0]

theorem ref6_apply (x0 : Vec Ideal S4096x1024 .bf16) (x1 : Vec Ideal S1024x2568 .bf16) (a : Fin 4096) (b : Fin 128) :
    Cert.Reference9Ideal.Read.val_main_v11 (F := Ideal) x0 x1 (ix2 a b) = if h : b.val < 8 then proj x0 x1 a ⟨2560 + b.val, by omega⟩ else 0 := by
  unfold proj
  pointwise [Cert.Reference9Ideal.Read.val_main_v11, Cert.Reference9Ideal.Read.val_main_v7, Cert.Reference9Ideal.Read.val_main_call0_v0, Cert.Reference9Ideal.Read.val_main_c, Cert.Reference9Ideal.Read.val_main_v2, Cert.Reference9Ideal.Read.val_main_v1, Cert.Reference9Ideal.Read.val_main_v0]
  split_ifs <;> first | rfl | exact zero_f32

theorem blk_0 (X : Buf (Elt Ideal) ((c.tc : Thread nD τ).loc main_arg0)) (t : Fin cfg0.N) (j : S1024x1024.Idx) (ha) (hb) :
    (((cfg0.win 0).blk t).view.read (Elt Ideal) X) j = X (ix2 ⟨1024 * t.val + (j 0).val, ha⟩ ⟨(j 1).val, hb⟩) := by
  blk_ext [e0]
theorem blk_1 (X : Buf (Elt Ideal) ((c.tc : Thread nD τ).loc main_v1)) (t : Fin cfg0.N) (j : S2688x1024.Idx) (ha) (hb) :
    (((cfg0.win 1).blk t).view.read (Elt Ideal) X) j = X (ix2 ⟨(j 0).val, ha⟩ ⟨(j 1).val, hb⟩) := by
  blk_ext [e1]

theorem ib_0 (x0 : Vec Ideal S4096x1024 .bf16) (h : m ((c.tc : Thread nD τ).loc main_arg0) = x0) (t : Fin cfg0.N) (a k : Fin 1024) (ha) :
    iblk m c 0 t (ix2 a k) = x0 (ix2 ⟨1024 * t.val + a.val, ha⟩ k) := by
  rw [← V_main_arg0 m c] at h
  exact (blk_0 c (V m c main_arg0) t (ix2 a k) ha k.isLt).trans (congrFun h _)
theorem ib_1 (x1 : Vec Ideal S1024x2568 .bf16) (h1 : m ((c.tc : Thread nD τ).loc main_arg1) = x1) (t : Fin cfg0.N) (r : Fin 2688) (k : Fin 1024) :
    iblk m c 1 t (ix2 r k) = if h : r.val < 2568 then x1 (ix2 k ⟨r.val, h⟩) else 0 :=
  (blk_1 c (V m c main_v1) t (ix2 r k) r.isLt k.isLt).trans (weight_apply m c x1 h1 r k)

/-- The call leaves the reference's result 1. -/
theorem final2 (x0 : Vec Ideal S4096x1024 .bf16) (x1 : Vec Ideal S1024x2568 .bf16)
    (h0 : m ((c.tc : Thread nD τ).loc main_arg0) = x0) (h1 : m ((c.tc : Thread nD τ).loc main_arg1) = x1) :
    (dats m 0 c).arrAt 2 cfg0.N = Cert.Reference9Ideal.Read.val_main_v8 (F := Ideal) x0 x1 := by
  refine (dats m 0 c).arrAt_eq_of_covers 2 _ (by decide +kernel) fun t hf y => ?_
  have ht := point_lt t
  have hy0 : (y 0).val < 1024 := (y 0).isLt
  have hy1 : (y 1).val < 512 := (y 1).isLt
  have g0 : ((((cfg0.win 2).blk t).view.emb y) 0).val = 1024 * t.val + (y 0).val := by
    blk_simp [e2]; omega
  have g1 : ((((cfg0.win 2).blk t).view.emb y) 1).val = (y 1).val := by
    blk_simp [e2]
  have he : (((cfg0.win 2).blk t).view.emb y) = ix2 (⟨1024 * t.val + (y 0).val, by omega⟩ : Fin 4096) (⟨(y 1).val, hy1⟩ : Fin 512) := by
    funext a
    match a with
    | ⟨0, _⟩ => exact Fin.ext g0
    | ⟨1, _⟩ => exact Fin.ext g1
  have hy : y = ix2 (⟨(y 0).val, hy0⟩ : Fin 1024) (⟨(y 1).val, hy1⟩ : Fin 512) := by
    funext a
    match a with
    | ⟨0, _⟩ => rfl
    | ⟨1, _⟩ => rfl
  rw [he]
  refine Eq.trans ?_ (ref2_apply x0 x1 _ _).symm
  blk_simp
  rw [after0_2]
  refine (congrArg (out0_2 (iblk m c 0 t) (iblk m c 1 t)) hy).trans ((out2_apply _ _ _ _).trans ?_)
  refine Finset.sum_congr rfl fun k _ => ?_
  rw [ib_0 m c x0 h0 t _ _ (by dsimp only; omega), ib_1 m c x1 h1 t, dif_pos (by dsimp only; omega)]
  simp only [Nat.zero_add]

/-- The call leaves the reference's result 2. -/
theorem final3 (x0 : Vec Ideal S4096x1024 .bf16) (x1 : Vec Ideal S1024x2568 .bf16)
    (h0 : m ((c.tc : Thread nD τ).loc main_arg0) = x0) (h1 : m ((c.tc : Thread nD τ).loc main_arg1) = x1) :
    (dats m 0 c).arrAt 3 cfg0.N = Cert.Reference9Ideal.Read.val_main_v9 (F := Ideal) x0 x1 := by
  refine (dats m 0 c).arrAt_eq_of_covers 3 _ (by decide +kernel) fun t hf y => ?_
  have ht := point_lt t
  have hy0 : (y 0).val < 1024 := (y 0).isLt
  have hy1 : (y 1).val < 512 := (y 1).isLt
  have g0 : ((((cfg0.win 3).blk t).view.emb y) 0).val = 1024 * t.val + (y 0).val := by
    blk_simp [e3]; omega
  have g1 : ((((cfg0.win 3).blk t).view.emb y) 1).val = (y 1).val := by
    blk_simp [e3]
  have he : (((cfg0.win 3).blk t).view.emb y) = ix2 (⟨1024 * t.val + (y 0).val, by omega⟩ : Fin 4096) (⟨(y 1).val, hy1⟩ : Fin 512) := by
    funext a
    match a with
    | ⟨0, _⟩ => exact Fin.ext g0
    | ⟨1, _⟩ => exact Fin.ext g1
  have hy : y = ix2 (⟨(y 0).val, hy0⟩ : Fin 1024) (⟨(y 1).val, hy1⟩ : Fin 512) := by
    funext a
    match a with
    | ⟨0, _⟩ => rfl
    | ⟨1, _⟩ => rfl
  rw [he]
  refine Eq.trans ?_ (ref3_apply x0 x1 _ _).symm
  blk_simp
  rw [after0_3]
  refine (congrArg (out0_3 (iblk m c 0 t) (iblk m c 1 t)) hy).trans ((out3_apply _ _ _ _).trans ?_)
  refine Finset.sum_congr rfl fun k _ => ?_
  rw [ib_0 m c x0 h0 t _ _ (by dsimp only; omega), ib_1 m c x1 h1 t, dif_pos (by dsimp only; omega)]

/-- The call leaves the reference's result 3. -/
theorem final4 (x0 : Vec Ideal S4096x1024 .bf16) (x1 : Vec Ideal S1024x2568 .bf16)
    (h0 : m ((c.tc : Thread nD τ).loc main_arg0) = x0) (h1 : m ((c.tc : Thread nD τ).loc main_arg1) = x1) :
    (dats m 0 c).arrAt 4 cfg0.N = Cert.Reference9Ideal.Read.val_main_v10 (F := Ideal) x0 x1 := by
  refine (dats m 0 c).arrAt_eq_of_covers 4 _ (by decide +kernel) fun t hf y => ?_
  have ht := point_lt t
  have hy0 : (y 0).val < 1024 := (y 0).isLt
  have hy1 : (y 1).val < 512 := (y 1).isLt
  have g0 : ((((cfg0.win 4).blk t).view.emb y) 0).val = 1024 * t.val + (y 0).val := by
    blk_simp [e4]; omega
  have g1 : ((((cfg0.win 4).blk t).view.emb y) 1).val = (y 1).val := by
    blk_simp [e4]
  have he : (((cfg0.win 4).blk t).view.emb y) = ix2 (⟨1024 * t.val + (y 0).val, by omega⟩ : Fin 4096) (⟨(y 1).val, hy1⟩ : Fin 512) := by
    funext a
    match a with
    | ⟨0, _⟩ => exact Fin.ext g0
    | ⟨1, _⟩ => exact Fin.ext g1
  have hy : y = ix2 (⟨(y 0).val, hy0⟩ : Fin 1024) (⟨(y 1).val, hy1⟩ : Fin 512) := by
    funext a
    match a with
    | ⟨0, _⟩ => rfl
    | ⟨1, _⟩ => rfl
  rw [he]
  refine Eq.trans ?_ (ref4_apply x0 x1 _ _).symm
  blk_simp
  rw [after0_4]
  refine (congrArg (out0_4 (iblk m c 0 t) (iblk m c 1 t)) hy).trans ((out4_apply _ _ _ _).trans ?_)
  refine Finset.sum_congr rfl fun k _ => ?_
  rw [ib_0 m c x0 h0 t _ _ (by dsimp only; omega), ib_1 m c x1 h1 t, dif_pos (by dsimp only; omega)]

/-- The call leaves the reference's result 4. -/
theorem final5 (x0 : Vec Ideal S4096x1024 .bf16) (x1 : Vec Ideal S1024x2568 .bf16)
    (h0 : m ((c.tc : Thread nD τ).loc main_arg0) = x0) (h1 : m ((c.tc : Thread nD τ).loc main_arg1) = x1) :
    (dats m 0 c).arrAt 5 cfg0.N = Cert.Reference9Ideal.Read.val_main_v6 (F := Ideal) x0 x1 := by
  refine (dats m 0 c).arrAt_eq_of_covers 5 _ (by decide +kernel) fun t hf y => ?_
  have ht := point_lt t
  have hy0 : (y 0).val < 1024 := (y 0).isLt
  have hy1 : (y 1).val < 1024 := (y 1).isLt
  have g0 : ((((cfg0.win 5).blk t).view.emb y) 0).val = 1024 * t.val + (y 0).val := by
    blk_simp [e5]; omega
  have g1 : ((((cfg0.win 5).blk t).view.emb y) 1).val = (y 1).val := by
    blk_simp [e5]
  have he : (((cfg0.win 5).blk t).view.emb y) = ix2 (⟨1024 * t.val + (y 0).val, by omega⟩ : Fin 4096) (⟨(y 1).val, hy1⟩ : Fin 1024) := by
    funext a
    match a with
    | ⟨0, _⟩ => exact Fin.ext g0
    | ⟨1, _⟩ => exact Fin.ext g1
  have hy : y = ix2 (⟨(y 0).val, hy0⟩ : Fin 1024) (⟨(y 1).val, hy1⟩ : Fin 1024) := by
    funext a
    match a with
    | ⟨0, _⟩ => rfl
    | ⟨1, _⟩ => rfl
  rw [he]
  refine Eq.trans ?_ (ref5_apply x0 x1 _ _).symm
  blk_simp
  rw [after0_5]
  refine (congrArg (out0_5 (iblk m c 0 t) (iblk m c 1 t)) hy).trans ((out5_apply _ _ _ _).trans ?_)
  refine Finset.sum_congr rfl fun k _ => ?_
  rw [ib_0 m c x0 h0 t _ _ (by dsimp only; omega), ib_1 m c x1 h1 t, dif_pos (by dsimp only; omega)]

/-- The call leaves the reference's result 5. -/
theorem final6 (x0 : Vec Ideal S4096x1024 .bf16) (x1 : Vec Ideal S1024x2568 .bf16)
    (h0 : m ((c.tc : Thread nD τ).loc main_arg0) = x0) (h1 : m ((c.tc : Thread nD τ).loc main_arg1) = x1) :
    (dats m 0 c).arrAt 6 cfg0.N = Cert.Reference9Ideal.Read.val_main_v11 (F := Ideal) x0 x1 := by
  refine (dats m 0 c).arrAt_eq_of_covers 6 _ (by decide +kernel) fun t hf y => ?_
  have ht := point_lt t
  have hy0 : (y 0).val < 1024 := (y 0).isLt
  have hy1 : (y 1).val < 128 := (y 1).isLt
  have g0 : ((((cfg0.win 6).blk t).view.emb y) 0).val = 1024 * t.val + (y 0).val := by
    blk_simp [e6]; omega
  have g1 : ((((cfg0.win 6).blk t).view.emb y) 1).val = (y 1).val := by
    blk_simp [e6]
  have he : (((cfg0.win 6).blk t).view.emb y) = ix2 (⟨1024 * t.val + (y 0).val, by omega⟩ : Fin 4096) (⟨(y 1).val, hy1⟩ : Fin 128) := by
    funext a
    match a with
    | ⟨0, _⟩ => exact Fin.ext g0
    | ⟨1, _⟩ => exact Fin.ext g1
  have hy : y = ix2 (⟨(y 0).val, hy0⟩ : Fin 1024) (⟨(y 1).val, hy1⟩ : Fin 128) := by
    funext a
    match a with
    | ⟨0, _⟩ => rfl
    | ⟨1, _⟩ => rfl
  rw [he]
  refine Eq.trans ?_ (ref6_apply x0 x1 _ _).symm
  blk_simp
  rw [after0_6]
  refine (congrArg (out0_6 (iblk m c 0 t) (iblk m c 1 t)) hy).trans ((out6_apply _ _ _ _).trans ?_)
  by_cases hb : (y 1).val < 8
  · rw [dif_pos hb]
    refine Finset.sum_congr rfl fun k _ => ?_
    rw [ib_0 m c x0 h0 t _ _ (by dsimp only; omega), ib_1 m c x1 h1 t, dif_pos (by dsimp only; omega)]
  · rw [dif_neg hb]
    refine Finset.sum_eq_zero fun k _ => ?_
    rw [ib_1 m c x1 h1 t, dif_neg (by dsimp only; omega), mul_zero]

/-- The reference's run keeps its arguments and ends quiet. -/
theorem frame_ri : Cert.quiescent_Reference9Ideal := fun m ρ _ =>
  (θ_run Cert.Reference9Ideal.defs _ _).mono (fun r h => ⟨fun c => (h c).2.2.2.2.2,
      Idealize.ShloMosaic.sem_eq_zero_of_no_sems (by decide) r.2⟩)
    (Cert.Reference9Ideal.Value.run (F := Ideal) m ρ)

/-- The kernel's results are the reference's. -/
theorem algebraic : Cert.algebraic_Kernel9Ideal_Reference9Ideal := by
  intro m ρ m' ρ' _ hagree
  refine ⟨fun c => Cert.Reference9Ideal.Read.val_main_v8 (F := Ideal) (m ((c.tc : Thread nD τ).loc main_arg0)) (m ((c.tc : Thread nD τ).loc main_arg1)),
    fun c => Cert.Reference9Ideal.Read.val_main_v9 (F := Ideal) (m ((c.tc : Thread nD τ).loc main_arg0)) (m ((c.tc : Thread nD τ).loc main_arg1)),
    fun c => Cert.Reference9Ideal.Read.val_main_v10 (F := Ideal) (m ((c.tc : Thread nD τ).loc main_arg0)) (m ((c.tc : Thread nD τ).loc main_arg1)),
    fun c => Cert.Reference9Ideal.Read.val_main_v6 (F := Ideal) (m ((c.tc : Thread nD τ).loc main_arg0)) (m ((c.tc : Thread nD τ).loc main_arg1)),
    fun c => Cert.Reference9Ideal.Read.val_main_v11 (F := Ideal) (m ((c.tc : Thread nD τ).loc main_arg0)) (m ((c.tc : Thread nD τ).loc main_arg1)), ?_, ?_⟩
  · refine (θ_run Cert.Kernel9Ideal.defs _ _).mono (fun r h c => ?_) (Cert.Kernel9Ideal.Value.run_blocks (F := Ideal) m ρ)
    obtain ⟨h2, h3, h4, h5, h6, hk⟩ := h c
    exact ⟨h2.trans (final2 m c _ _ rfl rfl), h3.trans (final3 m c _ _ rfl rfl), h4.trans (final4 m c _ _ rfl rfl), h5.trans (final5 m c _ _ rfl rfl), h6.trans (final6 m c _ _ rfl rfl), hk⟩
  · refine (θ_run Cert.Reference9Ideal.defs _ _).mono (fun r h c => ?_) (Cert.Reference9Ideal.Value.run (F := Ideal) m' ρ')
    obtain ⟨h2, h3, h4, h5, h6, hk⟩ := h c
    obtain ⟨g0, g1⟩ := hagree c
    refine ⟨h2.trans ((Cert.Reference9Ideal.Read.val_main_v8_eq _ _).trans ?_), h3.trans ((Cert.Reference9Ideal.Read.val_main_v9_eq _ _).trans ?_), h4.trans ((Cert.Reference9Ideal.Read.val_main_v10_eq _ _).trans ?_), h5.trans ((Cert.Reference9Ideal.Read.val_main_v6_eq _ _).trans ?_), h6.trans ((Cert.Reference9Ideal.Read.val_main_v11_eq _ _).trans ?_), hk⟩
    all_goals rw [g0, g1]

end Cert.Proof.ProjIn

end
-- ==== Proof.ProjOut.lean ====
/-
  The mixer's output projection with the residual sum and the two norms: what the kernel's call leaves, and the
  reference's three values.
-/
module

public import proofs.«01_k».proof.Proof.Gen.Kernel10Ideal.Value
public import proofs.«01_k».proof.Proof.Gen.Reference10Ideal.Run
public import proofs.«01_k».proof.Proof.Gen.Reference10Ideal.Read
public import proofs.«01_k».proof.Defs
public import Idealize.ShloMosaic.Lib.StableHlo.ReadAt
import Idealize.ShloMosaic.Lib.Pipeline.ValueKit

@[expose] public section

set_option maxRecDepth 16384

noncomputable section

namespace Cert.Proof.ProjOut
open Idealize.ShloMosaic Idealize.SL.Sem Cert.Kernel10Ideal Cert.Kernel10Ideal.Gen
open scoped BigOperators

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)

theorem point_lt (t : Fin cfg0.N) : t.val < 4 := lt_of_lt_of_eq t.isLt (by decide)

/-- A token's two rows of mixer outputs times the weight: the upper half of the weight for the first row, the lower
    for the second. -/
def mixed (p q : Fin 512 → EReal) (w : Fin 1024 → Fin 1024 → EReal) (b : Fin 1024) : EReal :=
  ∑ k : Fin 512, p k * w ⟨k.val, by omega⟩ b + ∑ k : Fin 512, q k * w ⟨512 + k.val, by omega⟩ b

/-- A row divided by its root mean square, times a gain. -/
def normed (f g : Fin 1024 → EReal) (b : Fin 1024) : EReal :=
  f b * Ideal.rsqrt (Ideal.div (∑ j, f j * f j) (Ideal.ofBits FTy.f32 1149239296#32) + Ideal.ofBits FTy.f32 897988541#32) * g b

/-- The residual row after the norm. -/
def resid (x f g : Fin 1024 → EReal) (b : Fin 1024) : EReal := x b + normed f g b

/-- What the body stores in its first result, at an index. -/
theorem out6_apply (x0 x1 : Vec Ideal S1024x512 .bf16) (x2 : Vec Ideal S1024x1024 .bf16) (x3 : Vec Ideal S1024x1024 .f32) (x4 x5 : Vec Ideal S1x1024 .f32) (a b : Fin 1024) :
    out0_6 (F := Ideal) x0 x1 x2 x3 x4 x5 (ix2 a b) = (mixed (fun k => x0 (ix2 a k)) (fun k => x1 (ix2 a k)) (fun k j => x2 (ix2 k j))) b := by
  unfold out0_6 mixed
  rw [View.canon_unit_zero (by funext a; fin_cases a <;> rfl)]
  pointwise [k0_pay2]

theorem pay3_apply (x0 x1 : Vec Ideal S1024x512 .bf16) (x2 : Vec Ideal S1024x1024 .bf16) (x3 : Vec Ideal S1024x1024 .f32) (x4 x5 : Vec Ideal S1x1024 .f32) (a b : Fin 1024) :
    k0_pay3 (F := Ideal) (View.ld x0 r0_0) (View.ld x2 r0_1) (View.ld x1 r0_0) (View.ld x2 r0_2) (View.ld x3 r0_3) (View.ld x4 r0_4) (ix2 a b)
      = resid (fun j => x3 (ix2 a j)) (mixed (fun k => x0 (ix2 a k)) (fun k => x1 (ix2 a k)) (fun k j => x2 (ix2 k j))) (fun j => x4 (ix2 0 j)) b := by
  unfold resid normed mixed
  pointwise [k0_pay3, k0_pay2]

/-- What the body stores in its second result, at an index. -/
theorem out7_apply (x0 x1 : Vec Ideal S1024x512 .bf16) (x2 : Vec Ideal S1024x1024 .bf16) (x3 : Vec Ideal S1024x1024 .f32) (x4 x5 : Vec Ideal S1x1024 .f32) (a b : Fin 1024) :
    out0_7 (F := Ideal) x0 x1 x2 x3 x4 x5 (ix2 a b) = resid (fun j => x3 (ix2 a j)) (mixed (fun k => x0 (ix2 a k)) (fun k => x1 (ix2 a k)) (fun k j => x2 (ix2 k j))) (fun j => x4 (ix2 0 j)) b := by
  unfold out0_7
  rw [View.canon_unit_zero (by funext a; fin_cases a <;> rfl)]
  exact pay3_apply x0 x1 x2 x3 x4 x5 a b

/-- What the body stores in its third result, at an index. -/
theorem out8_apply (x0 x1 : Vec Ideal S1024x512 .bf16) (x2 : Vec Ideal S1024x1024 .bf16) (x3 : Vec Ideal S1024x1024 .f32) (x4 x5 : Vec Ideal S1x1024 .f32) (a b : Fin 1024) :
    out0_8 (F := Ideal) x0 x1 x2 x3 x4 x5 (ix2 a b)
      = normed (resid (fun j => x3 (ix2 a j)) (mixed (fun k => x0 (ix2 a k)) (fun k => x1 (ix2 a k)) (fun k j => x2 (ix2 k j))) (fun j => x4 (ix2 0 j))) (fun j => x5 (ix2 0 j)) b := by
  unfold out0_8
  rw [View.canon_unit_zero (by funext a; fin_cases a <;> rfl)]
  have hf := fun a b => pay3_apply x0 x1 x2 x3 x4 x5 a b
  unfold normed
  pointwise [k0_pay1, k0_pay4, hf]

theorem ref4_apply (x0 x1 : Vec Ideal S4096x512 .bf16) (x2 : Vec Ideal S1024x1024 .bf16) (a : Fin 4096) (b : Fin 1024) :
    Cert.Reference10Ideal.Read.val_main_v4 (F := Ideal) x0 x1 x2 (ix2 a b) = (mixed (fun k => x0 (ix2 a k)) (fun k => x1 (ix2 a k)) (fun k j => x2 (ix2 k j))) b := by
  unfold mixed
  pointwise [Cert.Reference10Ideal.Read.val_main_v4, Cert.Reference10Ideal.Read.val_main_v3, Cert.Reference10Ideal.Read.val_main_v2, Cert.Reference10Ideal.Read.val_main_v1, Cert.Reference10Ideal.Read.val_main_v0]

theorem ref18_apply (x0 x1 : Vec Ideal S4096x512 .bf16) (x2 : Vec Ideal S1024x1024 .bf16) (x3 : Vec Ideal S4096x1024 .f32) (x4 : Vec Ideal S1024 .f32) (a : Fin 4096) (b : Fin 1024) :
    Cert.Reference10Ideal.Read.val_main_v18 (F := Ideal) x0 x1 x2 x3 x4 (ix2 a b) = resid (fun j => x3 (ix2 a j)) (mixed (fun k => x0 (ix2 a k)) (fun k => x1 (ix2 a k)) (fun k j => x2 (ix2 k j))) (fun j => x4 (ix1 j)) b := by
  have hf := fun a b => ref4_apply x0 x1 x2 a b
  unfold resid normed
  pointwise [Cert.Reference10Ideal.Read.val_main_v18, Cert.Reference10Ideal.Read.val_main_v17, Cert.Reference10Ideal.Read.val_main_v16, Cert.Reference10Ideal.Read.val_main_v15, Cert.Reference10Ideal.Read.val_main_v14, Cert.Reference10Ideal.Read.val_main_v13, Cert.Reference10Ideal.Read.val_main_v12, Cert.Reference10Ideal.Read.val_main_v11, Cert.Reference10Ideal.Read.val_main_v10, Cert.Reference10Ideal.Read.val_main_v9, Cert.Reference10Ideal.Read.val_main_v8, Cert.Reference10Ideal.Read.val_main_v7, Cert.Reference10Ideal.Read.val_main_v6, Cert.Reference10Ideal.Read.val_main_v5, Cert.Reference10Ideal.Read.val_main_cst, Cert.Reference10Ideal.Read.val_main_cst_0, Cert.Reference10Ideal.Read.val_main_cst_1, hf]

theorem ref32_apply (x0 x1 : Vec Ideal S4096x512 .bf16) (x2 : Vec Ideal S1024x1024 .bf16) (x3 : Vec Ideal S4096x1024 .f32) (x4 : Vec Ideal S1024 .f32) (x5 : Vec Ideal S1024 .f32) (a : Fin 4096) (b : Fin 1024) :
    Cert.Reference10Ideal.Read.val_main_v32 (F := Ideal) x0 x1 x2 x3 x4 x5 (ix2 a b) = normed (resid (fun j => x3 (ix2 a j)) (mixed (fun k => x0 (ix2 a k)) (fun k => x1 (ix2 a k)) (fun k j => x2 (ix2 k j))) (fun j => x4 (ix1 j))) (fun j => x5 (ix1 j)) b := by
  have hf := fun a b => ref18_apply x0 x1 x2 x3 x4 a b
  unfold normed
  pointwise [Cert.Reference10Ideal.Read.val_main_v32, Cert.Reference10Ideal.Read.val_main_v31, Cert.Reference10Ideal.Read.val_main_v30, Cert.Reference10Ideal.Read.val_main_v29, Cert.Reference10Ideal.Read.val_main_v28, Cert.Reference10Ideal.Read.val_main_v27, Cert.Reference10Ideal.Read.val_main_v26, Cert.Reference10Ideal.Read.val_main_v25, Cert.Reference10Ideal.Read.val_main_v24, Cert.Reference10Ideal.Read.val_main_v23, Cert.Reference10Ideal.Read.val_main_v22, Cert.Reference10Ideal.Read.val_main_v21, Cert.Reference10Ideal.Read.val_main_v20, Cert.Reference10Ideal.Read.val_main_v19, Cert.Reference10Ideal.Read.val_main_cst_2, Cert.Reference10Ideal.Read.val_main_cst_3, Cert.Reference10Ideal.Read.val_main_cst_4, hf]

/-- The two gains as the host passes them on: one row each. -/
theorem gain4_apply (x4 : Vec Ideal S1024 .f32) (h : m ((c.tc : Thread nD τ).loc main_arg4) = x4) (j : Fin 1024) :
    V m c main_v0 (ix2 (0 : Fin 1) j) = x4 (ix1 j) := by
  subst h
  unfold V
  after_reads_at
theorem gain5_apply (x5 : Vec Ideal S1024 .f32) (h : m ((c.tc : Thread nD τ).loc main_arg5) = x5) (j : Fin 1024) :
    V m c main_v1 (ix2 (0 : Fin 1) j) = x5 (ix1 j) := by
  subst h
  unfold V
  after_reads_at

theorem blk_0 (X : Buf (Elt Ideal) ((c.tc : Thread nD τ).loc main_arg0)) (t : Fin cfg0.N) (j : S1024x512.Idx) (ha) (hb) :
    (((cfg0.win 0).blk t).view.read (Elt Ideal) X) j = X (ix2 ⟨1024 * t.val + (j 0).val, ha⟩ ⟨(j 1).val, hb⟩) := by
  blk_ext [e0]
theorem blk_1 (X : Buf (Elt Ideal) ((c.tc : Thread nD τ).loc main_arg1)) (t : Fin cfg0.N) (j : S1024x512.Idx) (ha) (hb) :
    (((cfg0.win 1).blk t).view.read (Elt Ideal) X) j = X (ix2 ⟨1024 * t.val + (j 0).val, ha⟩ ⟨(j 1).val, hb⟩) := by
  blk_ext [e1]
theorem blk_2 (X : Buf (Elt Ideal) ((c.tc : Thread nD τ).loc main_arg2)) (t : Fin cfg0.N) (j : S1024x1024.Idx) (ha) (hb) :
    (((cfg0.win 2).blk t).view.read (Elt Ideal) X) j = X (ix2 ⟨(j 0).val, ha⟩ ⟨(j 1).val, hb⟩) := by
  blk_ext [e2]
theorem blk_3 (X : Buf (Elt Ideal) ((c.tc : Thread nD τ).loc main_arg3)) (t : Fin cfg0.N) (j : S1024x1024.Idx) (ha) (hb) :
    (((cfg0.win 3).blk t).view.read (Elt Ideal) X) j = X (ix2 ⟨1024 * t.val + (j 0).val, ha⟩ ⟨(j 1).val, hb⟩) := by
  blk_ext [e3]
theorem blk_4 (X : Buf (Elt Ideal) ((c.tc : Thread nD τ).loc main_v0)) (t : Fin cfg0.N) (j : S1x1024.Idx) (ha) (hb) :
    (((cfg0.win 4).blk t).view.read (Elt Ideal) X) j = X (ix2 ⟨(j 0).val, ha⟩ ⟨(j 1).val, hb⟩) := by
  blk_ext [e4]
theorem blk_5 (X : Buf (Elt Ideal) ((c.tc : Thread nD τ).loc main_v1)) (t : Fin cfg0.N) (j : S1x1024.Idx) (ha) (hb) :
    (((cfg0.win 5).blk t).view.read (Elt Ideal) X) j = X (ix2 ⟨(j 0).val, ha⟩ ⟨(j 1).val, hb⟩) := by
  blk_ext [e5]

theorem ib_0 (x : Vec Ideal S4096x512 .bf16) (h : m ((c.tc : Thread nD τ).loc main_arg0) = x) (t : Fin cfg0.N) (a : Fin 1024) (k : Fin 512) (ha) :
    iblk m c 0 t (ix2 a k) = x (ix2 ⟨1024 * t.val + a.val, ha⟩ k) := by
  rw [← V_main_arg0 m c] at h
  exact (blk_0 c (V m c main_arg0) t (ix2 a k) ha k.isLt).trans (congrFun h _)
theorem ib_1 (x : Vec Ideal S4096x512 .bf16) (h : m ((c.tc : Thread nD τ).loc main_arg1) = x) (t : Fin cfg0.N) (a : Fin 1024) (k : Fin 512) (ha) :
    iblk m c 1 t (ix2 a k) = x (ix2 ⟨1024 * t.val + a.val, ha⟩ k) := by
  rw [← V_main_arg1 m c] at h
  exact (blk_1 c (V m c main_arg1) t (ix2 a k) ha k.isLt).trans (congrFun h _)
theorem ib_3 (x : Vec Ideal S4096x1024 .f32) (h : m ((c.tc : Thread nD τ).loc main_arg3) = x) (t : Fin cfg0.N) (a : Fin 1024) (k : Fin 1024) (ha) :
    iblk m c 3 t (ix2 a k) = x (ix2 ⟨1024 * t.val + a.val, ha⟩ k) := by
  rw [← V_main_arg3 m c] at h
  exact (blk_3 c (V m c main_arg3) t (ix2 a k) ha k.isLt).trans (congrFun h _)
theorem ib_2 (x : Vec Ideal S1024x1024 .bf16) (h : m ((c.tc : Thread nD τ).loc main_arg2) = x) (t : Fin cfg0.N) (a k : Fin 1024) :
    iblk m c 2 t (ix2 a k) = x (ix2 a k) := by
  rw [← V_main_arg2 m c] at h
  exact (blk_2 c (V m c main_arg2) t (ix2 a k) a.isLt k.isLt).trans (congrFun h _)
theorem ib_4 (x : Vec Ideal S1024 .f32) (h : m ((c.tc : Thread nD τ).loc main_arg4) = x) (t : Fin cfg0.N) (k : Fin 1024) :
    iblk m c 4 t (ix2 (0 : Fin 1) k) = x (ix1 k) :=
  (blk_4 c (V m c main_v0) t (ix2 (0 : Fin 1) k) Nat.zero_lt_one k.isLt).trans (gain4_apply m c x h k)
theorem ib_5 (x : Vec Ideal S1024 .f32) (h : m ((c.tc : Thread nD τ).loc main_arg5) = x) (t : Fin cfg0.N) (k : Fin 1024) :
    iblk m c 5 t (ix2 (0 : Fin 1) k) = x (ix1 k) :=
  (blk_5 c (V m c main_v1) t (ix2 (0 : Fin 1) k) Nat.zero_lt_one k.isLt).trans (gain5_apply m c x h k)

/-- The call leaves the reference's first result. -/
theorem final6 (x0 x1 : Vec Ideal S4096x512 .bf16) (x2 : Vec Ideal S1024x1024 .bf16) (x3 : Vec Ideal S4096x1024 .f32) (x4 : Vec Ideal S1024 .f32) (x5 : Vec Ideal S1024 .f32)
    (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) (h5 : m ((c.tc : Thread nD τ).loc main_arg5) = x5) :
    (dats m 0 c).arrAt 6 cfg0.N = Cert.Reference10Ideal.Read.val_main_v4 (F := Ideal) x0 x1 x2 := by
  refine (dats m 0 c).arrAt_eq_of_covers 6 _ (by decide +kernel) fun t hf y => ?_
  have ht := point_lt t
  have hy0 : (y 0).val < 1024 := (y 0).isLt
  have hy1 : (y 1).val < 1024 := (y 1).isLt
  have g0 : ((((cfg0.win 6).blk t).view.emb y) 0).val = 1024 * t.val + (y 0).val := by
    blk_simp [e6]; omega
  have g1 : ((((cfg0.win 6).blk t).view.emb y) 1).val = (y 1).val := by
    blk_simp [e6]
  have he : (((cfg0.win 6).blk t).view.emb y) = ix2 (⟨1024 * t.val + (y 0).val, by omega⟩ : Fin 4096) (⟨(y 1).val, hy1⟩ : Fin 1024) := by
    funext a
    match a with
    | ⟨0, _⟩ => exact Fin.ext g0
    | ⟨1, _⟩ => exact Fin.ext g1
  have hy : y = ix2 (⟨(y 0).val, hy0⟩ : Fin 1024) (⟨(y 1).val, hy1⟩ : Fin 1024) := by
    funext a
    match a with
    | ⟨0, _⟩ => rfl
    | ⟨1, _⟩ => rfl
  rw [he]
  refine Eq.trans ?_ (ref4_apply x0 x1 x2 _ _).symm
  blk_simp
  rw [after0_6]
  refine (congrArg (out0_6 (iblk m c 0 t) (iblk m c 1 t) (iblk m c 2 t) (iblk m c 3 t) (iblk m c 4 t) (iblk m c 5 t)) hy).trans ((out6_apply _ _ _ _ _ _ _ _).trans ?_)
  exact congrFun (congr (congr (congrArg mixed (funext fun k => ib_0 m c x0 h0 t _ k (by dsimp only; omega))) (funext fun k => ib_1 m c x1 h1 t _ k (by dsimp only; omega))) (funext fun k => funext fun j => ib_2 m c x2 h2 t k j)) _

/-- The call leaves the reference's second result. -/
theorem final7 (x0 x1 : Vec Ideal S4096x512 .bf16) (x2 : Vec Ideal S1024x1024 .bf16) (x3 : Vec Ideal S4096x1024 .f32) (x4 : Vec Ideal S1024 .f32) (x5 : Vec Ideal S1024 .f32)
    (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) (h5 : m ((c.tc : Thread nD τ).loc main_arg5) = x5) :
    (dats m 0 c).arrAt 7 cfg0.N = Cert.Reference10Ideal.Read.val_main_v18 (F := Ideal) x0 x1 x2 x3 x4 := by
  refine (dats m 0 c).arrAt_eq_of_covers 7 _ (by decide +kernel) fun t hf y => ?_
  have ht := point_lt t
  have hy0 : (y 0).val < 1024 := (y 0).isLt
  have hy1 : (y 1).val < 1024 := (y 1).isLt
  have g0 : ((((cfg0.win 7).blk t).view.emb y) 0).val = 1024 * t.val + (y 0).val := by
    blk_simp [e7]; omega
  have g1 : ((((cfg0.win 7).blk t).view.emb y) 1).val = (y 1).val := by
    blk_simp [e7]
  have he : (((cfg0.win 7).blk t).view.emb y) = ix2 (⟨1024 * t.val + (y 0).val, by omega⟩ : Fin 4096) (⟨(y 1).val, hy1⟩ : Fin 1024) := by
    funext a
    match a with
    | ⟨0, _⟩ => exact Fin.ext g0
    | ⟨1, _⟩ => exact Fin.ext g1
  have hy : y = ix2 (⟨(y 0).val, hy0⟩ : Fin 1024) (⟨(y 1).val, hy1⟩ : Fin 1024) := by
    funext a
    match a with
    | ⟨0, _⟩ => rfl
    | ⟨1, _⟩ => rfl
  rw [he]
  refine Eq.trans ?_ (ref18_apply x0 x1 x2 x3 x4 _ _).symm
  blk_simp
  rw [after0_7]
  refine (congrArg (out0_7 (iblk m c 0 t) (iblk m c 1 t) (iblk m c 2 t) (iblk m c 3 t) (iblk m c 4 t) (iblk m c 5 t)) hy).trans ((out7_apply _ _ _ _ _ _ _ _).trans ?_)
  exact congrFun (congr (congr (congrArg resid (funext fun k => ib_3 m c x3 h3 t _ k (by dsimp only; omega))) (congr (congr (congrArg mixed (funext fun k => ib_0 m c x0 h0 t _ k (by dsimp only; omega))) (funext fun k => ib_1 m c x1 h1 t _ k (by dsimp only; omega))) (funext fun k => funext fun j => ib_2 m c x2 h2 t k j))) (funext fun k => ib_4 m c x4 h4 t k)) _

/-- The call leaves the reference's third result. -/
theorem final8 (x0 x1 : Vec Ideal S4096x512 .bf16) (x2 : Vec Ideal S1024x1024 .bf16) (x3 : Vec Ideal S4096x1024 .f32) (x4 : Vec Ideal S1024 .f32) (x5 : Vec Ideal S1024 .f32)
    (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) (h5 : m ((c.tc : Thread nD τ).loc main_arg5) = x5) :
    (dats m 0 c).arrAt 8 cfg0.N = Cert.Reference10Ideal.Read.val_main_v32 (F := Ideal) x0 x1 x2 x3 x4 x5 := by
  refine (dats m 0 c).arrAt_eq_of_covers 8 _ (by decide +kernel) fun t hf y => ?_
  have ht := point_lt t
  have hy0 : (y 0).val < 1024 := (y 0).isLt
  have hy1 : (y 1).val < 1024 := (y 1).isLt
  have g0 : ((((cfg0.win 8).blk t).view.emb y) 0).val = 1024 * t.val + (y 0).val := by
    blk_simp [e8]; omega
  have g1 : ((((cfg0.win 8).blk t).view.emb y) 1).val = (y 1).val := by
    blk_simp [e8]
  have he : (((cfg0.win 8).blk t).view.emb y) = ix2 (⟨1024 * t.val + (y 0).val, by omega⟩ : Fin 4096) (⟨(y 1).val, hy1⟩ : Fin 1024) := by
    funext a
    match a with
    | ⟨0, _⟩ => exact Fin.ext g0
    | ⟨1, _⟩ => exact Fin.ext g1
  have hy : y = ix2 (⟨(y 0).val, hy0⟩ : Fin 1024) (⟨(y 1).val, hy1⟩ : Fin 1024) := by
    funext a
    match a with
    | ⟨0, _⟩ => rfl
    | ⟨1, _⟩ => rfl
  rw [he]
  refine Eq.trans ?_ (ref32_apply x0 x1 x2 x3 x4 x5 _ _).symm
  blk_simp
  rw [after0_8]
  refine (congrArg (out0_8 (iblk m c 0 t) (iblk m c 1 t) (iblk m c 2 t) (iblk m c 3 t) (iblk m c 4 t) (iblk m c 5 t)) hy).trans ((out8_apply _ _ _ _ _ _ _ _).trans ?_)
  exact congrFun (congr (congrArg normed (congr (congr (congrArg resid (funext fun k => ib_3 m c x3 h3 t _ k (by dsimp only; omega))) (congr (congr (congrArg mixed (funext fun k => ib_0 m c x0 h0 t _ k (by dsimp only; omega))) (funext fun k => ib_1 m c x1 h1 t _ k (by dsimp only; omega))) (funext fun k => funext fun j => ib_2 m c x2 h2 t k j))) (funext fun k => ib_4 m c x4 h4 t k))) (funext fun k => ib_5 m c x5 h5 t k)) _

/-- The reference's run keeps its arguments and ends quiet. -/
theorem frame_ri : Cert.quiescent_Reference10Ideal := fun m ρ _ =>
  (θ_run Cert.Reference10Ideal.defs _ _).mono (fun r h => ⟨fun c => (h c).2.2.2,
      Idealize.ShloMosaic.sem_eq_zero_of_no_sems (by decide) r.2⟩)
    (Cert.Reference10Ideal.Value.run (F := Ideal) m ρ)

/-- The kernel's results are the reference's. -/
theorem algebraic : Cert.algebraic_Kernel10Ideal_Reference10Ideal := by
  intro m ρ m' ρ' _ hagree
  refine ⟨fun c => Cert.Reference10Ideal.Read.val_main_v4 (F := Ideal) (m ((c.tc : Thread nD τ).loc main_arg0)) (m ((c.tc : Thread nD τ).loc main_arg1)) (m ((c.tc : Thread nD τ).loc main_arg2)),
    fun c => Cert.Reference10Ideal.Read.val_main_v18 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => Cert.Reference10Ideal.Read.val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)), ?_, ?_⟩
  · refine (θ_run Cert.Kernel10Ideal.defs _ _).mono (fun r h c => ?_) (Cert.Kernel10Ideal.Value.run_blocks (F := Ideal) m ρ)
    obtain ⟨h6, h7, h8, hk⟩ := h c
    exact ⟨h6.trans (final6 m c _ _ _ _ _ _ rfl rfl rfl rfl rfl rfl), h7.trans (final7 m c _ _ _ _ _ _ rfl rfl rfl rfl rfl rfl), h8.trans (final8 m c _ _ _ _ _ _ rfl rfl rfl rfl rfl rfl), hk⟩
  · refine (θ_run Cert.Reference10Ideal.defs _ _).mono (fun r h c => ?_) (Cert.Reference10Ideal.Value.run (F := Ideal) m' ρ')
    obtain ⟨h6, h7, h8, hk⟩ := h c
    obtain ⟨g0, g1, g2, g3, g4, g5⟩ := hagree c
    refine ⟨h6.trans ((Cert.Reference10Ideal.Read.val_main_v4_eq _ _ _).trans ?_), h7.trans ((Cert.Reference10Ideal.Read.val_main_v18_eq _ _ _ _ _).trans ?_), h8.trans ((Cert.Reference10Ideal.Read.val_main_v32_eq _ _).trans ?_), hk⟩
    · rw [g0, g1, g2]
    · rw [g0, g1, g2, g3, g4]
    · rw [g0, g1, g2, g3, g4, g5]

end Cert.Proof.ProjOut

end
-- ==== Proof.Prenorm.lean ====
/-
  The first norm: what the kernel's call leaves, and the reference's value.
-/
module

public import proofs.«01_k».proof.Proof.Gen.Kernel11Ideal.Value
public import proofs.«01_k».proof.Proof.Gen.Reference11Ideal.Run
public import proofs.«01_k».proof.Proof.Gen.Reference11Ideal.Read
public import proofs.«01_k».proof.Defs
public import Idealize.ShloMosaic.Lib.StableHlo.ReadAt
import Idealize.ShloMosaic.Lib.Pipeline.ValueKit

@[expose] public section

set_option maxRecDepth 16384

noncomputable section

namespace Cert.Proof.Prenorm
open Idealize.ShloMosaic Idealize.SL.Sem Cert.Kernel11Ideal Cert.Kernel11Ideal.Gen
open scoped BigOperators

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem point_lt (t : Fin cfg0.N) : t.val < 8 := lt_of_lt_of_eq t.isLt (by decide)

/-- A row divided by its root mean square, times a gain. -/
def normed (f g : Fin 1024 → EReal) (b : Fin 1024) : EReal :=
  f b * Ideal.rsqrt (Ideal.div (∑ j, f j * f j) (Ideal.ofBits FTy.f32 1149239296#32) + Ideal.ofBits FTy.f32 897988541#32) * g b

/-- What the body stores, at an index. -/
theorem out2_apply (x0 : Vec Ideal S512x1024 .f32) (x1 : Vec Ideal S1x1024 .f32) (a : Fin 512) (b : Fin 1024) :
    out0_2 (F := Ideal) x0 x1 (ix2 a b) = normed (fun j => x0 (ix2 a j)) (fun j => x1 (ix2 0 j)) b := by
  unfold out0_2 normed
  rw [View.canon_unit_zero (by funext a; fin_cases a <;> rfl)]
  pointwise [k0_pay1]

/-- The reference's value, at an index. -/
theorem ref_apply (x0 : Vec Ideal S4096x1024 .f32) (x1 : Vec Ideal S1024 .f32) (a : Fin 4096) (b : Fin 1024) :
    Cert.Reference11Ideal.Read.val_main_v13 (F := Ideal) x0 x1 (ix2 a b) = normed (fun j => x0 (ix2 a j)) (fun j => x1 (ix1 j)) b := by
  unfold normed
  pointwise [Cert.Reference11Ideal.Read.val_main_v0, Cert.Reference11Ideal.Read.val_main_cst, Cert.Reference11Ideal.Read.val_main_v1, Cert.Reference11Ideal.Read.val_main_v2, Cert.Reference11Ideal.Read.val_main_cst_0, Cert.Reference11Ideal.Read.val_main_v3, Cert.Reference11Ideal.Read.val_main_v4, Cert.Reference11Ideal.Read.val_main_cst_1, Cert.Reference11Ideal.Read.val_main_v5, Cert.Reference11Ideal.Read.val_main_v6, Cert.Reference11Ideal.Read.val_main_v7, Cert.Reference11Ideal.Read.val_main_v8, Cert.Reference11Ideal.Read.val_main_v9, Cert.Reference11Ideal.Read.val_main_v10, Cert.Reference11Ideal.Read.val_main_v11, Cert.Reference11Ideal.Read.val_main_v12, Cert.Reference11Ideal.Read.val_main_v13]

/-- The gain as the host passes it on: one row. -/
theorem gain_apply (x1 : Vec Ideal S1024 .f32) (h : m ((c.tc : Thread nD τ).loc main_arg1) = x1) (j : Fin 1024) :
    V m c main_v0 (ix2 (0 : Fin 1) j) = x1 (ix1 j) := by
  subst h
  unfold V
  after_reads_at

theorem blk_0 (X : Buf (Elt Ideal) ((c.tc : Thread nD τ).loc main_arg0)) (t : Fin cfg0.N) (j : S512x1024.Idx) (ha) (hb) :
    (((cfg0.win 0).blk t).view.read (Elt Ideal) X) j = X (ix2 ⟨512 * t.val + (j 0).val, ha⟩ ⟨(j 1).val, hb⟩) := by
  blk_ext [e0]
theorem blk_1 (X : Buf (Elt Ideal) ((c.tc : Thread nD τ).loc main_v0)) (t : Fin cfg0.N) (j : S1x1024.Idx) (ha) (hb) :
    (((cfg0.win 1).blk t).view.read (Elt Ideal) X) j = X (ix2 ⟨(j 0).val, ha⟩ ⟨(j 1).val, hb⟩) := by
  blk_ext [e1]

theorem ib_0 (x0 : Vec Ideal S4096x1024 .f32) (h : m ((c.tc : Thread nD τ).loc main_arg0) = x0) (t : Fin cfg0.N) (a : Fin 512) (k : Fin 1024) (ha) :
    iblk m c 0 t (ix2 a k) = x0 (ix2 ⟨512 * t.val + a.val, ha⟩ k) := by
  rw [← V_main_arg0 m c] at h
  exact (blk_0 c (V m c main_arg0) t (ix2 a k) ha k.isLt).trans (congrFun h _)
theorem ib_1 (x1 : Vec Ideal S1024 .f32) (h : m ((c.tc : Thread nD τ).loc main_arg1) = x1) (t : Fin cfg0.N) (k : Fin 1024) :
    iblk m c 1 t (ix2 (0 : Fin 1) k) = x1 (ix1 k) :=
  (blk_1 c (V m c main_v0) t (ix2 (0 : Fin 1) k) Nat.zero_lt_one k.isLt).trans (gain_apply m c x1 h k)

/-- The call leaves the reference's value. -/
theorem final (x0 : Vec Ideal S4096x1024 .f32) (x1 : Vec Ideal S1024 .f32)
    (h0 : m ((c.tc : Thread nD τ).loc main_arg0) = x0) (h1 : m ((c.tc : Thread nD τ).loc main_arg1) = x1) :
    (dats m 0 c).arrAt 2 cfg0.N = Cert.Reference11Ideal.Read.val_main_v13 (F := Ideal) x0 x1 := by
  refine (dats m 0 c).arrAt_eq_of_covers 2 _ (by decide +kernel) fun t hf y => ?_
  have ht := point_lt t
  have hy0 : (y 0).val < 512 := (y 0).isLt
  have hy1 : (y 1).val < 1024 := (y 1).isLt
  have g0 : ((((cfg0.win 2).blk t).view.emb y) 0).val = 512 * t.val + (y 0).val := by
    blk_simp [e2]; omega
  have g1 : ((((cfg0.win 2).blk t).view.emb y) 1).val = (y 1).val := by
    blk_simp [e2]
  have he : (((cfg0.win 2).blk t).view.emb y) = ix2 (⟨512 * t.val + (y 0).val, by omega⟩ : Fin 4096) (⟨(y 1).val, hy1⟩ : Fin 1024) := by
    funext a
    match a with
    | ⟨0, _⟩ => exact Fin.ext g0
    | ⟨1, _⟩ => exact Fin.ext g1
  have hy : y = ix2 (⟨(y 0).val, hy0⟩ : Fin 512) (⟨(y 1).val, hy1⟩ : Fin 1024) := by
    funext a
    match a with
    | ⟨0, _⟩ => rfl
    | ⟨1, _⟩ => rfl
  rw [he]
  refine Eq.trans ?_ (ref_apply x0 x1 _ _).symm
  blk_simp
  rw [after0_2]
  refine (congrArg (out0_2 (iblk m c 0 t) (iblk m c 1 t)) hy).trans ((out2_apply _ _ _ _).trans ?_)
  exact congrFun (congr (congrArg normed (funext fun k => ib_0 m c x0 h0 t _ k (by dsimp only; omega))) (funext fun k => ib_1 m c x1 h1 t k)) _

/-- The reference's run keeps its arguments and ends quiet. -/
theorem frame_ri : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

/-- The kernel's result is the reference's. -/
theorem algebraic : Cert.algebraic_Kernel11Ideal_Reference11Ideal := by
  intro m ρ m' ρ' _ hagree
  refine ⟨fun c => Cert.Reference11Ideal.Read.val_main_v13 (F := Ideal) (m ((c.tc : Thread nD τ).loc main_arg0)) (m ((c.tc : Thread nD τ).loc main_arg1)), ?_, ?_⟩
  · refine (θ_run Cert.Kernel11Ideal.defs _ _).mono (fun r h c => ?_) (Cert.Kernel11Ideal.Value.run_blocks (F := Ideal) m ρ)
    obtain ⟨h2, hk⟩ := h c
    exact ⟨h2.trans (final m c _ _ rfl rfl), hk⟩
  · refine (θ_run Cert.Reference11Ideal.defs _ _).mono (fun r h c => ?_) (Cert.Reference11Ideal.Value.run (F := Ideal) m' ρ')
    obtain ⟨h2, hk⟩ := h c
    obtain ⟨g0, g1⟩ := hagree c
    refine ⟨h2.trans ((Cert.Reference11Ideal.Read.val_main_v13_eq _ _).trans ?_), hk⟩
    rw [g0, g1]

end Cert.Proof.Prenorm

end
-- ==== Proof.Optim.lean ====
/-
  The optimizer's step of one weight: what the kernel's call leaves, and the reference's value.
-/
module

public import proofs.«01_k».proof.Proof.Gen.Kernel12Ideal.Frame
public import proofs.«01_k».proof.Proof.Gen.Kernel12.Frame
public import proofs.«01_k».proof.Proof.Gen.Reference12Ideal.Run
public import proofs.«01_k».proof.Proof.Gen.Reference12Ideal.Read
public import proofs.«01_k».proof.Proof.RealOps
public import proofs.«01_k».proof.Defs
public import Idealize.ShloMosaic.Lib.StableHlo.ReadAt
public import Idealize.ShloMosaic.Lib.Pipeline.ValueKit

@[expose] public section

set_option maxRecDepth 16384

noncomputable section

namespace Cert.Proof.Optim
open Idealize.ShloMosaic Idealize.SL.Sem Cert.Kernel12Ideal Cert.Kernel12Ideal.Gen
open scoped BigOperators

/-- The table the bit kernel's host passes on: zero. -/
theorem table_bits {F : FTy → Type} [FloatOps F] (m : (ℓ : Loc Cert.Kernel12.nD Cert.Kernel12.τ Cert.Kernel12.sig) → Buf (Elt F) ℓ) (c : Dev Cert.Kernel12.nD) :
    Cert.Kernel12.Gen.V m c Cert.Kernel12.main_v0 = fun _ => (0#32 : Elt F .i32) := by
  unfold Cert.Kernel12.Gen.V
  funext i
  after_reads_at
/-- With that table the block of this device's gradients is the first. -/
theorem index_bits {F : FTy → Type} [FloatOps F] (pf : Cert.Kernel12.pre0.Contents (Elt F)) (h : pf 0 = fun _ => (0#32 : Elt F .i32)) (inb) (numel) (i : Cert.Kernel12.grid0.Coords) :
    Cert.Kernel12.cc0_transform_1 inb numel pf i = ![0, 0, 0] := by
  have h0 : pf.at 0 (Rect.unit (s := Cert.Kernel12.S1) ![0] Cert.Kernel12.S1.size inb) numel = (0#32 : Elt F .i32) := congrFun h _
  unfold Cert.Kernel12.cc0_transform_1
  dsimp only
  rw [h0]
  rfl
/-- So every block lies inside its array. -/
theorem ok_bits {F : FTy → Type} [FloatOps F] (m : (ℓ : Loc Cert.Kernel12.nD Cert.Kernel12.τ Cert.Kernel12.sig) → Buf (Elt F) ℓ) : Cert.Kernel12.Gen.Ok m := by
  intro i
  rw [index_bits (Cert.Kernel12.Gen.tbl m) (table_bits m 0)]
  exact ⟨by decide +kernel, .inr (by decide +kernel)⟩

/-- The table the idealized kernel's host passes on: zero. -/
theorem table_ideal {F : FTy → Type} [FloatOps F] (m : (ℓ : Loc Cert.Kernel12Ideal.nD Cert.Kernel12Ideal.τ Cert.Kernel12Ideal.sig) → Buf (Elt F) ℓ) (c : Dev Cert.Kernel12Ideal.nD) :
    Cert.Kernel12Ideal.Gen.V m c Cert.Kernel12Ideal.main_v0 = fun _ => (0#32 : Elt F .i32) := by
  unfold Cert.Kernel12Ideal.Gen.V
  funext i
  after_reads_at
/-- With that table the block of this device's gradients is the first. -/
theorem index_ideal {F : FTy → Type} [FloatOps F] (pf : Cert.Kernel12Ideal.pre0.Contents (Elt F)) (h : pf 0 = fun _ => (0#32 : Elt F .i32)) (inb) (numel) (i : Cert.Kernel12Ideal.grid0.Coords) :
    Cert.Kernel12Ideal.cc0_transform_1 inb numel pf i = ![0, 0, 0] := by
  have h0 : pf.at 0 (Rect.unit (s := Cert.Kernel12Ideal.S1) ![0] Cert.Kernel12Ideal.S1.size inb) numel = (0#32 : Elt F .i32) := congrFun h _
  unfold Cert.Kernel12Ideal.cc0_transform_1
  dsimp only
  rw [h0]
  rfl
/-- So every block lies inside its array. -/
theorem ok_ideal {F : FTy → Type} [FloatOps F] (m : (ℓ : Loc Cert.Kernel12Ideal.nD Cert.Kernel12Ideal.τ Cert.Kernel12Ideal.sig) → Buf (Elt F) ℓ) : Cert.Kernel12Ideal.Gen.Ok m := by
  intro i
  rw [index_ideal (Cert.Kernel12Ideal.Gen.tbl m) (table_ideal m 0)]
  exact ⟨by decide +kernel, .inr (by decide +kernel)⟩

/-- A load of one of the eight blocks. -/
theorem load_block (arg : Memref sig .tc .vmem S8x321x1024 .bf16) (h : arg.IsWhole) (x : Vec Ideal S8x321x1024 .bf16) (k : ℕ) (hk : k < 8) (inb) (a : Fin 321) (b : Fin 1024) :
    View.readAt (Elt Ideal) arg.view (Rect.unit (s := S8x321x1024) ![k, 0, 0] S1x321x1024.size inb).toLoadRect (h.unread x) (ix3 (0 : Fin 1) a b) = x (ix3 (⟨k, hk⟩ : Fin 8) a b) := by
  rw [View.readAt_eq_ld, Memref.IsWhole.read_unread]
  pointwise
/-- A load of a whole block. -/
theorem load_own (arg : Memref sig .tc .vmem S1x321x1024 .bf16) (h : arg.IsWhole) (x : Vec Ideal S1x321x1024 .bf16) (inb) :
    View.readAt (Elt Ideal) arg.view (Rect.unit (s := S1x321x1024) ![0, 0, 0] S1x321x1024.size inb).toLoadRect (h.unread x) = x := by
  rw [View.readAt_eq_ld, Memref.IsWhole.read_unread]
  exact View.ld_unit_zero (off := ![0, 0, 0]) (by funext a; fin_cases a <;> rfl) inb x
/-- A load of a whole weight. -/
theorem load_weight (arg : Memref sig .tc .vmem S321x1x1024 .f32) (h : arg.IsWhole) (x : Vec Ideal S321x1x1024 .f32) (inb) :
    View.readAt (Elt Ideal) arg.view (Rect.unit (s := S321x1x1024) ![0, 0, 0] S321x1x1024.size inb).toLoadRect (h.unread x) = x := by
  rw [View.readAt_eq_ld, Memref.IsWhole.read_unread]
  exact View.ld_unit_zero (off := ![0, 0, 0]) (by funext a; fin_cases a <;> rfl) inb x

/-- A choice between two blocks, on a word known to be the one asked for, or not. -/
theorem sel_own {α : Type} (x y : α) : Scalar.select (Scalar.cmpi .eq (0#32) (0#32)) x y = x := rfl
theorem sel_1 {α : Type} (x y : α) : Scalar.select (Scalar.cmpi .eq (0#32) (1#32)) x y = y := rfl
theorem sel_2 {α : Type} (x y : α) : Scalar.select (Scalar.cmpi .eq (0#32) (2#32)) x y = y := rfl
theorem sel_3 {α : Type} (x y : α) : Scalar.select (Scalar.cmpi .eq (0#32) (3#32)) x y = y := rfl
theorem sel_4 {α : Type} (x y : α) : Scalar.select (Scalar.cmpi .eq (0#32) (4#32)) x y = y := rfl
theorem sel_5 {α : Type} (x y : α) : Scalar.select (Scalar.cmpi .eq (0#32) (5#32)) x y = y := rfl
theorem sel_6 {α : Type} (x y : α) : Scalar.select (Scalar.cmpi .eq (0#32) (6#32)) x y = y := rfl
theorem sel_7 {α : Type} (x y : α) : Scalar.select (Scalar.cmpi .eq (0#32) (7#32)) x y = y := rfl

/-- The sum of the eight devices' blocks. -/
def total (f : Fin 8 → EReal) : EReal := f 0 + f 1 + f 2 + f 3 + f 4 + f 5 + f 6 + f 7
/-- The new first moment. -/
def first (m g : EReal) : EReal := Ideal.ofBits FTy.f32 0x3F666666#32 * m + Ideal.ofBits FTy.f32 0x3DCCCCCD#32 * g
/-- The new second moment. -/
def second (v g : EReal) : EReal := Ideal.ofBits FTy.f32 0x3F7FBE77#32 * v + Ideal.ofBits FTy.f32 0x3A83126F#32 * (g * g)
/-- The step of a weight, from the new moments. -/
def step (w m v : EReal) : EReal :=
  Ideal.ofBits FTy.f32 0xBA83126F#32 * (Ideal.div (Ideal.div m (Ideal.ofBits FTy.f32 0x3F26BD02#32)) (Ideal.sqrt (Ideal.div v (Ideal.ofBits FTy.f32 0x3C231ACC#32)) + Ideal.ofBits FTy.f32 0x322BCC77#32) + Ideal.ofBits FTy.f32 0x3C23D70A#32 * w)
/-- The eight blocks at an index: this device's own first, then those of the others. -/
def part (x0 : Fin 8 → EReal) (x1 : EReal) : Fin 8 → EReal := fun k => if k = 0 then x1 else x0 k

/-- The body's sum of the blocks, at an index. -/
theorem pay4_apply (v1 v4 v9 v15 v21 v27 v33 v39 v45 : Vec Ideal S1x321x1024 .bf16) (a : Fin 321) (b : Fin 1024) :
    k0_pay4 (F := Ideal) (0#32) (k0_pay2 v1) (k0_pay3 (0#32) v1 v4 v9 v15 v21 v27) (Scalar.cmpi .eq (0#32) (5#32)) v33 v39 v45 (ix3 a (0 : Fin 1) b)
      = v1 (ix3 0 a b) + v9 (ix3 0 a b) + v15 (ix3 0 a b) + v21 (ix3 0 a b) + v27 (ix3 0 a b) + v33 (ix3 0 a b) + v39 (ix3 0 a b) + v45 (ix3 0 a b) := by
  simp only [k0_pay4, k0_pay3, k0_pay2, sel_own, sel_1, sel_2, sel_3, sel_4, sel_5, sel_6, sel_7]
  pointwise
theorem pay6_apply (v0 : Elt Ideal .i32) (v2 v31 v32 v33 v39 v45) (v53 : Vec Ideal S321x1x1024 .f32) (i : S321x1x1024.Idx) :
    k0_pay6 (F := Ideal) v0 v2 v31 v32 v33 v39 v45 v53 i = first (v53 i) (k0_pay4 (F := Ideal) v0 v2 v31 v32 v33 v39 v45 i) := by
  unfold first
  simp only [k0_pay6, Cert.Proof.RV.cast_same]
  rfl
theorem pay7_apply (v0 : Elt Ideal .i32) (v2 v31 v32 v33 v39 v45) (v55 : Vec Ideal S321x1x1024 .f32) (i : S321x1x1024.Idx) :
    k0_pay7 (F := Ideal) v0 v2 v31 v32 v33 v39 v45 v55 i = second (v55 i) (k0_pay4 (F := Ideal) v0 v2 v31 v32 v33 v39 v45 i) := by
  unfold second
  simp only [k0_pay7, Cert.Proof.RV.cast_same]
  rfl
theorem pay1_apply (v51 v61 v67 : Vec Ideal S321x1x1024 .f32) (i : S321x1x1024.Idx) :
    k0_pay1 (F := Ideal) (k0_pay5 v51) v61 v67 k0_pay8 i = step (v51 i) (v61 i) (v67 i) := by
  unfold step
  simp only [k0_pay1, k0_pay5, k0_pay8, Cert.Proof.RV.cast_same]
  rfl

section
open Cert.Reference12Ideal.Read
/-- The reference's blocks. -/
theorem ref_part (x0 x1 : Vec Ideal S8x321x1024 .bf16) (k : Fin 8) (a : Fin 321) (b : Fin 1024) :
    val_main_v3 (F := Ideal) x0 x1 (ix3 k a b) = part (fun k => x0 (ix3 k a b)) (x1 (ix3 0 a b)) k := by
  unfold part
  fin_cases k <;> pointwise [val_main_v0, val_main_v1, val_main_v2, val_main_v3]
theorem ref_sum (x0 x1 : Vec Ideal S8x321x1024 .bf16) (a : Fin 321) (b : Fin 1024) :
    val_main_v5 (F := Ideal) x0 x1 (ix3 a (0 : Fin 1) b) = total (part (fun k => x0 (ix3 k a b)) (x1 (ix3 0 a b))) := by
  unfold total
  pointwise [val_main_v4, val_main_v5, val_main_cst]
  simp only [ref_part]
  exact Fin.sum_univ_eight _
theorem ref_first (x0 x1 : Vec Ideal S8x321x1024 .bf16) (x3 : Vec Ideal S1x1024x321 .f32) (a : Fin 321) (b : Fin 1024) :
    val_main_v13 (F := Ideal) x0 x1 x3 (ix3 a (0 : Fin 1) b) = first (x3 (ix3 0 b a)) (val_main_v5 (F := Ideal) x0 x1 (ix3 a (0 : Fin 1) b)) := by
  unfold first
  pointwise [val_main_v7, val_main_v9, val_main_v10, val_main_v11, val_main_v12, val_main_v13, val_main_cst_0, val_main_cst_1]
theorem ref_second (x0 x1 : Vec Ideal S8x321x1024 .bf16) (x4 : Vec Ideal S1x1024x321 .f32) (a : Fin 321) (b : Fin 1024) :
    val_main_v19 (F := Ideal) x0 x1 x4 (ix3 a (0 : Fin 1) b) = second (x4 (ix3 0 b a)) (val_main_v5 (F := Ideal) x0 x1 (ix3 a (0 : Fin 1) b)) := by
  unfold second
  pointwise [val_main_v8, val_main_v14, val_main_v15, val_main_v16, val_main_v17, val_main_v18, val_main_v19, val_main_cst_2, val_main_cst_3]
theorem ref_step (x0 x1 : Vec Ideal S8x321x1024 .bf16) (x2 x3 x4 : Vec Ideal S1x1024x321 .f32) (a : Fin 321) (b : Fin 1024) :
    val_main_v32 (F := Ideal) x0 x1 x2 x3 x4 (ix3 a (0 : Fin 1) b) = step (x2 (ix3 0 b a)) (val_main_v13 (F := Ideal) x0 x1 x3 (ix3 a (0 : Fin 1) b)) (val_main_v19 (F := Ideal) x0 x1 x4 (ix3 a (0 : Fin 1) b)) := by
  unfold step
  pointwise [val_main_v6, val_main_v20, val_main_v21, val_main_v22, val_main_v23, val_main_v24, val_main_v25, val_main_v26, val_main_v27, val_main_v28, val_main_v29, val_main_v30, val_main_v31, val_main_v32, val_main_cst_4, val_main_cst_5, val_main_cst_6, val_main_cst_7, val_main_cst_8]
end

section
variable (c : Dev nD) (i : grid0.Coords) (arg2 : Memref sig .tc .vmem S8x321x1024 .bf16) (harg2 : arg2.IsWhole) (arg3 : Memref sig .tc .vmem S1x321x1024 .bf16) (harg3 : arg3.IsWhole) (arg4 : Memref sig .tc .vmem S321x1x1024 .f32) (harg4 : arg4.IsWhole) (arg5 : Memref sig .tc .vmem S321x1x1024 .f32) (harg5 : arg5.IsWhole) (arg6 : Memref sig .tc .vmem S321x1x1024 .f32) (harg6 : arg6.IsWhole) (arg7 : Memref sig .tc .vmem S321x1x1024 .f32) (harg7 : arg7.IsWhole) (arg8 : Memref sig .tc .vmem S321x1x1024 .f32) (harg8 : arg8.IsWhole) (arg9 : Memref sig .tc .vmem S321x1x1024 .f32) (harg9 : arg9.IsWhole) (arg10 : Memref sig .tc .vmem S321x1x1024 .f32) (harg10 : arg10.IsWhole)
  (x0 : Vec Ideal S8x321x1024 .bf16) (x1 : Vec Ideal S1x321x1024 .bf16) (x2 x3 x4 : Vec Ideal S321x1x1024 .f32) (xt0 : TbBuf0 (F := Ideal) c tbM0_0)

/-- The sum the body forms, at an index. -/
theorem grad_apply (hx : xt0 = fun _ => (0#32 : Elt Ideal .i32)) (a : Fin 321) (b : Fin 1024) :
    kernelRun0_A.sl.r_3 (F := Ideal) c arg2 harg2 arg3 harg3 x0 x1 xt0 (ix3 a (0 : Fin 1) b) = total (part (fun k => x0 (ix3 k a b)) (x1 (ix3 0 a b))) := by
  subst hx
  unfold kernelRun0_A.sl.r_3 kernelRun0_A.sl.r_1 kernelRun0_A.sl.r_2 kernelRun0_A.sl.r kernelRun0_A.sl.v32
  refine (pay4_apply _ _ _ _ _ _ _ _ _ a b).trans ?_
  rw [load_own, load_block _ _ _ 1 (by decide), load_block _ _ _ 2 (by decide), load_block _ _ _ 3 (by decide), load_block _ _ _ 4 (by decide), load_block _ _ _ 5 (by decide), load_block _ _ _ 6 (by decide), load_block _ _ _ 7 (by decide)]
  rfl
theorem first_apply (hx : xt0 = fun _ => (0#32 : Elt Ideal .i32)) (a : Fin 321) (b : Fin 1024) :
    kernelRun0_A.sl.r_5 (F := Ideal) c arg2 harg2 arg3 harg3 arg5 harg5 x0 x1 x3 xt0 (ix3 a (0 : Fin 1) b) = first (x3 (ix3 a 0 b)) (total (part (fun k => x0 (ix3 k a b)) (x1 (ix3 0 a b)))) := by
  unfold kernelRun0_A.sl.r_5
  refine (pay6_apply _ _ _ _ _ _ _ _ _).trans ?_
  rw [load_weight]
  exact congrArg (first _) (grad_apply c arg2 harg2 arg3 harg3 x0 x1 xt0 hx a b)
theorem second_apply (hx : xt0 = fun _ => (0#32 : Elt Ideal .i32)) (a : Fin 321) (b : Fin 1024) :
    kernelRun0_A.sl.r_6 (F := Ideal) c arg2 harg2 arg3 harg3 arg6 harg6 x0 x1 x4 xt0 (ix3 a (0 : Fin 1) b) = second (x4 (ix3 a 0 b)) (total (part (fun k => x0 (ix3 k a b)) (x1 (ix3 0 a b)))) := by
  unfold kernelRun0_A.sl.r_6
  refine (pay7_apply _ _ _ _ _ _ _ _ _).trans ?_
  rw [load_weight]
  exact congrArg (second _) (grad_apply c arg2 harg2 arg3 harg3 x0 x1 xt0 hx a b)

/-- What the body stores, at an index. -/
theorem out5_apply (hx : xt0 = fun _ => (0#32 : Elt Ideal .i32)) (a : Fin 321) (b : Fin 1024) :
    out0_A_5 (F := Ideal) c i arg2 harg2 arg3 harg3 arg4 harg4 arg5 harg5 arg6 harg6 arg7 harg7 arg8 harg8 arg9 harg9 arg10 harg10 x0 x1 x2 x3 x4 xt0 (ix3 a (0 : Fin 1) b) = total (part (fun k => x0 (ix3 k a b)) (x1 (ix3 0 a b))) := by
  unfold out0_A_5
  rw [View.read_writes_junk_eq_canon]
  unfold kernelRun0_A
  dsimp only
  refine (congrFun (View.canon_unit_zero (by funext a; fin_cases a <;> rfl) _ _) _).trans ?_
  exact grad_apply c arg2 harg2 arg3 harg3 x0 x1 xt0 hx a b
theorem out7_apply (hx : xt0 = fun _ => (0#32 : Elt Ideal .i32)) (a : Fin 321) (b : Fin 1024) :
    out0_A_7 (F := Ideal) c i arg2 harg2 arg3 harg3 arg4 harg4 arg5 harg5 arg6 harg6 arg7 harg7 arg8 harg8 arg9 harg9 arg10 harg10 x0 x1 x2 x3 x4 xt0 (ix3 a (0 : Fin 1) b) = first (x3 (ix3 a 0 b)) (total (part (fun k => x0 (ix3 k a b)) (x1 (ix3 0 a b)))) := by
  unfold out0_A_7
  rw [View.read_writes_junk_eq_canon]
  unfold kernelRun0_A
  dsimp only
  refine (congrFun (View.canon_unit_zero (by funext a; fin_cases a <;> rfl) _ _) _).trans ?_
  exact first_apply c arg2 harg2 arg3 harg3 arg5 harg5 x0 x1 x3 xt0 hx a b
theorem out8_apply (hx : xt0 = fun _ => (0#32 : Elt Ideal .i32)) (a : Fin 321) (b : Fin 1024) :
    out0_A_8 (F := Ideal) c i arg2 harg2 arg3 harg3 arg4 harg4 arg5 harg5 arg6 harg6 arg7 harg7 arg8 harg8 arg9 harg9 arg10 harg10 x0 x1 x2 x3 x4 xt0 (ix3 a (0 : Fin 1) b) = second (x4 (ix3 a 0 b)) (total (part (fun k => x0 (ix3 k a b)) (x1 (ix3 0 a b)))) := by
  unfold out0_A_8
  rw [View.read_writes_junk_eq_canon]
  unfold kernelRun0_A
  dsimp only
  refine (congrFun (View.canon_unit_zero (by funext a; fin_cases a <;> rfl) _ _) _).trans ?_
  exact second_apply c arg2 harg2 arg3 harg3 arg6 harg6 x0 x1 x4 xt0 hx a b
theorem out6_apply (hx : xt0 = fun _ => (0#32 : Elt Ideal .i32)) (a : Fin 321) (b : Fin 1024) :
    out0_A_6 (F := Ideal) c i arg2 harg2 arg3 harg3 arg4 harg4 arg5 harg5 arg6 harg6 arg7 harg7 arg8 harg8 arg9 harg9 arg10 harg10 x0 x1 x2 x3 x4 xt0 (ix3 a (0 : Fin 1) b)
      = step (x2 (ix3 a 0 b)) (first (x3 (ix3 a 0 b)) (total (part (fun k => x0 (ix3 k a b)) (x1 (ix3 0 a b))))) (second (x4 (ix3 a 0 b)) (total (part (fun k => x0 (ix3 k a b)) (x1 (ix3 0 a b))))) := by
  unfold out0_A_6
  rw [View.read_writes_junk_eq_canon]
  unfold kernelRun0_A
  dsimp only
  refine (congrFun (View.canon_unit_zero (by funext a; fin_cases a <;> rfl) _ _) _).trans ?_
  unfold kernelRun0_A.sl.r_4
  refine (pay1_apply _ _ _ _).trans ?_
  rw [load_weight, first_apply c arg2 harg2 arg3 harg3 arg5 harg5 x0 x1 x3 xt0 hx a b, second_apply c arg2 harg2 arg3 harg3 arg6 harg6 x0 x1 x4 xt0 hx a b]
end

variable (m : (ℓ : Loc nD τ sig) → Buf (Elt Ideal) ℓ) (c : Dev nD)

/-- The weight and its moments, as the host passes them on. -/
theorem lying_2 (x : Vec Ideal S1x1024x321 .f32) (h : m ((c.tc : Thread nD τ).loc main_arg2) = x) (a : Fin 321) (b : Fin 1024) :
    V m c main_v1 (ix3 a (0 : Fin 1) b) = x (ix3 0 b a) := by
  subst h
  unfold V
  after_reads_at
theorem lying_3 (x : Vec Ideal S1x1024x321 .f32) (h : m ((c.tc : Thread nD τ).loc main_arg3) = x) (a : Fin 321) (b : Fin 1024) :
    V m c main_v2 (ix3 a (0 : Fin 1) b) = x (ix3 0 b a) := by
  subst h
  unfold V
  after_reads_at
theorem lying_4 (x : Vec Ideal S1x1024x321 .f32) (h : m ((c.tc : Thread nD τ).loc main_arg4) = x) (a : Fin 321) (b : Fin 1024) :
    V m c main_v3 (ix3 a (0 : Fin 1) b) = x (ix3 0 b a) := by
  subst h
  unfold V
  after_reads_at

variable (hO : Ok m)

theorem e0 (t : Fin (cfgM m hO).N) : (pcfg0.win (adm m hO) 0).index t = ![0, 0, 0] := rfl
theorem e1 (t : Fin (cfgM m hO).N) : (pcfg0.win (adm m hO) 1).index t = ![0, 0, 0] := index_ideal (tbl m) (table_ideal m 0) _ _ (grid0.coords t)
theorem e2 (t : Fin (cfgM m hO).N) : (pcfg0.win (adm m hO) 2).index t = ![0, 0, 0] := rfl
theorem e3 (t : Fin (cfgM m hO).N) : (pcfg0.win (adm m hO) 3).index t = ![0, 0, 0] := rfl
theorem e4 (t : Fin (cfgM m hO).N) : (pcfg0.win (adm m hO) 4).index t = ![0, 0, 0] := rfl
theorem e5 (t : Fin (cfgM m hO).N) : (pcfg0.win (adm m hO) 5).index t = ![0, 0, 0] := rfl
theorem e6 (t : Fin (cfgM m hO).N) : (pcfg0.win (adm m hO) 6).index t = ![0, 0, 0] := rfl
theorem e7 (t : Fin (cfgM m hO).N) : (pcfg0.win (adm m hO) 7).index t = ![0, 0, 0] := rfl
theorem e8 (t : Fin (cfgM m hO).N) : (pcfg0.win (adm m hO) 8).index t = ![0, 0, 0] := rfl

theorem blk_0 (X : Buf (Elt Ideal) ((c.tc : Thread nD τ).loc main_arg0)) (t : Fin (cfgM m hO).N) (k : Fin 8) (a : Fin 321) (b : Fin 1024) :
    ((((cfgM m hO).win 0).blk t).view.read (Elt Ideal) X) (ix3 k a b) = X (ix3 k a b) := by
  blk_ext <;> erw [e0 m hO t] <;> simp
theorem blk_1 (X : Buf (Elt Ideal) ((c.tc : Thread nD τ).loc main_arg1)) (t : Fin (cfgM m hO).N) (a : Fin 321) (b : Fin 1024) :
    ((((cfgM m hO).win 1).blk t).view.read (Elt Ideal) X) (ix3 (0 : Fin 1) a b) = X (ix3 (0 : Fin 8) a b) := by
  blk_ext <;> erw [e1 m hO t] <;> simp
theorem blk_2 (X : Buf (Elt Ideal) ((c.tc : Thread nD τ).loc main_v1)) (t : Fin (cfgM m hO).N) (a : Fin 321) (b : Fin 1024) :
    ((((cfgM m hO).win 2).blk t).view.read (Elt Ideal) X) (ix3 a (0 : Fin 1) b) = X (ix3 a (0 : Fin 1) b) := by
  blk_ext <;> erw [e2 m hO t] <;> simp
theorem blk_3 (X : Buf (Elt Ideal) ((c.tc : Thread nD τ).loc main_v2)) (t : Fin (cfgM m hO).N) (a : Fin 321) (b : Fin 1024) :
    ((((cfgM m hO).win 3).blk t).view.read (Elt Ideal) X) (ix3 a (0 : Fin 1) b) = X (ix3 a (0 : Fin 1) b) := by
  blk_ext <;> erw [e3 m hO t] <;> simp
theorem blk_4 (X : Buf (Elt Ideal) ((c.tc : Thread nD τ).loc main_v3)) (t : Fin (cfgM m hO).N) (a : Fin 321) (b : Fin 1024) :
    ((((cfgM m hO).win 4).blk t).view.read (Elt Ideal) X) (ix3 a (0 : Fin 1) b) = X (ix3 a (0 : Fin 1) b) := by
  blk_ext <;> erw [e4 m hO t] <;> simp

theorem ib_0 (x : Vec Ideal S8x321x1024 .bf16) (h : m ((c.tc : Thread nD τ).loc main_arg0) = x) (t : Fin (cfgM m hO).N) (k : Fin 8) (a : Fin 321) (b : Fin 1024) :
    iblk m hO c 0 t (ix3 k a b) = x (ix3 k a b) := by
  rw [← V_main_arg0 m c] at h
  exact (blk_0 m c hO (V m c main_arg0) t k a b).trans (congrFun h _)
theorem ib_1 (x : Vec Ideal S8x321x1024 .bf16) (h : m ((c.tc : Thread nD τ).loc main_arg1) = x) (t : Fin (cfgM m hO).N) (a : Fin 321) (b : Fin 1024) :
    iblk m hO c 1 t (ix3 (0 : Fin 1) a b) = x (ix3 (0 : Fin 8) a b) := by
  rw [← V_main_arg1 m c] at h
  exact (blk_1 m c hO (V m c main_arg1) t a b).trans (congrFun h _)
theorem ib_2 (x : Vec Ideal S1x1024x321 .f32) (h : m ((c.tc : Thread nD τ).loc main_arg2) = x) (t : Fin (cfgM m hO).N) (a : Fin 321) (b : Fin 1024) :
    iblk m hO c 2 t (ix3 a (0 : Fin 1) b) = x (ix3 0 b a) :=
  (blk_2 m c hO (V m c main_v1) t a b).trans (lying_2 m c x h a b)
theorem ib_3 (x : Vec Ideal S1x1024x321 .f32) (h : m ((c.tc : Thread nD τ).loc main_arg3) = x) (t : Fin (cfgM m hO).N) (a : Fin 321) (b : Fin 1024) :
    iblk m hO c 3 t (ix3 a (0 : Fin 1) b) = x (ix3 0 b a) :=
  (blk_3 m c hO (V m c main_v2) t a b).trans (lying_3 m c x h a b)
theorem ib_4 (x : Vec Ideal S1x1024x321 .f32) (h : m ((c.tc : Thread nD τ).loc main_arg4) = x) (t : Fin (cfgM m hO).N) (a : Fin 321) (b : Fin 1024) :
    iblk m hO c 4 t (ix3 a (0 : Fin 1) b) = x (ix3 0 b a) :=
  (blk_4 m c hO (V m c main_v3) t a b).trans (lying_4 m c x h a b)

theorem total_block (x0 x1 : Vec Ideal S8x321x1024 .bf16) (h0 : m ((c.tc : Thread nD τ).loc main_arg0) = x0) (h1 : m ((c.tc : Thread nD τ).loc main_arg1) = x1)
    (t : Fin (cfgM m hO).N) (a : Fin 321) (b : Fin 1024) :
    total (part (fun k => iblk m hO c 0 t (ix3 k a b)) (iblk m hO c 1 t (ix3 (0 : Fin 1) a b))) = Cert.Reference12Ideal.Read.val_main_v5 (F := Ideal) x0 x1 (ix3 a (0 : Fin 1) b) :=
  (congrArg total (congr (congrArg part (funext fun k => ib_0 m c hO x0 h0 t k a b)) (ib_1 m c hO x1 h1 t a b))).trans (ref_sum x0 x1 a b).symm

theorem split (y : S321x1x1024.Idx) : y = ix3 (⟨(y 0).val, (y 0).isLt⟩ : Fin 321) (0 : Fin 1) (⟨(y 2).val, (y 2).isLt⟩ : Fin 1024) := by
  funext a
  match a with
  | ⟨0, _⟩ => rfl
  | ⟨1, _⟩ => exact Fin.ext (by have := (y 1).isLt; change (y 1).val < 1 at this; show (y 1).val = 0; omega)
  | ⟨2, _⟩ => rfl

theorem covers_5 : ((cfgM m hO).win 5).Covers := by
  refine ⟨(by decide : ∀ a, 0 < S321x1x1024.size a), fun β => ⟨t0_0, flush0_5 _ _, fun a => ⟨?_, .inl rfl⟩⟩⟩
  have h : (β a).val < 1 := lt_of_lt_of_eq (β a).isLt ((by decide : ∀ a, (S321x1x1024.size a + S321x1x1024.size a - 1) / S321x1x1024.size a = 1) a)
  exact (congrFun (e5 m hO t0_0) a).trans (((by decide : ∀ a : Fin 3, (![0, 0, 0] : Fin 3 → ℕ) a = 0) a).trans (Nat.lt_one_iff.1 h).symm)
theorem covers_6 : ((cfgM m hO).win 6).Covers := by
  refine ⟨(by decide : ∀ a, 0 < S321x1x1024.size a), fun β => ⟨t0_0, flush0_6 _ _, fun a => ⟨?_, .inl rfl⟩⟩⟩
  have h : (β a).val < 1 := lt_of_lt_of_eq (β a).isLt ((by decide : ∀ a, (S321x1x1024.size a + S321x1x1024.size a - 1) / S321x1x1024.size a = 1) a)
  exact (congrFun (e6 m hO t0_0) a).trans (((by decide : ∀ a : Fin 3, (![0, 0, 0] : Fin 3 → ℕ) a = 0) a).trans (Nat.lt_one_iff.1 h).symm)
theorem covers_7 : ((cfgM m hO).win 7).Covers := by
  refine ⟨(by decide : ∀ a, 0 < S321x1x1024.size a), fun β => ⟨t0_0, flush0_7 _ _, fun a => ⟨?_, .inl rfl⟩⟩⟩
  have h : (β a).val < 1 := lt_of_lt_of_eq (β a).isLt ((by decide : ∀ a, (S321x1x1024.size a + S321x1x1024.size a - 1) / S321x1x1024.size a = 1) a)
  exact (congrFun (e7 m hO t0_0) a).trans (((by decide : ∀ a : Fin 3, (![0, 0, 0] : Fin 3 → ℕ) a = 0) a).trans (Nat.lt_one_iff.1 h).symm)
theorem covers_8 : ((cfgM m hO).win 8).Covers := by
  refine ⟨(by decide : ∀ a, 0 < S321x1x1024.size a), fun β => ⟨t0_0, flush0_8 _ _, fun a => ⟨?_, .inl rfl⟩⟩⟩
  have h : (β a).val < 1 := lt_of_lt_of_eq (β a).isLt ((by decide : ∀ a, (S321x1x1024.size a + S321x1x1024.size a - 1) / S321x1x1024.size a = 1) a)
  exact (congrFun (e8 m hO t0_0) a).trans (((by decide : ∀ a : Fin 3, (![0, 0, 0] : Fin 3 → ℕ) a = 0) a).trans (Nat.lt_one_iff.1 h).symm)
theorem emb_5 (t : Fin (cfgM m hO).N) (y : S321x1x1024.Idx) : ((((cfgM m hO).win 5).blk t).view.emb y) = y := by
  blk_ext <;> erw [e5 m hO t] <;> simp
/-- What the body leaves of its block, at an index: the reference's value. -/
theorem left_5 (x0 : Vec Ideal S8x321x1024 .bf16) (x1 : Vec Ideal S8x321x1024 .bf16) (x2 : Vec Ideal S1x1024x321 .f32) (x3 : Vec Ideal S1x1024x321 .f32) (x4 : Vec Ideal S1x1024x321 .f32)
     (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) (t : Fin (cfgM m hO).N) (a : Fin 321) (b : Fin 1024) :
    (outsAt0 m hO c t).1 (ix3 a (0 : Fin 1) b) = Cert.Reference12Ideal.Read.val_main_v5 (F := Ideal) x0 x1 (ix3 a (0 : Fin 1) b) := by
  unfold outsAt0
  dsimp only
  refine (out5_apply c _ _ _ _ _ _ _ _ _ _ _ _ _ _ _ _ _ _ _ _ _ _ _ _ _ (table_ideal m 0) a b).trans ?_
  exact total_block m c hO x0 x1 h0 h1 t _ _
/-- The call leaves the reference's value. -/
theorem final_5 (x0 : Vec Ideal S8x321x1024 .bf16) (x1 : Vec Ideal S8x321x1024 .bf16) (x2 : Vec Ideal S1x1024x321 .f32) (x3 : Vec Ideal S1x1024x321 .f32) (x4 : Vec Ideal S1x1024x321 .f32)
     (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) :
    (dats m hO 0 c).arrAt 5 (cfgM m hO).N = Cert.Reference12Ideal.Read.val_main_v5 (F := Ideal) x0 x1 := by
  refine (dats m hO 0 c).arrAt_eq_of_covers 5 _ (covers_5 m hO) fun t hf y => ?_
  rw [emb_5 m hO t y]
  blk_simp
  rw [after0_5]
  obtain ⟨a, b, hy⟩ : ∃ (a : Fin 321) (b : Fin 1024), y = ix3 a (0 : Fin 1) b := ⟨_, _, split y⟩
  rw [hy]
  exact left_5 m c hO x0 x1 x2 x3 x4 h0 h1 h2 h3 h4 t a b

theorem emb_6 (t : Fin (cfgM m hO).N) (y : S321x1x1024.Idx) : ((((cfgM m hO).win 6).blk t).view.emb y) = y := by
  blk_ext <;> erw [e6 m hO t] <;> simp
/-- What the body leaves of its block, at an index: the reference's value. -/
theorem left_6 (x0 : Vec Ideal S8x321x1024 .bf16) (x1 : Vec Ideal S8x321x1024 .bf16) (x2 : Vec Ideal S1x1024x321 .f32) (x3 : Vec Ideal S1x1024x321 .f32) (x4 : Vec Ideal S1x1024x321 .f32)
     (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) (t : Fin (cfgM m hO).N) (a : Fin 321) (b : Fin 1024) :
    (outsAt0 m hO c t).2.1 (ix3 a (0 : Fin 1) b) = Cert.Reference12Ideal.Read.val_main_v32 (F := Ideal) x0 x1 x2 x3 x4 (ix3 a (0 : Fin 1) b) := by
  unfold outsAt0
  dsimp only
  refine (out6_apply c _ _ _ _ _ _ _ _ _ _ _ _ _ _ _ _ _ _ _ _ _ _ _ _ _ (table_ideal m 0) a b).trans ?_
  rw [ref_step, ref_first, ref_second, ib_2 m c hO x2 h2 t, ib_3 m c hO x3 h3 t, ib_4 m c hO x4 h4 t, total_block m c hO x0 x1 h0 h1 t]
/-- The call leaves the reference's value. -/
theorem final_6 (x0 : Vec Ideal S8x321x1024 .bf16) (x1 : Vec Ideal S8x321x1024 .bf16) (x2 : Vec Ideal S1x1024x321 .f32) (x3 : Vec Ideal S1x1024x321 .f32) (x4 : Vec Ideal S1x1024x321 .f32)
     (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) :
    (dats m hO 0 c).arrAt 6 (cfgM m hO).N = Cert.Reference12Ideal.Read.val_main_v32 (F := Ideal) x0 x1 x2 x3 x4 := by
  refine (dats m hO 0 c).arrAt_eq_of_covers 6 _ (covers_6 m hO) fun t hf y => ?_
  rw [emb_6 m hO t y]
  blk_simp
  rw [after0_6]
  obtain ⟨a, b, hy⟩ : ∃ (a : Fin 321) (b : Fin 1024), y = ix3 a (0 : Fin 1) b := ⟨_, _, split y⟩
  rw [hy]
  exact left_6 m c hO x0 x1 x2 x3 x4 h0 h1 h2 h3 h4 t a b

theorem emb_7 (t : Fin (cfgM m hO).N) (y : S321x1x1024.Idx) : ((((cfgM m hO).win 7).blk t).view.emb y) = y := by
  blk_ext <;> erw [e7 m hO t] <;> simp
/-- What the body leaves of its block, at an index: the reference's value. -/
theorem left_7 (x0 : Vec Ideal S8x321x1024 .bf16) (x1 : Vec Ideal S8x321x1024 .bf16) (x2 : Vec Ideal S1x1024x321 .f32) (x3 : Vec Ideal S1x1024x321 .f32) (x4 : Vec Ideal S1x1024x321 .f32)
     (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) (t : Fin (cfgM m hO).N) (a : Fin 321) (b : Fin 1024) :
    (outsAt0 m hO c t).2.2.1 (ix3 a (0 : Fin 1) b) = Cert.Reference12Ideal.Read.val_main_v13 (F := Ideal) x0 x1 x3 (ix3 a (0 : Fin 1) b) := by
  unfold outsAt0
  dsimp only
  refine (out7_apply c _ _ _ _ _ _ _ _ _ _ _ _ _ _ _ _ _ _ _ _ _ _ _ _ _ (table_ideal m 0) a b).trans ?_
  rw [ref_first, ib_3 m c hO x3 h3 t, total_block m c hO x0 x1 h0 h1 t]
/-- The call leaves the reference's value. -/
theorem final_7 (x0 : Vec Ideal S8x321x1024 .bf16) (x1 : Vec Ideal S8x321x1024 .bf16) (x2 : Vec Ideal S1x1024x321 .f32) (x3 : Vec Ideal S1x1024x321 .f32) (x4 : Vec Ideal S1x1024x321 .f32)
     (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) :
    (dats m hO 0 c).arrAt 7 (cfgM m hO).N = Cert.Reference12Ideal.Read.val_main_v13 (F := Ideal) x0 x1 x3 := by
  refine (dats m hO 0 c).arrAt_eq_of_covers 7 _ (covers_7 m hO) fun t hf y => ?_
  rw [emb_7 m hO t y]
  blk_simp
  rw [after0_7]
  obtain ⟨a, b, hy⟩ : ∃ (a : Fin 321) (b : Fin 1024), y = ix3 a (0 : Fin 1) b := ⟨_, _, split y⟩
  rw [hy]
  exact left_7 m c hO x0 x1 x2 x3 x4 h0 h1 h2 h3 h4 t a b

theorem emb_8 (t : Fin (cfgM m hO).N) (y : S321x1x1024.Idx) : ((((cfgM m hO).win 8).blk t).view.emb y) = y := by
  blk_ext <;> erw [e8 m hO t] <;> simp
/-- What the body leaves of its block, at an index: the reference's value. -/
theorem left_8 (x0 : Vec Ideal S8x321x1024 .bf16) (x1 : Vec Ideal S8x321x1024 .bf16) (x2 : Vec Ideal S1x1024x321 .f32) (x3 : Vec Ideal S1x1024x321 .f32) (x4 : Vec Ideal S1x1024x321 .f32)
     (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) (t : Fin (cfgM m hO).N) (a : Fin 321) (b : Fin 1024) :
    (outsAt0 m hO c t).2.2.2 (ix3 a (0 : Fin 1) b) = Cert.Reference12Ideal.Read.val_main_v19 (F := Ideal) x0 x1 x4 (ix3 a (0 : Fin 1) b) := by
  unfold outsAt0
  dsimp only
  refine (out8_apply c _ _ _ _ _ _ _ _ _ _ _ _ _ _ _ _ _ _ _ _ _ _ _ _ _ (table_ideal m 0) a b).trans ?_
  rw [ref_second, ib_4 m c hO x4 h4 t, total_block m c hO x0 x1 h0 h1 t]
/-- The call leaves the reference's value. -/
theorem final_8 (x0 : Vec Ideal S8x321x1024 .bf16) (x1 : Vec Ideal S8x321x1024 .bf16) (x2 : Vec Ideal S1x1024x321 .f32) (x3 : Vec Ideal S1x1024x321 .f32) (x4 : Vec Ideal S1x1024x321 .f32)
     (h0 : m ((c.tc : Thread nD τ).loc main_arg0) = x0) (h1 : m ((c.tc : Thread nD τ).loc main_arg1) = x1) (h2 : m ((c.tc : Thread nD τ).loc main_arg2) = x2) (h3 : m ((c.tc : Thread nD τ).loc main_arg3) = x3) (h4 : m ((c.tc : Thread nD τ).loc main_arg4) = x4) :
    (dats m hO 0 c).arrAt 8 (cfgM m hO).N = Cert.Reference12Ideal.Read.val_main_v19 (F := Ideal) x0 x1 x4 := by
  refine (dats m hO 0 c).arrAt_eq_of_covers 8 _ (covers_8 m hO) fun t hf y => ?_
  rw [emb_8 m hO t y]
  blk_simp
  rw [after0_8]
  obtain ⟨a, b, hy⟩ : ∃ (a : Fin 321) (b : Fin 1024), y = ix3 a (0 : Fin 1) b := ⟨_, _, split y⟩
  rw [hy]
  exact left_8 m c hO x0 x1 x2 x3 x4 h0 h1 h2 h3 h4 t a b

/-- The reference's run keeps its arguments and ends quiet. -/
theorem frame_ri : Cert.quiescent_Reference12Ideal := fun m ρ _ =>
  (θ_run Cert.Reference12Ideal.defs _ _).mono (fun r h => ⟨fun c => (h c).2.2.2.2,
      Idealize.ShloMosaic.sem_eq_zero_of_no_sems (by decide) r.2⟩)
    (Cert.Reference12Ideal.Value.run (F := Ideal) m ρ)

/-- The kernel's results are the reference's. -/
theorem algebraic : Cert.algebraic_Kernel12Ideal_Reference12Ideal := by
  intro m ρ m' ρ' _ hagree
  refine ⟨fun c => Cert.Reference12Ideal.Read.val_main_v5 (F := Ideal) (m ((c.tc : Thread nD τ).loc main_arg0)) (m ((c.tc : Thread nD τ).loc main_arg1)), fun c => Cert.Reference12Ideal.Read.val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), fun c => Cert.Reference12Ideal.Read.val_main_v13 (F := Ideal) (m ((c.tc : Thread nD τ).loc main_arg0)) (m ((c.tc : Thread nD τ).loc main_arg1)) (m ((c.tc : Thread nD τ).loc main_arg3)), fun c => Cert.Reference12Ideal.Read.val_main_v19 (F := Ideal) (m ((c.tc : Thread nD τ).loc main_arg0)) (m ((c.tc : Thread nD τ).loc main_arg1)) (m ((c.tc : Thread nD τ).loc main_arg4)), ?_, ?_⟩
  · refine (θ_run Cert.Kernel12Ideal.defs _ _).mono (fun r h c => ?_) (run_main m ρ (ok_ideal m))
    exact ⟨((h c).1 5).trans (final_5 m c (ok_ideal m) _ _ _ _ _ rfl rfl rfl rfl rfl),
      ((h c).1 6).trans (final_6 m c (ok_ideal m) _ _ _ _ _ rfl rfl rfl rfl rfl),
      ((h c).1 7).trans (final_7 m c (ok_ideal m) _ _ _ _ _ rfl rfl rfl rfl rfl),
      ((h c).1 8).trans (final_8 m c (ok_ideal m) _ _ _ _ _ rfl rfl rfl rfl rfl),
      ((h c).1 0).trans (((dats m (ok_ideal m) 0 c).arrAt_in 0 rfl _).trans ((A_eq m (ok_ideal m) c 0).trans (V_main_arg0 m c))),
      ((h c).1 1).trans (((dats m (ok_ideal m) 0 c).arrAt_in 1 rfl _).trans ((A_eq m (ok_ideal m) c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩
  · refine (θ_run Cert.Reference12Ideal.defs _ _).mono (fun r h c => ?_) (Cert.Reference12Ideal.Value.run (F := Ideal) m' ρ')
    obtain ⟨h1, h2, h3, h4, hk⟩ := h c
    obtain ⟨g0, g1, g2, g3, g4⟩ := hagree c
    refine ⟨h1.trans ((Cert.Reference12Ideal.Read.val_main_v5_eq _ _).trans ?_), h2.trans ((Cert.Reference12Ideal.Read.val_main_v32_eq _ _ _ _ _).trans ?_), h3.trans ((Cert.Reference12Ideal.Read.val_main_v13_eq _ _ _).trans ?_), h4.trans ((Cert.Reference12Ideal.Read.val_main_v19_eq _ _ _).trans ?_), hk⟩
    · rw [g0, g1]
    · rw [g0, g1, g2, g3, g4]
    · rw [g0, g1, g3]
    · rw [g0, g1, g4]

end Cert.Proof.Optim

end
-- ==== Proof.MlpFwdRef.lean ====
/-
  The perceptron's forward pass with the loss and its first gradients, as the reference computes them, at an index.
-/
module

public import proofs.«01_k».proof.Proof.Gen.Reference8Ideal.Run
public import proofs.«01_k».proof.Proof.Gen.Reference8Ideal.Read
public import proofs.«01_k».proof.Proof.RmsBack
public import proofs.«01_k».proof.Defs
public import Idealize.ShloMosaic.Lib.Pipeline.ValueKit

@[expose] public section

set_option maxRecDepth 16384

noncomputable section

namespace Cert.Proof.Fwd
open Idealize.ShloMosaic Idealize.SL.Sem Cert.Reference8Ideal Cert.Reference8Ideal.Read Cert.Proof.Rms
open scoped BigOperators

theorem half : Ideal.ofBits FTy.f32 1056964608#32 = ((1 / 2 : ℝ) : EReal) := by
  simp [Ideal.ofBits, Ideal.ieee, -EReal.coe_mul]; norm_num
theorem one : Ideal.ofBits FTy.f32 1065353216#32 = ((1 : ℝ) : EReal) := by
  simp [Ideal.ofBits, Ideal.ieee, -EReal.coe_mul]; norm_num
theorem two : Ideal.ofBits FTy.f32 1073741824#32 = ((2 : ℝ) : EReal) := by
  simp [Ideal.ofBits, Ideal.ieee, -EReal.coe_mul]; norm_num
theorem inv_width : Ideal.ofBits FTy.f32 981467136#32 = ((1 / 1024 : ℝ) : EReal) := by
  simp [Ideal.ofBits, Ideal.ieee, -EReal.coe_mul]; norm_num

/-- The error's factor. -/
theorem factor (e : EReal) :
    Ideal.div (Ideal.ofBits FTy.f32 1056964608#32 * Ideal.ofBits FTy.f32 1065353216#32) (Ideal.ofBits FTy.f32 1149239296#32)
      * (Ideal.ofBits FTy.f32 1073741824#32 * e) = e * Ideal.ofBits FTy.f32 981467136#32 := by
  rw [half, one, two, inv_width, width, Ideal.div_coe (by norm_num), ← mul_assoc, mul_comm e]
  congr 1
  rw [← EReal.coe_mul, ← EReal.coe_mul, ← EReal.coe_mul]
  norm_num

/-- Half of a sum divided by the width is one real factor. -/
theorem per (x : EReal) :
    Ideal.div (Ideal.ofBits FTy.f32 1056964608#32 * x) (Ideal.ofBits FTy.f32 1149239296#32) = x * ((1 / 2048 : ℝ) : EReal) := by
  rw [half, width, Ideal.div_coe (by norm_num), mul_comm _ x, mul_assoc, ← EReal.coe_mul]
  norm_num

/-- A nonnegative real factor in front of a sum goes into it, and the division by the width with it. -/
theorem loss_scale {ι : Type*} (s : Finset ι) (f : ι → EReal) :
    Ideal.ofBits FTy.f32 1056964608#32 * ∑ r ∈ s, Ideal.div (f r) (Ideal.ofBits FTy.f32 1149239296#32)
      = Ideal.div (Ideal.ofBits FTy.f32 1056964608#32 * ∑ r ∈ s, f r) (Ideal.ofBits FTy.f32 1149239296#32) := by
  rw [width, Ideal.div_coe (by norm_num)]
  simp only [Ideal.div_coe (y := 1024) (by norm_num)]
  rw [sum_mul_real _ _ _ (by norm_num), mul_assoc]

variable (x0 : Vec Ideal S4096x1024 .bf16) (x1 : Vec Ideal S1024x4096 .bf16) (x2 : Vec Ideal S4096x1024 .bf16)
  (x3 x4 : Vec Ideal S4096x1024 .f32) (x5 : Vec Ideal S1024 .f32)

/-- The hidden layer. -/
def act (a : Fin 4096) (l : Fin 4096) : EReal :=
  max (∑ k : Fin 1024, x0 (ix2 a k) * x1 (ix2 k l)) (Ideal.ofBits FTy.f32 0#32)
/-- The second product. -/
def down (a : Fin 4096) (b : Fin 1024) : EReal := ∑ l : Fin 4096, act x0 x1 a l * act x0 x1 a l * x2 (ix2 l b)
/-- The error of the output. -/
def err (a : Fin 4096) (b : Fin 1024) : EReal :=
  x3 (ix2 a b) + down x0 x1 x2 a b * scl (down x0 x1 x2 a) * x5 (ix1 b) - x4 (ix2 a b)
/-- The gradient of the output. -/
def dout (a : Fin 4096) (b : Fin 1024) : EReal := err x0 x1 x2 x3 x4 x5 a b * Ideal.ofBits FTy.f32 981467136#32
/-- The gradient of the second product. -/
def ddown (a : Fin 4096) (b : Fin 1024) : EReal :=
  bk (down x0 x1 x2 a) (fun k => dout x0 x1 x2 x3 x4 x5 a k * x5 (ix1 k)) b
/-- A row's part in the gradient of the norm's weight. -/
def p4 (a : Fin 4096) (b : Fin 1024) : EReal :=
  dout x0 x1 x2 x3 x4 x5 a b * (down x0 x1 x2 a b * scl (down x0 x1 x2 a))
/-- A row's squared error. -/
def sqe (a : Fin 4096) : EReal := ∑ k : Fin 1024, err x0 x1 x2 x3 x4 x5 a k * err x0 x1 x2 x3 x4 x5 a k

theorem v4_apply (a : Fin 4096) (l : Fin 4096) : val_main_v4 (F := Ideal) x0 x1 (ix2 a l) = act x0 x1 a l := by
  unfold act
  pointwise [val_main_v4, val_main_v3, val_main_v1, val_main_v0, val_main_call0_v0, val_main_call0_cst]

theorem v59_apply (a : Fin 4096) (l : Fin 4096) : val_main_v59 (F := Ideal) x0 x1 (ix2 a l) = act x0 x1 a l :=
  v4_apply x0 x1 a l

theorem v6_apply (a : Fin 4096) (b : Fin 1024) : val_main_v6 (F := Ideal) x0 x1 x2 (ix2 a b) = down x0 x1 x2 a b := by
  unfold down
  simp only [← v4_apply]
  pointwise [val_main_v6, val_main_v5, val_main_v2]

theorem v13_apply (a : Fin 4096) (z : Fin 1) : val_main_v13 (F := Ideal) x0 x1 x2 (ix2 a z) = msq (down x0 x1 x2 a) := by
  unfold msq
  simp only [← v6_apply]
  pointwise [val_main_v13, val_main_v12, val_main_v11, val_main_v10, val_main_v9, val_main_v8, val_main_v7, val_main_cst, val_main_cst_0, val_main_cst_1]

theorem v14_apply (a : Fin 4096) (z : Fin 1) : val_main_v14 (F := Ideal) x0 x1 x2 (ix2 a z) = scl (down x0 x1 x2 a) :=
  congrArg Ideal.rsqrt (v13_apply x0 x1 x2 a z)

theorem v24_apply (a : Fin 4096) (b : Fin 1024) : val_main_v24 (F := Ideal) x0 x1 x2 x3 x4 x5 (ix2 a b) = err x0 x1 x2 x3 x4 x5 a b := by
  unfold err
  rw [← v6_apply, ← v14_apply x0 x1 x2 a 0]
  pointwise [val_main_v24, val_main_v23, val_main_v22, val_main_v21, val_main_v20, val_main_v19, val_main_v18]

theorem v38_apply (a : Fin 4096) (b : Fin 1024) : val_main_v38 (F := Ideal) x0 x1 x2 x3 x4 x5 (ix2 a b) = dout x0 x1 x2 x3 x4 x5 a b := by
  unfold dout
  rw [← factor, ← v24_apply]
  pointwise [val_main_v38, val_main_v37, val_main_v36, val_main_v35, val_main_v34, val_main_v33, val_main_v27, val_main_v26, val_main_cst_3, val_main_cst_8, val_main_cst_9,
    val_main_cst_10]

theorem v43_apply (a : Fin 4096) (b : Fin 1024) :
    val_main_v43 (F := Ideal) x0 x1 x2 x3 x4 x5 (ix2 a b) = dout x0 x1 x2 x3 x4 x5 a b * x5 (ix1 b) := by
  rw [← v38_apply]
  pointwise [val_main_v43, val_main_v42, val_main_v20]

theorem v53_apply (a : Fin 4096) :
    val_main_v53 (F := Ideal) x0 x1 x2 x3 x4 x5 (ix1 a) = tk (down x0 x1 x2 a) fun k => dout x0 x1 x2 x3 x4 x5 a k * x5 (ix1 k) := by
  unfold tk
  rw [← v14_apply x0 x1 x2 a 0, ← v13_apply x0 x1 x2 a 0]
  simp only [← v6_apply]
  pointwise [val_main_v53, val_main_v52, val_main_v51, val_main_v50, val_main_v47, val_main_v46, val_main_v45, val_main_v17, val_main_v16, val_main_v15,
    val_main_cst_2, val_main_cst_13, val_main_cst_14, val_main_cst_15]
  rw [Fin.sum_univ_one]
  simp only [v43_apply]

theorem v60_apply (a : Fin 4096) (b : Fin 1024) :
    val_main_v60 (F := Ideal) x0 x1 x2 x3 x4 x5 (ix2 a b) = ddown x0 x1 x2 x3 x4 x5 a b := by
  unfold ddown
  rw [← bk_eq, ← v53_apply x0 x1 x2 x3 x4 x5 a, ← v14_apply x0 x1 x2 a 0, ← v43_apply, ← v6_apply]
  pointwise [val_main_v60, val_main_v58, val_main_v57, val_main_v56, val_main_v55, val_main_v54, val_main_v49, val_main_v48]

theorem v61_apply (z : Fin 1) (b : Fin 1024) :
    val_main_v61 (F := Ideal) x0 x1 x2 x3 x4 x5 (ix2 z b) = ∑ a : Fin 4096, p4 x0 x1 x2 x3 x4 x5 a b := by
  have h : ∀ a : Fin 4096, p4 x0 x1 x2 x3 x4 x5 a b = val_main_v39 (F := Ideal) x0 x1 x2 x3 x4 x5 (ix2 a b) := by
    intro a
    unfold p4
    rw [mul_comm, ← v6_apply, ← v14_apply x0 x1 x2 a 0, ← v38_apply]
    pointwise [val_main_v39, val_main_v19, val_main_v18]
  simp only [h]
  pointwise [val_main_v61, val_main_v44, val_main_v41, val_main_v40, val_main_cst_11, val_main_cst_12]
  exact Fin.sum_univ_one _

theorem v62_apply (z : Fin 1) (b : Fin 128) :
    val_main_v62 (F := Ideal) x0 x1 x2 x3 x4 x5 (ix2 z b)
      = Ideal.div (Ideal.ofBits FTy.f32 1056964608#32 * ∑ a : Fin 4096, sqe x0 x1 x2 x3 x4 x5 a) (Ideal.ofBits FTy.f32 1149239296#32) := by
  rw [← loss_scale]
  unfold sqe
  simp only [← v24_apply]
  pointwise [val_main_v62, val_main_v32, val_main_v31, val_main_v30, val_main_v29, val_main_v28, val_main_v25, val_main_cst_4, val_main_cst_5, val_main_cst_6, val_main_cst_7]

end Cert.Proof.Fwd

end
-- ==== Proof.MlpFwd.lean ====
/-
  The perceptron's forward pass with the loss and its first gradients: what the kernel's call leaves.
-/
module

public import proofs.«01_k».proof.Proof.Gen.Kernel8Ideal.Value
public import proofs.«01_k».proof.Proof.MlpFwdRef
public import Idealize.ShloMosaic.Lib.StableHlo.ReadAt
import Idealize.ShloMosaic.Lib.Pipeline.ValueKit

@[expose] public section

set_option maxRecDepth 16384

noncomputable section

namespace Cert.Proof.Fwd
open Idealize.ShloMosaic Idealize.SL.Sem Cert.Kernel8Ideal Cert.Kernel8Ideal.Gen Cert.Proof.Rms
open scoped BigOperators

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)

theorem point_lt (t : Fin cfg0.N) : t.val < 8 := lt_of_lt_of_eq t.isLt (by decide)

theorem point_zero (t : Fin cfg0.N) : (t.val % 8 = 0 ∧ ¬1 ≤ t.val) ∨ (¬t.val % 8 = 0 ∧ 1 ≤ t.val) := by
  have := point_lt t
  omega

/-- A load of a whole block. -/
theorem load_whole {p q : Nat} {e : EltTy} (arg : Memref sig .tc .vmem ⟨2, ![p, q]⟩ e) (h : arg.IsWhole)
    (x : Vec Ideal ⟨2, ![p, q]⟩ e) (inb) :
    View.readAt (Elt Ideal) arg.view (Rect.unit (s := ⟨2, ![p, q]⟩) ![0, 0] ![p, q] inb).toLoadRect (h.unread x) = x := by
  rw [View.readAt_eq_ld, Memref.IsWhole.read_unread]
  exact View.ld_unit_zero (off := ![0, 0]) (by funext a; fin_cases a <;> rfl) inb x

/-- A load of a whole block that the body's stores cover. -/
theorem load_cov {p q : Nat} {e : EltTy} (v : View sig .tc .vmem ⟨2, ![p, q]⟩ e) (L : List (View.Piece (Elt Ideal) ⟨2, ![p, q]⟩ e)) (inb) :
    v.readCov L (Rect.unit (s := ⟨2, ![p, q]⟩) ![0, 0] ![p, q] inb).toLoadRect = View.canon L := by
  unfold View.readCov
  rw [View.readAt_eq_ld, View.read_writes_junk_eq_canon]
  exact View.ld_unit_zero (off := ![0, 0]) (by funext a; fin_cases a <;> rfl) inb (View.canon L)
/-- A load of a block's columns from `o` on. -/
theorem load_cols {p q r : Nat} {e : EltTy} (arg : Memref sig .tc .vmem ⟨2, ![p, q]⟩ e) (h : arg.IsWhole)
    (x : Vec Ideal ⟨2, ![p, q]⟩ e) (o : Nat) (inb) (a : Fin p) (b : Fin r) (hb : o + b.val < q) :
    View.readAt (Elt Ideal) arg.view (Rect.unit (s := ⟨2, ![p, q]⟩) ![0, o] ![p, r] inb).toLoadRect (h.unread x) (ix2 a b) = x (ix2 a ⟨o + b.val, hb⟩) := by
  rw [View.readAt_eq_ld, Memref.IsWhole.read_unread]
  show x _ = x _
  congr 1
  funext d
  match d with
  | ⟨0, _⟩ => exact Fin.ext (by show 0 + 1 * a.val = a.val; omega)
  | ⟨1, _⟩ => exact Fin.ext (by show o + 1 * b.val = o + b.val; omega)
/-- The weight the first point copies is the weight in memory. -/
theorem v22_A (f) : (kernelRun0_A.sl.v22 (F := Ideal) c scM0_0 f) = f := by
  unfold kernelRun0_A.sl.v22
  refine (load_cov _ _ _).trans ?_
  exact View.canon_unit_zero (by funext a; fin_cases a <;> rfl) _ _
/-- The hidden layer of a block of rows. -/
def hid (y0 : Vec Ideal S512x1024 .bf16) (y1 : Vec Ideal S1024x4096 .bf16) : Vec Ideal S512x4096 .bf16 := fun j =>
  max (∑ k : Fin 1024, y0 (ix2 (⟨(j 0).val, (j 0).isLt⟩ : Fin 512) k) * y1 (ix2 k (⟨(j 1).val, (j 1).isLt⟩ : Fin 4096))) (Ideal.ofBits FTy.f32 0#32)

theorem pay4_apply (v3 : Vec Ideal S512x1024 .bf16) (v4 : Vec Ideal S1024x2048 .bf16) (a : Fin 512) (b : Fin 2048) :
    k0_pay4 (F := Ideal) v3 v4 (ix2 a b) = max (∑ k : Fin 1024, v3 (ix2 a k) * v4 (ix2 k b)) (Ideal.ofBits FTy.f32 0#32) := by
  pointwise [k0_pay4]

theorem pay5_apply (v3 : Vec Ideal S512x1024 .bf16) (v4 : Vec Ideal S1024x2048 .bf16) (a : Fin 512) (b : Fin 2048) :
    k0_pay5 (F := Ideal) v3 v4 (ix2 a b) = max (∑ k : Fin 1024, v3 (ix2 a k) * v4 (ix2 k b)) (Ideal.ofBits FTy.f32 0#32) := by
  pointwise [k0_pay5]

/-- Columns from `o` on of the hidden layer are what the product with the weight's columns from `o` on gives. -/
theorem hid_cols (y0 : Vec Ideal S512x1024 .bf16) (y1 : Vec Ideal S1024x4096 .bf16) (arg : Memref sig .tc .vmem S1024x4096 .bf16) (h : arg.IsWhole)
    (o : Nat) (inb) (a : Fin 512) (b : Fin 2048) (hb : o + b.val < 4096) (j : S512x4096.Idx) (h0 : (j 0).val = a.val) (h1 : (j 1).val = o + b.val) :
    max (∑ k : Fin 1024, y0 (ix2 a k)
        * View.readAt (Elt Ideal) arg.view (Rect.unit (s := S1024x4096) ![0, o] ![1024, 2048] inb).toLoadRect (h.unread y1) (ix2 k b))
        (Ideal.ofBits FTy.f32 0#32)
      = hid y0 y1 j := by
  unfold hid
  refine congrArg₂ max (Finset.sum_congr rfl fun k _ => ?_) rfl
  refine congrArg₂ (· * ·) (congrArg y0 ?_) ((load_cols arg h y1 o inb k b hb).trans (congrArg y1 ?_))
  · funext d
    match d with
    | ⟨0, _⟩ => exact Fin.ext h0.symm
    | ⟨1, _⟩ => rfl
  · funext d
    match d with
    | ⟨0, _⟩ => rfl
    | ⟨1, _⟩ => exact Fin.ext h1.symm

/-- The two halves the body stores are the hidden layer of its block. -/
theorem h5_A (t : Fin cfg0.N) (h : t.val % 8 = 0 ∧ ¬1 ≤ t.val) (y0 : Vec Ideal S512x1024 .bf16) (y1 : Vec Ideal S1024x4096 .bf16)
    (y2 y3 : Vec Ideal S512x1024 .f32) (y4 : Vec Ideal S1x1024 .f32) (f : HbBuf0 (F := Ideal) c hbM0_0) :
    View.canon (kernelRun0_A.sl.H5_2 c (ms0_0 t) (hs0_0 t) (ms0_1 t) (hs0_1 t) y0 y1) = hid y0 y1 := by
  refine funext fun y => View.canon_apply_of_pieces _ _ ?_ y
    (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t) scM0_0 (Memref.isWhole_whole _) ((hcond0_0 t).mpr h.1) ((hcond0_1 t).mpr h.1) ((hcond0_2 t).mpr h.1)
      (fun h' => h.2 ((hcond0_3 t).mp h')) ((hcond0_4 t).mpr h.1) (fun h' => h.2 ((hcond0_5 t).mp h')) y0 y1 y2 y3 y4 f y)
  unfold kernelRun0_A.sl.H5_2
  intro p hp
  simp only [List.mem_cons, List.mem_nil_iff, or_false] at hp
  rcases hp with rfl | rfl
  · intro x
    have hx : x = ix2 (⟨(x 0).val, (x 0).isLt⟩ : Fin 512) (⟨(x 1).val, (x 1).isLt⟩ : Fin 2048) := by
      funext a
      match a with
      | ⟨0, _⟩ => rfl
      | ⟨1, _⟩ => rfl
    simp only [load_whole]
    refine (congrArg _ hx).trans ((pay5_apply _ _ _ _).trans (hid_cols y0 y1 _ _ _ _ _ _ (by have := (x 1).isLt; show 2048 + (x 1).val < 4096; have h2 : (x 1).val < 2048 := (x 1).isLt; omega) _
      (by show 0 + 1 * (x 0).val = (x 0).val; omega) (by show 2048 + 1 * (x 1).val = 2048 + (x 1).val; omega)))
  · intro x
    have hx : x = ix2 (⟨(x 0).val, (x 0).isLt⟩ : Fin 512) (⟨(x 1).val, (x 1).isLt⟩ : Fin 2048) := by
      funext a
      match a with
      | ⟨0, _⟩ => rfl
      | ⟨1, _⟩ => rfl
    simp only [load_whole]
    refine (congrArg _ hx).trans ((pay4_apply _ _ _ _).trans (hid_cols y0 y1 _ _ _ _ _ _ (by have := (x 1).isLt; show 0 + (x 1).val < 4096; have h2 : (x 1).val < 2048 := (x 1).isLt; omega) _
      (by show 0 + 1 * (x 0).val = (x 0).val; omega) (by show 0 + 1 * (x 1).val = 0 + (x 1).val; omega)))

/-- The two halves the body stores are the hidden layer of its block. -/
theorem h5_B (t : Fin cfg0.N) (h : ¬t.val % 8 = 0 ∧ 1 ≤ t.val) (y0 : Vec Ideal S512x1024 .bf16) (y1 : Vec Ideal S1024x4096 .bf16)
    (y2 y3 : Vec Ideal S512x1024 .f32) (y4 : Vec Ideal S1x1024 .f32) (z8 : Vec Ideal S1x1024 .f32) (z9 : Vec Ideal S1x128 .f32) (zs : Vec Ideal S4096x1024 .bf16) (f : HbBuf0 (F := Ideal) c hbM0_0) :
    View.canon (kernelRun0_B.sl.H5_2 c (ms0_0 t) (hs0_0 t) (ms0_1 t) (hs0_1 t) y0 y1) = hid y0 y1 := by
  refine funext fun y => View.canon_apply_of_pieces _ _ ?_ y
    (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t)
      (ms0_7 t) (hs0_7 t) (ms0_8 t) (hs0_8 t) (ms0_9 t) (hs0_9 t) scM0_0 (Memref.isWhole_whole _) (fun h' => h.1 ((hcond0_0 t).mp h')) (fun h' => h.1 ((hcond0_1 t).mp h')) (fun h' => h.1 ((hcond0_2 t).mp h'))
      ((hcond0_3 t).mpr h.2) (fun h' => h.1 ((hcond0_4 t).mp h')) ((hcond0_5 t).mpr h.2) y0 y1 y2 y3 y4 z8 z9 zs f y)
  unfold kernelRun0_B.sl.H5_2
  intro p hp
  simp only [List.mem_cons, List.mem_nil_iff, or_false] at hp
  rcases hp with rfl | rfl
  · intro x
    have hx : x = ix2 (⟨(x 0).val, (x 0).isLt⟩ : Fin 512) (⟨(x 1).val, (x 1).isLt⟩ : Fin 2048) := by
      funext a
      match a with
      | ⟨0, _⟩ => rfl
      | ⟨1, _⟩ => rfl
    simp only [load_whole]
    refine (congrArg _ hx).trans ((pay5_apply _ _ _ _).trans (hid_cols y0 y1 _ _ _ _ _ _ (by have := (x 1).isLt; show 2048 + (x 1).val < 4096; have h2 : (x 1).val < 2048 := (x 1).isLt; omega) _
      (by show 0 + 1 * (x 0).val = (x 0).val; omega) (by show 2048 + 1 * (x 1).val = 2048 + (x 1).val; omega)))
  · intro x
    have hx : x = ix2 (⟨(x 0).val, (x 0).isLt⟩ : Fin 512) (⟨(x 1).val, (x 1).isLt⟩ : Fin 2048) := by
      funext a
      match a with
      | ⟨0, _⟩ => rfl
      | ⟨1, _⟩ => rfl
    simp only [load_whole]
    refine (congrArg _ hx).trans ((pay4_apply _ _ _ _).trans (hid_cols y0 y1 _ _ _ _ _ _ (by have := (x 1).isLt; show 0 + (x 1).val < 4096; have h2 : (x 1).val < 2048 := (x 1).isLt; omega) _
      (by show 0 + 1 * (x 0).val = (x 0).val; omega) (by show 0 + 1 * (x 1).val = 0 + (x 1).val; omega)))

section Block
variable (v19 : Vec Ideal S512x4096 .bf16) (v22 : Vec Ideal S4096x1024 .bf16) (v34 : Vec Ideal S1x1024 .f32) (v36 v40 : Vec Ideal S512x1024 .f32)

theorem pay6_apply (a : Fin 512) (b : Fin 1024) :
    k0_pay6 (F := Ideal) v19 v22 (ix2 a b) = ∑ l : Fin 4096, v19 (ix2 a l) * v19 (ix2 a l) * v22 (ix2 l b) := by
  pointwise [k0_pay6]

theorem pay9_apply (a : Fin 512) (z : Fin 1) :
    k0_pay9 (F := Ideal) (k0_pay7 v19 v22) k0_pay8 (ix2 a z) = scl fun k : Fin 1024 => k0_pay6 (F := Ideal) v19 v22 (ix2 a k) := by
  unfold scl msq
  pointwise [k0_pay9, k0_pay8, k0_pay7]

theorem pay10_apply (a : Fin 512) (b : Fin 1024) :
    k0_pay10 (F := Ideal) (k0_pay6 v19 v22) (k0_pay7 v19 v22) k0_pay8 (ix2 a b)
      = k0_pay6 (F := Ideal) v19 v22 (ix2 a b) * scl fun k : Fin 1024 => k0_pay6 (F := Ideal) v19 v22 (ix2 a k) := by
  rw [← pay9_apply v19 v22 a 0]
  pointwise [k0_pay10]

theorem pay12_apply (a : Fin 512) (b : Fin 1024) :
    k0_pay12 (F := Ideal) (k0_pay6 v19 v22) (k0_pay7 v19 v22) k0_pay8 v34 v36 v40 (ix2 a b)
      = v36 (ix2 a b) + k0_pay6 (F := Ideal) v19 v22 (ix2 a b) * (scl fun k : Fin 1024 => k0_pay6 (F := Ideal) v19 v22 (ix2 a k)) * v34 (ix2 0 b) - v40 (ix2 a b) := by
  rw [← pay10_apply]
  pointwise [k0_pay12, k0_pay11]

theorem pay13_apply (a : Fin 512) (b : Fin 1024) :
    k0_pay13 (F := Ideal) (k0_pay6 v19 v22) (k0_pay7 v19 v22) k0_pay8 v34 v36 v40 (ix2 a b)
      = k0_pay12 (F := Ideal) (k0_pay6 v19 v22) (k0_pay7 v19 v22) k0_pay8 v34 v36 v40 (ix2 a b) * Ideal.ofBits FTy.f32 981467136#32 := by
  pointwise [k0_pay13]

theorem pay14_apply (a : Fin 512) (b : Fin 1024) :
    k0_pay14 (F := Ideal) (k0_pay6 v19 v22) (k0_pay7 v19 v22) k0_pay8 v34 v36 v40 (ix2 a b)
      = bk (fun k : Fin 1024 => k0_pay6 (F := Ideal) v19 v22 (ix2 a k))
          (fun k => k0_pay13 (F := Ideal) (k0_pay6 v19 v22) (k0_pay7 v19 v22) k0_pay8 v34 v36 v40 (ix2 a k) * v34 (ix2 0 k)) b := by
  unfold bk
  pointwise [k0_pay14, k0_pay11]
  simp only [pay10_apply, pay9_apply]

theorem pay15_apply (z : Fin 1) (b : Fin 1024) :
    k0_pay15 (F := Ideal) (k0_pay6 v19 v22) (k0_pay7 v19 v22) k0_pay8 v34 v36 v40 (ix2 z b)
      = ∑ a : Fin 512, k0_pay13 (F := Ideal) (k0_pay6 v19 v22) (k0_pay7 v19 v22) k0_pay8 v34 v36 v40 (ix2 a b)
          * (k0_pay6 (F := Ideal) v19 v22 (ix2 a b) * scl fun k : Fin 1024 => k0_pay6 (F := Ideal) v19 v22 (ix2 a k)) := by
  pointwise [k0_pay15]
  simp only [pay10_apply]

theorem pay2_apply (v41 : Vec Ideal S512x1024 .f32) (z : Fin 1) (b : Fin 128) :
    k0_pay2 (F := Ideal) v41 (ix2 z b)
      = Ideal.div (Ideal.ofBits FTy.f32 1056964608#32 * ∑ a : Fin 512, ∑ k : Fin 1024, v41 (ix2 a k) * v41 (ix2 a k)) (Ideal.ofBits FTy.f32 1149239296#32) := by
  pointwise [k0_pay2]

end Block

/-! The blocks the windows hold. -/

theorem blk_0 (X : Buf (Elt Ideal) ((c.tc : Thread nD τ).loc main_arg0)) (t : Fin cfg0.N) (j : S512x1024.Idx) (ha) (hb) :
    (((cfg0.win 0).blk t).view.read (Elt Ideal) X) j = X (ix2 ⟨512 * t.val + (j 0).val, ha⟩ ⟨(j 1).val, hb⟩) := by
  blk_ext [e0]
theorem blk_1 (X : Buf (Elt Ideal) ((c.tc : Thread nD τ).loc main_arg1)) (t : Fin cfg0.N) (j : S1024x4096.Idx) (ha) (hb) :
    (((cfg0.win 1).blk t).view.read (Elt Ideal) X) j = X (ix2 ⟨(j 0).val, ha⟩ ⟨(j 1).val, hb⟩) := by
  blk_ext [e1]
theorem blk_2 (X : Buf (Elt Ideal) ((c.tc : Thread nD τ).loc main_arg3)) (t : Fin cfg0.N) (j : S512x1024.Idx) (ha) (hb) :
    (((cfg0.win 2).blk t).view.read (Elt Ideal) X) j = X (ix2 ⟨512 * t.val + (j 0).val, ha⟩ ⟨(j 1).val, hb⟩) := by
  blk_ext [e2]
theorem blk_3 (X : Buf (Elt Ideal) ((c.tc : Thread nD τ).loc main_arg4)) (t : Fin cfg0.N) (j : S512x1024.Idx) (ha) (hb) :
    (((cfg0.win 3).blk t).view.read (Elt Ideal) X) j = X (ix2 ⟨512 * t.val + (j 0).val, ha⟩ ⟨(j 1).val, hb⟩) := by
  blk_ext [e3]
theorem blk_4 (X : Buf (Elt Ideal) ((c.tc : Thread nD τ).loc main_v0)) (t : Fin cfg0.N) (j : S1x1024.Idx) (ha) (hb) :
    (((cfg0.win 4).blk t).view.read (Elt Ideal) X) j = X (ix2 ⟨(j 0).val, ha⟩ ⟨(j 1).val, hb⟩) := by
  blk_ext [e4]

/-- The arguments of the call, as the memory holds them. -/
structure Args (x0 : Vec Ideal S4096x1024 .bf16) (x1 : Vec Ideal S1024x4096 .bf16) (x2 : Vec Ideal S4096x1024 .bf16) (x3 x4 : Vec Ideal S4096x1024 .f32)
    (x5 : Vec Ideal S1024 .f32) : Prop where
  h0 : m ((c.tc : Thread nD τ).loc main_arg0) = x0
  h1 : m ((c.tc : Thread nD τ).loc main_arg1) = x1
  h2 : m ((c.tc : Thread nD τ).loc main_arg2) = x2
  h3 : m ((c.tc : Thread nD τ).loc main_arg3) = x3
  h4 : m ((c.tc : Thread nD τ).loc main_arg4) = x4
  h5 : m ((c.tc : Thread nD τ).loc main_arg5) = x5

variable {m c} {x0 : Vec Ideal S4096x1024 .bf16} {x1 : Vec Ideal S1024x4096 .bf16} {x2 : Vec Ideal S4096x1024 .bf16} {x3 x4 : Vec Ideal S4096x1024 .f32}
  {x5 : Vec Ideal S1024 .f32}

theorem host_g (A : Args m c x0 x1 x2 x3 x4 x5) (z : Fin 1) (k : Fin 1024) : V m c main_v0 (ix2 z k) = x5 (ix1 k) := by
  obtain ⟨h0, h1, h2, h3, h4, h5⟩ := A
  subst h5
  unfold V
  after_reads_at

theorem row_lt (t : Fin cfg0.N) (a : Fin 512) : 512 * t.val + a.val < 4096 := by
  have := point_lt t; have := a.isLt; omega

theorem ib_0 (A : Args m c x0 x1 x2 x3 x4 x5) (t : Fin cfg0.N) (a : Fin 512) (k : Fin 1024) :
    iblk m c 0 t (ix2 a k) = x0 (ix2 ⟨512 * t.val + a.val, row_lt t a⟩ k) := by
  have h := A.h0
  rw [← V_main_arg0 m c] at h
  exact (blk_0 c (V m c main_arg0) t (ix2 a k) (row_lt t a) k.isLt).trans (congrFun h _)
theorem ib_1 (A : Args m c x0 x1 x2 x3 x4 x5) (t : Fin cfg0.N) (a : Fin 1024) (k : Fin 4096) :
    iblk m c 1 t (ix2 a k) = x1 (ix2 a k) := by
  have h := A.h1
  rw [← V_main_arg1 m c] at h
  exact (blk_1 c (V m c main_arg1) t (ix2 a k) a.isLt k.isLt).trans (congrFun h _)
theorem ib_2 (A : Args m c x0 x1 x2 x3 x4 x5) (t : Fin cfg0.N) (a : Fin 512) (k : Fin 1024) :
    iblk m c 2 t (ix2 a k) = x3 (ix2 ⟨512 * t.val + a.val, row_lt t a⟩ k) := by
  have h := A.h3
  rw [← V_main_arg3 m c] at h
  exact (blk_2 c (V m c main_arg3) t (ix2 a k) (row_lt t a) k.isLt).trans (congrFun h _)
theorem ib_3 (A : Args m c x0 x1 x2 x3 x4 x5) (t : Fin cfg0.N) (a : Fin 512) (k : Fin 1024) :
    iblk m c 3 t (ix2 a k) = x4 (ix2 ⟨512 * t.val + a.val, row_lt t a⟩ k) := by
  have h := A.h4
  rw [← V_main_arg4 m c] at h
  exact (blk_3 c (V m c main_arg4) t (ix2 a k) (row_lt t a) k.isLt).trans (congrFun h _)
theorem ib_4 (A : Args m c x0 x1 x2 x3 x4 x5) (t : Fin cfg0.N) (z : Fin 1) (k : Fin 1024) :
    iblk m c 4 t (ix2 z k) = x5 (ix1 k) :=
  (blk_4 c (V m c main_v0) t (ix2 z k) z.isLt k.isLt).trans (host_g A _ _)
theorem weight (A : Args m c x0 x1 x2 x3 x4 x5) : V m c main_arg2 = x2 := (V_main_arg2 m c).trans A.h2

/-! One block's values. -/

/-- The hidden layer of a block. -/
abbrev bh (m : (ℓ : Loc nD τ sig) → Buf (Elt Ideal) ℓ) (c : Dev nD) (t : Fin cfg0.N) : Vec Ideal S512x4096 .bf16 := hid (iblk m c 0 t) (iblk m c 1 t)
/-- The second product of a block. -/
abbrev bd (m : (ℓ : Loc nD τ sig) → Buf (Elt Ideal) ℓ) (c : Dev nD) (t : Fin cfg0.N) : FVec Ideal S512x1024 .f32 := k0_pay6 (bh m c t) (V m c main_arg2)
/-- The sums of squares of its rows. -/
abbrev bs (m : (ℓ : Loc nD τ sig) → Buf (Elt Ideal) ℓ) (c : Dev nD) (t : Fin cfg0.N) : FVec Ideal S512x1 .f32 := k0_pay7 (bh m c t) (V m c main_arg2)

theorem hid_apply (y0 : Vec Ideal S512x1024 .bf16) (y1 : Vec Ideal S1024x4096 .bf16) (a : Fin 512) (l : Fin 4096) :
    hid y0 y1 (ix2 a l) = max (∑ k : Fin 1024, y0 (ix2 a k) * y1 (ix2 k l)) (Ideal.ofBits FTy.f32 0#32) := rfl
theorem bh_apply (A : Args m c x0 x1 x2 x3 x4 x5) (t : Fin cfg0.N) (a : Fin 512) (l : Fin 4096) :
    bh m c t (ix2 a l) = act x0 x1 ⟨512 * t.val + a.val, row_lt t a⟩ l := by
  refine (hid_apply _ _ a l).trans ?_
  simp only [ib_0 A, ib_1 A]
  rfl
theorem bd_apply (A : Args m c x0 x1 x2 x3 x4 x5) (t : Fin cfg0.N) (a : Fin 512) (b : Fin 1024) :
    bd m c t (ix2 a b) = down x0 x1 x2 ⟨512 * t.val + a.val, row_lt t a⟩ b := by
  refine (pay6_apply _ _ a b).trans ?_
  simp only [bh_apply A, weight A]
  rfl
theorem berr_apply (A : Args m c x0 x1 x2 x3 x4 x5) (t : Fin cfg0.N) (a : Fin 512) (b : Fin 1024) :
    k0_pay12 (F := Ideal) (bd m c t) (bs m c t) k0_pay8 (iblk m c 4 t) (iblk m c 2 t) (iblk m c 3 t) (ix2 a b)
      = err x0 x1 x2 x3 x4 x5 ⟨512 * t.val + a.val, row_lt t a⟩ b := by
  refine (pay12_apply _ _ _ _ _ a b).trans ?_
  simp only [bd_apply A, ib_2 A, ib_3 A, ib_4 A]
  rfl
theorem bdy_apply (A : Args m c x0 x1 x2 x3 x4 x5) (t : Fin cfg0.N) (a : Fin 512) (b : Fin 1024) :
    k0_pay13 (F := Ideal) (bd m c t) (bs m c t) k0_pay8 (iblk m c 4 t) (iblk m c 2 t) (iblk m c 3 t) (ix2 a b)
      = dout x0 x1 x2 x3 x4 x5 ⟨512 * t.val + a.val, row_lt t a⟩ b := by
  refine (pay13_apply _ _ _ _ _ a b).trans ?_
  rw [berr_apply A]
  rfl
theorem bdd_apply (A : Args m c x0 x1 x2 x3 x4 x5) (t : Fin cfg0.N) (a : Fin 512) (b : Fin 1024) :
    k0_pay14 (F := Ideal) (bd m c t) (bs m c t) k0_pay8 (iblk m c 4 t) (iblk m c 2 t) (iblk m c 3 t) (ix2 a b)
      = ddown x0 x1 x2 x3 x4 x5 ⟨512 * t.val + a.val, row_lt t a⟩ b := by
  refine (pay14_apply _ _ _ _ _ a b).trans ?_
  simp only [bd_apply A, bdy_apply A, ib_4 A]
  rfl
/-- A block's part in the gradient of the norm's weight. -/
abbrev bg (m : (ℓ : Loc nD τ sig) → Buf (Elt Ideal) ℓ) (c : Dev nD) (t : Fin cfg0.N) : FVec Ideal S1x1024 .f32 :=
  k0_pay15 (bd m c t) (bs m c t) k0_pay8 (iblk m c 4 t) (iblk m c 2 t) (iblk m c 3 t)
/-- A block's part in the loss. -/
abbrev bl (m : (ℓ : Loc nD τ sig) → Buf (Elt Ideal) ℓ) (c : Dev nD) (t : Fin cfg0.N) : FVec Ideal S1x128 .f32 :=
  k0_pay2 (k0_pay12 (bd m c t) (bs m c t) k0_pay8 (iblk m c 4 t) (iblk m c 2 t) (iblk m c 3 t))
theorem bg_apply (A : Args m c x0 x1 x2 x3 x4 x5) (t : Fin cfg0.N) (z : Fin 1) (b : Fin 1024) :
    bg m c t (ix2 z b) = ∑ a : Fin 512, ext (fun r => p4 x0 x1 x2 x3 x4 x5 r b) (512 * t.val + a.val) := by
  refine (pay15_apply _ _ _ _ _ z b).trans (Finset.sum_congr rfl fun a _ => ?_)
  rw [ext_lt _ _ (row_lt t a)]
  simp only [bd_apply A, bdy_apply A]
  rfl
theorem bl_apply (A : Args m c x0 x1 x2 x3 x4 x5) (t : Fin cfg0.N) (z : Fin 1) (b : Fin 128) :
    bl m c t (ix2 z b) = (∑ a : Fin 512, ext (sqe x0 x1 x2 x3 x4 x5) (512 * t.val + a.val)) * ((1 / 2048 : ℝ) : EReal) := by
  refine (pay2_apply _ z b).trans ((per _).trans (congrArg (· * _) (Finset.sum_congr rfl fun a _ => ?_)))
  rw [ext_lt _ _ (row_lt t a)]
  simp only [berr_apply A]
  rfl

/-! The contents of the staging buffers. -/

theorem load_scratch (x : Vec Ideal S4096x1024 .bf16) (inb) :
    View.readAt (Elt Ideal) (View.whole cc0_scratch0) (Rect.unit (s := S4096x1024) ![0, 0] ![4096, 1024] inb).toLoadRect ((Memref.isWhole_whole cc0_scratch0).unread x) = x :=
  load_whole (Memref.whole cc0_scratch0) (Memref.isWhole_whole cc0_scratch0) x inb

theorem sc_A (t : Fin cfg0.N) (h : t.val % 8 = 0 ∧ ¬1 ≤ t.val) : (outsAt0 m c t.val t.isLt).2.2.2.2.2 = V m c main_arg2 := by
  rw [outsAt0_A m c t h.1 h.1 h.1 h.2 h.1 h.2]; dsimp only; unfold sout0_A_0; rw [View.read_writes_junk_eq_canon]; unfold kernelRun0_A; dsimp only
  refine (View.canon_unit_zero (by funext a; fin_cases a <;> rfl) _ _).trans ?_
  rfl
theorem sc_B (t : Fin cfg0.N) (h : ¬t.val % 8 = 0 ∧ 1 ≤ t.val) : (outsAt0 m c t.val t.isLt).2.2.2.2.2
    = (outsAt0 m c (t.val - 1) (lt_of_le_of_lt (Nat.sub_le _ _) t.isLt)).2.2.2.2.2 := by
  rw [outsAt0_B m c t h.1 h.1 h.1 h.2 h.1 h.2]
  rfl
/-- The copied weight stays. -/
theorem sc (m : (ℓ : Loc nD τ sig) → Buf (Elt Ideal) ℓ) (c : Dev nD) : ∀ (n : ℕ) (hn : n < cfg0.N), (outsAt0 m c n hn).2.2.2.2.2 = V m c main_arg2
  | 0, hn => sc_A ⟨0, hn⟩ (by simp)
  | n + 1, hn => by
    have ht := point_lt ⟨n + 1, hn⟩
    simp only at ht
    exact (sc_B ⟨n + 1, hn⟩ (by simp only; omega)).trans (sc m c n (by omega))

theorem v19_A (t : Fin cfg0.N) (h : t.val % 8 = 0 ∧ ¬1 ≤ t.val) :
    kernelRun0_A.sl.v19 c (ms0_0 t) (hs0_0 t) (ms0_1 t) (hs0_1 t) (ms0_5 t) (iblk m c 0 t) (iblk m c 1 t) = bh m c t := by
  unfold kernelRun0_A.sl.v19
  exact (load_cov _ _ _).trans (h5_A c t h _ _ (iblk m c 2 t) (iblk m c 3 t) (iblk m c 4 t) (V m c main_arg2))
theorem v19_B (t : Fin cfg0.N) (h : ¬t.val % 8 = 0 ∧ 1 ≤ t.val) :
    kernelRun0_B.sl.v19 c (ms0_0 t) (hs0_0 t) (ms0_1 t) (hs0_1 t) (ms0_5 t) (iblk m c 0 t) (iblk m c 1 t) = bh m c t := by
  unfold kernelRun0_B.sl.v19
  exact (load_cov _ _ _).trans (h5_B c t h _ _ (iblk m c 2 t) (iblk m c 3 t) (iblk m c 4 t) (bg m c t) (bl m c t) (V m c main_arg2) (V m c main_arg2))

theorem o5_A (t : Fin cfg0.N) (h : t.val % 8 = 0 ∧ ¬1 ≤ t.val) : (outsAt0 m c t.val t.isLt).1
    = bh m c t := by
  rw [outsAt0_A m c t h.1 h.1 h.1 h.2 h.1 h.2]; dsimp only; unfold out0_A_5; rw [View.read_writes_junk_eq_canon]; unfold kernelRun0_A; dsimp only
  exact h5_A c t h _ _ (iblk m c 2 t) (iblk m c 3 t) (iblk m c 4 t) (V m c main_arg2)
theorem o6_A (t : Fin cfg0.N) (h : t.val % 8 = 0 ∧ ¬1 ≤ t.val) : (outsAt0 m c t.val t.isLt).2.1
    = k0_pay14 (F := Ideal) (bd m c t) (bs m c t) k0_pay8 (iblk m c 4 t) (iblk m c 2 t) (iblk m c 3 t) := by
  rw [outsAt0_A m c t h.1 h.1 h.1 h.2 h.1 h.2]; dsimp only; unfold out0_A_6; rw [View.read_writes_junk_eq_canon]; unfold kernelRun0_A; dsimp only
  refine (View.canon_unit_zero (by funext a; fin_cases a <;> rfl) _ _).trans ?_
  simp only [load_whole, kernelRun0_A.sl.r, kernelRun0_A.sl.r_1, kernelRun0_A.sl.r_2, kernelRun0_A.sl.r_3, v19_A t h, v22_A]
theorem o7_A (t : Fin cfg0.N) (h : t.val % 8 = 0 ∧ ¬1 ≤ t.val) : (outsAt0 m c t.val t.isLt).2.2.1
    = k0_pay13 (F := Ideal) (bd m c t) (bs m c t) k0_pay8 (iblk m c 4 t) (iblk m c 2 t) (iblk m c 3 t) := by
  rw [outsAt0_A m c t h.1 h.1 h.1 h.2 h.1 h.2]; dsimp only; unfold out0_A_7; rw [View.read_writes_junk_eq_canon]; unfold kernelRun0_A; dsimp only
  refine (View.canon_unit_zero (by funext a; fin_cases a <;> rfl) _ _).trans ?_
  simp only [load_whole, kernelRun0_A.sl.r, kernelRun0_A.sl.r_1, kernelRun0_A.sl.r_2, kernelRun0_A.sl.r_3, v19_A t h, v22_A]
theorem o8_A (t : Fin cfg0.N) (h : t.val % 8 = 0 ∧ ¬1 ≤ t.val) : (outsAt0 m c t.val t.isLt).2.2.2.1
    = bg m c t := by
  rw [outsAt0_A m c t h.1 h.1 h.1 h.2 h.1 h.2]; dsimp only; unfold out0_A_8; rw [View.read_writes_junk_eq_canon]; unfold kernelRun0_A; dsimp only
  refine (View.canon_unit_zero (by funext a; fin_cases a <;> rfl) _ _).trans ?_
  simp only [load_whole, kernelRun0_A.sl.r, kernelRun0_A.sl.r_1, kernelRun0_A.sl.r_2, kernelRun0_A.sl.r_3, v19_A t h, v22_A]
theorem o9_A (t : Fin cfg0.N) (h : t.val % 8 = 0 ∧ ¬1 ≤ t.val) : (outsAt0 m c t.val t.isLt).2.2.2.2.1
    = bl m c t := by
  rw [outsAt0_A m c t h.1 h.1 h.1 h.2 h.1 h.2]; dsimp only; unfold out0_A_9; rw [View.read_writes_junk_eq_canon]; unfold kernelRun0_A; dsimp only
  refine (View.canon_unit_zero (by funext a; fin_cases a <;> rfl) _ _).trans ?_
  simp only [load_whole, kernelRun0_A.sl.r, kernelRun0_A.sl.r_1, kernelRun0_A.sl.r_2, kernelRun0_A.sl.r_3, v19_A t h, v22_A]
theorem o5_B (t : Fin cfg0.N) (h : ¬t.val % 8 = 0 ∧ 1 ≤ t.val) : (outsAt0 m c t.val t.isLt).1
    = bh m c t := by
  rw [outsAt0_B m c t h.1 h.1 h.1 h.2 h.1 h.2]; dsimp only; unfold out0_B_5; rw [View.read_writes_junk_eq_canon]; unfold kernelRun0_B; dsimp only
  exact h5_B c t h _ _ (iblk m c 2 t) (iblk m c 3 t) (iblk m c 4 t) (bg m c t) (bl m c t) (V m c main_arg2) (V m c main_arg2)
theorem o6_B (t : Fin cfg0.N) (h : ¬t.val % 8 = 0 ∧ 1 ≤ t.val) : (outsAt0 m c t.val t.isLt).2.1
    = k0_pay14 (F := Ideal) (bd m c t) (bs m c t) k0_pay8 (iblk m c 4 t) (iblk m c 2 t) (iblk m c 3 t) := by
  rw [outsAt0_B m c t h.1 h.1 h.1 h.2 h.1 h.2]; dsimp only; unfold out0_B_6; rw [View.read_writes_junk_eq_canon]; unfold kernelRun0_B; dsimp only
  refine (View.canon_unit_zero (by funext a; fin_cases a <;> rfl) _ _).trans ?_
  simp only [load_whole, kernelRun0_B.sl.r, kernelRun0_B.sl.r_1, kernelRun0_B.sl.r_2, kernelRun0_B.sl.r_3, v19_B t h, load_scratch, sc m c]
theorem o7_B (t : Fin cfg0.N) (h : ¬t.val % 8 = 0 ∧ 1 ≤ t.val) : (outsAt0 m c t.val t.isLt).2.2.1
    = k0_pay13 (F := Ideal) (bd m c t) (bs m c t) k0_pay8 (iblk m c 4 t) (iblk m c 2 t) (iblk m c 3 t) := by
  rw [outsAt0_B m c t h.1 h.1 h.1 h.2 h.1 h.2]; dsimp only; unfold out0_B_7; rw [View.read_writes_junk_eq_canon]; unfold kernelRun0_B; dsimp only
  refine (View.canon_unit_zero (by funext a; fin_cases a <;> rfl) _ _).trans ?_
  simp only [load_whole, kernelRun0_B.sl.r, kernelRun0_B.sl.r_1, kernelRun0_B.sl.r_2, kernelRun0_B.sl.r_3, v19_B t h, load_scratch, sc m c]
theorem o8_B (t : Fin cfg0.N) (h : ¬t.val % 8 = 0 ∧ 1 ≤ t.val) : (outsAt0 m c t.val t.isLt).2.2.2.1
    = k0_pay1 (bg m c t) (outsAt0 m c (t.val - 1) (lt_of_le_of_lt (Nat.sub_le _ _) t.isLt)).2.2.2.1 := by
  rw [outsAt0_B m c t h.1 h.1 h.1 h.2 h.1 h.2]; dsimp only; unfold out0_B_8; rw [View.read_writes_junk_eq_canon]; unfold kernelRun0_B; dsimp only
  refine (View.canon_unit_zero (by funext a; fin_cases a <;> rfl) _ _).trans ?_
  simp only [load_whole, kernelRun0_B.sl.r, kernelRun0_B.sl.r_1, kernelRun0_B.sl.r_2, kernelRun0_B.sl.r_3, v19_B t h, load_scratch, sc m c]
theorem o9_B (t : Fin cfg0.N) (h : ¬t.val % 8 = 0 ∧ 1 ≤ t.val) : (outsAt0 m c t.val t.isLt).2.2.2.2.1
    = k0_pay3 (k0_pay12 (bd m c t) (bs m c t) k0_pay8 (iblk m c 4 t) (iblk m c 2 t) (iblk m c 3 t)) (outsAt0 m c (t.val - 1) (lt_of_le_of_lt (Nat.sub_le _ _) t.isLt)).2.2.2.2.1 := by
  rw [outsAt0_B m c t h.1 h.1 h.1 h.2 h.1 h.2]; dsimp only; unfold out0_B_9; rw [View.read_writes_junk_eq_canon]; unfold kernelRun0_B; dsimp only
  refine (View.canon_unit_zero (by funext a; fin_cases a <;> rfl) _ _).trans ?_
  simp only [load_whole, kernelRun0_B.sl.r, kernelRun0_B.sl.r_1, kernelRun0_B.sl.r_2, kernelRun0_B.sl.r_3, v19_B t h, load_scratch, sc m c]
theorem o5 (m : (ℓ : Loc nD τ sig) → Buf (Elt Ideal) ℓ) (c : Dev nD) (t : Fin cfg0.N) : (outsAt0 m c t.val t.isLt).1 = bh m c t :=
  (point_zero t).elim (o5_A t) (o5_B t)
theorem o6 (m : (ℓ : Loc nD τ sig) → Buf (Elt Ideal) ℓ) (c : Dev nD) (t : Fin cfg0.N) : (outsAt0 m c t.val t.isLt).2.1 = k0_pay14 (F := Ideal) (bd m c t) (bs m c t) k0_pay8 (iblk m c 4 t) (iblk m c 2 t) (iblk m c 3 t) :=
  (point_zero t).elim (o6_A t) (o6_B t)
theorem o7 (m : (ℓ : Loc nD τ sig) → Buf (Elt Ideal) ℓ) (c : Dev nD) (t : Fin cfg0.N) : (outsAt0 m c t.val t.isLt).2.2.1 = k0_pay13 (F := Ideal) (bd m c t) (bs m c t) k0_pay8 (iblk m c 4 t) (iblk m c 2 t) (iblk m c 3 t) :=
  (point_zero t).elim (o7_A t) (o7_B t)

theorem acc8 (A : Args m c x0 x1 x2 x3 x4 x5) (z : Fin 1) (b : Fin 1024) : ∀ (n : ℕ) (hn : n < cfg0.N),
    (outsAt0 m c n hn).2.2.2.1 (ix2 z b) = ∑ t ∈ Finset.range (n + 1), ∑ a : Fin 512, ext (fun r => p4 x0 x1 x2 x3 x4 x5 r b) (512 * t + a.val)
  | 0, hn => by
    rw [Finset.sum_range_one]
    exact (congrFun (o8_A ⟨0, hn⟩ (by simp)) _).trans (bg_apply A ⟨0, hn⟩ z b)
  | n + 1, hn => by
    have ht := point_lt ⟨n + 1, hn⟩
    simp only at ht
    rw [Finset.sum_range_succ _ (n + 1), ← acc8 A z b n (by omega)]
    refine (congrFun (o8_B ⟨n + 1, hn⟩ (by simp only; omega)) _).trans ?_
    rw [← bg_apply A ⟨n + 1, hn⟩ z b]
    simp only [k0_pay1, Nat.add_sub_cancel]
    pointwise
theorem acc9 (A : Args m c x0 x1 x2 x3 x4 x5) (z : Fin 1) (b : Fin 128) : ∀ (n : ℕ) (hn : n < cfg0.N),
    (outsAt0 m c n hn).2.2.2.2.1 (ix2 z b)
      = ∑ t ∈ Finset.range (n + 1), (∑ a : Fin 512, ext (sqe x0 x1 x2 x3 x4 x5) (512 * t + a.val)) * ((1 / 2048 : ℝ) : EReal)
  | 0, hn => by
    rw [Finset.sum_range_one]
    exact (congrFun (o9_A ⟨0, hn⟩ (by simp)) _).trans (bl_apply A ⟨0, hn⟩ z b)
  | n + 1, hn => by
    have ht := point_lt ⟨n + 1, hn⟩
    simp only at ht
    rw [Finset.sum_range_succ _ (n + 1), ← acc9 A z b n (by omega)]
    refine (congrFun (o9_B ⟨n + 1, hn⟩ (by simp only; omega)) _).trans ?_
    rw [← bl_apply A ⟨n + 1, hn⟩ z b]
    simp only [k0_pay3, Nat.add_sub_cancel]
    pointwise

theorem final5 (A : Args m c x0 x1 x2 x3 x4 x5) :
    (dats m 0 c).arrAt 5 cfg0.N = Cert.Reference8Ideal.Read.val_main_v59 (F := Ideal) x0 x1 := by
  refine (dats m 0 c).arrAt_eq_of_covers 5 _ (by decide +kernel) fun t hf y => ?_
  have ht := point_lt t
  have hy0 : (y 0).val < 512 := (y 0).isLt
  have hy1 : (y 1).val < 4096 := (y 1).isLt
  have g0 : ((((cfg0.win 5).blk t).view.emb y) 0).val = 512 * t.val + (y 0).val := by
    blk_simp [e5]; omega
  have g1 : ((((cfg0.win 5).blk t).view.emb y) 1).val = (y 1).val := by
    blk_simp [e5]
  have he : (((cfg0.win 5).blk t).view.emb y) = ix2 (⟨512 * t.val + (y 0).val, by omega⟩ : Fin 4096) (⟨(y 1).val, hy1⟩ : Fin 4096) := by
    funext a
    match a with
    | ⟨0, _⟩ => exact Fin.ext g0
    | ⟨1, _⟩ => exact Fin.ext g1
  have hy : y = ix2 (⟨(y 0).val, hy0⟩ : Fin 512) (⟨(y 1).val, hy1⟩ : Fin 4096) := by
    funext a
    match a with
    | ⟨0, _⟩ => rfl
    | ⟨1, _⟩ => rfl
  rw [he]
  refine Eq.trans ?_ (v59_apply x0 x1 _ _).symm
  blk_simp
  rw [after0_5]
  exact (congrArg (outsAt0 m c t.val t.isLt).1 hy).trans ((congrFun (o5 m c t) _).trans (bh_apply A t _ _))

theorem final6 (A : Args m c x0 x1 x2 x3 x4 x5) :
    (dats m 0 c).arrAt 6 cfg0.N = Cert.Reference8Ideal.Read.val_main_v60 (F := Ideal) x0 x1 x2 x3 x4 x5 := by
  refine (dats m 0 c).arrAt_eq_of_covers 6 _ (by decide +kernel) fun t hf y => ?_
  have ht := point_lt t
  have hy0 : (y 0).val < 512 := (y 0).isLt
  have hy1 : (y 1).val < 1024 := (y 1).isLt
  have g0 : ((((cfg0.win 6).blk t).view.emb y) 0).val = 512 * t.val + (y 0).val := by
    blk_simp [e6]; omega
  have g1 : ((((cfg0.win 6).blk t).view.emb y) 1).val = (y 1).val := by
    blk_simp [e6]
  have he : (((cfg0.win 6).blk t).view.emb y) = ix2 (⟨512 * t.val + (y 0).val, by omega⟩ : Fin 4096) (⟨(y 1).val, hy1⟩ : Fin 1024) := by
    funext a
    match a with
    | ⟨0, _⟩ => exact Fin.ext g0
    | ⟨1, _⟩ => exact Fin.ext g1
  have hy : y = ix2 (⟨(y 0).val, hy0⟩ : Fin 512) (⟨(y 1).val, hy1⟩ : Fin 1024) := by
    funext a
    match a with
    | ⟨0, _⟩ => rfl
    | ⟨1, _⟩ => rfl
  rw [he]
  refine Eq.trans ?_ (v60_apply x0 x1 x2 x3 x4 x5 _ _).symm
  blk_simp
  rw [after0_6]
  exact (congrArg (outsAt0 m c t.val t.isLt).2.1 hy).trans ((congrFun (o6 m c t) _).trans (bdd_apply A t _ _))

theorem final7 (A : Args m c x0 x1 x2 x3 x4 x5) :
    (dats m 0 c).arrAt 7 cfg0.N = Cert.Reference8Ideal.Read.val_main_v38 (F := Ideal) x0 x1 x2 x3 x4 x5 := by
  refine (dats m 0 c).arrAt_eq_of_covers 7 _ (by decide +kernel) fun t hf y => ?_
  have ht := point_lt t
  have hy0 : (y 0).val < 512 := (y 0).isLt
  have hy1 : (y 1).val < 1024 := (y 1).isLt
  have g0 : ((((cfg0.win 7).blk t).view.emb y) 0).val = 512 * t.val + (y 0).val := by
    blk_simp [e7]; omega
  have g1 : ((((cfg0.win 7).blk t).view.emb y) 1).val = (y 1).val := by
    blk_simp [e7]
  have he : (((cfg0.win 7).blk t).view.emb y) = ix2 (⟨512 * t.val + (y 0).val, by omega⟩ : Fin 4096) (⟨(y 1).val, hy1⟩ : Fin 1024) := by
    funext a
    match a with
    | ⟨0, _⟩ => exact Fin.ext g0
    | ⟨1, _⟩ => exact Fin.ext g1
  have hy : y = ix2 (⟨(y 0).val, hy0⟩ : Fin 512) (⟨(y 1).val, hy1⟩ : Fin 1024) := by
    funext a
    match a with
    | ⟨0, _⟩ => rfl
    | ⟨1, _⟩ => rfl
  rw [he]
  refine Eq.trans ?_ (v38_apply x0 x1 x2 x3 x4 x5 _ _).symm
  blk_simp
  rw [after0_7]
  exact (congrArg (outsAt0 m c t.val t.isLt).2.2.1 hy).trans ((congrFun (o7 m c t) _).trans (bdy_apply A t _ _))

/-- The last grid point. -/
abbrev last : Fin cfg0.N := ⟨7, by decide⟩

theorem final8 (A : Args m c x0 x1 x2 x3 x4 x5) :
    (dats m 0 c).arrAt 8 cfg0.N = Cert.Reference8Ideal.Read.val_main_v61 (F := Ideal) x0 x1 x2 x3 x4 x5 := by
  refine (dats m 0 c).arrAt_eq_of_after_last 8 last (by decide +kernel) _ fun j => ?_
  have hj : j = ix2 (⟨(j 0).val, (j 0).isLt⟩ : Fin 1) (⟨(j 1).val, (j 1).isLt⟩ : Fin 1024) := by
    funext a
    match a with
    | ⟨0, _⟩ => rfl
    | ⟨1, _⟩ => rfl
  rw [hj]
  refine Eq.trans ?_ (v61_apply x0 x1 x2 x3 x4 x5 _ _).symm
  blk_simp
  rw [after0_8]
  exact (acc8 A _ _ 7 (by decide)).trans (sum_blocks 512 8 rfl _)

theorem final9 (A : Args m c x0 x1 x2 x3 x4 x5) :
    (dats m 0 c).arrAt 9 cfg0.N = Cert.Reference8Ideal.Read.val_main_v62 (F := Ideal) x0 x1 x2 x3 x4 x5 := by
  refine (dats m 0 c).arrAt_eq_of_after_last 9 last (by decide +kernel) _ fun j => ?_
  have hj : j = ix2 (⟨(j 0).val, (j 0).isLt⟩ : Fin 1) (⟨(j 1).val, (j 1).isLt⟩ : Fin 128) := by
    funext a
    match a with
    | ⟨0, _⟩ => rfl
    | ⟨1, _⟩ => rfl
  rw [hj]
  refine Eq.trans ?_ (v62_apply x0 x1 x2 x3 x4 x5 _ _).symm
  blk_simp
  rw [after0_9]
  refine (acc9 A _ _ 7 (by decide)).trans ?_
  rw [sum_mul_real _ _ _ (by norm_num), sum_blocks 512 8 rfl, per]

/-- The reference's run keeps its arguments and ends quiet. -/
theorem frame_ri : Cert.quiescent_Reference8Ideal := fun m ρ _ =>
  (θ_run Cert.Reference8Ideal.defs _ _).mono (fun r h => ⟨fun c => (h c).2.2.2.2.2,
      Idealize.ShloMosaic.sem_eq_zero_of_no_sems (by decide) r.2⟩)
    (Cert.Reference8Ideal.Value.run (F := Ideal) m ρ)

/-- The kernel's results are the reference's. -/
theorem algebraic : Cert.algebraic_Kernel8Ideal_Reference8Ideal := by
  intro m ρ m' ρ' _ hagree
  refine ⟨fun c => Cert.Reference8Ideal.Read.val_main_v59 (F := Ideal) (m ((c.tc : Thread nD τ).loc main_arg0)) (m ((c.tc : Thread nD τ).loc main_arg1)),
    fun c => Cert.Reference8Ideal.Read.val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    fun c => Cert.Reference8Ideal.Read.val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    fun c => Cert.Reference8Ideal.Read.val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)),
    fun c => Cert.Reference8Ideal.Read.val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)), ?_, ?_⟩
  · refine (θ_run Cert.Kernel8Ideal.defs _ _).mono (fun r h c => ?_) (Cert.Kernel8Ideal.Value.run_blocks (F := Ideal) m ρ)
    obtain ⟨q0, q1, q2, q3, q4, hk⟩ := h c
    have A : Args m c _ _ _ _ _ _ := ⟨rfl, rfl, rfl, rfl, rfl, rfl⟩
    exact ⟨q0.trans (final5 A), q1.trans (final6 A), q2.trans (final7 A), q3.trans (final8 A), q4.trans (final9 A), hk⟩
  · refine (θ_run Cert.Reference8Ideal.defs _ _).mono (fun r h c => ?_) (Cert.Reference8Ideal.Value.run (F := Ideal) m' ρ')
    obtain ⟨q0, q1, q2, q3, q4, hk⟩ := h c
    obtain ⟨g0, g1, g2, g3, g4, g5⟩ := hagree c
    refine ⟨q0.trans ((Cert.Reference8Ideal.Read.val_main_v59_eq _ _).trans ?_), q1.trans ((Cert.Reference8Ideal.Read.val_main_v60_eq _ _).trans ?_),
      q2.trans ((Cert.Reference8Ideal.Read.val_main_v38_eq _ _ _ _ _ _).trans ?_), q3.trans ((Cert.Reference8Ideal.Read.val_main_v61_eq _ _).trans ?_),
      q4.trans ((Cert.Reference8Ideal.Read.val_main_v62_eq _ _).trans ?_), hk⟩
    · rw [g0, g1]
    · rw [g0, g1, g2, g3, g4, g5]
    · rw [g0, g1, g2, g3, g4, g5]
    · rw [g0, g1, g2, g3, g4, g5]
    · rw [g0, g1, g2, g3, g4, g5]

end Cert.Proof.Fwd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Match
public import proofs.«01_k».proof.Proof.Finite
public import proofs.«01_k».proof.Proof.MlpHidden
public import proofs.«01_k».proof.Proof.WgradDown
public import proofs.«01_k».proof.Proof.WgradUp
public import proofs.«01_k».proof.Proof.MlpIn
public import proofs.«01_k».proof.Proof.WgradOut
public import proofs.«01_k».proof.Proof.WgradIn
public import proofs.«01_k».proof.Proof.ProjIn
public import proofs.«01_k».proof.Proof.ProjOut
public import proofs.«01_k».proof.Proof.Prenorm
public import proofs.«01_k».proof.Proof.Optim
public import proofs.«01_k».proof.Proof.MlpFwd
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Reference12Ideal.Read
public import Idealize.ShloMosaic.Adequacy
public import Idealize.ShloMosaic.Init

@[expose] public section

noncomputable section

namespace Cert.Proof

open Idealize.ShloMosaic Idealize.SL.Sem

/-- The reference's run keeps its arguments and ends quiet. -/
theorem frame_ri : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)

section reference
open Cert.ReferenceIdeal Idealize.ShloMosaic.StableHlo
variable (m : (ℓ : Loc nD τ sig) → Buf (Elt Ideal) ℓ) (ρ : Dev nD → PrngReg)

theorem ref_run : θ_run defs (onTc (τ := τ) (main (F := Ideal))) ⟨m, fun _ => 0, ρ⟩ fun r => ∀ c : Dev nD,
      r.2.mem ((c.tc : Thread nD τ).loc main_v164) = Read.val_main_v164 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v166) = Read.val_main_v166 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v101) = Read.val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v168) = Read.val_main_v168 (F := Ideal) (m ((c.tc : Thread nD τ).loc main_arg0)) (m ((c.tc : Thread nD τ).loc main_arg1))
      ∧ r.2.mem ((c.tc : Thread nD τ).loc main_v169) = Read.val_main_v169 (F := Ideal) (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v170) = Read.val_main_v170 (F := Ideal) (m ((c.tc : Thread nD τ).loc main_arg0)) (m ((c.tc : Thread nD τ).loc main_arg1)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (Read.val_main_v164_eq (launchContents m c)),
    (h c).2.1.trans (Read.val_main_v166_eq (launchContents m c)),
    (h c).2.2.1.trans (Read.val_main_v101_eq (launchContents m c)),
    (h c).2.2.2.1.trans (Read.val_main_v168_eq (launchContents m c)),
    (h c).2.2.2.2.1.trans (Read.val_main_v169_eq (launchContents m c)),
    (h c).2.2.2.2.2.1.trans (Read.val_main_v170_eq (launchContents m c)),
    (h c).2.2.2.2.2.2⟩) (Value.run (F := Ideal) m ρ)
end reference

/-- The two constants the kernel's names stand for. -/
theorem preserves : Cert.preserves_Kernel_KernelIdeal :=
  ⟨IdealRules.named_const.statement Cert.KernelIdeal.κ "gelu_cubic" .f32 0x3D372713#32 ((8943 / 200000 : ℝ) : EReal) rfl,
    IdealRules.named_const.statement Cert.KernelIdeal.κ "gelu_cubic_3" .f32 0x3E095D4F#32 ((26829 / 200000 : ℝ) : EReal) rfl⟩

/-- On real arguments the kernel's six results are the reference's. -/
theorem algebraic : Cert.algebraic_KernelIdeal_ReferenceIdeal_pre_finite (hPre_finite := Finite.facts) := by
  intro m ρ m' ρ' hpre hagree
  choose DM U V lw lb Ws bs I using Finite.inp m hpre
  refine ⟨fun c => RV.R2 (φ := .bf16) (RV.duF (DM c) (U c) (V c) (lw c) (lb c) (Ws c) (bs c)),
    fun c => RV.R2 (φ := .bf16) (RV.dvF (DM c) (U c) (V c) (lw c) (Ws c)),
    fun c => Cert.ReferenceIdeal.Read.val_main_v101 (F := Ideal) (RF.B0 (DM c)) (RF.B1 (U c)) (RF.B1 (V c)) (RF.B3 (lw c)) (RF.B3 (lb c)),
    fun c => Cert.ReferenceIdeal.Read.val_main_v168 (F := Ideal) (RF.B0 (DM c)) (RF.B1 (U c)),
    fun c => Cert.ReferenceIdeal.Read.val_main_v169 (F := Ideal) (RF.B0 (DM c)) (RF.B1 (U c)) (RF.B1 (V c)) (RF.B5 (Ws c)),
    fun c => Cert.ReferenceIdeal.Read.val_main_v170 (F := Ideal) (RF.B0 (DM c)) (RF.B1 (U c)) (RF.B5 (Ws c)), ?_, ?_⟩
  · refine (θ_run Cert.KernelIdeal.defs _ _).mono (fun r h c => ?_) (Cert.KernelIdeal.Value.run_blocks (F := Ideal) m ρ)
    obtain ⟨h0, h1, h2, h3, h4, h5, hk⟩ := h c
    refine ⟨h0.trans (RV.final10 (I c)), h1.trans (RV.final11 (I c)), ?_, ?_, ?_, ?_, hk⟩
    · exact h2.trans ((RV.final12 (I c)).trans ((RV.R3_congr fun a b k _ _ _ => (RF.weight_sum _ _ _ _ _ a b k).symm).trans
        (RF.r101 _ _ _ _ _).symm))
    · exact h3.trans ((RV.final13 (I c)).trans ((RV.R2_congr fun a b _ _ => (RF.bias_sum _ _ a b).symm).trans (RF.r168 _ _).symm))
    · exact h4.trans ((RV.final14 (I c)).trans ((RV.R2_congr fun _ b _ _ => (RF.scale_sum _ _ _ _ b).symm).trans (RF.r169 _ _ _ _).symm))
    · exact h5.trans ((RV.final15 (I c)).trans ((RV.R2_congr fun _ b _ _ => (RF.shift_sum _ _ _ b).symm).trans (RF.r170 _ _ _).symm))
  · refine (θ_run Cert.ReferenceIdeal.defs _ _).mono (fun r h c => ?_) (ref_run m' ρ')
    obtain ⟨h0, h1, h2, h3, h4, h5, hk⟩ := h c
    obtain ⟨g0, g1, g2, g3, g4, g5, g6⟩ := hagree c
    have e0 := g0.trans (I c).h0
    have e1 := g1.trans (I c).h1
    have e2 := g2.trans (I c).h2
    have e3 := g3.trans (I c).h3
    have e4 := g4.trans (I c).h4
    have e5 := g5.trans (I c).h5
    have e6 := g6.trans (I c).h6
    rw [e0, e1, e2, e3, e4, e5, e6] at h0
    rw [e0, e1, e2, e3, e5] at h1
    rw [e0, e1, e2, e3, e4] at h2
    rw [e0, e1] at h3
    rw [e0, e1, e2, e5] at h4
    rw [e0, e1, e5] at h5
    exact ⟨h0.trans (RF.r164 _ _ _ _ _ _ _), h1.trans (RF.r166 _ _ _ _ _), h2, h3, h4, h5, hk⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts, Finite.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial,
  fun m ρ _ => Cert.Kernel2.Gen.frame m ρ, fun m ρ _ => Cert.Kernel2Ideal.Gen.frame m ρ, Hidden.frame_ri,
  fun m ρ _ => Cert.Kernel3.Gen.frame m ρ, fun m ρ _ => Cert.Kernel3Ideal.Gen.frame m ρ, Down.frame_ri,
  fun m ρ _ => Cert.Kernel4.Gen.frame m ρ, fun m ρ _ => Cert.Kernel4Ideal.Gen.frame m ρ, Up.frame_ri,
  fun m ρ _ => Cert.Kernel5.Gen.frame m ρ, fun m ρ _ => Cert.Kernel5Ideal.Gen.frame m ρ, InBack.frame_ri,
  fun m ρ _ => Cert.Kernel6.Gen.frame m ρ, fun m ρ _ => Cert.Kernel6Ideal.Gen.frame m ρ, WOut.frame_ri,
  fun m ρ _ => Cert.Kernel7.Gen.frame m ρ, fun m ρ _ => Cert.Kernel7Ideal.Gen.frame m ρ, WIn.frame_ri,
  fun m ρ _ => Cert.Kernel8.Gen.frame m ρ, fun m ρ _ => Cert.Kernel8Ideal.Gen.frame m ρ, Fwd.frame_ri,
  fun m ρ _ => Cert.Kernel9.Gen.frame m ρ, fun m ρ _ => Cert.Kernel9Ideal.Gen.frame m ρ, ProjIn.frame_ri,
  fun m ρ _ => Cert.Kernel10.Gen.frame m ρ, fun m ρ _ => Cert.Kernel10Ideal.Gen.frame m ρ, ProjOut.frame_ri,
  fun m ρ _ => Cert.Kernel11.Gen.frame m ρ, fun m ρ _ => Cert.Kernel11Ideal.Gen.frame m ρ, Prenorm.frame_ri,
  fun m ρ _ => Cert.Kernel12.Gen.frame m ρ (Optim.ok_bits m), fun m ρ _ => Cert.Kernel12Ideal.Gen.frame m ρ (Optim.ok_ideal m), Optim.frame_ri,
  preserves, algebraic, trivial, Hidden.algebraic, trivial, Down.algebraic, trivial, Up.algebraic, trivial, InBack.algebraic, trivial, WOut.algebraic, trivial, WIn.algebraic, trivial, Fwd.algebraic, trivial, ProjIn.algebraic, trivial, ProjOut.algebraic, trivial, Prenorm.algebraic, trivial, Optim.algebraic⟩

end Cert.Proof

end
